-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E0293EE#32 (((Real.sqrt 128)⁻¹ * (Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v195) = v2 c
          ∧ r.2.mem ((c.tc : Thread Cert.ReferenceIdeal.nD Cert.ReferenceIdeal.τ).loc Cert.ReferenceIdeal.main_v197) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S8192x20480 : Shape := ⟨2, ![8192, 20480]⟩
abbrev S32x16 : Shape := ⟨2, ![32, 16]⟩
abbrev S1x3x1x2048 : Shape := ⟨4, ![1, 3, 1, 2048]⟩
abbrev S1x2048 : Shape := ⟨2, ![1, 2048]⟩
abbrev S1x16384x4096 : Shape := ⟨3, ![1, 16384, 4096]⟩
abbrev S8192x4096 : Shape := ⟨2, ![8192, 4096]⟩
abbrev S65536x512 : Shape := ⟨2, ![65536, 512]⟩
abbrev S1x512 : Shape := ⟨2, ![1, 512]⟩
abbrev S_ : Shape := ⟨0, ![]⟩

class Facts : Prop where
  slices_S8192x20480_S8192x4096_0_0 : S8192x20480.Slices ![0, 0] S8192x4096
  bitsLt_bf16_f32 : FTy.bits .bf16 < FTy.bits .f32
  shapeCasts_S8192x4096_S65536x512 : S8192x4096.ShapeCasts S65536x512
  shapeCasts_S32x16_S1x512 : S32x16.ShapeCasts S1x512
  bcast_S_S65536x512 : S_.BroadcastsInDim S65536x512 (![] : Fin 0 → Fin S65536x512.rank)
  bcast_S_S1x512 : S_.BroadcastsInDim S1x512 (![] : Fin 0 → Fin S1x512.rank)
  bcast_S1x512_S65536x512_0_1 : S1x512.BroadcastsInDim S65536x512 (![0, 1] : Fin 2 → Fin S65536x512.rank)

variable [Facts]

def fn {F : FTy → Type} [FloatOps F] (main_arg0 : FVec F S8192x20480 .bf16) (main_arg1 : FVec F S32x16 .f32) (main_arg2 : FVec F S1x3x1x2048 .f32) (main_arg3 : FVec F S1x2048 .f32) (main_arg4 : FVec F S1x16384x4096 .f32) (main_arg5 : FVec F S1x16384x4096 .f32) : IVec S65536x512 1 :=
  let main_v0 : FVec F S8192x4096 .bf16 := (extractStridedSlice S8192x4096 ![0, 0] · slices_S8192x20480_S8192x4096_0_0) main_arg0
  let main_v1 : FVec F S8192x4096 .f32 := (extf .f32 · bitsLt_bf16_f32) main_v0
  let main_v2 : FVec F S65536x512 .f32 := shapeCast S65536x512 main_v1 shapeCasts_S8192x4096_S65536x512
  let main_v3 : FVec F S1x512 .f32 := shapeCast S1x512 main_arg1 shapeCasts_S32x16_S1x512
  let main_v4 : FVec F S65536x512 .f32 := Host.absf main_v2
  let main_cst : FVec F S_ .f32 := constant S_ .f32 0x7F800000#32
  let main_v5 : FVec F S65536x512 .f32 := broadcastInDim S65536x512 ![] bcast_S_S65536x512 main_cst
  let main_v6 : IVec S65536x512 1 := cmpf .olt main_v4 main_v5
  let main_v7 : FVec F S1x512 .f32 := Host.absf main_v3
  let main_cst_0 : FVec F S_ .f32 := constant S_ .f32 0x7F800000#32
  let main_v8 : FVec F S1x512 .f32 := broadcastInDim S1x512 ![] bcast_S_S1x512 main_cst_0
  let main_v9 : IVec S1x512 1 := cmpf .olt main_v7 main_v8
  let main_v10 : IVec S65536x512 1 := broadcastInDim S65536x512 ![0, 1] bcast_S1x512_S65536x512_0_1 main_v9
  let main_v11 : IVec S65536x512 1 := andi main_v6 main_v10
  main_v11
-- ==== Kernel.lean ====
abbrev S8192x20480 : Shape := ⟨2, ![8192, 20480]⟩
abbrev S32x16 : Shape := ⟨2, ![32, 16]⟩
abbrev S1x3x1x2048 : Shape := ⟨4, ![1, 3, 1, 2048]⟩
abbrev S1x2048 : Shape := ⟨2, ![1, 2048]⟩
abbrev S1x16384x4096 : Shape := ⟨3, ![1, 16384, 4096]⟩
abbrev S512 : Shape := ⟨1, ![512]⟩
abbrev S3x1x2048 : Shape := ⟨3, ![3, 1, 2048]⟩
abbrev S3x2048 : Shape := ⟨2, ![3, 2048]⟩
abbrev S2048 : Shape := ⟨1, ![2048]⟩
abbrev S16384x4096 : Shape := ⟨2, ![16384, 4096]⟩
abbrev S512x256 : Shape := ⟨2, ![512, 256]⟩
abbrev S_ : Shape := ⟨0, ![]⟩
abbrev S512x256x1 : Shape := ⟨3, ![512, 256, 1]⟩
abbrev S8192x2048 : Shape := ⟨2, ![8192, 2048]⟩
abbrev S2048x128 : Shape := ⟨2, ![2048, 128]⟩
abbrev S3x128 : Shape := ⟨2, ![3, 128]⟩
abbrev S1x128 : Shape := ⟨2, ![1, 128]⟩
abbrev S512x4096 : Shape := ⟨2, ![512, 4096]⟩
abbrev S64x4096 : Shape := ⟨2, ![64, 4096]⟩
abbrev S1x1 : Shape := ⟨2, ![1, 1]⟩
abbrev S256x128 : Shape := ⟨2, ![256, 128]⟩
abbrev S128 : Shape := ⟨1, ![128]⟩
abbrev S8x128 : Shape := ⟨2, ![8, 128]⟩
abbrev S128x2048 : Shape := ⟨2, ![128, 2048]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S8x256 : Shape := ⟨2, ![8, 256]⟩

abbrev nBuf : Space → Nat
  | .hbm => 35
  | .vmem => 30
  | .smem => 1
  | _ => 0

abbrev bufTy : (tb : Table) → Fin (tcTables nBuf tb) → BufTy
  | .hbm, ⟨0, _⟩ => ⟨S8192x20480, .bf16⟩
  | .hbm, ⟨1, _⟩ => ⟨S32x16, .f32⟩
  | .hbm, ⟨2, _⟩ => ⟨S1x3x1x2048, .f32⟩
  | .hbm, ⟨3, _⟩ => ⟨S1x2048, .f32⟩
  | .hbm, ⟨4, _⟩ => ⟨S1x16384x4096, .f32⟩
  | .hbm, ⟨5, _⟩ => ⟨S1x16384x4096, .f32⟩
  | .hbm, ⟨6, _⟩ => ⟨S512, .i32⟩
  | .hbm, ⟨7, _⟩ => ⟨S3x1x2048, .f32⟩
  | .hbm, ⟨8, _⟩ => ⟨S3x2048, .f32⟩
  | .hbm, ⟨9, _⟩ => ⟨S2048, .f32⟩
  | .hbm, ⟨10, _⟩ => ⟨S1x2048, .f32⟩
  | .hbm, ⟨11, _⟩ => ⟨S16384x4096, .f32⟩
  | .hbm, ⟨12, _⟩ => ⟨S16384x4096, .f32⟩
  | .hbm, ⟨13, _⟩ => ⟨S512x256, .i32⟩
  | .hbm, ⟨14, _⟩ => ⟨S512x256, .i32⟩
  | .hbm, ⟨15, _⟩ => ⟨S512x256, .i32⟩
  | .hbm, ⟨16, _⟩ => ⟨S_, .i32⟩
  | .hbm, ⟨17, _⟩ => ⟨S512x256, .i32⟩
  | .hbm, ⟨18, _⟩ => ⟨S512x256, .i32⟩
  | .hbm, ⟨19, _⟩ => ⟨S_, .i32⟩
  | .hbm, ⟨20, _⟩ => ⟨S512x256, .i32⟩
  | .hbm, ⟨21, _⟩ => ⟨S512x256, .i32⟩
  | .hbm, ⟨22, _⟩ => ⟨S_, .i32⟩
  | .hbm, ⟨23, _⟩ => ⟨S512x256, .i32⟩
  | .hbm, ⟨24, _⟩ => ⟨S512x256, .i1⟩
  | .hbm, ⟨25, _⟩ => ⟨S_, .i32⟩
  | .hbm, ⟨26, _⟩ => ⟨S512x256, .i32⟩
  | .hbm, ⟨27, _⟩ => ⟨S512x256, .i32⟩
  | .hbm, ⟨28, _⟩ => ⟨S512x256, .i32⟩
  | .hbm, ⟨29, _⟩ => ⟨S512x256x1, .i32⟩
  | .hbm, ⟨30, _⟩ => ⟨S512x256, .i32⟩
  | .hbm, ⟨31, _⟩ => ⟨S8192x2048, .bf16⟩
  | .hbm, ⟨32, _⟩ => ⟨S8192x2048, .bf16⟩
  | .hbm, ⟨33, _⟩ => ⟨S16384x4096, .bf16⟩
  | .hbm, ⟨34, _⟩ => ⟨S16384x4096, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x256, .i32⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S3x128, .f32⟩
  | .local _ .vmem, ⟨14, _⟩ => ⟨S3x128, .f32⟩
  | .local _ .vmem, ⟨15, _⟩ => ⟨S1x128, .f32⟩
  | .local _ .vmem, ⟨16, _⟩ => ⟨S1x128, .f32⟩
  | .local _ .vmem, ⟨17, _⟩ => ⟨S512x4096, .f32⟩
  | .local _ .vmem, ⟨18, _⟩ => ⟨S512x4096, .f32⟩
  | .local _ .vmem, ⟨19, _⟩ => ⟨S512x4096, .f32⟩
  | .local _ .vmem, ⟨20, _⟩ => ⟨S512x4096, .f32⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S512x4096, .bf16⟩
  | .local _ .vmem, ⟨26, _⟩ => ⟨S512x4096, .bf16⟩
  | .local _ .vmem, ⟨27, _⟩ => ⟨S512x4096, .bf16⟩
  | .local _ .vmem, ⟨28, _⟩ => ⟨S512x4096, .bf16⟩
  | .local _ .vmem, ⟨29, _⟩ => ⟨S512x256, .f32⟩
  | .local _ .smem, ⟨0, _⟩ => ⟨S32x16, .f32⟩
  | _, _ => ⟨S8192x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c4_i32 : BitVec 32 := 4#32
  let v39 : BitVec 32 := Scalar.muli arg0 c4_i32
  let arg1 : BitVec 32 := BitVec.ofNat 32 (i 1).val
  let v40 : BitVec 32 := Scalar.addi v39 arg1
  let c0_i32 : BitVec 32 := 0#32
  let v41 : BitVec 1 := Scalar.cmpi .sge v40 c0_i32
  let c32_i32 : BitVec 32 := 32#32
  let v42 : BitVec 1 := Scalar.cmpi .slt v40 c32_i32
  let v43 : BitVec 1 := Scalar.andi v41 v42
  let v44 : BitVec 32 := Scalar.extui v43
  let c0_i32_16 : BitVec 32 := 0#32
  let v45 : BitVec 1 := Scalar.cmpi .ne v44 c0_i32_16
  v45

@[reducible] def k0_t1_loop : Scf.Loop 32 :=
  let c0_i32_731 : BitVec 32 := 0#32
  let c8_i32 : BitVec 32 := 8#32
  let v1794 : BitVec 32 := Scalar.addi c0_i32_731 c8_i32
  let c1_i32_732 : BitVec 32 := 1#32
  ⟨c0_i32_731, v1794, c1_i32_732⟩
def k0_mult1 (k0_t1 : Fin k0_t1_loop.trips) : BitVec 32 :=
  let c0_i32_731 : BitVec 32 := 0#32
  let c1_i32_732 : BitVec 32 := 1#32
  let arg19 : BitVec 32 := Scf.iv c0_i32_731 c1_i32_732 k0_t1
  let c64_i32_734 : BitVec 32 := 64#32
  let v1795 : BitVec 32 := Scalar.muli arg19 c64_i32_734
  v1795
def k0_off1 (k0_t1 : Fin k0_t1_loop.trips) : Fin 2 → Nat :=
  let c0_i32_731 : BitVec 32 := 0#32
  let c1_i32_732 : BitVec 32 := 1#32
  let arg19 : BitVec 32 := Scf.iv c0_i32_731 c1_i32_732 k0_t1
  let c64_i32_734 : BitVec 32 := 64#32
  let v1795 : BitVec 32 := Scalar.muli arg19 c64_i32_734
  let v1796 : BitVec 32 := v1795
  let v1797 : Index := Scalar.indexCast v1796
  let c0_735 : Index := 0#32
  ![v1797.toNat, 0]
def k0_cond2 (i : grid0.Coords) : BitVec 1 :=
  let arg0 : BitVec 32 := BitVec.ofNat 32 (i 0).val
  let c4_i32 : BitVec 32 := 4#32
  let v39 : BitVec 32 := Scalar.muli arg0 c4_i32
  let arg1 : BitVec 32 := BitVec.ofNat 32 (i 1).val
  let v40 : BitVec 32 := Scalar.addi v39 arg1
  let c32_i32_17 : BitVec 32 := 32#32
  let v46 : BitVec 1 := Scalar.cmpi .sge v40 c32_i32_17
  let c64_i32 : BitVec 32 := 64#32
  let v47 : BitVec 1 := Scalar.cmpi .slt v40 c64_i32
  let v48 : BitVec 1 := Scalar.andi v46 v47
  let v49 : BitVec 32 := Scalar.extui v48
  let c0_i32_18 : BitVec 32 := 0#32
  let v50 : BitVec 1 := Scalar.cmpi .ne v49 c0_i32_18
  v50

@[reducible] def k0_t2_loop : Scf.Loop 32 :=
  let c0_i32_731 : BitVec 32 := 0#32
  let c8_i32 : BitVec 32 := 8#32
  let v1794 : BitVec 32 := Scalar.addi c0_i32_731 c8_i32
  let c1_i32_732 : BitVec 32 := 1#32
  ⟨c0_i32_731, v1794, c1_i32_732⟩
def k0_mult2 (k0_t2 : Fin k0_t2_loop.trips) : BitVec 32 :=
  let c0_i32_731 : BitVec 32 := 0#32
  let c1_i32_732 : BitVec 32 := 1#32
  let arg19 : BitVec 32 := Scf.iv c0_i32_731 c1_i32_732 k0_t2
  let c64_i32_734 : BitVec 32 := 64#32
  let v1795 : BitVec 32 := Scalar.muli arg19 c64_i32_734
  v1795
def k0_off2 (k0_t2 : Fin k0_t2_loop.trips) : Fin 2 → Nat :=
  let c0_i32_731 : BitVec 32 := 0#32
  let c1_i32_732 : BitVec 32 := 1#32
  let arg19 : BitVec 32 := Scf.iv c0_i32_731 c1_i32_732 k0_t2
  let c64_i32_734 : BitVec 32 := 64#32
  let v1795 : BitVec 32 := Scalar.muli arg19 c64_i32_734
  let v1796 : BitVec 32 := v1795
  let v1797 : Index := Scalar.indexCast v1796
  let c0_735 : Index := 0#32
  ![v1797.toNat, 0]
def k0_cond3 (i : grid0.Coords) : BitVec 1 :=
  let arg1 : BitVec 32 := BitVec.ofNat 32 (i 1).val
  let c0_i32_19 : BitVec 32 := 0#32
  let v51 : BitVec 1 := Scalar.cmpi .eq arg1 c0_i32_19
  let v52 : BitVec 32 := Scalar.extui v51
  let c0_i32_20 : BitVec 32 := 0#32
  let v53 : BitVec 1 := Scalar.cmpi .ne v52 c0_i32_20
  v53

def k0_off3 (i : grid0.Coords) : Fin 2 → Nat :=
  let c0_735 : Index := 0#32
  let arg0 : BitVec 32 := BitVec.ofNat 32 (i 0).val
  let v1799 : Index := Scalar.indexCast arg0
  ![0, v1799.toNat]
def k0_off4 (i : grid0.Coords) : Fin 2 → Nat :=
  let c1_737 : Index := 1#32
  let arg0 : BitVec 32 := BitVec.ofNat 32 (i 0).val
  let v1805 : Index := Scalar.indexCast arg0
  ![1, v1805.toNat]
def k0_off5 (i : grid0.Coords) : Fin 2 → Nat :=
  let c2_739 : Index := 2#32
  let arg0 : BitVec 32 := BitVec.ofNat 32 (i 0).val
  let v1811 : Index := Scalar.indexCast arg0
  ![2, v1811.toNat]
def k0_off6 (i : grid0.Coords) : Fin 2 → Nat :=
  let c3 : Index := 3#32
  let arg0 : BitVec 32 := BitVec.ofNat 32 (i 0).val
  let v1817 : Index := Scalar.indexCast arg0
  ![3, v1817.toNat]
def k0_off7 (i : grid0.Coords) : Fin 2 → Nat :=
  let c4 : Index := 4#32
  let arg0 : BitVec 32 := BitVec.ofNat 32 (i 0).val
  let v1823 : Index := Scalar.indexCast arg0
  ![4, v1823.toNat]
def k0_off8 (i : grid0.Coords) : Fin 2 → Nat :=
  let c5 : Index := 5#32
  let arg0 : BitVec 32 := BitVec.ofNat 32 (i 0).val
  let v1829 : Index := Scalar.indexCast arg0
  ![5, v1829.toNat]
def k0_off9 (i : grid0.Coords) : Fin 2 → Nat :=
  let c6 : Index := 6#32
  let arg0 : BitVec 32 := BitVec.ofNat 32 (i 0).val
  let v1835 : Index := Scalar.indexCast arg0
  ![6, v1835.toNat]
def k0_off10 (i : grid0.Coords) : Fin 2 → Nat :=
  let c7 : Index := 7#32
  let arg0 : BitVec 32 := BitVec.ofNat 32 (i 0).val
  let v1841 : Index := Scalar.indexCast arg0
  ![7, v1841.toNat]
def k0_off11 (i : grid0.Coords) : Fin 2 → Nat :=
  let c8 : Index := 8#32
  let arg0 : BitVec 32 := BitVec.ofNat 32 (i 0).val
  let v1847 : Index := Scalar.indexCast arg0
  ![8, v1847.toNat]
def k0_off12 (i : grid0.Coords) : Fin 2 → Nat :=
  let c9 : Index := 9#32
  let arg0 : BitVec 32 := BitVec.ofNat 32 (i 0).val
  let v1853 : Index := Scalar.indexCast arg0
  ![9, v1853.toNat]
def k0_off13 (i : grid0.Coords) : Fin 2 → Nat :=
  let c10 : Index := 10#32
  let arg0 : BitVec 32 := BitVec.ofNat 32 (i 0).val
  let v1859 : Index := Scalar.indexCast arg0
  ![10, v1859.toNat]
def k0_off14 (i : grid0.Coords) : Fin 2 → Nat :=
  let c11 : Index := 11#32
  let arg0 : BitVec 32 := BitVec.ofNat 32 (i 0).val
  let v1865 : Index := Scalar.indexCast arg0
  ![11, v1865.toNat]
def k0_off15 (i : grid0.Coords) : Fin 2 → Nat :=
  let c12 : Index := 12#32
  let arg0 : BitVec 32 := BitVec.ofNat 32 (i 0).val
  let v1871 : Index := Scalar.indexCast arg0
  ![12, v1871.toNat]
def k0_off16 (i : grid0.Coords) : Fin 2 → Nat :=
  let c13 : Index := 13#32
  let arg0 : BitVec 32 := BitVec.ofNat 32 (i 0).val
  let v1877 : Index := Scalar.indexCast arg0
  ![13, v1877.toNat]
def k0_off17 (i : grid0.Coords) : Fin 2 → Nat :=
  let c14 : Index := 14#32
  let arg0 : BitVec 32 := BitVec.ofNat 32 (i 0).val
  let v1883 : Index := Scalar.indexCast arg0
  ![14, v1883.toNat]
def k0_off18 (i : grid0.Coords) : Fin 2 → Nat :=
  let c15 : Index := 15#32
  let arg0 : BitVec 32 := BitVec.ofNat 32 (i 0).val
  let v1889 : Index := Scalar.indexCast arg0
  ![15, v1889.toNat]
def k0_off19 (i : grid0.Coords) : Fin 2 → Nat :=
  let c16 : Index := 16#32
  let arg0 : BitVec 32 := BitVec.ofNat 32 (i 0).val
  let v1895 : Index := Scalar.indexCast arg0
  ![16, v1895.toNat]
def k0_off20 (i : grid0.Coords) : Fin 2 → Nat :=
  let c17 : Index := 17#32
  let arg0 : BitVec 32 := BitVec.ofNat 32 (i 0).val
  let v1901 : Index := Scalar.indexCast arg0
  ![17, v1901.toNat]
def k0_off21 (i : grid0.Coords) : Fin 2 → Nat :=
  let c18 : Index := 18#32
  let arg0 : BitVec 32 := BitVec.ofNat 32 (i 0).val
  let v1907 : Index := Scalar.indexCast arg0
  ![18, v1907.toNat]
def k0_off22 (i : grid0.Coords) : Fin 2 → Nat :=
  let c19 : Index := 19#32
  let arg0 : BitVec 32 := BitVec.ofNat 32 (i 0).val
  let v1913 : Index := Scalar.indexCast arg0
  ![19, v1913.toNat]
def k0_off23 (i : grid0.Coords) : Fin 2 → Nat :=
  let c20 : Index := 20#32
  let arg0 : BitVec 32 := BitVec.ofNat 32 (i 0).val
  let v1919 : Index := Scalar.indexCast arg0
  ![20, v1919.toNat]
def k0_off24 (i : grid0.Coords) : Fin 2 → Nat :=
  let c21 : Index := 21#32
  let arg0 : BitVec 32 := BitVec.ofNat 32 (i 0).val
  let v1925 : Index := Scalar.indexCast arg0
  ![21, v1925.toNat]
def k0_off25 (i : grid0.Coords) : Fin 2 → Nat :=
  let c22 : Index := 22#32
  let arg0 : BitVec 32 := BitVec.ofNat 32 (i 0).val
  let v1931 : Index := Scalar.indexCast arg0
  ![22, v1931.toNat]
def k0_off26 (i : grid0.Coords) : Fin 2 → Nat :=
  let c23 : Index := 23#32
  let arg0 : BitVec 32 := BitVec.ofNat 32 (i 0).val
  let v1937 : Index := Scalar.indexCast arg0
  ![23, v1937.toNat]
def k0_off27 (i : grid0.Coords) : Fin 2 → Nat :=
  let c24 : Index := 24#32
  let arg0 : BitVec 32 := BitVec.ofNat 32 (i 0).val
  let v1943 : Index := Scalar.indexCast arg0
  ![24, v1943.toNat]
def k0_off28 (i : grid0.Coords) : Fin 2 → Nat :=
  let c25 : Index := 25#32
  let arg0 : BitVec 32 := BitVec.ofNat 32 (i 0).val
  let v1949 : Index := Scalar.indexCast arg0
  ![25, v1949.toNat]
def k0_off29 (i : grid0.Coords) : Fin 2 → Nat :=
  let c26 : Index := 26#32
  let arg0 : BitVec 32 := BitVec.ofNat 32 (i 0).val
  let v1955 : Index := Scalar.indexCast arg0
  ![26, v1955.toNat]
def k0_off30 (i : grid0.Coords) : Fin 2 → Nat :=
  let c27 : Index := 27#32
  let arg0 : BitVec 32 := BitVec.ofNat 32 (i 0).val
  let v1961 : Index := Scalar.indexCast arg0
  ![27, v1961.toNat]
def k0_off31 (i : grid0.Coords) : Fin 2 → Nat :=
  let c28 : Index := 28#32
  let arg0 : BitVec 32 := BitVec.ofNat 32 (i 0).val
  let v1967 : Index := Scalar.indexCast arg0
  ![28, v1967.toNat]
def k0_off32 (i : grid0.Coords) : Fin 2 → Nat :=
  let c29 : Index := 29#32
  let arg0 : BitVec 32 := BitVec.ofNat 32 (i 0).val
  let v1973 : Index := Scalar.indexCast arg0
  ![29, v1973.toNat]
def k0_off33 (i : grid0.Coords) : Fin 2 → Nat :=
  let c30 : Index := 30#32
  let arg0 : BitVec 32 := BitVec.ofNat 32 (i 0).val
  let v1979 : Index := Scalar.indexCast arg0
  ![30, v1979.toNat]
def k0_off34 (i : grid0.Coords) : Fin 2 → Nat :=
  let c31_741 : Index := 31#32
  let arg0 : BitVec 32 := BitVec.ofNat 32 (i 0).val
  let v1985 : Index := Scalar.indexCast arg0
  ![31, v1985.toNat]
def k0_off35 (i : grid0.Coords) : Fin 2 → Nat :=
  let c31 : Index := 31#32
  let arg0 : BitVec 32 := BitVec.ofNat 32 (i 0).val
  let v54 : Index := Scalar.indexCast arg0
  ![31, v54.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.subi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.subi v1 c32_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let v2 : BitVec 32 := Scalar.subi v1 c0_i32
  let c0_i32_0 : BitVec 32 := 0#32
  let c31_i32 : BitVec 32 := 31#32
  let v3 : BitVec 32 := Scalar.maxsi c0_i32_0 v2
  let v4 : BitVec 32 := Scalar.minsi c31_i32 v3
  let c0_i32_1 : BitVec 32 := 0#32
  let c0_i32_2 : BitVec 32 := 0#32
  ![v4.toNat, c0_i32_1.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.subi v1 c32_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  ![v4.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x256 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.sqrt 128)⁻¹ * (Real.log 2)⁻¹ : ℝ) : EReal)
  | _ => none
-- ==== ReferenceIdeal.lean ====
abbrev S8192x20480 : Shape := ⟨2, ![8192, 20480]⟩
abbrev S32x16 : Shape := ⟨2, ![32, 16]⟩
abbrev S1x3x1x2048 : Shape := ⟨4, ![1, 3, 1, 2048]⟩
abbrev S1x2048 : Shape := ⟨2, ![1, 2048]⟩
abbrev S1x16384x4096 : Shape := ⟨3, ![1, 16384, 4096]⟩
abbrev S4x2048x20480 : Shape := ⟨3, ![4, 2048, 20480]⟩
abbrev S4x2048x2048 : Shape := ⟨3, ![4, 2048, 2048]⟩
abbrev S4x2048x16x128 : Shape := ⟨4, ![4, 2048, 16, 128]⟩
abbrev S4x16x2048x128 : Shape := ⟨4, ![4, 16, 2048, 128]⟩
abbrev S4x16x8x256x128 : Shape := ⟨5, ![4, 16, 8, 256, 128]⟩
abbrev S_ : Shape := ⟨0, ![]⟩
abbrev S4x16x8x128 : Shape := ⟨4, ![4, 16, 8, 128]⟩
abbrev S4x16x2048x8 : Shape := ⟨4, ![4, 16, 2048, 8]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S4x16x2048x3 : Shape := ⟨4, ![4, 16, 2048, 3]⟩
abbrev S1x1x2048x1 : Shape := ⟨4, ![1, 1, 2048, 1]⟩
abbrev S4x16x2048x1 : Shape := ⟨4, ![4, 16, 2048, 1]⟩
abbrev S4x16x2048x4 : Shape := ⟨4, ![4, 16, 2048, 4]⟩
abbrev S4 : Shape := ⟨1, ![4]⟩
abbrev S4x1x1x1 : Shape := ⟨4, ![4, 1, 1, 1]⟩
abbrev S16 : Shape := ⟨1, ![16]⟩
abbrev S1x16x1x1 : Shape := ⟨4, ![1, 16, 1, 1]⟩
abbrev S4x16x2048x4x1 : Shape := ⟨5, ![4, 16, 2048, 4, 1]⟩
abbrev S4x16x2048x4x3 : Shape := ⟨5, ![4, 16, 2048, 4, 3]⟩
abbrev S4x16x2048x4x256x128 : Shape := ⟨6, ![4, 16, 2048, 4, 256, 128]⟩
abbrev S4x16x2048x4x256 : Shape := ⟨5, ![4, 16, 2048, 4, 256]⟩
abbrev S256 : Shape := ⟨1, ![256]⟩
abbrev S1x1x1x1x256 : Shape := ⟨5, ![1, 1, 1, 1, 256]⟩
abbrev S1x1x2048x1x1 : Shape := ⟨5, ![1, 1, 2048, 1, 1]⟩
abbrev S1x16x1x1x1 : Shape := ⟨5, ![1, 16, 1, 1, 1]⟩
abbrev S4x16x2048x4x256x1 : Shape := ⟨6, ![4, 16, 2048, 4, 256, 1]⟩
abbrev S4x16x2048x4x256x2 : Shape := ⟨6, ![4, 16, 2048, 4, 256, 2]⟩
abbrev S4x16x2048x1024 : Shape := ⟨4, ![4, 16, 2048, 1024]⟩
abbrev S4x16x2048 : Shape := ⟨3, ![4, 16, 2048]⟩
abbrev S8192x2048 : Shape := ⟨2, ![8192, 2048]⟩
abbrev S3x1x2048 : Shape := ⟨3, ![3, 1, 2048]⟩
abbrev S4x2050x2048 : Shape := ⟨3, ![4, 2050, 2048]⟩
abbrev S1x1x2048 : Shape := ⟨3, ![1, 1, 2048]⟩
abbrev S16384x4096 : Shape := ⟨2, ![16384, 4096]⟩

abbrev nBuf : Space → Nat
  | .hbm => 266
  | .vmem => 0
  | .smem => 0
  | _ => 0

abbrev hbmTy0_0 (i : Nat) : BufTy := match i % 128 with
  | 0 => ⟨S8192x20480, .bf16⟩
  | 1 => ⟨S32x16, .f32⟩
  | 2 => ⟨S1x3x1x2048, .f32⟩
  | 3 => ⟨S1x2048, .f32⟩
  | 4 => ⟨S1x16384x4096, .f32⟩
  | 5 => ⟨S1x16384x4096, .f32⟩
  | 6 => ⟨S8192x20480, .f32⟩
  | 7 => ⟨S4x2048x20480, .f32⟩
  | 8 => ⟨S4x2048x2048, .f32⟩
  | 9 => ⟨S4x2048x2048, .f32⟩
  | 10 => ⟨S4x2048x2048, .f32⟩
  | 11 => ⟨S4x2048x2048, .f32⟩
  | 12 => ⟨S4x2048x2048, .f32⟩
  | 13 => ⟨S4x2048x2048, .f32⟩
  | 14 => ⟨S4x2048x16x128, .f32⟩
  | 15 => ⟨S4x2048x16x128, .f32⟩
  | 16 => ⟨S4x2048x16x128, .f32⟩
  | 17 => ⟨S4x16x2048x128, .f32⟩
  | 18 => ⟨S4x16x2048x128, .f32⟩
  | 19 => ⟨S4x16x2048x128, .f32⟩
  | 20 => ⟨S4x16x8x256x128, .f32⟩
  | 21 => ⟨S4x16x8x256x128, .f32⟩
  | 22 => ⟨S_, .f32⟩
  | 23 => ⟨S4x16x8x128, .f32⟩
  | 24 => ⟨S_, .f32⟩
  | 25 => ⟨S4x16x8x128, .f32⟩
  | 26 => ⟨S4x16x8x128, .f32⟩
  | 27 => ⟨S4x16x2048x8, .f32⟩
  | 28 => ⟨S2048, .i32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S8, .i32⟩
  | 48 => ⟨S1x8, .i32⟩
  | 49 => ⟨S2048x1, .i32⟩
  | 50 => ⟨S2048x8, .i32⟩
  | 51 => ⟨S2048x8, .i32⟩
  | 52 => ⟨S2048x8, .i1⟩
  | 53 => ⟨S_, .f32⟩
  | 54 => ⟨S_, .f32⟩
  | 55 => ⟨S4x16x2048x8, .i1⟩
  | 56 => ⟨S4x16x2048x8, .f32⟩
  | 57 => ⟨S4x16x2048x8, .f32⟩
  | 58 => ⟨S4x16x2048x3, .f32⟩
  | 59 => ⟨S4x16x2048x3, .i32⟩
  | 60 => ⟨S2048x1, .i32⟩
  | 61 => ⟨S1x1x2048x1, .i32⟩
  | 62 => ⟨S4x16x2048x3, .i32⟩
  | 63 => ⟨S4x16x2048x3, .i1⟩
  | 64 => ⟨S2048x1, .i32⟩
  | 65 => ⟨S4x16x2048x1, .i32⟩
  | 66 => ⟨S4x16x2048x4, .i32⟩
  | 67 => ⟨S_, .i1⟩
  | 68 => ⟨S4x16x2048x1, .i1⟩
  | 69 => ⟨S4x16x2048x4, .i1⟩
  | 70 => ⟨S4, .i32⟩
  | 71 => ⟨S4x1x1x1, .i32⟩
  | 72 => ⟨S16, .i32⟩
  | 73 => ⟨S1x16x1x1, .i32⟩
  | 74 => ⟨S_, .i32⟩
  | 75 => ⟨S4x1x1x1, .i32⟩
  | 76 => ⟨S4x1x1x1, .i1⟩
  | 77 => ⟨S_, .i32⟩
  | 78 => ⟨S4x1x1x1, .i32⟩
  | 79 => ⟨S4x1x1x1, .i32⟩
  | 80 => ⟨S4x1x1x1, .i32⟩
  | 81 => ⟨S_, .i32⟩
  | 82 => ⟨S1x16x1x1, .i32⟩
  | 83 => ⟨S1x16x1x1, .i1⟩
  | 84 => ⟨S_, .i32⟩
  | 85 => ⟨S1x16x1x1, .i32⟩
  | 86 => ⟨S1x16x1x1, .i32⟩
  | 87 => ⟨S1x16x1x1, .i32⟩
  | 88 => ⟨S_, .i32⟩
  | 89 => ⟨S4x16x2048x4, .i32⟩
  | 90 => ⟨S4x16x2048x4, .i1⟩
  | 91 => ⟨S_, .i32⟩
  | 92 => ⟨S4x16x2048x4, .i32⟩
  | 93 => ⟨S4x16x2048x4, .i32⟩
  | 94 => ⟨S4x16x2048x4, .i32⟩
  | 95 => ⟨S4x16x2048x4, .i32⟩
  | 96 => ⟨S4x16x2048x4, .i32⟩
  | 97 => ⟨S4x16x2048x4x1, .i32⟩
  | 98 => ⟨S4x16x2048x4x1, .i32⟩
  | 99 => ⟨S4x16x2048x4x1, .i32⟩
  | 100 => ⟨S4x16x2048x4x3, .i32⟩
  | 101 => ⟨S4x16x2048x4x256x128, .f32⟩
  | 102 => ⟨S_, .i32⟩
  | 103 => ⟨S4x1x1x1, .i32⟩
  | 104 => ⟨S4x1x1x1, .i1⟩
  | 105 => ⟨S_, .i32⟩
  | 106 => ⟨S4x1x1x1, .i32⟩
  | 107 => ⟨S4x1x1x1, .i32⟩
  | 108 => ⟨S4x1x1x1, .i32⟩
  | 109 => ⟨S_, .i32⟩
  | 110 => ⟨S1x16x1x1, .i32⟩
  | 111 => ⟨S1x16x1x1, .i1⟩
  | 112 => ⟨S_, .i32⟩
  | 113 => ⟨S1x16x1x1, .i32⟩
  | 114 => ⟨S1x16x1x1, .i32⟩
  | 115 => ⟨S1x16x1x1, .i32⟩
  | 116 => ⟨S_, .i32⟩
  | 117 => ⟨S4x16x2048x4, .i32⟩
  | 118 => ⟨S4x16x2048x4, .i1⟩
  | 119 => ⟨S_, .i32⟩
  | 120 => ⟨S4x16x2048x4, .i32⟩
  | 121 => ⟨S4x16x2048x4, .i32⟩
  | 122 => ⟨S4x16x2048x4, .i32⟩
  | 123 => ⟨S4x16x2048x4, .i32⟩
  | 124 => ⟨S4x16x2048x4, .i32⟩
  | 125 => ⟨S4x16x2048x4x1, .i32⟩
  | 126 => ⟨S4x16x2048x4x1, .i32⟩
  | 127 => ⟨S4x16x2048x4x1, .i32⟩
  | _ => ⟨S8192x20480, .bf16⟩

abbrev hbmTy0_1 (i : Nat) : BufTy := match i % 128 with
  | 0 => ⟨S4x16x2048x4x3, .i32⟩
  | 1 => ⟨S4x16x2048x4x256x128, .f32⟩
  | 2 => ⟨S4x16x2048x4x256, .f32⟩
  | 3 => ⟨S_, .f32⟩
  | 4 => ⟨S_, .f32⟩
  | 5 => ⟨S4x16x2048x4x256, .f32⟩
  | 6 => ⟨S4x16x2048x4x256, .f32⟩
  | 7 => ⟨S4x16x2048x4x1, .i32⟩
  | 8 => ⟨S_, .i32⟩
  | 9 => ⟨S4x16x2048x4x1, .i32⟩
  | 10 => ⟨S4x16x2048x4x1, .i32⟩
  | 11 => ⟨S256, .i32⟩
  | 12 => ⟨S1x1x1x1x256, .i32⟩
  | 13 => ⟨S4x16x2048x4x256, .i32⟩
  | 14 => ⟨S4x16x2048x4x256, .i32⟩
  | 15 => ⟨S4x16x2048x4x256, .i32⟩
  | 16 => ⟨S1x1x2048x1x1, .i32⟩
  | 17 => ⟨S4x16x2048x4x256, .i32⟩
  | 18 => ⟨S4x16x2048x4x256, .i32⟩
  | 19 => ⟨S_, .i32⟩
  | 20 => ⟨S4x16x2048x4x256, .i32⟩
  | 21 => ⟨S4x16x2048x4x256, .i32⟩
  | 22 => ⟨S_, .i32⟩
  | 23 => ⟨S4x16x2048x4x256, .i32⟩
  | 24 => ⟨S4x16x2048x4x256, .i32⟩
  | 25 => ⟨S4x16x2048x4x256, .f32⟩
  | 26 => ⟨S_, .f32⟩
  | 27 => ⟨S4x16x2048x4x256, .f32⟩
  | 28 => ⟨S4x16x2048x4x256, .f32⟩
  | 29 => ⟨S4x16x2048x4x256, .f32⟩
  | 30 => ⟨S_, .f32⟩
  | 31 => ⟨S_, .f32⟩
  | 32 => ⟨S4x16x2048x4x256, .f32⟩
  | 33 => ⟨S4x16x2048x4x256, .f32⟩
  | 34 => ⟨S_, .f32⟩
  | 35 => ⟨S4x16x2048x4x256, .f32⟩
  | 36 => ⟨S4x16x2048x4x256, .f32⟩
  | 37 => ⟨S4x16x2048x4x256, .i32⟩
  | 38 => ⟨S_, .i32⟩
  | 39 => ⟨S4x16x2048x4x256, .i32⟩
  | 40 => ⟨S4x16x2048x4x256, .i32⟩
  | 41 => ⟨S_, .i32⟩
  | 42 => ⟨S4x16x2048x4x256, .i32⟩
  | 43 => ⟨S4x16x2048x4x256, .i32⟩
  | 44 => ⟨S_, .i32⟩
  | 45 => ⟨S4x16x2048x4x256, .i32⟩
  | 46 => ⟨S4x16x2048x4x256, .i1⟩
  | 47 => ⟨S4x16x2048x4x256, .i32⟩
  | 48 => ⟨S1x16x1x1x1, .i32⟩
  | 49 => ⟨S_, .i32⟩
  | 50 => ⟨S4x16x2048x4x256, .i32⟩
  | 51 => ⟨S4x16x2048x4x256, .i1⟩
  | 52 => ⟨S_, .i32⟩
  | 53 => ⟨S4x16x2048x4x256, .i32⟩
  | 54 => ⟨S4x16x2048x4x256, .i32⟩
  | 55 => ⟨S4x16x2048x4x256, .i32⟩
  | 56 => ⟨S_, .i32⟩
  | 57 => ⟨S1x16x1x1x1, .i32⟩
  | 58 => ⟨S1x16x1x1x1, .i1⟩
  | 59 => ⟨S_, .i32⟩
  | 60 => ⟨S1x16x1x1x1, .i32⟩
  | 61 => ⟨S1x16x1x1x1, .i32⟩
  | 62 => ⟨S1x16x1x1x1, .i32⟩
  | 63 => ⟨S4x16x2048x4x256, .i32⟩
  | 64 => ⟨S4x16x2048x4x256x1, .i32⟩
  | 65 => ⟨S4x16x2048x4x256x1, .i32⟩
  | 66 => ⟨S4x16x2048x4x256x2, .i32⟩
  | 67 => ⟨S4x16x2048x4x256, .f32⟩
  | 68 => ⟨S4x16x2048x4x1, .i1⟩
  | 69 => ⟨S_, .i32⟩
  | 70 => ⟨S4x16x2048x4x256, .i32⟩
  | 71 => ⟨S4x16x2048x4x256, .i1⟩
  | 72 => ⟨S4x16x2048x4x256, .i1⟩
  | 73 => ⟨S4x16x2048x4x256, .i1⟩
  | 74 => ⟨S4x16x2048x4x256, .f32⟩
  | 75 => ⟨S_, .f32⟩
  | 76 => ⟨S_, .f32⟩
  | 77 => ⟨S4x16x2048x4x256, .f32⟩
  | 78 => ⟨S4x16x2048x4x256, .f32⟩
  | 79 => ⟨S4x16x2048x1024, .f32⟩
  | 80 => ⟨S_, .f32⟩
  | 81 => ⟨S4x16x2048, .f32⟩
  | 82 => ⟨S_, .f32⟩
  | 83 => ⟨S4x16x2048, .f32⟩
  | 84 => ⟨S4x16x2048, .f32⟩
  | 85 => ⟨S4x16x2048x1, .f32⟩
  | 86 => ⟨S4x16x2048x1024, .f32⟩
  | 87 => ⟨S4x16x2048x1024, .f32⟩
  | 88 => ⟨S4x16x2048x1024, .f32⟩
  | 89 => ⟨S_, .f32⟩
  | 90 => ⟨S4x16x2048, .f32⟩
  | 91 => ⟨S4x16x2048x1, .f32⟩
  | 92 => ⟨S4x16x2048x1024, .f32⟩
  | 93 => ⟨S4x16x2048x1024, .f32⟩
  | 94 => ⟨S4x16x2048x4x256, .f32⟩
  | 95 => ⟨S4x16x2048x128, .f32⟩
  | 96 => ⟨S4x2048x16x128, .f32⟩
  | 97 => ⟨S8192x2048, .f32⟩
  | 98 => ⟨S3x1x2048, .f32⟩
  | 99 => ⟨S2048, .f32⟩
  | 100 => ⟨S4x2048x2048, .f32⟩
  | 101 => ⟨S_, .i32⟩
  | 102 => ⟨S_, .f32⟩
  | 103 => ⟨S4x2050x2048, .f32⟩
  | 104 => ⟨S1x1x2048, .f32⟩
  | 105 => ⟨S2048, .f32⟩
  | 106 => ⟨S4x2048x2048, .f32⟩
  | 107 => ⟨S1x1x2048, .f32⟩
  | 108 => ⟨S4x2048x2048, .f32⟩
  | 109 => ⟨S4x2048x2048, .f32⟩
  | 110 => ⟨S_, .f32⟩
  | 111 => ⟨S4x2048x2048, .f32⟩
  | 112 => ⟨S4x2048x2048, .f32⟩
  | 113 => ⟨S1x1x2048, .f32⟩
  | 114 => ⟨S2048, .f32⟩
  | 115 => ⟨S4x2048x2048, .f32⟩
  | 116 => ⟨S1x1x2048, .f32⟩
  | 117 => ⟨S4x2048x2048, .f32⟩
  | 118 => ⟨S4x2048x2048, .f32⟩
  | 119 => ⟨S4x2048x2048, .f32⟩
  | 120 => ⟨S1x1x2048, .f32⟩
  | 121 => ⟨S2048, .f32⟩
  | 122 => ⟨S4x2048x2048, .f32⟩
  | 123 => ⟨S1x1x2048, .f32⟩
  | 124 => ⟨S4x2048x2048, .f32⟩
  | 125 => ⟨S4x2048x2048, .f32⟩
  | 126 => ⟨S4x2048x2048, .f32⟩
  | 127 => ⟨S1x1x2048, .f32⟩
  | _ => ⟨S8192x20480, .bf16⟩

abbrev hbmTy0_2 (i : Nat) : BufTy := match i % 128 with
  | 0 => ⟨S4x2048x2048, .f32⟩
  | 1 => ⟨S4x2048x2048, .f32⟩
  | 2 => ⟨S4x2048x2048, .f32⟩
  | 3 => ⟨S8192x2048, .f32⟩
  | 4 => ⟨S8192x2048, .bf16⟩
  | 5 => ⟨S8192x2048, .bf16⟩
  | 6 => ⟨S16384x4096, .f32⟩
  | 7 => ⟨S16384x4096, .bf16⟩
  | 8 => ⟨S16384x4096, .f32⟩
  | 9 => ⟨S16384x4096, .bf16⟩
  | _ => ⟨S8192x20480, .bf16⟩

abbrev hbmTy (i : Nat) : BufTy := match i / 128 with
  | 0 => hbmTy0_0 i
  | 1 => hbmTy0_1 i
  | 2 => hbmTy0_2 i
  | _ => ⟨S8192x20480, .bf16⟩

abbrev bufTy : (tb : Table) → Fin (tcTables nBuf tb) → BufTy
  | .hbm, ⟨i, _⟩ => hbmTy i
  | _, _ => ⟨S8192x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_1 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v28 : Ref sig .tc := ⟨.hbm, 57, rfl⟩
abbrev main_values : Ref sig .tc := ⟨.hbm, 58, rfl⟩
abbrev main_indices : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_2 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_3 : Ref sig .tc := ⟨.hbm, 74, rfl⟩
abbrev main_v42 : Ref sig .tc := ⟨.hbm, 75, rfl⟩
abbrev main_v43 : Ref sig .tc := ⟨.hbm, 76, rfl⟩
abbrev main_c_4 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_5 : Ref sig .tc := ⟨.hbm, 81, rfl⟩
abbrev main_v47 : Ref sig .tc := ⟨.hbm, 82, rfl⟩
abbrev main_v48 : Ref sig .tc := ⟨.hbm, 83, rfl⟩
abbrev main_c_6 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_7 : Ref sig .tc := ⟨.hbm, 88, rfl⟩
abbrev main_v52 : Ref sig .tc := ⟨.hbm, 89, rfl⟩
abbrev main_v53 : Ref sig .tc := ⟨.hbm, 90, rfl⟩
abbrev main_c_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_9 : Ref sig .tc := ⟨.hbm, 102, rfl⟩
abbrev main_v64 : Ref sig .tc := ⟨.hbm, 103, rfl⟩
abbrev main_v65 : Ref sig .tc := ⟨.hbm, 104, rfl⟩
abbrev main_c_10 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_c_11 : Ref sig .tc := ⟨.hbm, 109, rfl⟩
abbrev main_v69 : Ref sig .tc := ⟨.hbm, 110, rfl⟩
abbrev main_v70 : Ref sig .tc := ⟨.hbm, 111, rfl⟩
abbrev main_c_12 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_13 : Ref sig .tc := ⟨.hbm, 116, rfl⟩
abbrev main_v74 : Ref sig .tc := ⟨.hbm, 117, rfl⟩
abbrev main_v75 : Ref sig .tc := ⟨.hbm, 118, rfl⟩
abbrev main_c_14 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_15 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_c_16 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_c_17 : Ref sig .tc := ⟨.hbm, 147, rfl⟩
abbrev main_v101 : Ref sig .tc := ⟨.hbm, 148, rfl⟩
abbrev main_v102 : Ref sig .tc := ⟨.hbm, 149, rfl⟩
abbrev main_c_18 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_cst_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_20 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_21 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_c_22 : Ref sig .tc := ⟨.hbm, 166, rfl⟩
abbrev main_v115 : Ref sig .tc := ⟨.hbm, 167, rfl⟩
abbrev main_v116 : Ref sig .tc := ⟨.hbm, 168, rfl⟩
abbrev main_c_23 : Ref sig .tc := ⟨.hbm, 169, rfl⟩
abbrev main_v117 : Ref sig .tc := ⟨.hbm, 170, rfl⟩
abbrev main_v118 : Ref sig .tc := ⟨.hbm, 171, rfl⟩
abbrev main_c_24 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_25 : Ref sig .tc := ⟨.hbm, 177, rfl⟩
abbrev main_v123 : Ref sig .tc := ⟨.hbm, 178, rfl⟩
abbrev main_v124 : Ref sig .tc := ⟨.hbm, 179, rfl⟩
abbrev main_c_26 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_c_27 : Ref sig .tc := ⟨.hbm, 184, rfl⟩
abbrev main_v128 : Ref sig .tc := ⟨.hbm, 185, rfl⟩
abbrev main_v129 : Ref sig .tc := ⟨.hbm, 186, rfl⟩
abbrev main_c_28 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_c_29 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_cst_30 : Ref sig .tc := ⟨.hbm, 203, rfl⟩
abbrev main_call3_v0 : Ref sig .tc := ⟨.hbm, 204, rfl⟩
abbrev main_call3_v1 : Ref sig .tc := ⟨.hbm, 205, rfl⟩
abbrev main_v144 : Ref sig .tc := ⟨.hbm, 206, rfl⟩
abbrev main_v145 : Ref sig .tc := ⟨.hbm, 207, rfl⟩
abbrev main_cst_31 : Ref sig .tc := ⟨.hbm, 208, rfl⟩
abbrev main_v146 : Ref sig .tc := ⟨.hbm, 209, rfl⟩
abbrev main_cst_32 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_cst_33 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_c_34 : Ref sig .tc := ⟨.hbm, 229, rfl⟩
abbrev main_call4_v0 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_35 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩

abbrev nD : Nat := 1
abbrev τ : Topo := Topo.v7x

variable {F : FTy → Type} [FloatOps F]
-- ==== Kernel2.lean ====
abbrev S8192x4096 : Shape := ⟨2, ![8192, 4096]⟩
abbrev S1x4096x20480 : Shape := ⟨3, ![1, 4096, 20480]⟩
abbrev S1x4096x2048 : Shape := ⟨3, ![1, 4096, 2048]⟩
abbrev S4096x20480 : Shape := ⟨2, ![4096, 20480]⟩
abbrev S4096x2048 : Shape := ⟨2, ![4096, 2048]⟩
abbrev S8192x20480 : Shape := ⟨2, ![8192, 20480]⟩
abbrev S1024x4096 : Shape := ⟨2, ![1024, 4096]⟩
abbrev S512x1024 : Shape := ⟨2, ![512, 1024]⟩
abbrev S32x2048 : Shape := ⟨2, ![32, 2048]⟩
abbrev S1024x1024 : Shape := ⟨2, ![1024, 1024]⟩
abbrev S2x4096x1024 : Shape := ⟨3, ![2, 4096, 1024]⟩
abbrev S1x512x1024 : Shape := ⟨3, ![1, 512, 1024]⟩
abbrev S1x4096x1024 : Shape := ⟨3, ![1, 4096, 1024]⟩
abbrev S4096x1024 : Shape := ⟨2, ![4096, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S1x4096x2048, .f32⟩
  | .hbm, ⟨3, _⟩ => ⟨S4096x20480, .f32⟩
  | .hbm, ⟨4, _⟩ => ⟨S4096x2048, .f32⟩
  | .hbm, ⟨5, _⟩ => ⟨S8192x20480, .bf16⟩
  | .hbm, ⟨6, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x1024, .f32⟩
  | .local _ .vmem, ⟨3, _⟩ => ⟨S512x1024, .f32⟩
  | .local _ .vmem, ⟨4, _⟩ => ⟨S32x2048, .f32⟩
  | .local _ .vmem, ⟨5, _⟩ => ⟨S32x2048, .f32⟩
  | .local _ .vmem, ⟨6, _⟩ => ⟨S1024x1024, .bf16⟩
  | .local _ .vmem, ⟨7, _⟩ => ⟨S1024x1024, .bf16⟩
  | .local _ .vmem, ⟨8, _⟩ => ⟨S32x2048, .bf16⟩
  | .local _ .vmem, ⟨9, _⟩ => ⟨S32x2048, .bf16⟩
  | .local _ .vmem, ⟨10, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![21, 8], ![false, false]⟩

def k0_cond2 (i : grid0.Coords) : BitVec 1 :=
  let arg0 : BitVec 32 := BitVec.ofNat 32 (i 0).val
  let c0_i32_0 : BitVec 32 := 0#32
  let v5 : BitVec 1 := Scalar.cmpi .eq arg0 c0_i32_0
  let v6 : BitVec 32 := Scalar.extui v5
  let c0_i32_1 : BitVec 32 := 0#32
  let v7 : BitVec 1 := Scalar.cmpi .ne v6 c0_i32_1
  v7

def k0_mult1 (i : grid0.Coords) : BitVec 32 :=
  let arg1 : BitVec 32 := BitVec.ofNat 32 (i 1).val
  let c512_i32 : BitVec 32 := 512#32
  let v16 : BitVec 32 := Scalar.muli arg1 c512_i32
  v16
def k0_off1 (i : grid0.Coords) : Fin 3 → Nat :=
  let arg0 : BitVec 32 := BitVec.ofNat 32 (i 0).val
  let c2_i32 : BitVec 32 := 2#32
  let c0_i32_7 : BitVec 32 := 0#32
  let v21 : BitVec 1 := Scalar.cmpi .eq c2_i32 c0_i32_7
  let c1_i32 : BitVec 32 := 1#32
  let v22 : BitVec 32 := Scalar.select v21 c1_i32 c2_i32
  let v23 : BitVec 32 := Scalar.remsi arg0 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let v31 : Index := Scalar.indexCast v30
  let arg1 : BitVec 32 := BitVec.ofNat 32 (i 1).val
  let c512_i32 : BitVec 32 := 512#32
  let v16 : BitVec 32 := Scalar.muli arg1 c512_i32
  let v17 : BitVec 32 := v16
  let v32 : Index := Scalar.indexCast v17
  let c0_11 : Index := 0#32
  ![v31.toNat, v32.toNat, 0]
def k0_cond3 (i : grid0.Coords) : BitVec 1 :=
  let arg0 : BitVec 32 := BitVec.ofNat 32 (i 0).val
  let c20_i32 : BitVec 32 := 20#32
  let v8 : BitVec 1 := Scalar.cmpi .eq arg0 c20_i32
  let v9 : BitVec 32 := Scalar.extui v8
  let c0_i32_2 : BitVec 32 := 0#32
  let v10 : BitVec 1 := Scalar.cmpi .ne v9 c0_i32_2
  v10

def k0_off2 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_7 : BitVec 32 := 0#32
  let v18 : BitVec 1 := Scalar.cmpi .eq c2_i32 c0_i32_7
  let c1_i32_8 : BitVec 32 := 1#32
  let v19 : BitVec 32 := Scalar.select v18 c1_i32_8 c2_i32
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v28 : Index := Scalar.indexCast v27
  let c0_12 : Index := 0#32
  let c0_13 : Index := 0#32
  ![v28.toNat, 0, 0]
def k0_cond4 (i : grid0.Coords) : BitVec 1 :=
  let arg0 : BitVec 32 := BitVec.ofNat 32 (i 0).val
  let c0_i32_3 : BitVec 32 := 0#32
  let v11 : BitVec 1 := Scalar.cmpi .sgt arg0 c0_i32_3
  let c20_i32_4 : BitVec 32 := 20#32
  let v12 : BitVec 1 := Scalar.cmpi .slt arg0 c20_i32_4
  let v13 : BitVec 1 := Scalar.andi v11 v12
  let v14 : BitVec 32 := Scalar.extui v13
  let c0_i32_5 : BitVec 32 := 0#32
  let v15 : BitVec 1 := Scalar.cmpi .ne v14 c0_i32_5
  v15

def k0_off3 (i : grid0.Coords) : Fin 3 → Nat :=
  let arg0 : BitVec 32 := BitVec.ofNat 32 (i 0).val
  let c1_i32 : BitVec 32 := 1#32
  let v17 : BitVec 32 := Scalar.addi arg0 c1_i32
  let c2_i32 : BitVec 32 := 2#32
  let c0_i32_7 : BitVec 32 := 0#32
  let v18 : BitVec 1 := Scalar.cmpi .eq c2_i32 c0_i32_7
  let c1_i32_8 : BitVec 32 := 1#32
  let v19 : BitVec 32 := Scalar.select v18 c1_i32_8 c2_i32
  let v20 : BitVec 32 := Scalar.remsi v17 v19
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let c0_i32_9 : BitVec 32 := 0#32
  let v21 : BitVec 1 := Scalar.cmpi .ne v20 c0_i32_9
  let v25 : BitVec 1 := Scalar.andi v24 v21
  let v26 : BitVec 32 := Scalar.addi v20 v19
  let v27 : BitVec 32 := Scalar.select v25 v26 v20
  let v28 : Index := Scalar.indexCast v27
  let c0_12 : Index := 0#32
  let c0_13 : Index := 0#32
  ![v28.toNat, 0, 0]
def k0_mult2 (i : grid0.Coords) : BitVec 32 :=
  let arg1 : BitVec 32 := BitVec.ofNat 32 (i 1).val
  let c512_i32 : BitVec 32 := 512#32
  let v34 : BitVec 32 := Scalar.muli arg1 c512_i32
  v34
def k0_off4 (i : grid0.Coords) : Fin 3 → Nat :=
  let arg0 : BitVec 32 := BitVec.ofNat 32 (i 0).val
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi arg0 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : Index := Scalar.indexCast v48
  let arg1 : BitVec 32 := BitVec.ofNat 32 (i 1).val
  let c512_i32 : BitVec 32 := 512#32
  let v34 : BitVec 32 := Scalar.muli arg1 c512_i32
  let v35 : BitVec 32 := v34
  let v50 : Index := Scalar.indexCast v35
  let c0_24 : Index := 0#32
  ![v49.toNat, v50.toNat, 0]
def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c128_i32 : BitVec 32 := 128#32
  let v2 : BitVec 1 := Scalar.cmpi .slt v1 c128_i32
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 1 := Scalar.cmpi .slt arg0 c20_i32
  let c7_i32 : BitVec 32 := 7#32
  let v1 : BitVec 32 := Scalar.select v0 arg1 c7_i32
  let c19_i32 : BitVec 32 := 19#32
  let v2 : BitVec 32 := Scalar.minsi arg0 c19_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S1x4096x20480 : Shape := ⟨3, ![1, 4096, 20480]⟩
abbrev S1x4096x2048 : Shape := ⟨3, ![1, 4096, 2048]⟩
abbrev S4096x20480 : Shape := ⟨2, ![4096, 20480]⟩
abbrev S8192x20480 : Shape := ⟨2, ![8192, 20480]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x20480, .f32⟩
  | .hbm, ⟨2, _⟩ => ⟨S1x4096x2048, .f32⟩
  | .hbm, ⟨3, _⟩ => ⟨S8192x4096, .f32⟩
  | .hbm, ⟨4, _⟩ => ⟨S4096x20480, .f32⟩
  | .hbm, ⟨5, _⟩ => ⟨S8192x20480, .f32⟩
  | .hbm, ⟨6, _⟩ => ⟨S8192x20480, .bf16⟩
  | .hbm, ⟨7, _⟩ => ⟨S4096x2048, .f32⟩
  | .hbm, ⟨8, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S512x1024 : Shape := ⟨2, ![512, 1024]⟩
abbrev S1024x1024 : Shape := ⟨2, ![1024, 1024]⟩
abbrev S2x4096x1024 : Shape := ⟨3, ![2, 4096, 1024]⟩
abbrev S1x512x1024 : Shape := ⟨3, ![1, 512, 1024]⟩
abbrev S1x4096x1024 : Shape := ⟨3, ![1, 4096, 1024]⟩
abbrev S4096x1024 : Shape := ⟨2, ![4096, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2x4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c512_i32 : BitVec 32 := 512#32
  let v11 : BitVec 32 := Scalar.muli arg1 c512_i32
  v11
def k0_off1 (i : grid0.Coords) : Fin 3 → Nat :=
  let arg0 : BitVec 32 := BitVec.ofNat 32 (i 0).val
  let c2_i32 : BitVec 32 := 2#32
  let c0_i32_6 : BitVec 32 := 0#32
  let v16 : BitVec 1 := Scalar.cmpi .eq c2_i32 c0_i32_6
  let c1_i32 : BitVec 32 := 1#32
  let v17 : BitVec 32 := Scalar.select v16 c1_i32 c2_i32
  let v18 : BitVec 32 := Scalar.remsi arg0 v17
  let c0_i32_8 : BitVec 32 := 0#32
  let v20 : BitVec 1 := Scalar.cmpi .slt v18 c0_i32_8
  let c0_i32_9 : BitVec 32 := 0#32
  let v21 : BitVec 1 := Scalar.cmpi .slt v17 c0_i32_9
  let v22 : BitVec 1 := Scalar.xori v20 v21
  let c0_i32_7 : BitVec 32 := 0#32
  let v19 : BitVec 1 := Scalar.cmpi .ne v18 c0_i32_7
  let v23 : BitVec 1 := Scalar.andi v22 v19
  let v24 : BitVec 32 := Scalar.addi v18 v17
  let v25 : BitVec 32 := Scalar.select v23 v24 v18
  let v26 : Index := Scalar.indexCast v25
  let arg1 : BitVec 32 := BitVec.ofNat 32 (i 1).val
  let c512_i32 : BitVec 32 := 512#32
  let v11 : BitVec 32 := Scalar.muli arg1 c512_i32
  let v12 : BitVec 32 := v11
  let v27 : Index := Scalar.indexCast v12
  let c0_10 : Index := 0#32
  ![v26.toNat, v27.toNat, 0]
def k0_cond2 (i : grid0.Coords) : BitVec 1 :=
  let arg0 : BitVec 32 := BitVec.ofNat 32 (i 0).val
  let c4_i32 : BitVec 32 := 4#32
  let v3 : BitVec 1 := Scalar.cmpi .eq arg0 c4_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v12 : BitVec 32 := Scalar.addi arg0 c1_i32
  let c2_i32 : BitVec 32 := 2#32
  let c0_i32_6 : BitVec 32 := 0#32
  let v13 : BitVec 1 := Scalar.cmpi .eq c2_i32 c0_i32_6
  let c1_i32_7 : BitVec 32 := 1#32
  let v14 : BitVec 32 := Scalar.select v13 c1_i32_7 c2_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v23 : Index := Scalar.indexCast v22
  let c0_11 : Index := 0#32
  let c0_12 : Index := 0#32
  ![v23.toNat, 0, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let c4_i32_3 : BitVec 32 := 4#32
  let v7 : BitVec 1 := Scalar.cmpi .slt arg0 c4_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg0 : BitVec 32 := BitVec.ofNat 32 (i 0).val
  let c1_i32 : BitVec 32 := 1#32
  let v12 : BitVec 32 := Scalar.addi arg0 c1_i32
  let c2_i32 : BitVec 32 := 2#32
  let c0_i32_6 : BitVec 32 := 0#32
  let v13 : BitVec 1 := Scalar.cmpi .eq c2_i32 c0_i32_6
  let c1_i32_7 : BitVec 32 := 1#32
  let v14 : BitVec 32 := Scalar.select v13 c1_i32_7 c2_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v23 : Index := Scalar.indexCast v22
  let c0_11 : Index := 0#32
  let c0_12 : Index := 0#32
  ![v23.toNat, 0, 0]
def k0_mult2 (i : grid0.Coords) : BitVec 32 :=
  let arg1 : BitVec 32 := BitVec.ofNat 32 (i 1).val
  let c512_i32 : BitVec 32 := 512#32
  let v30 : BitVec 32 := Scalar.muli arg1 c512_i32
  v30
def k0_off4 (i : grid0.Coords) : Fin 3 → Nat :=
  let arg0 : BitVec 32 := BitVec.ofNat 32 (i 0).val
  let c2_i32_19 : BitVec 32 := 2#32
  let c0_i32_20 : BitVec 32 := 0#32
  let v35 : BitVec 1 := Scalar.cmpi .eq c2_i32_19 c0_i32_20
  let c1_i32_21 : BitVec 32 := 1#32
  let v36 : BitVec 32 := Scalar.select v35 c1_i32_21 c2_i32_19
  let v37 : BitVec 32 := Scalar.remsi arg0 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v45 : Index := Scalar.indexCast v44
  let arg1 : BitVec 32 := BitVec.ofNat 32 (i 1).val
  let c512_i32 : BitVec 32 := 512#32
  let v30 : BitVec 32 := Scalar.muli arg1 c512_i32
  let v31 : BitVec 32 := v30
  let v46 : Index := Scalar.indexCast v31
  let c0_25 : Index := 0#32
  ![v45.toNat, v46.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S1x2048x4096 : Shape := ⟨3, ![1, 2048, 4096]⟩
abbrev S8192x20480 : Shape := ⟨2, ![8192, 20480]⟩
abbrev S1x2x4096 : Shape := ⟨3, ![1, 2, 4096]⟩
abbrev S2048x4096 : Shape := ⟨2, ![2048, 4096]⟩
abbrev S2x4096 : Shape := ⟨2, ![2, 4096]⟩
abbrev S8192x4096 : Shape := ⟨2, ![8192, 4096]⟩
abbrev S1024x2048 : Shape := ⟨2, ![1024, 2048]⟩
abbrev S256x1024 : Shape := ⟨2, ![256, 1024]⟩
abbrev S1024x1024 : Shape := ⟨2, ![1024, 1024]⟩
abbrev S2x1024 : Shape := ⟨2, ![2, 1024]⟩
abbrev S2x2048x1024 : Shape := ⟨3, ![2, 2048, 1024]⟩
abbrev S1x256x1024 : Shape := ⟨3, ![1, 256, 1024]⟩
abbrev S1x2048x1024 : Shape := ⟨3, ![1, 2048, 1024]⟩
abbrev S2048x1024 : Shape := ⟨2, ![2048, 1024]⟩
abbrev S1x1024 : Shape := ⟨2, ![1, 1024]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x4096, .f32⟩
  | .hbm, ⟨3, _⟩ => ⟨S1x2048x4096, .f32⟩
  | .hbm, ⟨4, _⟩ => ⟨S8192x20480, .bf16⟩
  | .hbm, ⟨5, _⟩ => ⟨S1x2x4096, .f32⟩
  | .hbm, ⟨6, _⟩ => ⟨S2048x4096, .f32⟩
  | .hbm, ⟨7, _⟩ => ⟨S2048x4096, .f32⟩
  | .hbm, ⟨8, _⟩ => ⟨S2x4096, .f32⟩
  | .hbm, ⟨9, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2x1024, .f32⟩
  | .local _ .vmem, ⟨13, _⟩ => ⟨S2x1024, .f32⟩
  | .local _ .vmem, ⟨14, _⟩ => ⟨S1024x1024, .bf16⟩
  | .local _ .vmem, ⟨15, _⟩ => ⟨S1024x1024, .bf16⟩
  | .local _ .vmem, ⟨16, _⟩ => ⟨S2x2048x1024, .bf16⟩
  | .local _ .vmem, ⟨17, _⟩ => ⟨S2x2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c256_i32 : BitVec 32 := 256#32
  let v24 : BitVec 32 := Scalar.muli arg1 c256_i32
  v24
def k0_off1 (i : grid0.Coords) : Fin 3 → Nat :=
  let arg0 : BitVec 32 := BitVec.ofNat 32 (i 0).val
  let c2_i32 : BitVec 32 := 2#32
  let c0_i32_6 : BitVec 32 := 0#32
  let v14 : BitVec 1 := Scalar.cmpi .eq c2_i32 c0_i32_6
  let c1_i32 : BitVec 32 := 1#32
  let v15 : BitVec 32 := Scalar.select v14 c1_i32 c2_i32
  let v16 : BitVec 32 := Scalar.remsi arg0 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let v26 : Index := Scalar.indexCast v23
  let arg1 : BitVec 32 := BitVec.ofNat 32 (i 1).val
  let c256_i32 : BitVec 32 := 256#32
  let v24 : BitVec 32 := Scalar.muli arg1 c256_i32
  let v25 : BitVec 32 := v24
  let v27 : Index := Scalar.indexCast v25
  let c0_10 : Index := 0#32
  ![v26.toNat, v27.toNat, 0]
def k0_mult2 (i : grid0.Coords) : BitVec 32 :=
  let arg1 : BitVec 32 := BitVec.ofNat 32 (i 1).val
  let c256_i32_19 : BitVec 32 := 256#32
  let v44 : BitVec 32 := Scalar.muli arg1 c256_i32_19
  v44
def k0_cond2 (i : grid0.Coords) : BitVec 1 :=
  let arg0 : BitVec 32 := BitVec.ofNat 32 (i 0).val
  let c4_i32 : BitVec 32 := 4#32
  let v3 : BitVec 1 := Scalar.cmpi .eq arg0 c4_i32
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg0 : BitVec 32 := BitVec.ofNat 32 (i 0).val
  let c1_i32 : BitVec 32 := 1#32
  let v12 : BitVec 32 := Scalar.addi arg0 c1_i32
  let c2_i32 : BitVec 32 := 2#32
  let c0_i32_6 : BitVec 32 := 0#32
  let v13 : BitVec 1 := Scalar.cmpi .eq c2_i32 c0_i32_6
  let c1_i32_7 : BitVec 32 := 1#32
  let v14 : BitVec 32 := Scalar.select v13 c1_i32_7 c2_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v23 : Index := Scalar.indexCast v22
  let c0_11 : Index := 0#32
  let c0_12 : Index := 0#32
  ![v23.toNat, 0, 0]
def k0_cond3 (i : grid0.Coords) : BitVec 1 :=
  let arg0 : BitVec 32 := BitVec.ofNat 32 (i 0).val
  let c0_i32_2 : BitVec 32 := 0#32
  let v6 : BitVec 1 := Scalar.cmpi .sgt arg0 c0_i32_2
  let c4_i32_3 : BitVec 32 := 4#32
  let v7 : BitVec 1 := Scalar.cmpi .slt arg0 c4_i32_3
  let v8 : BitVec 1 := Scalar.andi v6 v7
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg0 : BitVec 32 := BitVec.ofNat 32 (i 0).val
  let c1_i32 : BitVec 32 := 1#32
  let v12 : BitVec 32 := Scalar.addi arg0 c1_i32
  let c2_i32 : BitVec 32 := 2#32
  let c0_i32_6 : BitVec 32 := 0#32
  let v13 : BitVec 1 := Scalar.cmpi .eq c2_i32 c0_i32_6
  let c1_i32_7 : BitVec 32 := 1#32
  let v14 : BitVec 32 := Scalar.select v13 c1_i32_7 c2_i32
  let v15 : BitVec 32 := Scalar.remsi v12 v14
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let c0_i32_8 : BitVec 32 := 0#32
  let v16 : BitVec 1 := Scalar.cmpi .ne v15 c0_i32_8
  let v20 : BitVec 1 := Scalar.andi v19 v16
  let v21 : BitVec 32 := Scalar.addi v15 v14
  let v22 : BitVec 32 := Scalar.select v20 v21 v15
  let v23 : Index := Scalar.indexCast v22
  let c0_11 : Index := 0#32
  let c0_12 : Index := 0#32
  ![v23.toNat, 0, 0]
def k0_mult3 (i : grid0.Coords) : BitVec 32 :=
  let arg1 : BitVec 32 := BitVec.ofNat 32 (i 1).val
  let c256_i32 : BitVec 32 := 256#32
  let v75 : BitVec 32 := Scalar.muli arg1 c256_i32
  v75
def k0_off4 (i : grid0.Coords) : Fin 3 → Nat :=
  let arg0 : BitVec 32 := BitVec.ofNat 32 (i 0).val
  let c2_i32_36 : BitVec 32 := 2#32
  let c0_i32_37 : BitVec 32 := 0#32
  let v65 : BitVec 1 := Scalar.cmpi .eq c2_i32_36 c0_i32_37
  let c1_i32_38 : BitVec 32 := 1#32
  let v66 : BitVec 32 := Scalar.select v65 c1_i32_38 c2_i32_36
  let v67 : BitVec 32 := Scalar.remsi arg0 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  let v77 : Index := Scalar.indexCast v74
  let arg1 : BitVec 32 := BitVec.ofNat 32 (i 1).val
  let c256_i32 : BitVec 32 := 256#32
  let v75 : BitVec 32 := Scalar.muli arg1 c256_i32
  let v76 : BitVec 32 := v75
  let v78 : Index := Scalar.indexCast v76
  let c0_42 : Index := 0#32
  ![v77.toNat, v78.toNat, 0]
def k0_mult4 (i : grid0.Coords) : BitVec 32 :=
  let arg1 : BitVec 32 := BitVec.ofNat 32 (i 1).val
  let c256_i32_51 : BitVec 32 := 256#32
  let v95 : BitVec 32 := Scalar.muli arg1 c256_i32_51
  v95
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg0 c4_i32
  let c7_i32 : BitVec 32 := 7#32
  let v1 : BitVec 32 := Scalar.select v0 arg1 c7_i32
  let c3_i32 : BitVec 32 := 3#32
  let v2 : BitVec 32 := Scalar.minsi arg0 c3_i32
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c12_i32 : BitVec 32 := 12#32
  let v4 : BitVec 32 := Scalar.addi c12_i32 v3
  let c0_i32_2 : BitVec 32 := 0#32
  ![v1.toNat, v4.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c16_i32 : BitVec 32 := 16#32
  let v4 : BitVec 32 := Scalar.addi c16_i32 v3
  let c0_i32_2 : BitVec 32 := 0#32
  ![v1.toNat, v4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x2048 : Shape := ⟨2, ![8192, 2048]⟩
abbrev S1x2048x4096 : Shape := ⟨3, ![1, 2048, 4096]⟩
abbrev S8192x20480 : Shape := ⟨2, ![8192, 20480]⟩
abbrev S1x2x4096 : Shape := ⟨3, ![1, 2, 4096]⟩
abbrev S8192x8192 : Shape := ⟨2, ![8192, 8192]⟩
abbrev S8192x4096 : Shape := ⟨2, ![8192, 4096]⟩
abbrev S2048x4096 : Shape := ⟨2, ![2048, 4096]⟩
abbrev S1x1x4096 : Shape := ⟨3, ![1, 1, 4096]⟩
abbrev S4096 : Shape := ⟨1, ![4096]⟩
abbrev S1x4096 : Shape := ⟨2, ![1, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x4096, .f32⟩
  | .hbm, ⟨3, _⟩ => ⟨S1x2048x4096, .f32⟩
  | .hbm, ⟨4, _⟩ => ⟨S8192x20480, .bf16⟩
  | .hbm, ⟨5, _⟩ => ⟨S1x2x4096, .f32⟩
  | .hbm, ⟨6, _⟩ => ⟨S8192x20480, .f32⟩
  | .hbm, ⟨7, _⟩ => ⟨S8192x8192, .f32⟩
  | .hbm, ⟨8, _⟩ => ⟨S8192x4096, .f32⟩
  | .hbm, ⟨9, _⟩ => ⟨S8192x4096, .f32⟩
  | .hbm, ⟨10, _⟩ => ⟨S8192x2048, .f32⟩
  | .hbm, ⟨11, _⟩ => ⟨S2048x4096, .f32⟩
  | .hbm, ⟨12, _⟩ => ⟨S8192x4096, .f32⟩
  | .hbm, ⟨13, _⟩ => ⟨S8192x2048, .f32⟩
  | .hbm, ⟨14, _⟩ => ⟨S2048x4096, .f32⟩
  | .hbm, ⟨15, _⟩ => ⟨S8192x4096, .f32⟩
  | .hbm, ⟨16, _⟩ => ⟨S1x1x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x1x4096, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel5.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S8192x2048 : Shape := ⟨2, ![8192, 2048]⟩
abbrev S256x4096 : Shape := ⟨2, ![256, 4096]⟩
abbrev S256x2048 : Shape := ⟨2, ![256, 2048]⟩
abbrev S2x256x4096 : Shape := ⟨3, ![2, 256, 4096]⟩
abbrev S64x4096 : Shape := ⟨2, ![64, 4096]⟩
abbrev S64 : Shape := ⟨1, ![64]⟩
abbrev S64x1 : Shape := ⟨2, ![64, 1]⟩
abbrev S1x256x4096 : Shape := ⟨3, ![1, 256, 4096]⟩
abbrev S1x64x4096 : Shape := ⟨3, ![1, 64, 4096]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S1x4096, .f32⟩
  | .hbm, ⟨5, _⟩ => ⟨S8192x2048, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x2048, .bf16⟩
  | .local _ .vmem, ⟨4, _⟩ => ⟨S256x2048, .f32⟩
  | .local _ .vmem, ⟨5, _⟩ => ⟨S256x2048, .f32⟩
  | .local _ .vmem, ⟨6, _⟩ => ⟨S256x4096, .bf16⟩
  | .local _ .vmem, ⟨7, _⟩ => ⟨S256x4096, .bf16⟩
  | .local _ .vmem, ⟨8, _⟩ => ⟨S2x256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_14 : BitVec 32 := 0#32
  let c0_i32_15 : BitVec 32 := 0#32
  ![v20.toNat, 0, 0]
def k0_off2 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_14 : BitVec 32 := 0#32
  let c0_i32_15 : BitVec 32 := 0#32
  ![v20.toNat, 0, 0]
def k0_off3 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_25 : BitVec 32 := 0#32
  ![v20.toNat, 64, 0]
def k0_off4 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_35 : BitVec 32 := 0#32
  ![v20.toNat, 128, 0]
def k0_off5 (i : grid0.Coords) : Fin 3 → Nat :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32 : BitVec 32 := 1#32
  let v12 : BitVec 32 := Scalar.select v11 c1_i32 c2_i32
  let v13 : BitVec 32 := Scalar.remsi arg0 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c0_i32_45 : BitVec 32 := 0#32
  ![v20.toNat, 192, 0]
def k0_off6 (i : grid0.Coords) : Fin 3 → Nat :=
  let arg0 : BitVec 32 := BitVec.ofNat 32 (i 0).val
  let c2_i32_48 : BitVec 32 := 2#32
  let c0_i32_49 : BitVec 32 := 0#32
  let v105 : BitVec 1 := Scalar.cmpi .eq c2_i32_48 c0_i32_49
  let c1_i32_50 : BitVec 32 := 1#32
  let v106 : BitVec 32 := Scalar.select v105 c1_i32_50 c2_i32_48
  let v107 : BitVec 32 := Scalar.remsi arg0 v106
  let c0_i32_52 : BitVec 32 := 0#32
  let v109 : BitVec 1 := Scalar.cmpi .slt v107 c0_i32_52
  let c0_i32_53 : BitVec 32 := 0#32
  let v110 : BitVec 1 := Scalar.cmpi .slt v106 c0_i32_53
  let v111 : BitVec 1 := Scalar.xori v109 v110
  let c0_i32_51 : BitVec 32 := 0#32
  let v108 : BitVec 1 := Scalar.cmpi .ne v107 c0_i32_51
  let v112 : BitVec 1 := Scalar.andi v111 v108
  let v113 : BitVec 32 := Scalar.addi v107 v106
  let v114 : BitVec 32 := Scalar.select v112 v113 v107
  let v115 : Index := Scalar.indexCast v114
  let c0_54 : Index := 0#32
  let c0_55 : Index := 0#32
  ![v115.toNat, 0, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off7 (i : grid0.Coords) : Fin 3 → Nat :=
  let arg0 : BitVec 32 := BitVec.ofNat 32 (i 0).val
  let c1_i32 : BitVec 32 := 1#32
  let v11 : BitVec 32 := Scalar.addi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : Index := Scalar.indexCast v21
  let c0 : Index := 0#32
  let c0_10 : Index := 0#32
  ![v22.toNat, 0, 0]
def k0_off8 (i : grid0.Coords) : Fin 3 → Nat :=
  let arg0 : BitVec 32 := BitVec.ofNat 32 (i 0).val
  let c2_i32_15 : BitVec 32 := 2#32
  let c0_i32_16 : BitVec 32 := 0#32
  let v28 : BitVec 1 := Scalar.cmpi .eq c2_i32_15 c0_i32_16
  let c1_i32_17 : BitVec 32 := 1#32
  let v29 : BitVec 32 := Scalar.select v28 c1_i32_17 c2_i32_15
  let v30 : BitVec 32 := Scalar.remsi arg0 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c0_i32_28 : BitVec 32 := 0#32
  let c0_i32_29 : BitVec 32 := 0#32
  ![v37.toNat, 0, 0]
def k0_off9 (i : grid0.Coords) : Fin 3 → Nat :=
  let arg0 : BitVec 32 := BitVec.ofNat 32 (i 0).val
  let c2_i32_15 : BitVec 32 := 2#32
  let c0_i32_16 : BitVec 32 := 0#32
  let v28 : BitVec 1 := Scalar.cmpi .eq c2_i32_15 c0_i32_16
  let c1_i32_17 : BitVec 32 := 1#32
  let v29 : BitVec 32 := Scalar.select v28 c1_i32_17 c2_i32_15
  let v30 : BitVec 32 := Scalar.remsi arg0 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c0_i32_28 : BitVec 32 := 0#32
  let c0_i32_29 : BitVec 32 := 0#32
  ![v37.toNat, 0, 0]
def k0_off10 (i : grid0.Coords) : Fin 3 → Nat :=
  let arg0 : BitVec 32 := BitVec.ofNat 32 (i 0).val
  let c2_i32_15 : BitVec 32 := 2#32
  let c0_i32_16 : BitVec 32 := 0#32
  let v28 : BitVec 1 := Scalar.cmpi .eq c2_i32_15 c0_i32_16
  let c1_i32_17 : BitVec 32 := 1#32
  let v29 : BitVec 32 := Scalar.select v28 c1_i32_17 c2_i32_15
  let v30 : BitVec 32 := Scalar.remsi arg0 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c0_i32_39 : BitVec 32 := 0#32
  ![v37.toNat, 64, 0]
def k0_off11 (i : grid0.Coords) : Fin 3 → Nat :=
  let arg0 : BitVec 32 := BitVec.ofNat 32 (i 0).val
  let c2_i32_15 : BitVec 32 := 2#32
  let c0_i32_16 : BitVec 32 := 0#32
  let v28 : BitVec 1 := Scalar.cmpi .eq c2_i32_15 c0_i32_16
  let c1_i32_17 : BitVec 32 := 1#32
  let v29 : BitVec 32 := Scalar.select v28 c1_i32_17 c2_i32_15
  let v30 : BitVec 32 := Scalar.remsi arg0 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c0_i32_49 : BitVec 32 := 0#32
  ![v37.toNat, 128, 0]
def k0_off12 (i : grid0.Coords) : Fin 3 → Nat :=
  let arg0 : BitVec 32 := BitVec.ofNat 32 (i 0).val
  let c2_i32_15 : BitVec 32 := 2#32
  let c0_i32_16 : BitVec 32 := 0#32
  let v28 : BitVec 1 := Scalar.cmpi .eq c2_i32_15 c0_i32_16
  let c1_i32_17 : BitVec 32 := 1#32
  let v29 : BitVec 32 := Scalar.select v28 c1_i32_17 c2_i32_15
  let v30 : BitVec 32 := Scalar.remsi arg0 v29
  let c0_i32_19 : BitVec 32 := 0#32
  let v32 : BitVec 1 := Scalar.cmpi .slt v30 c0_i32_19
  let c0_i32_20 : BitVec 32 := 0#32
  let v33 : BitVec 1 := Scalar.cmpi .slt v29 c0_i32_20
  let v34 : BitVec 1 := Scalar.xori v32 v33
  let c0_i32_18 : BitVec 32 := 0#32
  let v31 : BitVec 1 := Scalar.cmpi .ne v30 c0_i32_18
  let v35 : BitVec 1 := Scalar.andi v34 v31
  let v36 : BitVec 32 := Scalar.addi v30 v29
  let v37 : BitVec 32 := Scalar.select v35 v36 v30
  let c0_i32_59 : BitVec 32 := 0#32
  ![v37.toNat, 192, 0]
def k0_off13 (i : grid0.Coords) : Fin 3 → Nat :=
  let arg0 : BitVec 32 := BitVec.ofNat 32 (i 0).val
  let c2_i32_62 : BitVec 32 := 2#32
  let c0_i32_63 : BitVec 32 := 0#32
  let v122 : BitVec 1 := Scalar.cmpi .eq c2_i32_62 c0_i32_63
  let c1_i32_64 : BitVec 32 := 1#32
  let v123 : BitVec 32 := Scalar.select v122 c1_i32_64 c2_i32_62
  let v124 : BitVec 32 := Scalar.remsi arg0 v123
  let c0_i32_66 : BitVec 32 := 0#32
  let v126 : BitVec 1 := Scalar.cmpi .slt v124 c0_i32_66
  let c0_i32_67 : BitVec 32 := 0#32
  let v127 : BitVec 1 := Scalar.cmpi .slt v123 c0_i32_67
  let v128 : BitVec 1 := Scalar.xori v126 v127
  let c0_i32_65 : BitVec 32 := 0#32
  let v125 : BitVec 1 := Scalar.cmpi .ne v124 c0_i32_65
  let v129 : BitVec 1 := Scalar.andi v128 v125
  let v130 : BitVec 32 := Scalar.addi v124 v123
  let v131 : BitVec 32 := Scalar.select v129 v130 v124
  let v132 : Index := Scalar.indexCast v131
  let c0_68 : Index := 0#32
  let c0_69 : Index := 0#32
  ![v132.toNat, 0, 0]
def k0_cond3 (i : grid0.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def k0_off14 (i : grid0.Coords) : Fin 3 → Nat :=
  let arg0 : BitVec 32 := BitVec.ofNat 32 (i 0).val
  let c1_i32 : BitVec 32 := 1#32
  let v11 : BitVec 32 := Scalar.addi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : Index := Scalar.indexCast v21
  let c0 : Index := 0#32
  let c0_10 : Index := 0#32
  ![v22.toNat, 0, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x4096 : Shape := ⟨2, ![8192, 4096]⟩
abbrev S1x4096 : Shape := ⟨2, ![1, 4096]⟩
abbrev S4096x2048 : Shape := ⟨2, ![4096, 2048]⟩
abbrev S4096 : Shape := ⟨1, ![4096]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096x2048, .bf16⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S4096x2048, .f32⟩
  | .hbm, ⟨21, _⟩ => ⟨S8192x2048, .f32⟩
  | .hbm, ⟨22, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S4x2048x4096 : Shape := ⟨3, ![4, 2048, 4096]⟩
abbrev S1x4096 : Shape := ⟨2, ![1, 4096]⟩
abbrev S8192x4096 : Shape := ⟨2, ![8192, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4x2048x4096 : Shape := ⟨3, ![4, 2048, 4096]⟩
abbrev S1x4096 : Shape := ⟨2, ![1, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Points.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 32 — decided over the grid. -/
theorem hcond0_0 : ∀ t : Fin cfg0.N, cond0_0 (grid0.coords t) ↔ t.val < 32 :=
  (by decide +kernel : ∀ t : Fin grid0.N, cond0_0 (grid0.coords t) ↔ t.val < 32)

/-- The condition of the body's `scf.if` 1 (`k0_h2`), from the grid coordinates (the skeleton's scalar
    chain substituted). -/
abbrev cond0_1 (i : grid0.Coords) : Prop := k0_cond2 i = 1#1
/-- It holds at the points from point 32 on — decided over the grid. -/
theorem hcond0_1 : ∀ t : Fin cfg0.N, cond0_1 (grid0.coords t) ↔ 32 ≤ t.val :=
  (by decide +kernel : ∀ t : Fin grid0.N, cond0_1 (grid0.coords t) ↔ 32 ≤ t.val)

/-- The condition of the body's `scf.if` 2 (`k0_h3`), from the grid coordinates (the skeleton's scalar
    chain substituted). -/
abbrev cond0_2 (i : grid0.Coords) : Prop := k0_cond3 i = 1#1
/-- It holds at the points ≡ 0 (mod 4) — by arithmetic of the point. -/
theorem hcond0_2 : ∀ t : Fin cfg0.N, cond0_2 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S32x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x4096 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2048x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x4096 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x4096 .bf16 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S512x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Moba

end
-- ==== Proof.RunA.lean ====
module

public import proofs.«01_k».proof.Proof.Points

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run is one long term: elaborating it takes more than the default budget
set_option maxHeartbeats 3000000 in
/-- The body of the attention call run once (steps 0, 4, … 28: the first side table is cast and the bias tile is made): the blocks it reads end as they were, and each block it
    writes ends with a list of pieces written into it, which the run finds. -/
noncomputable def runA (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    Σ' (L12 : List (View.Piece (Elt F) S2048x128 .bf16)), Σ' (L13 : List (View.Piece (Elt F) S2048x128 .bf16)), Σ' (L14 : List (View.Piece (Elt F) S512x4096 .bf16)), { LS0 : List (View.Piece (Elt F) S512x256 .f32) //
      ∀ (E : Set ℕ) (K : PUnit → sProp 𝕄) (x15 : Vec F S512x4096 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x15 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare x15 ∗ (∃ f, arg18.view.loc (c : Thread nD τ) ↦[arg18.view.set]{fullShare} arg18.view.writes (Elt F) f LS0)) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K x15 => ?run⟩
  case run =>
    simp only [cc0_moba_eq_skeleton]; unfold cc0_moba_skel
    simp only [k0_part47_eq_skeleton, k0_part5_eq_skeleton, k0_part6_eq_skeleton, k0_part1_eq_skeleton, k0_part2_eq_skeleton, k0_part3_eq_skeleton, k0_part4_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _; isplitr; · ipureintro; exact harg17.read_unread _
      iexact H15
    iexists _; iexact HS0

end Cert.KernelIdeal.Moba

end
-- ==== Proof.Model.lean ====
module

public import proofs.«01_k».proof.Proof.Points
public import proofs.«01_k».proof.Proof.Gen.KernelIdeal.Skeleton

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One query block of the attention, in the kernel's own operations -/

/-- The values of a batch, transposed. -/
def valsT (v : Vec F S2048x128 .bf16) : FVec F S128x2048 .bf16 :=
  truncf .bf16 (transpose S128x2048 [1, 0] (extf .f32 v bitsLt_bf16_f32 : FVec F S2048x128 .f32)
    transposes_S2048x128_p1_0_S128x2048) bitsLt_bf16_f32

/-- The mean key of one key block, as one row. -/
def meanRow (kn : Vec F S256x128 .bf16) : FVec F S1x128 .f32 :=
  divf (shapeCast S1x128 (multiReduction .add [0] S128 (extf .f32 kn bitsLt_bf16_f32 : FVec F S256x128 .f32)
    0x00000000#32 reduces_S256x128_S128 (.inl rfl) rfl) shapeCasts_S128_S1x128)
    (broadcast S1x128 (Scalar.ofBits .f32 0x43800000#32))

/-- The eight mean keys. -/
def meanKeys (kb : ℕ → Vec F S256x128 .bf16) : FVec F S8x128 .f32 :=
  concatenate S8x128 0 [⟨S1x128, meanRow (kb 0)⟩, ⟨S1x128, meanRow (kb 1)⟩, ⟨S1x128, meanRow (kb 2)⟩,
    ⟨S1x128, meanRow (kb 3)⟩, ⟨S1x128, meanRow (kb 4)⟩, ⟨S1x128, meanRow (kb 5)⟩, ⟨S1x128, meanRow (kb 6)⟩,
    ⟨S1x128, meanRow (kb 7)⟩]
    concatenates_S1x128_S1x128_S1x128_S1x128_S1x128_S1x128_S1x128_S1x128_S8x128_d0

/-- Scores of a key block against the queries, keys down and queries across, scaled. -/
def scores (kn q : Vec F S256x128 .bf16) : FVec F S256x256 .f32 :=
  mulf (matmul dot_S256x128_S256x128_S256x256_1_1_0_0_n_n none kn q (constant S256x256 .f32 0x00000000#32))
    (broadcast S256x256 (Named.named κ "scale" 0x3E0293EE#32))

/-- The scores of the queries' own block, kept where the key is no later than the query. -/
def maskOwn (lg : FVec F S256x256 .f32) : FVec F S256x256 .f32 :=
  select (cmpi .sge (iota .tc S256x256 32 [1] iota_S256x256_d1_w32) (iota .tc S256x256 32 [0] iota_S256x256_d0_w32))
    lg (broadcast S256x256 (Scalar.ofBits .f32 0xFF800000#32))

/-- The scores of an earlier block, kept at the queries that select it. -/
def maskSel (s : FVec F S1x256 .f32) (lg : FVec F S256x256 .f32) : FVec F S256x256 .f32 :=
  select (broadcastTo S256x256 (shapeCast S1x256
      (cmpf .ogt s (broadcast S1x256 (Scalar.ofBits .f32 0x3F000000#32))) shapeCasts_S1x256_S1x256)
      broadcasts_S1x256_S256x256)
    lg (broadcast S256x256 (Scalar.ofBits .f32 0xFF800000#32))

/-- The gate: mean keys against queries. -/
def gates (km : FVec F S8x128 .f32) (q : Vec F S256x128 .bf16) : FVec F S8x256 .f32 :=
  matmul dot_S8x128_S256x128_S8x256_1_1_0_0_n_n (some .fp32) km (extf .f32 q bitsLt_bf16_f32 : FVec F S256x128 .f32)
    (constant S8x256 .f32 0x00000000#32)

theorem gateRow_slices (n : ℕ) : S8x256.Slices ![min n 7, 0] S1x256 :=
  ⟨rfl, fun a => match a with
    | ⟨0, _⟩ => by show min n 7 + 1 ≤ 8; omega
    | ⟨1, _⟩ => by show 0 + 256 ≤ 256; omega⟩

/-- Row `n` of the gate. -/
def gateRow (g : FVec F S8x256 .f32) (n : ℕ) : FVec F S1x256 .f32 :=
  extractStridedSlice S1x256 ![min n 7, 0] g (gateRow_slices n)

/-- One where block `m` is ranked before block `n` at a query, else zero: a greater gate, and of equal gates the
    earlier block. -/
def beats (g : FVec F S8x256 .f32) (n m : ℕ) : FVec F S1x256 .f32 :=
  select (if m < n then ori (cmpf .ogt (gateRow g m) (gateRow g n)) (cmpf .oeq (gateRow g m) (gateRow g n))
      else cmpf .ogt (gateRow g m) (gateRow g n))
    (broadcast S1x256 (Scalar.ofBits .f32 0x3F800000#32)) (broadcast S1x256 (Scalar.ofBits .f32 0x00000000#32))

/-- How many of the first `j` blocks are ranked before block `n`, at each query. -/
def rankOf (g : FVec F S8x256 .f32) (n j : ℕ) : FVec F S1x256 .f32 :=
  Nat.rec (broadcast S1x256 (Scalar.ofBits .f32 0x00000000#32))
    (fun m acc => if m = n then acc else addf acc (beats g n m)) j

/-- One where fewer than three of the first `j` blocks are ranked before block `n`, else zero. -/
def selOf (g : FVec F S8x256 .f32) (n j : ℕ) : FVec F S1x256 .f32 :=
  select (cmpf .olt (rankOf g n j) (broadcast S1x256 (Scalar.ofBits .f32 0x40400000#32)))
    (broadcast S1x256 (Scalar.ofBits .f32 0x3F800000#32)) (broadcast S1x256 (Scalar.ofBits .f32 0x00000000#32))

/-- The logits of key block `n` at query block `qb`. -/
def logitBlk (kb : ℕ → Vec F S256x128 .bf16) (far : F .f32) (bOwn bNear : Vec F S256x256 .f32)
    (q : Vec F S256x128 .bf16) (qb n : ℕ) : FVec F S256x256 .f32 :=
  if n = qb then maskOwn (addf (scores (kb n) q) bOwn)
  else if 3 < qb then
    maskSel (selOf (gates (meanKeys kb) q) n qb)
      (addf (scores (kb n) q) (if n + 1 = qb then bNear else broadcast S256x256 far))
  else addf (scores (kb n) q) (if n + 1 = qb then bNear else broadcast S256x256 far)

/-- The greatest entry of each column. -/
def colMax (lg : FVec F S256x256 .f32) : FVec F S1x256 .f32 :=
  shapeCast S1x256 (multiReduction .maximumf [0] S256 lg 0xFF800000#32 reduces_S256x256_S256 (.inl rfl) rfl)
    shapeCasts_S256_S1x256

/-- The sum of each column. -/
def colSum (p : FVec F S256x256 .f32) : FVec F S1x256 .f32 :=
  shapeCast S1x256 (multiReduction .add [0] S256 p 0x00000000#32 reduces_S256x256_S256 (.inl rfl) rfl)
    shapeCasts_S256_S1x256

/-- The greatest logit of key blocks `0 … j`. -/
def maxTo (lg : ℕ → FVec F S256x256 .f32) (j : ℕ) : FVec F S1x256 .f32 :=
  Nat.rec (colMax (lg 0)) (fun n acc => maximumf acc (colMax (lg (n + 1)))) j

/-- The weights of one key block. -/
def weights (lg : FVec F S256x256 .f32) (mx : FVec F S1x256 .f32) : FVec F S256x256 .f32 :=
  exp2 (subf lg (broadcastTo S256x256 mx broadcasts_S1x256_S256x256))

/-- The sum of the weights of the first `j` key blocks. -/
def denTo (lg : ℕ → FVec F S256x256 .f32) (mx : FVec F S1x256 .f32) (j : ℕ) : FVec F S1x256 .f32 :=
  Nat.rec (broadcast S1x256 (Scalar.ofBits .f32 0x00000000#32))
    (fun n acc => addf acc (colSum (weights (lg n) mx))) j

theorem valCols_slices (n : ℕ) : S128x2048.Slices ![0, 256 * min n 7] S128x256 :=
  ⟨rfl, fun a => match a with
    | ⟨0, _⟩ => by show 0 + 128 ≤ 128; omega
    | ⟨1, _⟩ => by show 256 * min n 7 + 256 ≤ 2048; omega⟩

/-- The weighted values of the first `j` key blocks. -/
def accTo (vt : FVec F S128x2048 .bf16) (lg : ℕ → FVec F S256x256 .f32) (mx : FVec F S1x256 .f32) (j : ℕ) :
    FVec F S128x256 .f32 :=
  Nat.rec (broadcast S128x256 (Scalar.ofBits .f32 0x00000000#32))
    (fun n acc => addf acc (matmul dot_S128x256_S256x256_S128x256_1_0_0_1_n_n none
      (extractStridedSlice S128x256 ![0, 256 * min n 7] vt (valCols_slices n))
      (truncf .bf16 (weights (lg n) mx) bitsLt_bf16_f32) (constant S128x256 .f32 0x00000000#32))) j

/-- What the kernel stores for query block `qb`. -/
def tile (kb : ℕ → Vec F S256x128 .bf16) (v : Vec F S2048x128 .bf16) (far : F .f32)
    (bOwn bNear : Vec F S256x256 .f32) (q : Vec F S256x128 .bf16) (qb : ℕ) : FVec F S256x128 .bf16 :=
  truncf .bf16 (transpose S256x128 [1, 0]
    (divf (accTo (valsT v) (logitBlk kb far bOwn bNear q qb) (maxTo (logitBlk kb far bOwn bNear q qb) qb) (qb + 1))
      (broadcastTo S128x256 (denTo (logitBlk kb far bOwn bNear q qb)
        (maxTo (logitBlk kb far bOwn bNear q qb) qb) (qb + 1)) broadcasts_S1x256_S128x256))
    transposes_S128x256_p1_0_S256x128) bitsLt_bf16_f32

/-! ## The bias tile, the far bias, the short convolution -/

/-- The far bias: the last row of the table, scaled. -/
def farOf (w : Elt F .f32) : F .f32 := Scalar.mulf w (Named.named κ "log2e" 0x3FB8AA3B#32)

/-- The bias chosen among the first `j` rows of the table by the bucket of each pair. -/
def biasChain (tab : ℕ → Elt F .f32) (bk : IVec S512x256 32) (j : ℕ) : FVec F S512x256 .f32 :=
  Nat.rec (broadcast S512x256 (Scalar.ofBits .f32 0x00000000#32))
    (fun k acc => select (cmpi .eq bk (broadcast S512x256 (BitVec.ofNat 32 k))) (broadcast S512x256 (tab k)) acc) j

/-- The bias tile of a head: two blocks of keys down, one block of queries across. -/
def biasOf (tab : ℕ → Elt F .f32) (bk : Vec F S512x256 .i32) : FVec F S512x256 .f32 :=
  shapeCast S512x256 (mulf (biasChain tab (shapeCast S512x256 bk shapeCasts_S512x256_S512x256) 32)
    (broadcast S512x256 (Named.named κ "log2e" 0x3FB8AA3B#32))) shapeCasts_S512x256_S512x256

/-- The short convolution: the gated product of three columns of the projection. -/
def convOf (cb cc cu : Vec F S2048x128 .bf16) (w : ℕ → Vec F S1x128 .f32) (bias : Vec F S1x128 .f32) :
    FVec F S2048x128 .bf16 :=
  truncf .bf16 (mulf (extf .f32 cb bitsLt_bf16_f32 : FVec F S2048x128 .f32)
    (addf (addf (addf
        (mulf (broadcastTo S2048x128 (shapeCast S1x128 (w 2) shapeCasts_S1x128_S1x128) broadcasts_S1x128_S2048x128)
          (gated cc cu))
        (mulf (broadcastTo S2048x128 (shapeCast S1x128 (w 1) shapeCasts_S1x128_S1x128) broadcasts_S1x128_S2048x128)
          (shifted 1#32 (gated cc cu))))
        (mulf (broadcastTo S2048x128 (shapeCast S1x128 (w 0) shapeCasts_S1x128_S1x128) broadcasts_S1x128_S2048x128)
          (shifted 2#32 (gated cc cu))))
      (broadcastTo S2048x128 (shapeCast S1x128 bias shapeCasts_S1x128_S1x128) broadcasts_S1x128_S2048x128)))
    bitsLt_bf16_f32
where
  /-- The product the convolution reads. -/
  gated (cc cu : Vec F S2048x128 .bf16) : FVec F S2048x128 .f32 :=
    mulf (extf .f32 cc bitsLt_bf16_f32) (extf .f32 cu bitsLt_bf16_f32)
  /-- The rows moved down by `k`, zero above them. -/
  shifted (k : BitVec 32) (x : FVec F S2048x128 .f32) : FVec F S2048x128 .f32 :=
    select (cmpi .sge (iota .tc S2048x128 32 [0] iota_S2048x128_d0_w32) (broadcast S2048x128 k))
      (dynamicRotate 0 k none x rotates_S2048x128_d0) (broadcast S2048x128 (Scalar.ofBits .f32 0x00000000#32))

theorem rows_inb (n : ℕ) : ∀ a, (![256 * min n 7, 0] : Fin 2 → Nat) a + S256x128.size a ≤ S2048x128.size a := fun a => match a with
    | ⟨0, _⟩ => by show 256 * min n 7 + 256 ≤ 2048; omega
    | ⟨1, _⟩ => by show 0 + 128 ≤ 128; omega

/-- The eight stores of one head and batch, the last first. -/
def tilePieces (kb qv : ℕ → Vec F S256x128 .bf16) (v : Vec F S2048x128 .bf16) (far : F .f32)
    (bOwn bNear : Vec F S256x256 .f32) : List (View.Piece (Elt F) S2048x128 .bf16) :=
  [⟨Rect.unit (s := S2048x128) ![1792, 0] S256x128.size (rows_inb 7), tile kb v far bOwn bNear (qv 7) 7⟩,
   ⟨Rect.unit (s := S2048x128) ![1536, 0] S256x128.size (rows_inb 6), tile kb v far bOwn bNear (qv 6) 6⟩,
   ⟨Rect.unit (s := S2048x128) ![1280, 0] S256x128.size (rows_inb 5), tile kb v far bOwn bNear (qv 5) 5⟩,
   ⟨Rect.unit (s := S2048x128) ![1024, 0] S256x128.size (rows_inb 4), tile kb v far bOwn bNear (qv 4) 4⟩,
   ⟨Rect.unit (s := S2048x128) ![768, 0] S256x128.size (rows_inb 3), tile kb v far bOwn bNear (qv 3) 3⟩,
   ⟨Rect.unit (s := S2048x128) ![512, 0] S256x128.size (rows_inb 2), tile kb v far bOwn bNear (qv 2) 2⟩,
   ⟨Rect.unit (s := S2048x128) ![256, 0] S256x128.size (rows_inb 1), tile kb v far bOwn bNear (qv 1) 1⟩,
   ⟨Rect.unit (s := S2048x128) ![0, 0] S256x128.size (rows_inb 0), tile kb v far bOwn bNear (qv 0) 0⟩]

end Cert.KernelIdeal.Moba

end
-- ==== Proof.Loads.lean ====
module

public import proofs.«01_k».proof.Proof.Model

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of rows a load of a whole buffer finds: block `n` of eight. -/
abbrev ldRows (m : Memref sig .tc .vmem S2048x128 .bf16) (h : m.IsWhole) (x : Vec F S2048x128 .bf16) (n : ℕ) :
    Vec F S256x128 .bf16 :=
  View.readAt (Elt F) m.view (Rect.unit (s := S2048x128) ![256 * min n 7, 0] S256x128.size (rows_inb n)).toLoadRect (h.unread x)

theorem tab_inb (i : grid0.Coords) (k : ℕ) : ∀ a, (![min k 31, (BitVec.ofNat 32 (i 0).val).toNat] : Fin 2 → Nat) a + S1x1.size a ≤ S32x16.size a := fun a => match a with
    | ⟨0, _⟩ => by show min k 31 + 1 ≤ 32; omega
    | ⟨1, _⟩ => by
      have h : (i 0).val < 16 := (i 0).isLt
      show (BitVec.ofNat 32 (i 0).val).toNat + 1 ≤ 16
      rw [BitVec.toNat_ofNat, Nat.mod_eq_of_lt (by omega)]; omega

/-- The word of the bias table a load finds: row `k` at the step's head. -/
abbrev ldTab (m : Memref sig .tc .smem S32x16 .f32) (h : m.IsWhole) (x : Vec F S32x16 .f32) (i : grid0.Coords) (k : ℕ) :
    Elt F .f32 :=
  View.readAt (Elt F) m.view (Rect.unit (s := S32x16) ![min k 31, (BitVec.ofNat 32 (i 0).val).toNat] S1x1.size (tab_inb i k)).toLoadRect (h.unread x)
    (Shape.Idx.first (show 0 < S1x1.numel by decide))

theorem taps_inb (n : ℕ) : ∀ a, (![min n 2, 0] : Fin 2 → Nat) a + S1x128.size a ≤ S3x128.size a := fun a => match a with
    | ⟨0, _⟩ => by show min n 2 + 1 ≤ 3; omega
    | ⟨1, _⟩ => by show 0 + 128 ≤ 128; omega

/-- The tap a load of the convolution's weights finds. -/
abbrev ldTap (m : Memref sig .tc .vmem S3x128 .f32) (h : m.IsWhole) (x : Vec F S3x128 .f32) (n : ℕ) : Vec F S1x128 .f32 :=
  View.readAt (Elt F) m.view (Rect.unit (s := S3x128) ![min n 2, 0] S1x128.size (taps_inb n)).toLoadRect (h.unread x)

/-- A load of a whole buffer. -/
abbrev ldAll {sp : Space} {s : Shape} {e : EltTy} (m : Memref sig .tc sp s e) (h : m.IsWhole) (x : Vec F s e) (off : Fin s.rank → ℕ) (inb : ∀ a, off a + s.size a ≤ s.size a) : Vec F s e :=
  View.readAt (Elt F) m.view (Rect.unit (s := s) off s.size inb).toLoadRect (h.unread x)

/-- The one store of the bias tile. -/
abbrev biasPieces (b : FVec F S512x256 .f32) : List (View.Piece (Elt F) S512x256 .f32) :=
  [⟨Rect.unit (s := S512x256) ![0, 0] S512x256.size inb_S512x256_S512x256_0_0, b⟩]

theorem side_inb (n : ℕ) : ∀ a, (![64 * min n 7, 0] : Fin 2 → Nat) a + S64x4096.size a ≤ S512x4096.size a := fun a => match a with
    | ⟨0, _⟩ => by show 64 * min n 7 + 64 ≤ 512; omega
    | ⟨1, _⟩ => by show 0 + 4096 ≤ 4096; omega

/-- The rows of a table's block one trip of the cast's loop loads. -/
abbrev ldSide (m : Memref sig .tc .vmem S512x4096 .f32) (h : m.IsWhole) (x : Vec F S512x4096 .f32) (n : ℕ) : Vec F S64x4096 .f32 :=
  View.readAt (Elt F) m.view (Rect.unit (s := S512x4096) ![64 * min n 7, 0] S64x4096.size (side_inb n)).toLoadRect (h.unread x)

/-- The eight stores of a table's block, the last first. -/
def sidePieces (ld : ℕ → Vec F S64x4096 .f32) : List (View.Piece (Elt F) S512x4096 .bf16) :=
  [⟨Rect.unit (s := S512x4096) ![448, 0] S64x4096.size (side_inb 7), k0_pay12 (ld 7)⟩,
   ⟨Rect.unit (s := S512x4096) ![384, 0] S64x4096.size (side_inb 6), k0_pay12 (ld 6)⟩,
   ⟨Rect.unit (s := S512x4096) ![320, 0] S64x4096.size (side_inb 5), k0_pay12 (ld 5)⟩,
   ⟨Rect.unit (s := S512x4096) ![256, 0] S64x4096.size (side_inb 4), k0_pay12 (ld 4)⟩,
   ⟨Rect.unit (s := S512x4096) ![192, 0] S64x4096.size (side_inb 3), k0_pay12 (ld 3)⟩,
   ⟨Rect.unit (s := S512x4096) ![128, 0] S64x4096.size (side_inb 2), k0_pay12 (ld 2)⟩,
   ⟨Rect.unit (s := S512x4096) ![64, 0] S64x4096.size (side_inb 1), k0_pay12 (ld 1)⟩,
   ⟨Rect.unit (s := S512x4096) ![0, 0] S64x4096.size (side_inb 0), k0_pay12 (ld 0)⟩]

end Cert.KernelIdeal.Moba

end
-- ==== Proof.PiecesA.lean ====
module

public import proofs.«01_k».proof.Proof.RunA
public import proofs.«01_k».proof.Proof.Loads

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the attention in case A are those of the model. -/
theorem runA_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1 =
      tilePieces (ldRows arg4 harg4 x2) (ldRows arg3 harg3 x1) (ldAll arg5 harg5 x3 ![0, 0] inb_S2048x128_S2048x128_0_0) (farOf (ldTab arg2 harg2 x0 i 31))
        (arg18.view.readCov (biasPieces (biasOf (ldTab arg2 harg2 x0 i) (ldAll arg6 harg6 x4 ![0, 0] inb_S512x256_S512x256_0_0))) (Rect.unit (s := S512x256) ![256, 0] S256x256.size inb_S512x256_S256x256_256_0).toLoadRect)
        (arg18.view.readCov (biasPieces (biasOf (ldTab arg2 harg2 x0 i) (ldAll arg6 harg6 x4 ![0, 0] inb_S512x256_S512x256_0_0))) (Rect.unit (s := S512x256) ![0, 0] S256x256.size inb_S512x256_S256x256_0_0).toLoadRect) := by sl_kernel_rfl

set_option maxHeartbeats 3000000 in
/-- The store of the convolution in case A is that of the model. -/
theorem runA_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1 =
      [⟨Rect.unit (s := S2048x128) ![0, 0] S2048x128.size inb_S2048x128_S2048x128_0_0, convOf (ldAll arg7 harg7 x5 ![0, 0] inb_S2048x128_S2048x128_0_0) (ldAll arg8 harg8 x6 ![0, 0] inb_S2048x128_S2048x128_0_0) (ldAll arg9 harg9 x7 ![0, 0] inb_S2048x128_S2048x128_0_0) (ldTap arg10 harg10 x8) (ldAll arg11 harg11 x9 ![0, 0] inb_S1x128_S1x128_0_0)⟩] := by sl_kernel_rfl

set_option maxHeartbeats 3000000 in
/-- The store of the bias tile in case A is that of the model. -/
theorem runA_bias (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1 =
      biasPieces (biasOf (ldTab arg2 harg2 x0 i) (ldAll arg6 harg6 x4 ![0, 0] inb_S512x256_S512x256_0_0)) := by sl_kernel_rfl

end Cert.KernelIdeal.Moba

end
-- ==== Proof.Vals.lean ====
module

public import proofs.«01_k».proof.Proof.Loads
public import Idealize.ShloMosaic.Lib.WholeRead
public import Idealize.ShloMosaic.Lib.Pointwise
public import Idealize.ShloMosaic.Lib.Pipeline.Value

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the loads find, with no buffer in it -/

/-- Block `n` of eight of an array of rows. -/
abbrev rowsOf (x : Vec F S2048x128 .bf16) (n : ℕ) : Vec F S256x128 .bf16 :=
  View.ld x (Rect.unit (s := S2048x128) ![256 * min n 7, 0] S256x128.size (rows_inb n))

/-- Row `k` of the bias table at the step's head. -/
abbrev tabOf (x : Vec F S32x16 .f32) (i : grid0.Coords) (k : ℕ) : Elt F .f32 :=
  View.ld x (Rect.unit (s := S32x16) ![min k 31, (BitVec.ofNat 32 (i 0).val).toNat] S1x1.size (tab_inb i k))
    (Shape.Idx.first (show 0 < S1x1.numel by decide))

/-- Tap `n` of the convolution. -/
abbrev tapOf (x : Vec F S3x128 .f32) (n : ℕ) : Vec F S1x128 .f32 :=
  View.ld x (Rect.unit (s := S3x128) ![min n 2, 0] S1x128.size (taps_inb n))

/-- The part of the bias tile for the queries' own block. -/
abbrev ownOf (b : Vec F S512x256 .f32) : Vec F S256x256 .f32 :=
  View.ld b (Rect.unit (s := S512x256) ![256, 0] S256x256.size inb_S512x256_S256x256_256_0)

/-- The part of the bias tile for the block before it. -/
abbrev nearOf (b : Vec F S512x256 .f32) : Vec F S256x256 .f32 :=
  View.ld b (Rect.unit (s := S512x256) ![0, 0] S256x256.size inb_S512x256_S256x256_0_0)

/-- The bias tile of the step's head. -/
def biasAt (x0 : Vec F S32x16 .f32) (x4 : Vec F S512x256 .i32) (i : grid0.Coords) : FVec F S512x256 .f32 :=
  biasOf (tabOf x0 i) x4

/-- The attention block of one head and batch. -/
def attnOf (x0 : Vec F S32x16 .f32) (x1 x2 x3 : Vec F S2048x128 .bf16) (b : Vec F S512x256 .f32) (i : grid0.Coords) :
    Vec F S2048x128 .bf16 :=
  View.canon (tilePieces (rowsOf x2) (rowsOf x1) x3 (farOf (tabOf x0 i 31)) (ownOf b) (nearOf b))

/-- The convolution block. -/
def convAt (x5 x6 x7 : Vec F S2048x128 .bf16) (x8 : Vec F S3x128 .f32) (x9 : Vec F S1x128 .f32) : Vec F S2048x128 .bf16 :=
  convOf x5 x6 x7 (tapOf x8) x9

/-- A table's block, cast. -/
def sideOf (x : Vec F S512x4096 .f32) : Vec F S512x4096 .bf16 := fun y => FloatOps.truncf .bf16 bitsLt_bf16_f32 (x y)

section
variable {sp : Space} {s : Shape} {e : EltTy}

/-- A load of a whole buffer held at contents that read `x` finds what a load of `x` finds. -/
theorem ld_unread (m : Memref sig .tc sp s e) (h : m.IsWhole) (x : Vec F s e) (r : Rect s) :
    View.readAt (Elt F) m.view r.toLoadRect (h.unread x) = View.ld x r :=
  funext fun y => h.readAt_unread x r.toLoadRect y

end

theorem ldRows_eq (m : Memref sig .tc .vmem S2048x128 .bf16) (h : m.IsWhole) (x : Vec F S2048x128 .bf16) :
    ldRows m h x = rowsOf x := funext fun n => ld_unread m h x _
theorem ldTab_eq (m : Memref sig .tc .smem S32x16 .f32) (h : m.IsWhole) (x : Vec F S32x16 .f32) (i : grid0.Coords) :
    ldTab m h x i = tabOf x i := funext fun k => congrFun (ld_unread m h x _) _
theorem ldTap_eq (m : Memref sig .tc .vmem S3x128 .f32) (h : m.IsWhole) (x : Vec F S3x128 .f32) :
    ldTap m h x = tapOf x := funext fun n => ld_unread m h x _
theorem ldAll_eq {sp : Space} {s : Shape} {e : EltTy} (m : Memref sig .tc sp s e) (h : m.IsWhole) (x : Vec F s e)
    (off : Fin s.rank → ℕ) (inb : ∀ a, off a + s.size a ≤ s.size a) : ldAll m h x off inb = x :=
  (ld_unread m h x _).trans (View.ld_unit_zero (funext fun a => by have := inb a; omega) inb x)
theorem ldSide_eq (m : Memref sig .tc .vmem S512x4096 .f32) (h : m.IsWhole) (x : Vec F S512x4096 .f32) :
    ldSide m h x = fun n => View.ld x (Rect.unit (s := S512x4096) ![64 * min n 7, 0] S64x4096.size (side_inb n)) :=
  funext fun n => ld_unread m h x _
theorem ldOwn_eq (m : Memref sig .tc .vmem S512x256 .f32) (h : m.IsWhole) (x : Vec F S512x256 .f32) :
    View.readAt (Elt F) m.view (Rect.unit (s := S512x256) ![256, 0] S256x256.size inb_S512x256_S256x256_256_0).toLoadRect (h.unread x) = ownOf x :=
  ld_unread m h x _
theorem ldNear_eq (m : Memref sig .tc .vmem S512x256 .f32) (h : m.IsWhole) (x : Vec F S512x256 .f32) :
    View.readAt (Elt F) m.view (Rect.unit (s := S512x256) ![0, 0] S256x256.size inb_S512x256_S256x256_0_0).toLoadRect (h.unread x) = nearOf x :=
  ld_unread m h x _

theorem bias_cover (b : FVec F S512x256 .f32) : ∀ y : S512x256.Idx, ∃ p ∈ biasPieces b, y ∈ p.1.set := fun y =>
  View.cover_of_tiledL (biasPieces b) S512x256.size (by sl_kernel_rfl) y

theorem biasPieces_own (v : View sig .tc .vmem S512x256 .f32) (b : FVec F S512x256 .f32) :
    v.readCov (biasPieces b) (Rect.unit (s := S512x256) ![256, 0] S256x256.size inb_S512x256_S256x256_256_0).toLoadRect = ownOf b := by
  refine (View.readCov_eq_canon_ld v _ _ (bias_cover b)).trans ?_
  rw [show View.canon (biasPieces b) = b from View.canon_cons_unit_zero (by decide) _ _ _]
theorem biasPieces_near (v : View sig .tc .vmem S512x256 .f32) (b : FVec F S512x256 .f32) :
    v.readCov (biasPieces b) (Rect.unit (s := S512x256) ![0, 0] S256x256.size inb_S512x256_S256x256_0_0).toLoadRect = nearOf b := by
  refine (View.readCov_eq_canon_ld v _ _ (bias_cover b)).trans ?_
  rw [show View.canon (biasPieces b) = b from View.canon_cons_unit_zero (by decide) _ _ _]

theorem attn_cover (kb qv : ℕ → Vec F S256x128 .bf16) (v : Vec F S2048x128 .bf16) (far : F .f32) (bo bn : Vec F S256x256 .f32) :
    ∀ y : S2048x128.Idx, ∃ p ∈ tilePieces kb qv v far bo bn, y ∈ p.1.set := fun y =>
  View.cover_of_tiledL (tilePieces kb qv v far bo bn) S256x128.size (by sl_kernel_rfl) y

theorem whole_cover (x : FVec F S2048x128 .bf16) :
    ∀ y : S2048x128.Idx, ∃ p ∈ ([⟨Rect.unit (s := S2048x128) ![0, 0] S2048x128.size inb_S2048x128_S2048x128_0_0, x⟩] : List (View.Piece (Elt F) S2048x128 .bf16)), y ∈ p.1.set := fun y =>
  View.cover_of_tiledL (Val := Elt F) (e := .bf16) [⟨Rect.unit (s := S2048x128) ![0, 0] S2048x128.size inb_S2048x128_S2048x128_0_0, x⟩] S2048x128.size (by sl_kernel_rfl) y

theorem side_cover (ld : ℕ → Vec F S64x4096 .f32) : ∀ y : S512x4096.Idx, ∃ p ∈ sidePieces ld, y ∈ p.1.set := fun y =>
  View.cover_of_tiledL (sidePieces ld) S64x4096.size (by sl_kernel_rfl) y

/-- Stores that each hold a piece of one array leave, where they cover, that array. -/
theorem canon_of_pieces {s : Shape} {e : EltTy} (G : Vec F s e) : ∀ (L : List (View.Piece (Elt F) s e)),
    (∀ p ∈ L, ∀ z, p.2 z = G (p.1.emb z)) → ∀ y, (∃ p ∈ L, y ∈ p.1.set) → View.canon L y = G y
  | [], _, _, h => by obtain ⟨p, hp, _⟩ := h; exact absurd hp List.not_mem_nil
  | p :: L, hL, y, h => by
    by_cases hy : y ∈ p.1.set
    · obtain ⟨z, rfl⟩ := p.1.exists_idx_of_mem hy
      obtain ⟨r, w⟩ := p
      exact (View.canon_cons_emb r w L z).trans (hL ⟨r, w⟩ List.mem_cons_self z)
    · rw [View.canon_cons_of_not_mem p L hy]
      refine canon_of_pieces G L (fun q hq => hL q (List.mem_cons_of_mem _ hq)) y ?_
      obtain ⟨q, hq, hyq⟩ := h
      rcases List.mem_cons.mp hq with rfl | hq'
      · exact absurd hyq hy
      · exact ⟨q, hq', hyq⟩

theorem pay12_apply (x : Vec F S64x4096 .f32) (z : S64x4096.Idx) :
    k0_pay12 x z = FloatOps.truncf .bf16 bitsLt_bf16_f32 (x z) := by
  unfold k0_pay12; pointwise

theorem side_canon (x : Vec F S512x4096 .f32) :
    View.canon (sidePieces fun n => View.ld x (Rect.unit (s := S512x4096) ![64 * min n 7, 0] S64x4096.size (side_inb n))) = sideOf x := by
  funext y
  refine canon_of_pieces (sideOf x) _ ?_ y (side_cover _ y)
  intro p hp z
  simp only [sidePieces, List.mem_cons, List.not_mem_nil, or_false] at hp
  rcases hp with rfl | rfl | rfl | rfl | rfl | rfl | rfl | rfl <;> exact pay12_apply _ z

/-- What a buffer holds after the eight stores of the attention. -/
theorem attn_read (w : View sig .tc .vmem S2048x128 .bf16) (f : w.ty.Contents (Elt F)) (x0 : Vec F S32x16 .f32)
    (x1 x2 x3 : Vec F S2048x128 .bf16) (b : Vec F S512x256 .f32) (i : grid0.Coords) :
    w.read (Elt F) (w.writes (Elt F) f (tilePieces (rowsOf x2) (rowsOf x1) x3 (farOf (tabOf x0 i 31)) (ownOf b) (nearOf b))) =
      attnOf x0 x1 x2 x3 b i := by
  unfold attnOf
  generalize hL : tilePieces (rowsOf x2) (rowsOf x1) x3 (farOf (tabOf x0 i 31)) (ownOf b) (nearOf b) = L
  exact View.read_writes_eq_canon w f L (hL ▸ attn_cover _ _ _ _ _ _)

theorem ldTab_eq' (m : Memref sig .tc .smem S32x16 .f32) (h : m.IsWhole) (x : Vec F S32x16 .f32) (i : grid0.Coords) (k : ℕ) :
    ldTab m h x i k = tabOf x i k := congrFun (ldTab_eq m h x i) k

theorem conv_read (w : View sig .tc .vmem S2048x128 .bf16) (f : w.ty.Contents (Elt F)) (x : FVec F S2048x128 .bf16) :
    w.read (Elt F) (w.writes (Elt F) f [⟨Rect.unit (s := S2048x128) ![0, 0] S2048x128.size inb_S2048x128_S2048x128_0_0, x⟩]) = x :=
  (View.read_writes_eq_canon w f _ (whole_cover x)).trans (View.canon_cons_unit_zero (by decide) _ _ _)

theorem bias_read (w : View sig .tc .vmem S512x256 .f32) (f : w.ty.Contents (Elt F)) (x : FVec F S512x256 .f32) :
    w.read (Elt F) (w.writes (Elt F) f (biasPieces x)) = x :=
  (View.read_writes_eq_canon w f _ (bias_cover x)).trans (View.canon_cons_unit_zero (by decide) _ _ _)

theorem side_read (w : View sig .tc .vmem S512x4096 .bf16) (f : w.ty.Contents (Elt F)) (x : Vec F S512x4096 .f32) :
    w.read (Elt F) (w.writes (Elt F) f (sidePieces fun n => View.ld x (Rect.unit (s := S512x4096) ![64 * min n 7, 0] S64x4096.size (side_inb n)))) = sideOf x := by
  generalize hL : sidePieces (fun n => View.ld x (Rect.unit (s := S512x4096) ![64 * min n 7, 0] S64x4096.size (side_inb n))) = L
  exact (View.read_writes_eq_canon w f L (hL ▸ side_cover _)).trans (hL ▸ side_canon x)

end Cert.KernelIdeal.Moba

end
-- ==== Proof.ReadsA.lean ====
module

public import proofs.«01_k».proof.Proof.PiecesA
public import proofs.«01_k».proof.Proof.Vals

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the table cast in case A. -/
theorem runA_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1 =
      sidePieces (ldSide arg12 harg12 x10) := by sl_kernel_rfl

/-- What the attention block holds after case A. -/
theorem readA_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1) = attnOf x0 x1 x2 x3 (biasAt x0 x4 i) i := by
  rw [runA_attn, ldRows_eq, ldRows_eq, ldTab_eq', ldAll_eq, ldTab_eq, ldAll_eq, biasPieces_own, biasPieces_near]
  exact attn_read _ f _ _ _ _ _ _

/-- What the convolution block holds after case A. -/
theorem readA_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg15.view.ty.Contents (Elt F)) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1) = convAt x5 x6 x7 x8 x9 := by
  rw [runA_conv, ldTap_eq, ldAll_eq, ldAll_eq, ldAll_eq, ldAll_eq]
  exact conv_read _ f _

/-- What the table block holds after case A. -/
theorem readA_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg16.view.ty.Contents (Elt F)) :
    arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1) = sideOf x10 := by
  rw [runA_side, ldSide_eq]
  exact side_read _ f _

/-- What the bias tile holds after case A. -/
theorem readA_bias (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg18.view.ty.Contents (Elt F)) :
    arg18.view.read (Elt F) (arg18.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1) = biasAt x0 x4 i := by
  rw [runA_bias, ldTab_eq, ldAll_eq]
  exact bias_read _ f _

end Cert.KernelIdeal.Moba

end
-- ==== Proof.RunB.lean ====
module

public import proofs.«01_k».proof.Proof.RunA

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run is one long term: elaborating it takes more than the default budget
set_option maxHeartbeats 3000000 in
/-- The body of the attention call run once (steps below 32 that are no multiple of 4: the first side table is cast, the bias tile is the one the step before left): the blocks it reads end as they were, and each block it
    writes ends with a list of pieces written into it, which the run finds. -/
noncomputable def runB (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    Σ' (L12 : List (View.Piece (Elt F) S2048x128 .bf16)), Σ' (L13 : List (View.Piece (Elt F) S2048x128 .bf16)), { L14 : List (View.Piece (Elt F) S512x4096 .bf16) //
      ∀ (E : Set ℕ) (K : PUnit → sProp 𝕄) (x15 : Vec F S512x4096 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare x15 ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ owns (c : Thread nD τ) arg17 fullShare x15 ∗ owns (c : Thread nD τ) arg18 fullShare xs0) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K x15 => ?run⟩
  case run =>
    simp only [cc0_moba_eq_skeleton]; unfold cc0_moba_skel
    simp only [k0_part47_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg17.eq_unread hf15; obtain rfl := harg18.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]
    · iexists _; isplitr; · ipureintro; exact harg17.read_unread _
      iexact H15
    iexists _; isplitr; · ipureintro; exact harg18.read_unread _
    iexact HS0

end Cert.KernelIdeal.Moba

end
-- ==== Proof.PiecesB.lean ====
module

public import proofs.«01_k».proof.Proof.RunB
public import proofs.«01_k».proof.Proof.Loads

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the attention in case B are those of the model. -/
theorem runB_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).1 =
      tilePieces (ldRows arg4 harg4 x2) (ldRows arg3 harg3 x1) (ldAll arg5 harg5 x3 ![0, 0] inb_S2048x128_S2048x128_0_0) (farOf (ldTab arg2 harg2 x0 i 31))
        (View.readAt (Elt F) arg18.view (Rect.unit (s := S512x256) ![256, 0] S256x256.size inb_S512x256_S256x256_256_0).toLoadRect (harg18.unread xs0))
        (View.readAt (Elt F) arg18.view (Rect.unit (s := S512x256) ![0, 0] S256x256.size inb_S512x256_S256x256_0_0).toLoadRect (harg18.unread xs0)) := by sl_kernel_rfl

set_option maxHeartbeats 3000000 in
/-- The store of the convolution in case B is that of the model. -/
theorem runB_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.1 =
      [⟨Rect.unit (s := S2048x128) ![0, 0] S2048x128.size inb_S2048x128_S2048x128_0_0, convOf (ldAll arg7 harg7 x5 ![0, 0] inb_S2048x128_S2048x128_0_0) (ldAll arg8 harg8 x6 ![0, 0] inb_S2048x128_S2048x128_0_0) (ldAll arg9 harg9 x7 ![0, 0] inb_S2048x128_S2048x128_0_0) (ldTap arg10 harg10 x8) (ldAll arg11 harg11 x9 ![0, 0] inb_S1x128_S1x128_0_0)⟩] := by sl_kernel_rfl

end Cert.KernelIdeal.Moba

end
-- ==== Proof.ReadsB.lean ====
module

public import proofs.«01_k».proof.Proof.PiecesB
public import proofs.«01_k».proof.Proof.Vals

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the table cast in case B. -/
theorem runB_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.2.1 =
      sidePieces (ldSide arg12 harg12 x10) := by sl_kernel_rfl

/-- What the attention block holds after case B. -/
theorem readB_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg14.view.ty.Contents (Elt F)) :
    arg14.view.read (Elt F) (arg14.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).1) = attnOf x0 x1 x2 x3 xs0 i := by
  rw [runB_attn, ldRows_eq, ldRows_eq, ldTab_eq', ldAll_eq, ldOwn_eq, ldNear_eq]
  exact attn_read _ f _ _ _ _ _ _

/-- What the convolution block holds after case B. -/
theorem readB_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg15.view.ty.Contents (Elt F)) :
    arg15.view.read (Elt F) (arg15.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.1) = convAt x5 x6 x7 x8 x9 := by
  rw [runB_conv, ldTap_eq, ldAll_eq, ldAll_eq, ldAll_eq, ldAll_eq]
  exact conv_read _ f _

/-- What the table block holds after case B. -/
theorem readB_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : cond0_0 i) (hc1 : ¬cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg16.view.ty.Contents (Elt F)) :
    arg16.view.read (Elt F) (arg16.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.2.1) = sideOf x10 := by
  rw [runB_side, ldSide_eq]
  exact side_read _ f _

end Cert.KernelIdeal.Moba

end
-- ==== Proof.RunC.lean ====
module

public import proofs.«01_k».proof.Proof.RunB

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run is one long term: elaborating it takes more than the default budget
set_option maxHeartbeats 3000000 in
/-- The body of the attention call run once (steps 32, 36, … 60: the second side table is cast and the bias tile is made): the blocks it reads end as they were, and each block it
    writes ends with a list of pieces written into it, which the run finds. -/
noncomputable def runC (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    Σ' (L12 : List (View.Piece (Elt F) S2048x128 .bf16)), Σ' (L13 : List (View.Piece (Elt F) S2048x128 .bf16)), Σ' (L15 : List (View.Piece (Elt F) S512x4096 .bf16)), { LS0 : List (View.Piece (Elt F) S512x256 .f32) //
      ∀ (E : Set ℕ) (K : PUnit → sProp 𝕄) (x14 : Vec F S512x4096 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare x14 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K x14 => ?run⟩
  case run =>
    simp only [cc0_moba_eq_skeleton]; unfold cc0_moba_skel
    simp only [k0_part47_eq_skeleton, k0_part5_eq_skeleton, k0_part6_eq_skeleton, k0_part1_eq_skeleton, k0_part2_eq_skeleton, k0_part3_eq_skeleton, k0_part4_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _; isplitr; · ipureintro; exact harg16.read_unread _
      iexact H14
    isplitl [H15]; · iexists _; iexact H15
    iexists _; iexact HS0

end Cert.KernelIdeal.Moba

end
-- ==== Proof.PiecesC.lean ====
module

public import proofs.«01_k».proof.Proof.RunC
public import proofs.«01_k».proof.Proof.Loads

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the attention in case C are those of the model. -/
theorem runC_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1 =
      tilePieces (ldRows arg4 harg4 x2) (ldRows arg3 harg3 x1) (ldAll arg5 harg5 x3 ![0, 0] inb_S2048x128_S2048x128_0_0) (farOf (ldTab arg2 harg2 x0 i 31))
        (arg18.view.readCov (biasPieces (biasOf (ldTab arg2 harg2 x0 i) (ldAll arg6 harg6 x4 ![0, 0] inb_S512x256_S512x256_0_0))) (Rect.unit (s := S512x256) ![256, 0] S256x256.size inb_S512x256_S256x256_256_0).toLoadRect)
        (arg18.view.readCov (biasPieces (biasOf (ldTab arg2 harg2 x0 i) (ldAll arg6 harg6 x4 ![0, 0] inb_S512x256_S512x256_0_0))) (Rect.unit (s := S512x256) ![0, 0] S256x256.size inb_S512x256_S256x256_0_0).toLoadRect) := by sl_kernel_rfl

set_option maxHeartbeats 3000000 in
/-- The store of the convolution in case C is that of the model. -/
theorem runC_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1 =
      [⟨Rect.unit (s := S2048x128) ![0, 0] S2048x128.size inb_S2048x128_S2048x128_0_0, convOf (ldAll arg7 harg7 x5 ![0, 0] inb_S2048x128_S2048x128_0_0) (ldAll arg8 harg8 x6 ![0, 0] inb_S2048x128_S2048x128_0_0) (ldAll arg9 harg9 x7 ![0, 0] inb_S2048x128_S2048x128_0_0) (ldTap arg10 harg10 x8) (ldAll arg11 harg11 x9 ![0, 0] inb_S1x128_S1x128_0_0)⟩] := by sl_kernel_rfl

set_option maxHeartbeats 3000000 in
/-- The store of the bias tile in case C is that of the model. -/
theorem runC_bias (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1 =
      biasPieces (biasOf (ldTab arg2 harg2 x0 i) (ldAll arg6 harg6 x4 ![0, 0] inb_S512x256_S512x256_0_0)) := by sl_kernel_rfl

end Cert.KernelIdeal.Moba

end
-- ==== Proof.ReadsC.lean ====
module

public import proofs.«01_k».proof.Proof.PiecesC
public import proofs.«01_k».proof.Proof.Vals

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the table cast in case C. -/
theorem runC_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1 =
      sidePieces (ldSide arg13 harg13 x11) := by sl_kernel_rfl

/-- What the attention block holds after case C. -/
theorem readC_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg14.view.ty.Contents (Elt F)) :
    arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).1) = attnOf x0 x1 x2 x3 (biasAt x0 x4 i) i := by
  rw [runC_attn, ldRows_eq, ldRows_eq, ldTab_eq', ldAll_eq, ldTab_eq, ldAll_eq, biasPieces_own, biasPieces_near]
  exact attn_read _ f _ _ _ _ _ _

/-- What the convolution block holds after case C. -/
theorem readC_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg15.view.ty.Contents (Elt F)) :
    arg15.view.read (Elt F) (arg15.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.1) = convAt x5 x6 x7 x8 x9 := by
  rw [runC_conv, ldTap_eq, ldAll_eq, ldAll_eq, ldAll_eq, ldAll_eq]
  exact conv_read _ f _

/-- What the table block holds after case C. -/
theorem readC_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg17.view.ty.Contents (Elt F)) :
    arg17.view.read (Elt F) (arg17.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.1) = sideOf x11 := by
  rw [runC_side, ldSide_eq]
  exact side_read _ f _

/-- What the bias tile holds after case C. -/
theorem readC_bias (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32)
    (f : arg18.view.ty.Contents (Elt F)) :
    arg18.view.read (Elt F) (arg18.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11).2.2.2.1) = biasAt x0 x4 i := by
  rw [runC_bias, ldTab_eq, ldAll_eq]
  exact bias_read _ f _

end Cert.KernelIdeal.Moba

end
-- ==== Proof.RunD.lean ====
module

public import proofs.«01_k».proof.Proof.RunC

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the run is one long term: elaborating it takes more than the default budget
set_option maxHeartbeats 3000000 in
/-- The body of the attention call run once (steps from 32 on that are no multiple of 4: the second side table is cast, the bias tile is the one the step before left): the blocks it reads end as they were, and each block it
    writes ends with a list of pieces written into it, which the run finds. -/
noncomputable def runD (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    Σ' (L12 : List (View.Piece (Elt F) S2048x128 .bf16)), Σ' (L13 : List (View.Piece (Elt F) S2048x128 .bf16)), { L15 : List (View.Piece (Elt F) S512x4096 .bf16) //
      ∀ (E : Set ℕ) (K : PUnit → sProp 𝕄) (x14 : Vec F S512x4096 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare x14 ∗ (∃ f, arg17.view.loc (c : Thread nD τ) ↦[arg17.view.set]{fullShare} arg17.view.writes (Elt F) f L15) ∗ owns (c : Thread nD τ) arg18 fullShare xs0) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K x14 => ?run⟩
  case run =>
    simp only [cc0_moba_eq_skeleton]; unfold cc0_moba_skel
    simp only [k0_part47_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg18.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _; isplitr; · ipureintro; exact harg16.read_unread _
      iexact H14
    isplitl [H15]; · iexists _; iexact H15
    iexists _; isplitr; · ipureintro; exact harg18.read_unread _
    iexact HS0

end Cert.KernelIdeal.Moba

end
-- ==== Proof.PiecesD.lean ====
module

public import proofs.«01_k».proof.Proof.RunD
public import proofs.«01_k».proof.Proof.Loads

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the attention in case D are those of the model. -/
theorem runD_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).1 =
      tilePieces (ldRows arg4 harg4 x2) (ldRows arg3 harg3 x1) (ldAll arg5 harg5 x3 ![0, 0] inb_S2048x128_S2048x128_0_0) (farOf (ldTab arg2 harg2 x0 i 31))
        (View.readAt (Elt F) arg18.view (Rect.unit (s := S512x256) ![256, 0] S256x256.size inb_S512x256_S256x256_256_0).toLoadRect (harg18.unread xs0))
        (View.readAt (Elt F) arg18.view (Rect.unit (s := S512x256) ![0, 0] S256x256.size inb_S512x256_S256x256_0_0).toLoadRect (harg18.unread xs0)) := by sl_kernel_rfl

set_option maxHeartbeats 3000000 in
/-- The store of the convolution in case D is that of the model. -/
theorem runD_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.1 =
      [⟨Rect.unit (s := S2048x128) ![0, 0] S2048x128.size inb_S2048x128_S2048x128_0_0, convOf (ldAll arg7 harg7 x5 ![0, 0] inb_S2048x128_S2048x128_0_0) (ldAll arg8 harg8 x6 ![0, 0] inb_S2048x128_S2048x128_0_0) (ldAll arg9 harg9 x7 ![0, 0] inb_S2048x128_S2048x128_0_0) (ldTap arg10 harg10 x8) (ldAll arg11 harg11 x9 ![0, 0] inb_S1x128_S1x128_0_0)⟩] := by sl_kernel_rfl

end Cert.KernelIdeal.Moba

end
-- ==== Proof.ReadsD.lean ====
module

public import proofs.«01_k».proof.Proof.PiecesD
public import proofs.«01_k».proof.Proof.Vals

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The stores of the table cast in case D. -/
theorem runD_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.2.1 =
      sidePieces (ldSide arg13 harg13 x11) := by sl_kernel_rfl

/-- What the attention block holds after case D. -/
theorem readD_attn (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg14.view.ty.Contents (Elt F)) :
    arg14.view.read (Elt F) (arg14.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).1) = attnOf x0 x1 x2 x3 xs0 i := by
  rw [runD_attn, ldRows_eq, ldRows_eq, ldTab_eq', ldAll_eq, ldOwn_eq, ldNear_eq]
  exact attn_read _ f _ _ _ _ _ _

/-- What the convolution block holds after case D. -/
theorem readD_conv (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg15.view.ty.Contents (Elt F)) :
    arg15.view.read (Elt F) (arg15.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.1) = convAt x5 x6 x7 x8 x9 := by
  rw [runD_conv, ldTap_eq, ldAll_eq, ldAll_eq, ldAll_eq, ldAll_eq]
  exact conv_read _ f _

/-- What the table block holds after case D. -/
theorem readD_side (c : Dev nD) (i : grid0.Coords) (arg2 : Memref sig .tc .smem S32x16 .f32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S512x256 .i32) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S3x128 .f32) (harg10 : arg10.IsWhole) (arg11 : Memref sig .tc .vmem S1x128 .f32) (harg11 : arg11.IsWhole) (arg12 : Memref sig .tc .vmem S512x4096 .f32) (harg12 : arg12.IsWhole) (arg13 : Memref sig .tc .vmem S512x4096 .f32) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S512x4096 .bf16) (harg16 : arg16.IsWhole) (arg17 : Memref sig .tc .vmem S512x4096 .bf16) (harg17 : arg17.IsWhole) (arg18 : Memref sig .tc .vmem S512x256 .f32) (harg18 : arg18.IsWhole)
    (hc0 : ¬cond0_0 i) (hc1 : cond0_1 i) (hc2 : ¬cond0_2 i)
    (x0 : Vec F S32x16 .f32) (x1 : Vec F S2048x128 .bf16) (x2 : Vec F S2048x128 .bf16) (x3 : Vec F S2048x128 .bf16) (x4 : Vec F S512x256 .i32) (x5 : Vec F S2048x128 .bf16) (x6 : Vec F S2048x128 .bf16) (x7 : Vec F S2048x128 .bf16) (x8 : Vec F S3x128 .f32) (x9 : Vec F S1x128 .f32) (x10 : Vec F S512x4096 .f32) (x11 : Vec F S512x4096 .f32) (xs0 : Vec F S512x256 .f32)
    (f : arg17.view.ty.Contents (Elt F)) :
    arg17.view.read (Elt F) (arg17.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 xs0).2.2.1) = sideOf x11 := by
  rw [runD_side, ldSide_eq]
  exact side_read _ f _

end Cert.KernelIdeal.Moba

end
-- ==== Proof.IDats.lean ====
module

public import proofs.«01_k».proof.Proof.ReadsA
public import proofs.«01_k».proof.Proof.ReadsB
public import proofs.«01_k».proof.Proof.ReadsC
public import proofs.«01_k».proof.Proof.ReadsD
public import Idealize.ShloMosaic.Lib.Claim
public import Idealize.ShloMosaic.Lib.Pipeline.TableIdle

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The bias tile of the point's head. -/
def biasS (c : Dev nD) (n : ℕ) (hn : n < cfg0.N) : Vec F S512x256 .f32 :=
  biasAt (iblk m c 0 ⟨n, hn⟩) (iblk m c 4 ⟨n, hn⟩) (grid0.coords ⟨n, hn⟩)

theorem tabOf_congr (x : Vec F S32x16 .f32) (i i' : grid0.Coords) (h : i 0 = i' 0) : tabOf x i = tabOf x i' := by
  funext k
  have g : ∀ (a b : ℕ) (hab : a = b) (ha : ∀ r, (![min k 31, a] : Fin 2 → Nat) r + S1x1.size r ≤ S32x16.size r)
      (hb : ∀ r, (![min k 31, b] : Fin 2 → Nat) r + S1x1.size r ≤ S32x16.size r),
      View.ld x (Rect.unit (s := S32x16) ![min k 31, a] S1x1.size ha) (Shape.Idx.first (show 0 < S1x1.numel by decide)) =
        View.ld x (Rect.unit (s := S32x16) ![min k 31, b] S1x1.size hb) (Shape.Idx.first (show 0 < S1x1.numel by decide)) := by
    intro a b hab ha hb; subst hab; rfl
  exact g _ _ (by rw [h]) _ _

theorem head_pred : ∀ t : Fin cfg0.N, t.val % 4 ≠ 0 → grid0.coords t 0 = grid0.coords ⟨t.val - 1, Nat.lt_of_le_of_lt (Nat.sub_le _ _) t.isLt⟩ 0 :=
  (by decide +kernel : ∀ t : Fin grid0.N, t.val % 4 ≠ 0 → grid0.coords t 0 = grid0.coords ⟨t.val - 1, Nat.lt_of_le_of_lt (Nat.sub_le _ _) t.isLt⟩ 0)

/-- The tile a head's first point makes serves its later ones. -/
theorem biasS_pred (c : Dev nD) (t : Fin cfg0.N) (h : t.val % 4 ≠ 0) :
    biasS m c (t.val - 1) (Nat.lt_of_le_of_lt (Nat.sub_le _ _) t.isLt) = biasS m c t.val t.isLt := by
  unfold biasS biasAt
  rw [tabOf_congr _ (grid0.coords ⟨t.val - 1, Nat.lt_of_le_of_lt (Nat.sub_le _ _) t.isLt⟩) (grid0.coords ⟨t.val, t.isLt⟩) (head_pred t h).symm]
  rfl

/-- The invariant before point `n`: nothing known at the first, the bias tile after it. -/
def PhiS (c : Dev nD) : (n : ℕ) → n ≤ cfg0.N → sProp 𝕄
  | 0, _ => Pipeline.ΦA spec0 c
  | n + 1, hn => iprop(owns (c : Thread nD τ) scM0_0 fullShare (biasS m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare (biasS m c n hn) ∗ (∃ r, prngReg c r)) := rfl

theorem PhiS_pos (c : Dev nD) (n : ℕ) (h : n ≤ cfg0.N) (hz : n ≠ 0) :
    PhiS m c n h = iprop(owns (c : Thread nD τ) scM0_0 fullShare (biasS m c (n - 1) (by omega)) ∗ (∃ r, prngReg c r)) := by
  cases n with
  | zero => exact absurd rfl hz
  | succ n => rfl

theorem pt31_lt (t : Fin cfg0.N) : min t.val 31 < cfg0.N := Nat.lt_of_le_of_lt (Nat.min_le_left _ _) t.isLt

/-- What the body leaves at each point: the inputs' blocks as they were, the four outputs' at the model. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => attnOf (iblk m c 0 t) (iblk m c 1 t) (iblk m c 2 t) (iblk m c 3 t) (biasS m c t.val t.isLt) (grid0.coords t)
    | ⟨13, _⟩ => convAt (iblk m c 5 t) (iblk m c 6 t) (iblk m c 7 t) (iblk m c 8 t) (iblk m c 9 t)
    | ⟨14, _⟩ => sideOf (iblk m c 10 ⟨min t.val 31, pt31_lt t⟩)
    | ⟨15, _⟩ => sideOf (iblk m c 11 t)
    | ⟨_ + 16, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = attnOf (iblk m c 0 t) (iblk m c 1 t) (iblk m c 2 t) (iblk m c 3 t) (biasS m c t.val t.isLt) (grid0.coords t) := by dsimp only [dats]
theorem after0_13 (c : Dev nD) (t : Fin cfg0.N) : (dats m 0 c).after 13 t = convAt (iblk m c 5 t) (iblk m c 6 t) (iblk m c 7 t) (iblk m c 8 t) (iblk m c 9 t) := by dsimp only [dats]
theorem after0_14 (c : Dev nD) (t : Fin cfg0.N) : (dats m 0 c).after 14 t = sideOf (iblk m c 10 ⟨min t.val 31, pt31_lt t⟩) := by dsimp only [dats]
theorem after0_15 (c : Dev nD) (t : Fin cfg0.N) : (dats m 0 c).after 15 t = sideOf (iblk m c 11 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The two tables' output windows: at which points the body stores, at which the block is written back -/

theorem idle0_14 : ∀ t : Fin cfg0.N, ¬t.val < 32 → cfg0.idle 14 (grid0.coords t) = true :=
  (by decide +kernel : ∀ t : Fin grid0.N, ¬t.val < 32 → idle0 14 (grid0.coords t) = true)
theorem live0_14 : ∀ t : Fin cfg0.N, t.val < 32 → cfg0.idle 14 (grid0.coords t) = false :=
  (by decide +kernel : ∀ t : Fin grid0.N, t.val < 32 → idle0 14 (grid0.coords t) = false)
theorem idle0_15 : ∀ t : Fin cfg0.N, t.val < 32 → cfg0.idle 15 (grid0.coords t) = true :=
  (by decide +kernel : ∀ t : Fin grid0.N, t.val < 32 → idle0 15 (grid0.coords t) = true)
theorem live0_15 : ∀ t : Fin cfg0.N, ¬t.val < 32 → cfg0.idle 15 (grid0.coords t) = false :=
  (by decide +kernel : ∀ t : Fin grid0.N, ¬t.val < 32 → idle0 15 (grid0.coords t) = false)
theorem noflush0_14 : ∀ t : Fin cfg0.N, 31 ≤ t.val → t.val ≠ 63 → (cfg0.win 14).flush t = false :=
  (by decide +kernel : ∀ t : Fin grid0.N, 31 ≤ t.val → t.val ≠ 63 → win0_14.flush t = false)
theorem flush0_14 : ∀ t : Fin cfg0.N, t.val < 31 ∨ t.val = 63 → (cfg0.win 14).flush t = true :=
  (by decide +kernel : ∀ t : Fin grid0.N, t.val < 31 ∨ t.val = 63 → win0_14.flush t = true)
theorem noflush0_15 : ∀ t : Fin cfg0.N, t.val < 32 → (cfg0.win 15).flush t = false :=
  (by decide +kernel : ∀ t : Fin grid0.N, t.val < 32 → win0_15.flush t = false)
theorem liveAt0_12 : ∀ t : Fin cfg0.N, cfg0.idle 12 (grid0.coords t) = false := fun _ => rfl
theorem liveAt0_13 : ∀ t : Fin cfg0.N, cfg0.idle 13 (grid0.coords t) = false := fun _ => rfl
theorem flush0_15 : ∀ t : Fin cfg0.N, ¬t.val < 32 → (cfg0.win 15).flush t = true :=
  (by decide +kernel : ∀ t : Fin grid0.N, ¬t.val < 32 → win0_15.flush t = true)

/-- A buffer stored at point `t - n - 1`, not stored again before `t` and not written back, holds at `t` what was stored. -/
theorem before_run {Λ₀ : Labels} {cfg : Pipeline.Cfg sig Λ₀} {c : Dev nD} (dat : Dat τ (Elt F) Unit ℕ (UR sig nD τ) ℕ cfg c) (w : Fin cfg.W) (hw : (cfg.win w).isOut = true)
    (hclip : ∀ i a, (cfg.win w).clip i a = none) (d) (t s : Fin cfg.N) (n : ℕ) (hs : s.val + n + 1 = t.val)
    (hrun : ∀ j : Fin cfg.N, t.val - n ≤ j.val → j.val < t.val → cfg.idle w (cfg.grid.coords j) = true ∧ (cfg.win w).flush j = false)
    (hl : cfg.idle w (cfg.grid.coords s) = false) (hf : (cfg.win w).flush s = false) :
    dat.before w t d = dat.after w s := by
  have e : ∀ h, (⟨t.val - n - 1, h⟩ : Fin cfg.N) = s := fun h => Fin.ext (by simp only; omega)
  rw [Pipeline.Dat.before_idle_run dat w (fun t => (cfg.win w).fetch_out hw t) d n t (by omega) hrun,
    Pipeline.Dat.before_of_pos dat w ⟨t.val - n, Nat.lt_of_le_of_lt (Nat.sub_le _ _) t.isLt⟩ (by simp only; omega) ((cfg.win w).fetch_out hw _)]
  simp only [e]
  rw [if_neg (by rw [hf]; decide)]
  unfold Dat.left
  rw [hl]
  unfold Dat.kept
  simp only
  rw [Pipeline.fill_of_clip_none (cfg := cfg) w _ (hclip _) d (dat.after w _), Pipeline.Window.fill_cut]

/-- The last block of the first table, stored at point 31, is what the buffer holds at the last point. -/
theorem before0_14_last (c : Dev nD) (t : Fin cfg0.N) (ht : t.val = 63) (d) :
    (dats m 0 c).before 14 t d = (dats m 0 c).after 14 t := by
  have hN : cfg0.N = 64 := N_0
  have h31 : 31 < cfg0.N := by omega
  rw [before_run (dats m 0 c) 14 rfl (fun _ _ => rfl) d t ⟨31, h31⟩ 31 (by simp only; omega)
    (fun j h1 h2 => ⟨idle0_14 j (by omega), noflush0_14 j (by omega) (by omega)⟩)
    (live0_14 ⟨31, h31⟩ (by simp only; omega)) (noflush0_14 ⟨31, h31⟩ (by simp only; omega) (by simp only; omega)),
    after0_14, after0_14]
  have e : (⟨min (⟨31, h31⟩ : Fin cfg0.N).val 31, pt31_lt ⟨31, h31⟩⟩ : Fin cfg0.N) = ⟨min t.val 31, pt31_lt t⟩ := Fin.ext (by simp only; omega)
  exact congrArg (fun q => sideOf (iblk m c 10 q)) e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leaves0_7 (c : Dev nD) (t : Fin cfg0.N) : (dats m 0 c).leavesExact 7 t = owns (c : Thread nD τ) (ms0_7 t) fullShare ((dats m 0 c).after 7 t) := by
  unfold Dat.leavesExact; rw [liveAt0_7 t]
theorem leaves0_8 (c : Dev nD) (t : Fin cfg0.N) : (dats m 0 c).leavesExact 8 t = owns (c : Thread nD τ) (ms0_8 t) fullShare ((dats m 0 c).after 8 t) := by
  unfold Dat.leavesExact; rw [liveAt0_8 t]
theorem leaves0_9 (c : Dev nD) (t : Fin cfg0.N) : (dats m 0 c).leavesExact 9 t = owns (c : Thread nD τ) (ms0_9 t) fullShare ((dats m 0 c).after 9 t) := by
  unfold Dat.leavesExact; rw [liveAt0_9 t]
theorem leaves0_10 (c : Dev nD) (t : Fin cfg0.N) : (dats m 0 c).leavesExact 10 t = owns (c : Thread nD τ) (ms0_10 t) fullShare ((dats m 0 c).after 10 t) := by
  unfold Dat.leavesExact; rw [liveAt0_10 t]
theorem leaves0_11 (c : Dev nD) (t : Fin cfg0.N) : (dats m 0 c).leavesExact 11 t = owns (c : Thread nD τ) (ms0_11 t) fullShare ((dats m 0 c).after 11 t) := by
  unfold Dat.leavesExact; rw [liveAt0_11 t]
theorem leaves0_12 (c : Dev nD) (t : Fin cfg0.N) : (dats m 0 c).leavesExact 12 t = owns (c : Thread nD τ) (ms0_12 t) fullShare ((dats m 0 c).after 12 t) := by
  unfold Dat.leavesExact; rw [liveAt0_12 t]
theorem leaves0_13 (c : Dev nD) (t : Fin cfg0.N) : (dats m 0 c).leavesExact 13 t = owns (c : Thread nD τ) (ms0_13 t) fullShare ((dats m 0 c).after 13 t) := by
  unfold Dat.leavesExact; rw [liveAt0_13 t]
theorem leaves0_14 (c : Dev nD) (t : Fin cfg0.N) (h : t.val < 32) : (dats m 0 c).leavesExact 14 t = owns (c : Thread nD τ) (ms0_14 t) fullShare ((dats m 0 c).after 14 t) := by
  unfold Dat.leavesExact; rw [live0_14 t h]
theorem leaves0_15 (c : Dev nD) (t : Fin cfg0.N) (h : ¬t.val < 32) : (dats m 0 c).leavesExact 15 t = owns (c : Thread nD τ) (ms0_15 t) fullShare ((dats m 0 c).after 15 t) := by
  unfold Dat.leavesExact; rw [live0_15 t h]
theorem leaves0_14_idle (c : Dev nD) (t : Fin cfg0.N) (h : ¬t.val < 32) (h' : t.val ≠ 63) : (dats m 0 c).leavesExact 14 t = iprop(∃ d, owns (c : Thread nD τ) (ms0_14 t) fullShare ((dats m 0 c).before 14 t d)) :=
  (dats m 0 c).leavesExact_idle 14 t (idle0_14 t h) (noflush0_14 t (by omega) h')
theorem leaves0_14_last (c : Dev nD) (t : Fin cfg0.N) (h' : t.val = 63) : (dats m 0 c).leavesExact 14 t = owns (c : Thread nD τ) (ms0_14 t) fullShare ((dats m 0 c).after 14 t) := by
  unfold Dat.leavesExact; rw [idle0_14 t (by omega), flush0_14 t (.inr h')]
theorem leaves0_15_idle (c : Dev nD) (t : Fin cfg0.N) (h : t.val < 32) : (dats m 0 c).leavesExact 15 t = iprop(∃ d, owns (c : Thread nD τ) (ms0_15 t) fullShare ((dats m 0 c).before 15 t d)) :=
  (dats m 0 c).leavesExact_idle 15 t (idle0_15 t h) (noflush0_15 t h)

/-- What the body holds of the two tables' outputs at a point past the first table: nothing changes in the first's. -/
theorem idle_leaves_14 (c : Dev nD) (t : Fin cfg0.N) (h : ¬t.val < 32) (d) :
    owns (c : Thread nD τ) (ms0_14 t) fullShare ((dats m 0 c).before 14 t d) ⊢ (dats m 0 c).leavesExact 14 t := by
  by_cases h' : t.val = 63
  · rw [leaves0_14_last m c t h', before0_14_last m c t h']
    try exact Idealize.SL.BI.Entails.refl _
  · rw [leaves0_14_idle m c t h h']
    iintro H; iexists d; iexact H

end Cert.KernelIdeal.Moba

end
-- ==== Proof.IFrame.lean ====
module

public import proofs.«01_k».proof.Proof.IDats
public import Idealize.ShloMosaic.Lib.Claim
public import Idealize.ShloMosaic.Lib.Pipeline.TableIdle

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 9600000 in
/-- The body at a point of case A. -/
theorem sound_body_A (c : Dev nD) (t : Fin cfg0.N) (h0 : t.val < 32) (h2 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t h0, leaves0_15_idle m c t h0]
  rw [after0_0, after0_1, after0_2, after0_3, after0_4, after0_5, after0_6, after0_7, after0_8, after0_9, after0_10, after0_11, after0_12, after0_13, after0_14]
  have hN : t.val < 64 := lt_of_lt_of_eq t.isLt (show cfg0.N = 64 from N_0)
  have e31 : (⟨min t.val 31, pt31_lt t⟩ : Fin cfg0.N) = t := Fin.ext (by simp only; omega)
  rw [e31]
  rw [PhiS_castSucc m c t]
  by_cases hz : t.val = 0
  · rw [PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA c (grid0.coords t) _ _ _ _ _ _ _ _ _ _ _ _ _ _ _ _ _ _ _ _ _ _ _ _ _ _ _ _ _ _ _ _ _ _ ((hcond0_0 t).mpr h0) (fun h => absurd ((hcond0_1 t).mp h) (by omega)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.property Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [HS0]; · iexact HS0
    iintro ⟨H0, H1, H2, H3, H4, H5, H6, H7, H8, H9, H10, H11, ⟨%e12, H12⟩, ⟨%e13, H13⟩, ⟨%e14, H14⟩, H15, ⟨%es, HS0⟩⟩
    isplitl [HS0 Hg]
    · isplitl [HS0]
      · unfold owns; iexists _; isplitr
        swap; · iexact HS0
        ipureintro; exact readA_bias c _ _ _ _ _ _ _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readA_attn c _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact readA_conv c _ _ _ _ _ _ _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact readA_side c _ _ _ _ _ _ _ _ _ _ _ _ _ _ _ _ _ _ _ _ _ _ _ _ _ _ _ _ _ _ _ _ _ _ _ _ _ _ _ _ _ _ _ _ _ _ _ _ _ _ _
    iexists _; iexact H15
  · rw [PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runA c (grid0.coords t) _ _ _ _ _ _ _ _ _ _ _ _ _ _ _ _ _ _ _ _ _ _ _ _ _ _ _ _ _ _ _ _ _ _ ((hcond0_0 t).mpr h0) (fun h => absurd ((hcond0_1 t).mp h) (by omega)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.property Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexact H15
    isplitl [HS0]; · iexists _; iexact HS0
    iintro ⟨H0, H1, H2, H3, H4, H5, H6, H7, H8, H9, H10, H11, ⟨%e12, H12⟩, ⟨%e13, H13⟩, ⟨%e14, H14⟩, H15, ⟨%es, HS0⟩⟩
    isplitl [HS0 Hg]
    · isplitl [HS0]
      · unfold owns; iexists _; isplitr
        swap; · iexact HS0
        ipureintro; exact readA_bias c _ _ _ _ _ _ _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readA_attn c _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact readA_conv c _ _ _ _ _ _ _ _ _ _ _ _ _ _ _ _ _ _ _ _ _ _ _ _ _ _ _ _ _ _ _ _ _ _ _ _ _ _ _ _ _ _ _ _ _ _ _ _ _ _ _
    isplitl [H14]
    · unfold owns; iexists _; isplitr
      swap; · iexact H14
      ipureintro; exact readA_side c _ _ _ _ _ _ _ _ _ _ _ _ _ _ _ _ _ _ _ _ _ _ _ _ _ _ _ _ _ _ _ _ _ _ _ _ _ _ _ _ _ _ _ _ _ _ _ _ _ _ _
    iexists _; iexact H15

set_option maxHeartbeats 9600000 in
/-- The body at a point of case B. -/
theorem sound_body_B (c : Dev nD) (t : Fin cfg0.N) (h0 : t.val < 32) (h2 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_14 m c t h0, leaves0_15_idle m c t h0]
  rw [after0_0, after0_1, after0_2, after0_3, after0_4, after0_5, after0_6, after0_7, after0_8, after0_9, after0_10, after0_11, after0_12, after0_13, after0_14]
  have hN : t.val < 64 := lt_of_lt_of_eq t.isLt (show cfg0.N = 64 from N_0)
  have e31 : (⟨min t.val 31, pt31_lt t⟩ : Fin cfg0.N) = t := Fin.ext (by simp only; omega)
  rw [e31]
  rw [PhiS_castSucc m c t, PhiS_pos m c _ _ (fun h => h2 (by rw [h])), biasS_pred m c t h2]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runB c (grid0.coords t) _ _ _ _ _ _ _ _ _ _ _ _ _ _ _ _ _ _ _ _ _ _ _ _ _ _ _ _ _ _ _ _ _ _ ((hcond0_0 t).mpr h0) (fun h => absurd ((hcond0_1 t).mp h) (by omega)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasS m c t.val t.isLt)).2.2.property Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [HS0]; · iexact HS0
  iintro ⟨H0, H1, H2, H3, H4, H5, H6, H7, H8, H9, H10, H11, ⟨%e12, H12⟩, ⟨%e13, H13⟩, ⟨%e14, H14⟩, H15, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact readB_attn c _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact readB_conv c _ _ _ _ _ _ _ _ _ _ _ _ _ _ _ _ _ _ _ _ _ _ _ _ _ _ _ _ _ _ _ _ _ _ _ _ _ _ _ _ _ _ _ _ _ _ _ _ _ _ _ _
  isplitl [H14]
  · unfold owns; iexists _; isplitr
    swap; · iexact H14
    ipureintro; exact readB_side c _ _ _ _ _ _ _ _ _ _ _ _ _ _ _ _ _ _ _ _ _ _ _ _ _ _ _ _ _ _ _ _ _ _ _ _ _ _ _ _ _ _ _ _ _ _ _ _ _ _ _ _
  iexists _; iexact H15

set_option maxHeartbeats 9600000 in
/-- The body at a point of case C. -/
theorem sound_body_C (c : Dev nD) (t : Fin cfg0.N) (h0 : ¬t.val < 32) (h2 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_15 m c t h0]
  rw [after0_0, after0_1, after0_2, after0_3, after0_4, after0_5, after0_6, after0_7, after0_8, after0_9, after0_10, after0_11, after0_12, after0_13, after0_15]
  have hN : t.val < 64 := lt_of_lt_of_eq t.isLt (show cfg0.N = 64 from N_0)
  rw [PhiS_castSucc m c t]
  by_cases hz : t.val = 0
  · rw [PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runC c (grid0.coords t) _ _ _ _ _ _ _ _ _ _ _ _ _ _ _ _ _ _ _ _ _ _ _ _ _ _ _ _ _ _ _ _ _ _ (fun h => h0 ((hcond0_0 t).mp h)) ((hcond0_1 t).mpr (by omega)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.property Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexists _; iexact H15
    isplitl [HS0]; · iexact HS0
    iintro ⟨H0, H1, H2, H3, H4, H5, H6, H7, H8, H9, H10, H11, ⟨%e12, H12⟩, ⟨%e13, H13⟩, H14, ⟨%e15, H15⟩, ⟨%es, HS0⟩⟩
    isplitl [HS0 Hg]
    · isplitl [HS0]
      · unfold owns; iexists _; isplitr
        swap; · iexact HS0
        ipureintro; exact readC_bias c _ _ _ _ _ _ _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readC_attn c _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact readC_conv c _ _ _ _ _ _ _ _ _ _ _ _ _ _ _ _ _ _ _ _ _ _ _ _ _ _ _ _ _ _ _ _ _ _ _ _ _ _ _ _ _ _ _ _ _ _ _ _ _ _ _
    isplitl [H14]
    · iapply (idle_leaves_14 m c t h0 d14); iexact H14
    unfold owns; iexists _; isplitr
    swap; · iexact H15
    ipureintro; exact readC_side c _ _ _ _ _ _ _ _ _ _ _ _ _ _ _ _ _ _ _ _ _ _ _ _ _ _ _ _ _ _ _ _ _ _ _ _ _ _ _ _ _ _ _ _ _ _ _ _ _ _ _
  · rw [PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
    iapply ((runC c (grid0.coords t) _ _ _ _ _ _ _ _ _ _ _ _ _ _ _ _ _ _ _ _ _ _ _ _ _ _ _ _ _ _ _ _ _ _ (fun h => h0 ((hcond0_0 t).mp h)) ((hcond0_1 t).mpr (by omega)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.property Set.univ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexists _; iexact H15
    isplitl [HS0]; · iexists _; iexact HS0
    iintro ⟨H0, H1, H2, H3, H4, H5, H6, H7, H8, H9, H10, H11, ⟨%e12, H12⟩, ⟨%e13, H13⟩, H14, ⟨%e15, H15⟩, ⟨%es, HS0⟩⟩
    isplitl [HS0 Hg]
    · isplitl [HS0]
      · unfold owns; iexists _; isplitr
        swap; · iexact HS0
        ipureintro; exact readC_bias c _ _ _ _ _ _ _ _ _ _ _ _ _ _ _ _ _ _ _ _ _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact readC_attn c _ _ _ _ _ _ _ _ _ _ _ _ _ _ _ _ _ _ _ _ _ _ _ _ _ _ _ _ _ _ _ _ _ _ _ _ _ _ _ _ _ _ _ _ _ _ _ _ _ _ _
    isplitl [H13]
    · unfold owns; iexists _; isplitr
      swap; · iexact H13
      ipureintro; exact readC_conv c _ _ _ _ _ _ _ _ _ _ _ _ _ _ _ _ _ _ _ _ _ _ _ _ _ _ _ _ _ _ _ _ _ _ _ _ _ _ _ _ _ _ _ _ _ _ _ _ _ _ _
    isplitl [H14]
    · iapply (idle_leaves_14 m c t h0 d14); iexact H14
    unfold owns; iexists _; isplitr
    swap; · iexact H15
    ipureintro; exact readC_side c _ _ _ _ _ _ _ _ _ _ _ _ _ _ _ _ _ _ _ _ _ _ _ _ _ _ _ _ _ _ _ _ _ _ _ _ _ _ _ _ _ _ _ _ _ _ _ _ _ _ _

set_option maxHeartbeats 9600000 in
/-- The body at a point of case D. -/
theorem sound_body_D (c : Dev nD) (t : Fin cfg0.N) (h0 : ¬t.val < 32) (h2 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, leaves0_5 m c t, leaves0_6 m c t, leaves0_7 m c t, leaves0_8 m c t, leaves0_9 m c t, leaves0_10 m c t, leaves0_11 m c t, leaves0_12 m c t, leaves0_13 m c t, leaves0_15 m c t h0]
  rw [after0_0, after0_1, after0_2, after0_3, after0_4, after0_5, after0_6, after0_7, after0_8, after0_9, after0_10, after0_11, after0_12, after0_13, after0_15]
  have hN : t.val < 64 := lt_of_lt_of_eq t.isLt (show cfg0.N = 64 from N_0)
  rw [PhiS_castSucc m c t, PhiS_pos m c _ _ (fun h => h2 (by rw [h])), biasS_pred m c t h2]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((runD c (grid0.coords t) _ _ _ _ _ _ _ _ _ _ _ _ _ _ _ _ _ _ _ _ _ _ _ _ _ _ _ _ _ _ _ _ _ _ (fun h => h0 ((hcond0_0 t).mp h)) ((hcond0_1 t).mpr (by omega)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (biasS m c t.val t.isLt)).2.2.property Set.univ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexists _; iexact H15
  isplitl [HS0]; · iexact HS0
  iintro ⟨H0, H1, H2, H3, H4, H5, H6, H7, H8, H9, H10, H11, ⟨%e12, H12⟩, ⟨%e13, H13⟩, H14, ⟨%e15, H15⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact readD_attn c _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact readD_conv c _ _ _ _ _ _ _ _ _ _ _ _ _ _ _ _ _ _ _ _ _ _ _ _ _ _ _ _ _ _ _ _ _ _ _ _ _ _ _ _ _ _ _ _ _ _ _ _ _ _ _ _
  isplitl [H14]
  · iapply (idle_leaves_14 m c t h0 d14); iexact H14
  unfold owns; iexists _; isplitr
  swap; · iexact H15
  ipureintro; exact readD_side c _ _ _ _ _ _ _ _ _ _ _ _ _ _ _ _ _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val < 32
  · by_cases h2 : t.val % 4 = 0
    · exact sound_body_A m c t h0 h2
    · exact sound_body_B m c t h0 h2
  · by_cases h2 : t.val % 4 = 0
    · exact sound_body_C m c t h0 h2
    · exact sound_body_D m c t h0 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- The launch: every array at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Moba

end
-- ==== Proof.PFrame.lean ====
module

public import proofs.«01_k».proof.Defs
public import proofs.«01_k».proof.Proof.Gen.Kernel.Frame
public import proofs.«01_k».proof.Proof.IFrame

@[expose] public section

noncomputable section

namespace Cert.Kernel.Moba

open Idealize.ShloMosaic Idealize.ShloMosaic.TcCoe Idealize.ShloMosaic.Tactic Idealize.SL.Sem

/-- Each named constant read as the literal that the kernel has in its place. -/
@[reducible] def literals (F : FTy → Type) [FloatOps F] : Named F where
  named _ _ {φ} b := FloatOps.ofBits φ b

/-- The frame of the kernel, over any floats. -/
def FrameOf (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

/-- The frame of the idealized kernel, over any floats and any named constants. -/
def FrameOfIdeal (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- With each named constant read as its literal, the idealized kernel's text is the kernel's. -/
theorem text (F : FTy → Type) [FloatOps F] :
    FrameOf F = @FrameOfIdeal F _ (literals F) := by
  sl_kernel_rfl

/-- The kernel terminates, leaves its arguments unchanged and every counter at zero. -/
theorem frame : Cert.quiescent_Kernel := fun m g _ =>
  (show FrameOf Bits from text Bits ▸ (letI := literals Bits; fun m g => Cert.KernelIdeal.Moba.frame m g : @FrameOfIdeal Bits _ (literals Bits))) m g

end Cert.Kernel.Moba

end
-- ==== Proof.Soft.lean ====
module

public import Idealize.ShloMosaic.PureOps.Ideal
public import Idealize.ShloMosaic.Lib.Pointwise

@[expose] public section

noncomputable section

namespace Cert.Moba

open Idealize.ShloMosaic

/-! ## The softmax over a set of key blocks, and the two ways the programs compute it -/

/-- The factor between the two bases. -/
abbrev c2 : ℝ := (Real.log 2)⁻¹

theorem c2_pos : 0 < c2 := inv_pos.mpr (Real.log_pos (by norm_num))

/-- A power of two of scaled arguments is the exponential of the arguments. -/
theorem exp2_scaled (x : EReal) (hx : x ≠ ⊤) (M : ℝ) :
    Ideal.exp2 (x * (c2 : EReal) - (M : EReal) * (c2 : EReal)) = Ideal.exp (x - (M : EReal)) := by
  induction x with
  | bot =>
    rw [EReal.bot_mul_coe_of_pos c2_pos, ← EReal.coe_mul, EReal.bot_sub, EReal.bot_sub]
    rfl
  | top => exact absurd rfl hx
  | coe r =>
    rw [← EReal.coe_mul, ← EReal.coe_mul, ← EReal.coe_sub, ← EReal.coe_sub]
    show ((Real.rpow 2 (r * c2 - M * c2) : ℝ) : EReal) = ((Real.exp (r - M) : ℝ) : EReal)
    congr 1
    show (2 : ℝ) ^ (r * c2 - M * c2) = _
    rw [Real.rpow_def_of_pos (by norm_num)]
    congr 1
    have : Real.log 2 ≠ 0 := (Real.log_pos (by norm_num)).ne'
    simp only [c2]
    field_simp

theorem exp_nonneg (x : EReal) : 0 ≤ Ideal.exp x := by
  induction x with
  | bot => exact le_refl _
  | top => exact le_top
  | coe r => exact EReal.coe_nonneg.mpr (Real.exp_pos r).le

theorem exp_pos_of_ne_bot (x : EReal) (hx : x ≠ ⊥) : 0 < Ideal.exp x := by
  induction x with
  | bot => exact absurd rfl hx
  | top => exact EReal.zero_lt_top
  | coe r => exact EReal.coe_pos.mpr (Real.exp_pos r)

/-- The greatest logit. -/
def topOf (A : Finset ℕ) (l : ℕ → Fin 256 → EReal) : EReal := A.sup fun n => Finset.univ.sup (l n)
/-- The sum of the weights. -/
def denOf (A : Finset ℕ) (l : ℕ → Fin 256 → EReal) (M : EReal) : EReal := ∑ n ∈ A, ∑ k, Ideal.exp (l n k - M)
/-- The weighted sum of the values. -/
def numOf (A : Finset ℕ) (l v : ℕ → Fin 256 → EReal) (M : EReal) : EReal := ∑ n ∈ A, ∑ k, v n k * Ideal.exp (l n k - M)
/-- The softmax of the logits of the key blocks in `A`, applied to their values. -/
def softOf (A : Finset ℕ) (l v : ℕ → Fin 256 → EReal) : EReal :=
  Ideal.div (numOf A l v (topOf A l)) (denOf A l (topOf A l))

theorem topOf_real (A : Finset ℕ) (l : ℕ → Fin 256 → EReal) (ht : ∀ n ∈ A, ∀ k, l n k ≠ ⊤)
    (hb : ∃ n ∈ A, ∃ k, l n k ≠ ⊥) : ∃ M : ℝ, topOf A l = (M : EReal) := by
  obtain ⟨n, hn, k, hk⟩ := hb
  have h1 : topOf A l ≠ ⊥ := by
    intro h
    refine hk (le_bot_iff.mp (h ▸ ?_))
    exact le_trans (Finset.le_sup (f := l n) (Finset.mem_univ k)) (Finset.le_sup (f := fun n => Finset.univ.sup (l n)) hn)
  have h2 : topOf A l ≠ ⊤ := by
    refine ne_of_lt ((Finset.sup_lt_iff (bot_lt_top)).mpr fun n hn => (Finset.sup_lt_iff bot_lt_top).mpr fun k _ => ?_)
    exact lt_top_iff_ne_top.mpr (ht n hn k)
  exact ⟨(topOf A l).toReal, (EReal.coe_toReal h2 h1).symm⟩

theorem mono_mul_c2 : Monotone fun x : EReal => x * (c2 : EReal) := fun x y h =>
  mul_le_mul_of_nonneg_right h (EReal.coe_nonneg.mpr c2_pos.le)

theorem bot_mul_c2 : (⊥ : EReal) * (c2 : EReal) = ⊥ := EReal.bot_mul_coe_of_pos c2_pos

theorem sup_mul_c2 {ι : Type} (s : Finset ι) (f : ι → EReal) :
    (s.sup fun i => f i * (c2 : EReal)) = s.sup f * (c2 : EReal) :=
  (Finset.comp_sup_eq_sup_comp (g := fun x : EReal => x * (c2 : EReal))
    (fun x y => mono_mul_c2.map_sup x y) bot_mul_c2).symm

section
variable (A : Finset ℕ) (N : ℕ) (l v : ℕ → Fin 256 → EReal) (hA : A ⊆ Finset.range N)
  (hoff : ∀ n ∈ Finset.range N, n ∉ A → ∀ k, l n k = ⊥)
include hA hoff

theorem topOf_range : topOf (Finset.range N) l = topOf A l := by
  unfold topOf
  refine le_antisymm (Finset.sup_le fun n hn => ?_) (Finset.sup_mono hA)
  by_cases h : n ∈ A
  · exact Finset.le_sup (f := fun n => Finset.univ.sup (l n)) h
  · exact Finset.sup_le fun k _ => (hoff n hn h k) ▸ bot_le

/-- Blocks whose logits are all minus infinity add nothing; a power of two of logits scaled by the factor is the
    exponential. -/
theorem soft_kernel (ht : ∀ n ∈ A, ∀ k, l n k ≠ ⊤) (hb : ∃ n ∈ A, ∃ k, l n k ≠ ⊥)
    (mx : EReal) (hmx : mx = (Finset.range N).sup fun n => Finset.univ.sup fun k => l n k * (c2 : EReal)) :
    Ideal.div (∑ n ∈ Finset.range N, ∑ k, v n k * Ideal.exp2 (l n k * (c2 : EReal) - mx))
      (∑ n ∈ Finset.range N, ∑ k, Ideal.exp2 (l n k * (c2 : EReal) - mx)) = softOf A l v := by
  obtain ⟨M, hM⟩ := topOf_real A l ht hb
  have hmx' : mx = (M : EReal) * (c2 : EReal) := by
    rw [hmx, ← hM, ← topOf_range A N l hA hoff]
    simp only [sup_mul_c2]
    rfl
  have hnt : ∀ n ∈ Finset.range N, ∀ k, l n k ≠ ⊤ := fun n hn k => by
    by_cases h : n ∈ A
    · exact ht n h k
    · rw [hoff n hn h k]; exact bot_ne_top
  have hw : ∀ n ∈ Finset.range N, ∀ k, Ideal.exp2 (l n k * (c2 : EReal) - mx) = Ideal.exp (l n k - topOf A l) :=
    fun n hn k => by rw [hmx', hM, exp2_scaled _ (hnt n hn k)]
  have hz : ∀ n ∈ Finset.range N, n ∉ A → ∀ k, Ideal.exp (l n k - topOf A l) = 0 := fun n hn h k => by
    rw [hoff n hn h k, EReal.bot_sub]; rfl
  unfold softOf numOf denOf
  congr 1
  · rw [Finset.sum_congr rfl fun n hn => Finset.sum_congr rfl fun k _ => by rw [hw n hn k]]
    refine (Finset.sum_subset hA fun n hn h => ?_).symm
    exact Finset.sum_eq_zero fun k _ => by rw [hz n hn h k, mul_zero]
  · rw [Finset.sum_congr rfl fun n hn => Finset.sum_congr rfl fun k _ => hw n hn k]
    refine (Finset.sum_subset hA fun n hn h => ?_).symm
    exact Finset.sum_eq_zero fun k _ => hz n hn h k
end

theorem sum_mul_of_real {ι : Type} (s : Finset ι) (f : ι → EReal) (y : EReal) (h0 : 0 ≤ y) (ht : y ≠ ⊤) :
    (∑ i ∈ s, f i) * y = ∑ i ∈ s, f i * y := by
  classical
  induction s using Finset.induction_on with
  | empty => simp
  | insert a s ha ih => rw [Finset.sum_insert ha, Finset.sum_insert ha, EReal.right_distrib_of_nonneg_of_ne_top h0 ht, ih]

theorem inv_ne_top' (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- The same softmax over four slots, each naming a block or masked out: the sum of the quotients times the values. -/
theorem soft_slots (A : Finset ℕ) (l v : ℕ → Fin 256 → EReal) (ht : ∀ n ∈ A, ∀ k, l n k ≠ ⊤)
    (hb : ∃ n ∈ A, ∃ k, l n k ≠ ⊥)
    (V : Finset (Fin 4)) (sel : Fin 4 → ℕ) (ls vs : Fin 4 → Fin 256 → EReal)
    (himg : V.image sel = A) (hinj : ∀ i ∈ V, ∀ j ∈ V, sel i = sel j → i = j)
    (hl : ∀ j ∈ V, ∀ k, ls j k = l (sel j) k) (hv : ∀ j ∈ V, ∀ k, vs j k = v (sel j) k)
    (hoff : ∀ j, j ∉ V → ∀ k, ls j k = ⊥) (M D : EReal)
    (hM : M = Finset.univ.sup fun j => Finset.univ.sup fun k => ls j k)
    (hD : D = ∑ j, ∑ k, Ideal.exp (ls j k - M)) :
    ∑ j, ∑ k, Ideal.div (Ideal.exp (ls j k - M)) D * vs j k = softOf A l v := by
  have hM' : M = topOf A l := by
    rw [hM]; unfold topOf
    refine le_antisymm (Finset.sup_le fun j _ => ?_) (Finset.sup_le fun n hn => ?_)
    · by_cases h : j ∈ V
      · rw [show (fun k => ls j k) = l (sel j) from funext fun k => hl j h k]
        exact Finset.le_sup (f := fun n => Finset.univ.sup (l n)) (himg ▸ Finset.mem_image_of_mem sel h)
      · exact Finset.sup_le fun k _ => (hoff j h k) ▸ bot_le
    · rw [← himg] at hn
      obtain ⟨j, hj, rfl⟩ := Finset.mem_image.mp hn
      rw [show l (sel j) = fun k => ls j k from funext fun k => (hl j hj k).symm]
      exact Finset.le_sup (f := fun j => Finset.univ.sup fun k => ls j k) (Finset.mem_univ j)
  obtain ⟨m, hm⟩ := topOf_real A l ht hb
  have hz : ∀ j, j ∉ V → ∀ k, Ideal.exp (ls j k - M) = 0 := fun j h k => by
    rw [hoff j h k, EReal.bot_sub]; rfl
  have hslot : ∀ (f : ℕ → EReal) (g : Fin 4 → EReal), (∀ j ∈ V, g j = f (sel j)) → (∀ j, j ∉ V → g j = 0) →
      ∑ j, g j = ∑ n ∈ A, f n := fun f g h1 h2 => by
    rw [← himg, Finset.sum_image fun i hi j hj => hinj i hi j hj, ← Finset.sum_congr rfl h1]
    exact (Finset.sum_subset (Finset.subset_univ V) fun j _ h => h2 j h).symm
  have hD' : D = denOf A l (topOf A l) := by
    rw [hD]
    refine hslot _ _ (fun j h => Finset.sum_congr rfl fun k _ => by rw [hl j h k, hM']) fun j h => ?_
    exact Finset.sum_eq_zero fun k _ => hz j h k
  have hD0 : D ≠ 0 := by
    rw [hD']
    obtain ⟨n, hn, k, hk⟩ := hb
    refine ne_of_gt ?_
    unfold denOf
    refine lt_of_lt_of_le (exp_pos_of_ne_bot (l n k - topOf A l) ?_)
      (le_trans (Finset.single_le_sum (f := fun k => Ideal.exp (l n k - topOf A l)) (fun k _ => exp_nonneg _) (Finset.mem_univ k))
        (Finset.single_le_sum (f := fun n => ∑ k, Ideal.exp (l n k - topOf A l)) (fun n _ => Finset.sum_nonneg fun k _ => exp_nonneg _) hn))
    rw [hm]
    have hk' := ht n hn k
    generalize l n k = y at hk hk'
    induction y with
    | bot => exact absurd rfl hk
    | top => exact absurd rfl hk'
    | coe r => rw [← EReal.coe_sub]; exact EReal.coe_ne_bot _
  have hDn : 0 ≤ D := hD ▸ Finset.sum_nonneg fun j _ => Finset.sum_nonneg fun k _ => exp_nonneg _
  have hi0 : 0 ≤ D⁻¹ := EReal.inv_nonneg_of_nonneg hDn
  have hit : D⁻¹ ≠ ⊤ := inv_ne_top' D
  unfold softOf
  rw [← hD']
  unfold Ideal.div
  rw [if_neg hD0]
  have hnum : numOf A l v (topOf A l) = ∑ j, ∑ k, vs j k * Ideal.exp (ls j k - M) := by
    refine (hslot _ _ (fun j h => Finset.sum_congr rfl fun k _ => by rw [hl j h k, hv j h k, hM']) fun j h => ?_).symm
    exact Finset.sum_eq_zero fun k _ => by rw [hz j h k, mul_zero]
  rw [hnum, sum_mul_of_real _ _ _ hi0 hit]
  refine Finset.sum_congr rfl fun j _ => ?_
  rw [sum_mul_of_real _ _ _ hi0 hit]
  refine Finset.sum_congr rfl fun k _ => ?_
  rw [if_neg hD0, mul_comm (vs j k), mul_assoc, mul_assoc, mul_comm (vs j k)]

end Cert.Moba

end
-- ==== Proof.Rank.lean ====
module

public import Idealize.ShloMosaic.Lib.SortFacts
public import Idealize.ShloMosaic.Lib.Pointwise

@[expose] public section

noncomputable section

namespace Cert.Moba

open Idealize.ShloMosaic

/-! ## The three greatest gates: the stable sort's first three places, and a count -/

/-- `x` is ranked before `y`: its key is greater, or the keys are equal and `x` comes first. -/
def Before {n : ℕ} (key : Fin n → EReal) (x y : Fin n) : Prop := key y < key x ∨ (key x = key y ∧ x < y)

/-- The comparison that the sort is given. -/
abbrev gtKey {n : ℕ} (key : Fin n → EReal) (x y : Fin n) : Bool := decide (key y < key x)

theorem insert_before {n : ℕ} (key : Fin n → EReal) (a : Fin n) : ∀ l : List (Fin n), l.Pairwise (Before key) →
    (∀ b ∈ l, a < b) → (insertBefore (gtKey key) a l).Pairwise (Before key)
  | [], _, _ => List.pairwise_singleton _ _
  | b :: l, hl, ha => by
    obtain ⟨h1, h2⟩ := List.pairwise_cons.mp hl
    unfold insertBefore
    split
    · rename_i h
      refine List.pairwise_cons.mpr ⟨fun c hc => ?_, insert_before key a l h2 fun c hc => ha c (List.mem_cons_of_mem _ hc)⟩
      rcases List.mem_cons.mp ((perm_insertBefore _ a l).mem_iff.mp hc) with rfl | hc
      · exact Or.inl (of_decide_eq_true h)
      · exact h1 c hc
    · rename_i h
      have hab : key b ≤ key a := not_lt.mp fun hh => h (decide_eq_true hh)
      refine List.pairwise_cons.mpr ⟨fun c hc => ?_, hl⟩
      have hac := ha c hc
      have hcb : key c ≤ key b := by
        rcases List.mem_cons.mp hc with rfl | hc
        · exact le_refl _
        · rcases h1 c hc with h | h
          · exact h.le
          · exact h.1.ge
      rcases lt_or_eq_of_le (hcb.trans hab) with h | h
      · exact Or.inl h
      · exact Or.inr ⟨h.symm, hac⟩

theorem sort_before {n : ℕ} (key : Fin n → EReal) : ∀ l : List (Fin n), l.Pairwise (· < ·) →
    (stableSort (gtKey key) l).Pairwise (Before key)
  | [], _ => List.Pairwise.nil
  | a :: l, h => by
    obtain ⟨h1, h2⟩ := List.pairwise_cons.mp h
    unfold stableSort
    refine insert_before key a _ (sort_before key l h2) fun b hb => h1 b ((perm_stableSort _ l).mem_iff.mp hb)

theorem sorted_before {n : ℕ} (key : Fin n → EReal) (i j : Fin n) (hij : i < j) :
    Before key (sortedFrom (gtKey key) i) (sortedFrom (gtKey key) j) := by
  have hp := List.pairwise_iff_get.mp (sort_before key (List.finRange n) (List.pairwise_lt_finRange n))
  unfold sortedFrom
  exact hp _ _ hij

theorem before_asymm {n : ℕ} (key : Fin n → EReal) (x y : Fin n) (h : Before key x y) : ¬ Before key y x := by
  rintro (h' | h')
  · rcases h with h | h
    · exact lt_asymm h h'
    · exact absurd h.1 h'.ne
  · rcases h with h | h
    · exact absurd h'.1 h.ne
    · exact lt_asymm h.2 h'.2

open Classical in
/-- As many positions are ranked before the one at place `j` as `j` says. -/
theorem card_before {n : ℕ} (key : Fin n → EReal) (j : Fin n) :
    (Finset.univ.filter fun m => Before key m (sortedFrom (gtKey key) j)).card = j.val := by
  have : (Finset.univ.filter fun m => Before key m (sortedFrom (gtKey key) j)) =
      (Finset.Iio j).image (sortedFrom (gtKey key)) := by
    ext m
    obtain ⟨i, rfl⟩ := sortedFrom_surjective (gtKey key) m
    simp only [Finset.mem_filter, Finset.mem_univ, true_and, Finset.mem_image, Finset.mem_Iio]
    constructor
    · intro h
      refine ⟨i, ?_, rfl⟩
      rcases lt_trichotomy i j with hij | hij | hij
      · exact hij
      · subst hij; exact absurd h (before_asymm key _ _ h)
      · exact absurd (sorted_before key j i hij) (before_asymm key _ _ h)
    · rintro ⟨k, hk, e⟩
      rw [← sortedFrom_injective (gtKey key) e]
      exact sorted_before key k j hk
  rw [this, Finset.card_image_of_injective _ (sortedFrom_injective _), Fin.card_Iio]

/-- The gates of the blocks before `qb`, minus infinity from there on. -/
def pastKey (g : ℕ → EReal) (qb : ℕ) (n : Fin 8) : EReal := if n.val < qb then g n.val else ⊥

/-- How many of the blocks before `qb` are ranked before block `n`. -/
def rankAt (g : ℕ → EReal) (qb n : ℕ) : ℕ :=
  ((Finset.range qb).filter fun m => m ≠ n ∧ (g n < g m ∨ (g m = g n ∧ m < n))).card

/-- The block at place `j` of the sort. -/
def slotAt (g : ℕ → EReal) (qb : ℕ) (j : Fin 3) : ℕ := (sortedFrom (gtKey (pastKey g qb)) (j.castLE (by decide))).val

theorem slotAt_lt (g : ℕ → EReal) (qb : ℕ) (j : Fin 3) : slotAt g qb j < 8 := Fin.isLt _

theorem slotAt_inj (g : ℕ → EReal) (qb : ℕ) (i j : Fin 3) (h : slotAt g qb i = slotAt g qb j) : i = j := by
  have := sortedFrom_injective _ (Fin.ext h)
  exact Fin.castLE_injective (by decide : 3 ≤ 8) this

/-- A past block is in one of the first three places exactly when fewer than three are ranked before it. -/
theorem slot_iff (g : ℕ → EReal) (qb n : ℕ) (hq : qb ≤ 8) (hn : n < qb) :
    (∃ j, slotAt g qb j = n) ↔ rankAt g qb n < 3 := by
  classical
  obtain ⟨j0, hj0⟩ := sortedFrom_surjective (gtKey (pastKey g qb)) ⟨n, by omega⟩
  have hc := card_before (pastKey g qb) j0
  have hr : rankAt g qb n = j0.val := by
    rw [← hc, hj0]
    unfold rankAt
    rw [← Finset.card_image_of_injective (Finset.univ.filter fun m => Before (pastKey g qb) m ⟨n, by omega⟩) Fin.val_injective]
    congr 1
    ext m
    simp only [Finset.mem_filter, Finset.mem_range, Finset.mem_image, Finset.mem_univ, true_and]
    constructor
    · rintro ⟨hm, hne, h⟩
      refine ⟨⟨m, by omega⟩, ?_, rfl⟩
      unfold Before pastKey
      simp only [hm, hn, if_true]
      rcases h with h | h
      · exact Or.inl h
      · exact Or.inr ⟨h.1, Fin.mk_lt_mk.mpr h.2⟩
    · rintro ⟨⟨m', hm'⟩, h, rfl⟩
      show m' < qb ∧ m' ≠ n ∧ _
      unfold Before pastKey at h
      simp only [hn, if_true] at h
      by_cases hlt : m' < qb
      · simp only [hlt, if_true] at h
        refine ⟨hlt, ?_, ?_⟩
        · rintro rfl
          rcases h with h | h
          · exact lt_irrefl _ h
          · exact lt_irrefl _ h.2
        · rcases h with h | h
          · exact Or.inl h
          · exact Or.inr ⟨h.1, Fin.mk_lt_mk.mp h.2⟩
      · simp only [hlt, if_false] at h
        rcases h with h | h
        · exact absurd h not_lt_bot
        · have := Fin.mk_lt_mk.mp h.2
          omega
  rw [hr]
  constructor
  · rintro ⟨j, hj⟩
    have : j.castLE (by decide) = j0 := sortedFrom_injective _ (Fin.ext (hj.trans (congrArg Fin.val hj0).symm))
    rw [← this]; exact j.isLt
  · intro h
    exact ⟨⟨j0.val, h⟩, congrArg Fin.val hj0⟩

end Cert.Moba

end
-- ==== Proof.Scal.lean ====
module

public import proofs.«01_k».proof.Proof.Vals
public import proofs.«01_k».proof.Proof.Soft
public import proofs.«01_k».proof.Proof.Rank
public import Idealize.ShloMosaic.Lib.WordCmp

@[expose] public section

set_option maxRecDepth 16384

noncomputable section

namespace Cert.Moba

open Idealize.ShloMosaic

theorem bits_ninf : Ideal.ofBits .f32 0xFF800000#32 = ⊥ := by simp [Ideal.ofBits, Ideal.ieee]
theorem bits_pinf : Ideal.ofBits .f32 0x7F800000#32 = ⊤ := by simp [Ideal.ofBits, Ideal.ieee]
theorem bits_one : Ideal.ofBits .f32 0x3F800000#32 = ((1 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_256 : Ideal.ofBits .f32 0x43800000#32 = ((256 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_16 : Ideal.ofBits .f32 0x41800000#32 = ((16 : ℝ) : EReal) := by
  simp [Ideal.ofBits, Ideal.ieee, -EReal.coe_mul]; norm_num
theorem bits_8 : Ideal.ofBits .f32 0x41000000#32 = ((8 : ℝ) : EReal) := by
  simp [Ideal.ofBits, Ideal.ieee, -EReal.coe_mul]; norm_num

theorem select_ofBool {α : Type} (p : Prop) [Decidable p] (a b : α) :
    Scalar.select (BitVec.ofBool (decide p)) a b = if p then a else b := by
  by_cases h : p <;> simp [Scalar.select, h]

theorem select_sge {α : Type} (a b : ℕ) (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, select_ofBool]

end Cert.Moba

namespace Cert.KernelIdeal.Moba

open Cert.KernelIdeal Cert.KernelIdeal.Gen
open Idealize.ShloMosaic Cert.Moba

theorem scores_apply (kn q : Vec Ideal S256x128 .bf16) (k r : Fin 256) :
    scores kn q (ix2 k r) = (∑ d : Fin 128, kn (ix2 k d) * q (ix2 r d)) * (((Real.sqrt 128)⁻¹ * c2 : ℝ) : EReal) := by
  pointwise [scores]
  rfl

theorem maskOwn_apply (lg : FVec Ideal S256x256 .f32) (k r : Fin 256) :
    maskOwn lg (ix2 k r) = if k.val ≤ r.val then lg (ix2 k r) else ⊥ := by
  pointwise [maskOwn]
  rw [select_sge r.val k.val (by omega) (by omega), bits_ninf]

theorem maskSel_apply (s : FVec Ideal S1x256 .f32) (lg : FVec Ideal S256x256 .f32) (k r : Fin 256) :
    maskSel s lg (ix2 k r) = if ((1 / 2 : ℝ) : EReal) < s (ix2 0 r) then lg (ix2 k r) else ⊥ := by
  pointwise [maskSel]
  rw [bits_ninf, bits_half]

theorem meanRow_apply (kn : Vec Ideal S256x128 .bf16) (z : Fin 1) (d : Fin 128) :
    meanRow kn (ix2 z d) = Ideal.div (∑ k : Fin 256, kn (ix2 k d)) ((256 : ℝ) : EReal) := by
  pointwise [meanRow]
  rw [bits_256]

theorem meanKeys_apply (kb : ℕ → Vec Ideal S256x128 .bf16) (n : Fin 8) (d : Fin 128) :
    meanKeys kb (ix2 n d) = meanRow (kb n.val) (ix2 0 d) := by
  pointwise [meanKeys]
  fin_cases n <;> rfl

theorem gates_apply (km : FVec Ideal S8x128 .f32) (q : Vec Ideal S256x128 .bf16) (n : Fin 8) (r : Fin 256) :
    gates km q (ix2 n r) = ∑ d : Fin 128, km (ix2 n d) * q (ix2 r d) := by
  pointwise [gates]

theorem gateRow_apply (g : FVec Ideal S8x256 .f32) (n : ℕ) (r : Fin 256) :
    gateRow g n (ix2 0 r) = g (ix2 ⟨min n 7, by omega⟩ r) := by
  pointwise [gateRow]

theorem colMax_apply (lg : FVec Ideal S256x256 .f32) (r : Fin 256) :
    colMax lg (ix2 0 r) = Finset.univ.sup fun k : Fin 256 => lg (ix2 k r) := by
  pointwise [colMax]
  rw [bits_ninf]; rfl

theorem colSum_apply (lg : FVec Ideal S256x256 .f32) (r : Fin 256) :
    colSum lg (ix2 0 r) = ∑ k : Fin 256, lg (ix2 k r) := by
  pointwise [colSum]

theorem weights_apply (lg : FVec Ideal S256x256 .f32) (mx : FVec Ideal S1x256 .f32) (k r : Fin 256) :
    weights lg mx (ix2 k r) = Ideal.exp2 (lg (ix2 k r) - mx (ix2 0 r)) := by
  pointwise [weights]
  rfl

theorem valsT_apply (v : Vec Ideal S2048x128 .bf16) (d : Fin 128) (s : Fin 2048) :
    valsT v (ix2 d s) = v (ix2 s d) := by
  pointwise [valsT]

/-! ## The rank -/

theorem beats_apply (g : FVec Ideal S8x256 .f32) (n m : ℕ) (r : Fin 256) :
    beats g n m (ix2 0 r) =
      if gateRow g n (ix2 0 r) < gateRow g m (ix2 0 r) ∨ (gateRow g m (ix2 0 r) = gateRow g n (ix2 0 r) ∧ m < n)
        then 1 else 0 := by
  unfold beats
  generalize gateRow g n = a
  generalize gateRow g m = b
  by_cases h : m < n
  · pointwise [h]
    rw [show IntOp.ori (BitVec.ofBool (decide (a (ix2 0 r) < b (ix2 0 r)))) (BitVec.ofBool (decide (b (ix2 0 r) = a (ix2 0 r)))) =
      BitVec.ofBool (decide (a (ix2 0 r) < b (ix2 0 r) ∨ b (ix2 0 r) = a (ix2 0 r))) by
        by_cases h1 : a (ix2 0 r) < b (ix2 0 r) <;> by_cases h2 : b (ix2 0 r) = a (ix2 0 r) <;> simp [h1, h2, IntOp.ori]]
    rw [select_ofBool]
  · pointwise [h]
    simp

/-- The gates of a query as numbers. -/
def gAt (g : FVec Ideal S8x256 .f32) (r : Fin 256) (n : ℕ) : EReal := gateRow g n (ix2 0 r)

theorem rankOf_apply (g : FVec Ideal S8x256 .f32) (n j : ℕ) (r : Fin 256) :
    rankOf g n j (ix2 0 r) = (((rankAt (gAt g r) j n : ℕ) : ℝ) : EReal) := by
  induction j with
  | zero => unfold rankAt; simp only [Finset.range_zero, Finset.filter_empty, Finset.card_empty, Nat.cast_zero]; exact Ideal.ofBits_zero_f32
  | succ j ih =>
    have hc : rankAt (gAt g r) (j + 1) n = rankAt (gAt g r) j n +
        if j ≠ n ∧ (gAt g r n < gAt g r j ∨ (gAt g r j = gAt g r n ∧ j < n)) then 1 else 0 := by
      unfold rankAt
      rw [Finset.range_add_one, Finset.filter_insert]
      split
      · rw [Finset.card_insert_of_notMem (by simp)]
      · rfl
    have hs : rankOf g n (j + 1) = if j = n then rankOf g n j else addf (rankOf g n j) (beats g n j) := rfl
    rw [hs, hc]
    by_cases hj : j = n
    · rw [if_pos hj, if_neg (fun h => h.1 hj), Nat.add_zero]; exact ih
    · rw [if_neg hj]
      have : addf (rankOf g n j) (beats g n j) (ix2 0 r) = rankOf g n j (ix2 0 r) + beats g n j (ix2 0 r) := rfl
      rw [this, ih, beats_apply]
      change _ + (if gAt g r n < gAt g r j ∨ (gAt g r j = gAt g r n ∧ j < n) then (1 : EReal) else 0) = _
      by_cases hp : gAt g r n < gAt g r j ∨ (gAt g r j = gAt g r n ∧ j < n)
      · rw [if_pos hp, if_pos ⟨hj, hp⟩, ← EReal.coe_one, ← EReal.coe_add]; push_cast; rfl
      · rw [if_neg hp, if_neg (fun h => hp h.2), add_zero, Nat.add_zero]

theorem selOf_apply (g : FVec Ideal S8x256 .f32) (n j : ℕ) (r : Fin 256) :
    ((1 / 2 : ℝ) : EReal) < selOf g n j (ix2 0 r) ↔ rankAt (gAt g r) j n < 3 := by
  have : selOf g n j (ix2 0 r) = if rankAt (gAt g r) j n < 3 then 1 else 0 := by
    unfold selOf
    have h := rankOf_apply g n j r
    generalize rankOf g n j = a at h
    pointwise
    rw [h, bits_three]
    have : (((rankAt (gAt g r) j n : ℕ) : ℝ) : EReal) < ((3 : ℝ) : EReal) ↔ rankAt (gAt g r) j n < 3 := by
      rw [EReal.coe_lt_coe_iff]; exact_mod_cast Iff.rfl
    simp only [this]
  rw [this]
  split
  · rename_i h
    exact iff_of_true (by rw [← EReal.coe_one, EReal.coe_lt_coe_iff]; norm_num) h
  · rename_i h
    refine iff_of_false ?_ h
    rw [not_lt]; exact_mod_cast (by norm_num : (0 : ℝ) ≤ 1 / 2)

theorem rank_small (g : ℕ → EReal) (qb n : ℕ) (hq : qb ≤ 3) (hn : n < qb) : rankAt g qb n < 3 := by
  unfold rankAt
  have : ((Finset.range qb).filter fun m => m ≠ n ∧ (g n < g m ∨ (g m = g n ∧ m < n))) ⊆ (Finset.range qb).erase n := by
    intro m hm
    rw [Finset.mem_filter] at hm
    exact Finset.mem_erase.mpr ⟨hm.2.1, hm.1⟩
  have := Finset.card_le_card this
  rw [Finset.card_erase_of_mem (Finset.mem_range.mpr hn), Finset.card_range] at this
  omega

theorem rankAt_congr (g g' : ℕ → EReal) (qb n : ℕ) (hn : n < qb) (h : ∀ m < qb, g m = g' m) : rankAt g qb n = rankAt g' qb n := by
  unfold rankAt
  congr 1
  refine Finset.filter_congr fun m hm => ?_
  rw [h n hn, h m (Finset.mem_range.mp hm)]

/-! ## The logits of a query -/

/-- The mean key of a block. -/
def meanOf (K : ℕ → Fin 256 → Fin 128 → EReal) (n : ℕ) (d : Fin 128) : EReal :=
  Ideal.div (∑ k : Fin 256, K n k d) ((256 : ℝ) : EReal)

/-- The gate of a block at a query. -/
def gateOf (K : ℕ → Fin 256 → Fin 128 → EReal) (q : Fin 128 → EReal) (n : ℕ) : EReal := ∑ d : Fin 128, meanOf K n d * q d

/-- The logit of key `k` of block `n` at query `r` of block `qb`: minus infinity where the query does not look. -/
def logitOf (K : ℕ → Fin 256 → Fin 128 → EReal) (q : Fin 128 → EReal) (B : ℕ → Fin 256 → EReal) (qb r : ℕ) (n : ℕ)
    (k : Fin 256) : EReal :=
  if (n = qb ∧ k.val ≤ r) ∨ (n < qb ∧ rankAt (gateOf K q) qb n < 3) then
    (∑ d : Fin 128, K n k d * q d) * (((Real.sqrt 128)⁻¹ : ℝ) : EReal) + B n k
  else ⊥

/-- The blocks a query looks at. -/
def looksAt (K : ℕ → Fin 256 → Fin 128 → EReal) (q : Fin 128 → EReal) (qb : ℕ) : Finset ℕ :=
  (Finset.range (qb + 1)).filter fun n => n = qb ∨ rankAt (gateOf K q) qb n < 3

theorem scaled_sum (s b : EReal) (a : ℝ) : s * ((a * c2 : ℝ) : EReal) + b * (c2 : EReal) = (s * (a : EReal) + b) * (c2 : EReal) := by
  rw [EReal.coe_mul, ← mul_assoc]
  exact (EReal.right_distrib_of_nonneg_of_ne_top (by exact_mod_cast c2_pos.le) (EReal.coe_ne_top _) _ _).symm

section tile
variable (kb : ℕ → Vec Ideal S256x128 .bf16) (q : Vec Ideal S256x128 .bf16)

/-- The keys by block, position and coordinate. -/
abbrev keyFn : ℕ → Fin 256 → Fin 128 → EReal := fun n k d => kb n (ix2 k d)
abbrev queryFn (r : Fin 256) : Fin 128 → EReal := fun d => q (ix2 r d)

theorem gAt_gates (r : Fin 256) (n : ℕ) (hn : n < 8) : gAt (gates (meanKeys kb) q) r n = gateOf (keyFn kb) (queryFn q r) n := by
  unfold gAt gateOf meanOf
  rw [gateRow_apply, gates_apply]
  refine Finset.sum_congr rfl fun d _ => ?_
  rw [meanKeys_apply, meanRow_apply]
  have : min n 7 = n := by omega
  simp only [this]

theorem logitBlk_apply (far : EReal) (bOwn bNear : Vec Ideal S256x256 .f32) (B : ℕ → Fin 256 → EReal) (qb n : ℕ)
    (k r : Fin 256) (hq : qb < 8) (hn : n ≤ qb)
    (hO : bOwn (ix2 k r) = B qb k * (c2 : EReal))
    (hN : ∀ m, m + 1 = qb → bNear (ix2 k r) = B m k * (c2 : EReal))
    (hF : ∀ m, m + 1 < qb → far = B m k * (c2 : EReal)) :
    logitBlk kb far bOwn bNear q qb n (ix2 k r) =
      logitOf (keyFn kb) (queryFn q r) B qb r.val n k * (c2 : EReal) := by
  unfold logitBlk logitOf
  by_cases h1 : n = qb
  · subst h1
    rw [if_pos rfl, maskOwn_apply]
    simp only [true_and, lt_irrefl, false_and, or_false]
    by_cases h : k.val ≤ r.val
    · rw [if_pos h, if_pos h]
      show scores (kb n) q (ix2 k r) + bOwn (ix2 k r) = _
      rw [scores_apply, hO, scaled_sum]
    · rw [if_neg h, if_neg h, bot_mul_c2]
  · have hlt : n < qb := by omega
    rw [if_neg h1]
    have hsum : addf (scores (kb n) q) (if n + 1 = qb then bNear else broadcast S256x256 far) (ix2 k r) =
        ((∑ d : Fin 128, keyFn kb n k d * queryFn q r d) * (((Real.sqrt 128)⁻¹ : ℝ) : EReal) + B n k) * (c2 : EReal) := by
      show scores (kb n) q (ix2 k r) + (if n + 1 = qb then bNear else broadcast S256x256 far) (ix2 k r) = _
      rw [scores_apply, ← scaled_sum]
      congr 1
      by_cases h : n + 1 = qb
      · rw [if_pos h, hN n h]
      · rw [if_neg h]; exact hF n (by omega)
    have hr : rankAt (gAt (gates (meanKeys kb) q) r) qb n = rankAt (gateOf (keyFn kb) (queryFn q r)) qb n :=
      rankAt_congr _ _ qb n hlt fun m hm => gAt_gates kb q r m (by omega)
    simp only [h1, false_and, hlt, true_and, false_or]
    by_cases h3 : 3 < qb
    · rw [if_pos h3, maskSel_apply, hsum]
      simp only [selOf_apply, hr]
      split
      · rfl
      · rw [bot_mul_c2]
    · rw [if_neg h3, hsum, if_pos (rank_small _ _ _ (by omega) hlt)]

theorem maxTo_apply (lg : ℕ → FVec Ideal S256x256 .f32) (j : ℕ) (r : Fin 256) :
    maxTo lg j (ix2 0 r) = (Finset.range (j + 1)).sup fun n => Finset.univ.sup fun k : Fin 256 => lg n (ix2 k r) := by
  induction j with
  | zero => rw [show maxTo lg 0 = colMax (lg 0) from rfl, colMax_apply]; simp
  | succ j ih =>
    rw [show maxTo lg (j + 1) (ix2 0 r) = max (maxTo lg j (ix2 0 r)) (colMax (lg (j + 1)) (ix2 0 r)) from rfl, ih, colMax_apply,
      Finset.range_add_one (n := j + 1), Finset.sup_insert, sup_comm]

theorem denTo_apply (lg : ℕ → FVec Ideal S256x256 .f32) (mx : FVec Ideal S1x256 .f32) (j : ℕ) (r : Fin 256) :
    denTo lg mx j (ix2 0 r) = ∑ n ∈ Finset.range j, ∑ k : Fin 256, Ideal.exp2 (lg n (ix2 k r) - mx (ix2 0 r)) := by
  induction j with
  | zero => rw [Finset.range_zero, Finset.sum_empty]; exact Ideal.ofBits_zero_f32
  | succ j ih =>
    rw [show denTo lg mx (j + 1) (ix2 0 r) = denTo lg mx j (ix2 0 r) + colSum (weights (lg j) mx) (ix2 0 r) from rfl, ih,
      colSum_apply, Finset.sum_range_succ]
    simp only [weights_apply]

theorem accTo_apply (v : Vec Ideal S2048x128 .bf16) (lg : ℕ → FVec Ideal S256x256 .f32) (mx : FVec Ideal S1x256 .f32) (j : ℕ)
    (d : Fin 128) (r : Fin 256) :
    accTo (valsT v) lg mx j (ix2 d r) = ∑ n ∈ Finset.range j, ∑ k : Fin 256,
      v (ix2 ⟨256 * min n 7 + k.val, by omega⟩ d) * Ideal.exp2 (lg n (ix2 k r) - mx (ix2 0 r)) := by
  induction j with
  | zero => rw [Finset.range_zero, Finset.sum_empty]; exact Ideal.ofBits_zero_f32
  | succ j ih =>
    have hs : accTo (valsT v) lg mx (j + 1) (ix2 d r) = accTo (valsT v) lg mx j (ix2 d r) +
      matmul dot_S128x256_S256x256_S128x256_1_0_0_1_n_n none
      (extractStridedSlice S128x256 ![0, 256 * min j 7] (valsT v) (valCols_slices j))
      (truncf .bf16 (weights (lg j) mx) bitsLt_bf16_f32) (constant S128x256 .f32 0x00000000#32) (ix2 d r) := rfl
    rw [hs, ih, Finset.sum_range_succ]
    congr 1
    have hv := valsT_apply v d
    have hw := weights_apply (lg j) mx
    generalize valsT v = vt at hv
    generalize weights (lg j) mx = w at hw
    pointwise
    refine Finset.sum_congr rfl fun k _ => ?_
    rw [hv, hw]

theorem tile_apply (v : Vec Ideal S2048x128 .bf16) (far : EReal) (bOwn bNear : Vec Ideal S256x256 .f32) (qb : ℕ)
    (r : Fin 256) (d : Fin 128) :
    tile kb v far bOwn bNear q qb (ix2 r d) =
      Ideal.div (accTo (valsT v) (logitBlk kb far bOwn bNear q qb) (maxTo (logitBlk kb far bOwn bNear q qb) qb) (qb + 1) (ix2 d r))
        (denTo (logitBlk kb far bOwn bNear q qb) (maxTo (logitBlk kb far bOwn bNear q qb) qb) (qb + 1) (ix2 0 r)) := by
  unfold tile
  generalize accTo (valsT v) (logitBlk kb far bOwn bNear q qb) (maxTo (logitBlk kb far bOwn bNear q qb) qb) (qb + 1) = a
  generalize denTo (logitBlk kb far bOwn bNear q qb) (maxTo (logitBlk kb far bOwn bNear q qb) qb) (qb + 1) = b
  pointwise

/-- What the kernel stores for a query is the softmax of its logits against the values. -/
theorem tile_soft (v : Vec Ideal S2048x128 .bf16) (far : EReal) (bOwn bNear : Vec Ideal S256x256 .f32)
    (B : ℕ → Fin 256 → EReal) (qb : ℕ) (r : Fin 256) (d : Fin 128) (hq : qb < 8)
    (hO : ∀ k, bOwn (ix2 k r) = B qb k * (c2 : EReal))
    (hN : ∀ k m, m + 1 = qb → bNear (ix2 k r) = B m k * (c2 : EReal))
    (hF : ∀ k m, m + 1 < qb → far = B m k * (c2 : EReal))
    (ht : ∀ n ≤ qb, ∀ k, logitOf (keyFn kb) (queryFn q r) B qb r.val n k ≠ ⊤)
    (hb : logitOf (keyFn kb) (queryFn q r) B qb r.val qb r ≠ ⊥) :
    tile kb v far bOwn bNear q qb (ix2 r d) =
      softOf (looksAt (keyFn kb) (queryFn q r) qb) (logitOf (keyFn kb) (queryFn q r) B qb r.val)
        (fun n k => v (ix2 ⟨256 * min n 7 + k.val, by omega⟩ d)) := by
  rw [tile_apply, accTo_apply, denTo_apply]
  have hl : ∀ n ∈ Finset.range (qb + 1), ∀ k, logitBlk kb far bOwn bNear q qb n (ix2 k r) =
      logitOf (keyFn kb) (queryFn q r) B qb r.val n k * (c2 : EReal) := fun n hn k =>
    logitBlk_apply kb q far bOwn bNear B qb n k r hq (by have := Finset.mem_range.mp hn; omega) (hO k) (hN k) (hF k)
  rw [← soft_kernel (looksAt (keyFn kb) (queryFn q r) qb) (qb + 1) (logitOf (keyFn kb) (queryFn q r) B qb r.val)
    (fun n k => v (ix2 ⟨256 * min n 7 + k.val, by omega⟩ d)) (Finset.filter_subset _ _) ?_ ?_ ?_
    (maxTo (logitBlk kb far bOwn bNear q qb) qb (ix2 0 r)) ?_]
  · congr 1
    · refine Finset.sum_congr rfl fun n hn => Finset.sum_congr rfl fun k _ => ?_
      rw [hl n hn]
    · refine Finset.sum_congr rfl fun n hn => Finset.sum_congr rfl fun k _ => ?_
      rw [hl n hn]
  · intro n hn hA k
    unfold logitOf
    rw [if_neg]
    rintro (⟨h, -⟩ | ⟨-, h⟩)
    · exact hA (Finset.mem_filter.mpr ⟨hn, Or.inl h⟩)
    · exact hA (Finset.mem_filter.mpr ⟨hn, Or.inr h⟩)
  · intro n hn k
    exact ht n (by have := Finset.mem_range.mp (Finset.mem_filter.mp hn).1; omega) k
  · exact ⟨qb, Finset.mem_filter.mpr ⟨Finset.mem_range.mpr (by omega), Or.inl rfl⟩, r, hb⟩
  · rw [maxTo_apply]
    refine Finset.sup_congr rfl fun n hn => Finset.sup_congr rfl fun k _ => ?_
    rw [hl n hn]

end tile

end Cert.KernelIdeal.Moba

end
-- ==== Proof.Spec.lean ====
module

public import proofs.«01_k».proof.Proof.Scal

@[expose] public section

set_option maxRecDepth 16384

noncomputable section

namespace Cert.Moba

open Idealize.ShloMosaic Cert.KernelIdeal.Moba

/-! ## The attention of one query, from the projection and the bias table -/

/-- The bucket of a distance: itself below 16, then 16 buckets evenly spaced in the logarithm up to 128, then the last. -/
def bucketOf (d : ℕ) : ℕ := if d < 16 then d else min 31 (16 + (Nat.log2 (d ^ 16) - 64) / 3)

theorem bucketOf_lt (d : ℕ) : bucketOf d < 32 := by unfold bucketOf; split <;> omega

abbrev SX : Shape := ⟨2, ![8192, 20480]⟩
abbrev ST : Shape := ⟨2, ![32, 16]⟩

/-- An entry of the projection at a batch, a position and a column. -/
def colAt (X : SX.Idx → EReal) (b : Fin 4) (s : Fin 2048) (c : Fin 20480) : EReal := X (ix2 ⟨b.val * 2048 + s.val, by omega⟩ c)

def specQ (X : SX.Idx → EReal) (b : Fin 4) (h : Fin 16) (s : Fin 2048) (d : Fin 128) : EReal :=
  colAt X b s ⟨h.val * 128 + d.val, by omega⟩

def specK (X : SX.Idx → EReal) (b : Fin 4) (h : Fin 16) (n : ℕ) (k : Fin 256) (d : Fin 128) : EReal :=
  colAt X b ⟨256 * min n 7 + k.val, by omega⟩ ⟨2048 + h.val * 128 + d.val, by omega⟩

def specV (X : SX.Idx → EReal) (b : Fin 4) (h : Fin 16) (d : Fin 128) (n : ℕ) (k : Fin 256) : EReal :=
  colAt X b ⟨256 * min n 7 + k.val, by omega⟩ ⟨4096 + h.val * 128 + d.val, by omega⟩

def specB (T : ST.Idx → EReal) (h : Fin 16) (qb r : ℕ) (n : ℕ) (k : Fin 256) : EReal :=
  T (ix2 ⟨bucketOf (256 * (qb - n) + r - k.val), bucketOf_lt _⟩ h)

/-- The logits of a query, by block and key. -/
def specL (X : SX.Idx → EReal) (T : ST.Idx → EReal) (b : Fin 4) (h : Fin 16) (s : Fin 2048) : ℕ → Fin 256 → EReal :=
  logitOf (specK X b h) (specQ X b h s) (specB T h (s.val / 256) (s.val % 256)) (s.val / 256) (s.val % 256)

def specA (X : SX.Idx → EReal) (b : Fin 4) (h : Fin 16) (s : Fin 2048) : Finset ℕ :=
  looksAt (specK X b h) (specQ X b h s) (s.val / 256)

/-- The attention of a query. -/
def specAttn (X : SX.Idx → EReal) (T : ST.Idx → EReal) (b : Fin 4) (h : Fin 16) (s : Fin 2048) (d : Fin 128) : EReal :=
  softOf (specA X b h s) (specL X T b h s) (specV X b h d)

/-! ## The logits are finite numbers where a query looks -/

def Real' (x : EReal) : Prop := x ≠ ⊥ ∧ x ≠ ⊤

theorem real_coe (r : ℝ) : Real' (r : EReal) := ⟨EReal.coe_ne_bot r, EReal.coe_ne_top r⟩
theorem real_exists {x : EReal} (h : Real' x) : ∃ r : ℝ, x = (r : EReal) := ⟨x.toReal, (EReal.coe_toReal h.2 h.1).symm⟩
theorem real_add {x y : EReal} (hx : Real' x) (hy : Real' y) : Real' (x + y) := by
  obtain ⟨a, rfl⟩ := real_exists hx; obtain ⟨b, rfl⟩ := real_exists hy
  rw [← EReal.coe_add]; exact real_coe _
theorem real_mul {x y : EReal} (hx : Real' x) (hy : Real' y) : Real' (x * y) := by
  obtain ⟨a, rfl⟩ := real_exists hx; obtain ⟨b, rfl⟩ := real_exists hy
  rw [← EReal.coe_mul]; exact real_coe _
theorem real_sum {ι : Type} (A : Finset ι) (f : ι → EReal) (h : ∀ i ∈ A, Real' (f i)) : Real' (∑ i ∈ A, f i) := by
  classical
  induction A using Finset.induction_on with
  | empty => rw [Finset.sum_empty]; exact real_coe 0
  | insert a A ha ih =>
    rw [Finset.sum_insert ha]
    exact real_add (h a (Finset.mem_insert_self _ _)) (ih fun i hi => h i (Finset.mem_insert_of_mem hi))

/-- The queries, the keys and the bias table hold finite numbers. -/
def FiniteIn (X : SX.Idx → EReal) (T : ST.Idx → EReal) : Prop :=
  (∀ i : SX.Idx, (i 1).val < 4096 → Real' (X i)) ∧ ∀ i, Real' (T i)

section
variable {X : SX.Idx → EReal} {T : ST.Idx → EReal} (hf : FiniteIn X T) (b : Fin 4) (h : Fin 16) (s : Fin 2048)
include hf

theorem spec_logit_real (n : ℕ) (k : Fin 256) (B : EReal) (hB : Real' B) :
    Real' ((∑ d : Fin 128, specK X b h n k d * specQ X b h s d) * (((Real.sqrt 128)⁻¹ : ℝ) : EReal) + B) := by
  refine real_add (real_mul (real_sum _ _ fun d _ => real_mul ?_ ?_) (real_coe _)) hB
  · exact hf.1 _ (by show 2048 + h.val * 128 + d.val < 4096; omega)
  · exact hf.1 _ (by show h.val * 128 + d.val < 4096; omega)

theorem specL_ne_top (n : ℕ) (k : Fin 256) : specL X T b h s n k ≠ ⊤ := by
  unfold specL logitOf
  split
  · exact (spec_logit_real hf b h s n k _ (hf.2 _)).2
  · exact bot_ne_top

theorem specL_own_ne_bot : specL X T b h s (s.val / 256) ⟨s.val % 256, by omega⟩ ≠ ⊥ := by
  unfold specL logitOf
  rw [if_pos (Or.inl ⟨rfl, le_refl _⟩)]
  exact (spec_logit_real hf b h s _ _ _ (hf.2 _)).1

end

end Cert.Moba

namespace Cert.KernelIdeal.Moba

open Cert.KernelIdeal Cert.KernelIdeal.Gen
open Idealize.ShloMosaic Cert.Moba

/-! ## The bias tile -/

theorem lit0_eq (d : ℕ) (hd : d < 512) : Cert.KernelIdeal.lit0t d = BitVec.ofNat 32 (bucketOf d) := by
  have : (List.range 512).all (fun d => Cert.KernelIdeal.lit0t d == BitVec.ofNat 32 (bucketOf d)) = true := by decide +kernel
  have := List.all_eq_true.mp this d (List.mem_range.mpr hd)
  exact eq_of_beq this

theorem bucket_far (d : ℕ) (hd : 128 ≤ d) : bucketOf d = 31 := by
  unfold bucketOf
  rw [if_neg (by omega)]
  have h1 : 128 ^ 16 ≤ d ^ 16 := Nat.pow_le_pow_left hd 16
  have h2 : 112 ≤ Nat.log2 (d ^ 16) := (Nat.le_log2 (by positivity)).mpr (le_trans (by norm_num) h1)
  omega

theorem biasChain_apply (tab : ℕ → EReal) (bk : IVec S512x256 32) (j : ℕ) (hj : j ≤ 32) (i : S512x256.Idx) :
    biasChain (F := Ideal) tab bk j i = if (bk i).toNat < j then tab (bk i).toNat else 0 := by
  induction j with
  | zero => exact Ideal.ofBits_zero_f32
  | succ j ih =>
    have hs : biasChain (F := Ideal) tab bk (j + 1) i =
        Scalar.select (IntOp.cmpi .eq (bk i) (BitVec.ofNat 32 j)) (tab j) (biasChain (F := Ideal) tab bk j i) := rfl
    rw [hs, ih (by omega)]
    have hc : IntOp.cmpi .eq (bk i) (BitVec.ofNat 32 j) = BitVec.ofBool (decide ((bk i).toNat = j)) := by
      show BitVec.ofBool (bk i == BitVec.ofNat 32 j) = _
      congr 1
      rw [Bool.eq_iff_iff, beq_iff_eq, decide_eq_true_iff, ← BitVec.toNat_inj, BitVec.toNat_ofNat, Nat.mod_eq_of_lt (by omega)]
    rw [hc, select_ofBool]
    by_cases h : (bk i).toNat = j
    · rw [if_pos h, if_pos (by omega), h]
    · rw [if_neg h]
      by_cases h' : (bk i).toNat < j
      · rw [if_pos h', if_pos (by omega)]
      · rw [if_neg h', if_neg (by omega)]

theorem biasOf_apply (tab : ℕ → EReal) (bk : Vec Ideal S512x256 .i32) (i : S512x256.Idx) (hb : (bk i).toNat < 32) :
    biasOf (F := Ideal) tab bk i = tab (bk i).toNat * (c2 : EReal) := by
  have h := biasChain_apply tab bk 32 (le_refl _) i
  rw [if_pos hb] at h
  have e : shapeCast S512x256 bk shapeCasts_S512x256_S512x256 = bk := shapeCast_self _ _
  unfold biasOf
  rw [e, shapeCast_self]
  show biasChain (F := Ideal) tab bk 32 i * Named.named κ "log2e" 0x3FB8AA3B#32 = _
  rw [h]
  rfl

theorem tabOf_apply (x : Vec Ideal S32x16 .f32) (i : grid0.Coords) (k : ℕ) (hk : k < 32) (h : Fin 16) (hi : (i 0).val = h.val) :
    tabOf x i k = x (ix2 ⟨k, hk⟩ h) := by
  unfold tabOf View.ld
  refine congrArg x (funext fun a => Fin.ext ?_)
  match a with
  | ⟨0, _⟩ => show min k 31 + 0 = k; omega
  | ⟨1, _⟩ =>
    show (BitVec.ofNat 32 (i 0).val).toNat + 0 = h.val
    rw [BitVec.toNat_ofNat, Nat.mod_eq_of_lt (by have := h.isLt; omega), hi, Nat.add_zero]

theorem rowsOf_apply (x : Vec Ideal S2048x128 .bf16) (n : ℕ) (k : Fin 256) (d : Fin 128) :
    rowsOf x n (ix2 k d) = x (ix2 ⟨256 * min n 7 + k.val, by omega⟩ d) := by
  refine congrArg x (funext fun a => Fin.ext ?_)
  match a with
  | ⟨0, _⟩ => show 256 * min n 7 + 1 * k.val = _; simp
  | ⟨1, _⟩ => show 0 + 1 * d.val = _; simp

theorem ownOf_apply (x : Vec Ideal S512x256 .f32) (k r : Fin 256) : ownOf x (ix2 k r) = x (ix2 ⟨256 + k.val, by omega⟩ r) := by
  refine congrArg x (funext fun a => Fin.ext ?_)
  match a with
  | ⟨0, _⟩ => show 256 + 1 * k.val = _; simp
  | ⟨1, _⟩ => show 0 + 1 * r.val = _; simp

theorem nearOf_apply (x : Vec Ideal S512x256 .f32) (k r : Fin 256) : nearOf x (ix2 k r) = x (ix2 ⟨k.val, by omega⟩ r) := by
  refine congrArg x (funext fun a => Fin.ext ?_)
  match a with
  | ⟨0, _⟩ => show 0 + 1 * k.val = _; simp
  | ⟨1, _⟩ => show 0 + 1 * r.val = _; simp

/-- A whole block read through its eight stores. -/
theorem attnOf_apply (x0 : Vec Ideal S32x16 .f32) (x1 x2 x3 : Vec Ideal S2048x128 .bf16) (bt : Vec Ideal S512x256 .f32)
    (i : grid0.Coords) (s : Fin 2048) (d : Fin 128) :
    attnOf x0 x1 x2 x3 bt i (ix2 s d) =
      tile (rowsOf x2) x3 (farOf (tabOf x0 i 31)) (ownOf bt) (nearOf bt) (rowsOf x1 (s.val / 256)) (s.val / 256)
        (ix2 ⟨s.val % 256, by omega⟩ d) := by
  unfold attnOf
  refine canon_of_pieces (F := Ideal) (s := S2048x128) (e := .bf16) (fun y => tile (rowsOf x2) x3 (farOf (tabOf x0 i 31)) (ownOf bt) (nearOf bt)
    (rowsOf x1 ((y 0).val / 256)) ((y 0).val / 256) (ix2 ⟨(y 0).val % 256, by omega⟩ (y 1))) _ ?_ _ (attn_cover _ _ _ _ _ _ _)
  have key : ∀ (n : ℕ) (y : S2048x128.Idx) (z : S256x128.Idx), (y 0).val = 256 * n + (z 0).val → (y 1).val = (z 1).val →
      tile (rowsOf x2) x3 (farOf (tabOf x0 i 31)) (ownOf bt) (nearOf bt) (rowsOf x1 n) n z =
      tile (rowsOf x2) x3 (farOf (tabOf x0 i 31)) (ownOf bt) (nearOf bt)
        (rowsOf x1 ((y 0).val / 256)) ((y 0).val / 256) (ix2 ⟨(y 0).val % 256, by omega⟩ (y 1)) := by
    intro n y z h0 h1
    have hz0 : (z 0).val < 256 := (z 0).isLt
    have e1 : (y 0).val / 256 = n := by omega
    have e2 : (y 0).val % 256 = (z 0).val := by omega
    rw [e1]
    refine congrArg _ (funext fun a => Fin.ext ?_)
    match a with
    | ⟨0, _⟩ => exact e2.symm
    | ⟨1, _⟩ => exact h1.symm
  intro p hp z
  simp only [tilePieces, List.mem_cons, List.not_mem_nil, or_false] at hp
  rcases hp with rfl | rfl | rfl | rfl | rfl | rfl | rfl | rfl
  · exact key 7 _ z (by show 1792 + 1 * (z 0).val = _; omega) (by show 0 + 1 * (z 1).val = _; omega)
  · exact key 6 _ z (by show 1536 + 1 * (z 0).val = _; omega) (by show 0 + 1 * (z 1).val = _; omega)
  · exact key 5 _ z (by show 1280 + 1 * (z 0).val = _; omega) (by show 0 + 1 * (z 1).val = _; omega)
  · exact key 4 _ z (by show 1024 + 1 * (z 0).val = _; omega) (by show 0 + 1 * (z 1).val = _; omega)
  · exact key 3 _ z (by show 768 + 1 * (z 0).val = _; omega) (by show 0 + 1 * (z 1).val = _; omega)
  · exact key 2 _ z (by show 512 + 1 * (z 0).val = _; omega) (by show 0 + 1 * (z 1).val = _; omega)
  · exact key 1 _ z (by show 256 + 1 * (z 0).val = _; omega) (by show 0 + 1 * (z 1).val = _; omega)
  · exact key 0 _ z (by show 0 + 1 * (z 0).val = _; omega) (by show 0 + 1 * (z 1).val = _; omega)

/-- The attention block of a head and batch, from the projection and the bias table. -/
theorem attn_spec (X : SX.Idx → EReal) (T : ST.Idx → EReal) (hf : FiniteIn X T) (b : Fin 4) (h : Fin 16)
    (x1 x2 x3 : Vec Ideal S2048x128 .bf16) (x4 : Vec Ideal S512x256 .i32) (i : grid0.Coords) (hi : (i 0).val = h.val)
    (h1 : ∀ s d, x1 (ix2 s d) = specQ X b h s d)
    (h2 : ∀ s d, x2 (ix2 s d) = colAt X b s ⟨2048 + h.val * 128 + d.val, by omega⟩)
    (h3 : ∀ s d, x3 (ix2 s d) = colAt X b s ⟨4096 + h.val * 128 + d.val, by omega⟩)
    (h4 : ∀ (k : Fin 512) (r : Fin 256), x4 (ix2 k r) = BitVec.ofNat 32 (bucketOf (r.val + 256 - k.val)))
    (s : Fin 2048) (d : Fin 128) :
    attnOf T x1 x2 x3 (biasAt T x4 i) i (ix2 s d) = specAttn X T b h s d := by
  have hK : keyFn (rowsOf x2) = specK X b h := by
    funext n k e; show rowsOf x2 n (ix2 k e) = _; rw [rowsOf_apply, h2]; rfl
  have hQ : queryFn (rowsOf x1 (s.val / 256)) ⟨s.val % 256, by omega⟩ = specQ X b h s := by
    funext e; show rowsOf x1 (s.val / 256) (ix2 _ e) = _; rw [rowsOf_apply, h1]
    refine congrArg (fun t => specQ X b h t e) (Fin.ext ?_)
    show 256 * min (s.val / 256) 7 + s.val % 256 = s.val
    omega
  have hbk : ∀ (k : Fin 512) (r : Fin 256), biasAt T x4 i (ix2 k r) =
      T (ix2 ⟨bucketOf (r.val + 256 - k.val), bucketOf_lt _⟩ h) * (c2 : EReal) := by
    intro k r
    have e : (x4 (ix2 k r)).toNat = bucketOf (r.val + 256 - k.val) := by
      rw [h4, BitVec.toNat_ofNat, Nat.mod_eq_of_lt (lt_trans (bucketOf_lt _) (by norm_num))]
    unfold biasAt
    rw [biasOf_apply _ _ _ (by rw [e]; exact bucketOf_lt _), e, tabOf_apply T i _ (bucketOf_lt _) h hi]
  rw [attnOf_apply, tile_soft (rowsOf x2) (rowsOf x1 (s.val / 256)) x3 _ _ _
    (specB T h (s.val / 256) (s.val % 256)) (s.val / 256) ⟨s.val % 256, by omega⟩ d (by omega)]
  · unfold specAttn specA specL
    rw [hK, hQ]
    congr 1
    funext n k
    rw [h3]; rfl
  · intro k
    rw [ownOf_apply, hbk]
    unfold specB
    congr 4
    refine congrArg bucketOf ?_
    show s.val % 256 + 256 - (256 + k.val) = _
    omega
  · intro k m hm
    rw [nearOf_apply, hbk]
    unfold specB
    congr 4
    refine congrArg bucketOf ?_
    show s.val % 256 + 256 - k.val = _
    have : s.val / 256 - m = 1 := by omega
    rw [this]
    omega
  · intro k m hm
    unfold specB farOf
    rw [tabOf_apply T i 31 (by norm_num) h hi]
    show T _ * (c2 : EReal) = _
    congr 4
    rw [bucket_far _ (by have : 2 ≤ s.val / 256 - m := by omega
                         omega)]
  · intro n hn k
    rw [hK, hQ]
    exact specL_ne_top hf b h s n k
  · rw [hK, hQ]
    exact specL_own_ne_bot hf b h s

end Cert.KernelIdeal.Moba

end
-- ==== Proof.Conv.lean ====
module

public import proofs.«01_k».proof.Proof.Spec
public import proofs.«01_k».proof.Proof.Gen.ReferenceIdeal.Read

@[expose] public section

set_option maxRecDepth 16384

noncomputable section

namespace Cert.Moba

open Idealize.ShloMosaic Cert.ReferenceIdeal Cert.ReferenceIdeal.Gen Cert.ReferenceIdeal.Read

/-- The gated product of row `s`, channel `e`. -/
def specG (X : SX.Idx → EReal) (b : Fin 4) (e : Fin 2048) (s : Fin 2048) : EReal :=
  colAt X b s ⟨8192 + e.val, by omega⟩ * colAt X b s ⟨10240 + e.val, by omega⟩

/-- The gated product `k` rows earlier, zero before the first row. -/
def specBack (X : SX.Idx → EReal) (b : Fin 4) (e : Fin 2048) (s : Fin 2048) (k : ℕ) : EReal :=
  if k ≤ s.val then specG X b e ⟨s.val - k, by omega⟩ else 0

/-- The short convolution at a row and channel, from its three taps and its bias. -/
def specConv (X : SX.Idx → EReal) (w : Fin 3 → EReal) (z : EReal) (b : Fin 4) (e : Fin 2048) (s : Fin 2048) : EReal :=
  colAt X b s ⟨6144 + e.val, by omega⟩ *
    (((w 2 * specG X b e s + w 1 * specBack X b e s 1) + w 0 * specBack X b e s 2) + z)

theorem bits_zero32 : Ideal.ofBits .f32 0x00000000#32 = 0 := by simp [Ideal.ofBits, Ideal.ieee]

theorem sitofp_zero : (FloatOps.sitofp (F := Ideal) FTy.f32 0#32 : EReal) = 0 := by
  show (((0#32 : BitVec 32).toInt : ℝ) : EReal) = 0
  simp

variable (X : SX.Idx → EReal) (W : S1x3x1x2048.Idx → EReal) (Z : S1x2048.Idx → EReal) (b : Fin 4) (e s : Fin 2048)

theorem ref_pad (r : Fin 2050) : val_main_v164 (F := Ideal) X (ix3 b r e) =
    if h : 2 ≤ r.val then specG X b e ⟨r.val - 2, by omega⟩ else 0 := by
  unfold val_main_v164
  pointwise [val_main_v163, val_main_v6, val_main_v7, val_main_v1, val_main_v0, val_main_call4_v0, val_main_c_34]
  split_ifs with h1 h2 h2
  · rfl
  · exact absurd h1.1 h2
  · exact absurd ⟨h2, by omega⟩ h1
  · exact sitofp_zero

theorem ref_conv : val_main_v191 (F := Ideal) X W Z (ix2 ⟨b.val * 2048 + s.val, by omega⟩ e) =
    specConv X (fun k => W (ix4 0 k 0 e)) (Z (ix2 0 e)) b e s := by
  pointwise [val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v162, val_main_v161, val_main_v5, val_main_v1, val_main_v0, val_main_cst_35]
  rw [ref_pad, ref_pad, ref_pad]
  unfold specConv
  have e0 : (if h : 2 ≤ s.val then specG X b e ⟨s.val - 2, by omega⟩ else 0) = specBack X b e s 2 := rfl
  have e1 : (if h : 2 ≤ 1 + s.val then specG X b e ⟨1 + s.val - 2, by omega⟩ else 0) = specBack X b e s 1 := by
    unfold specBack
    split_ifs with h1 h2 h2
    · exact congrArg (specG X b e) (Fin.ext (by show 1 + s.val - 2 = s.val - 1; omega))
    · omega
    · omega
    · rfl
  have e2 : (if h : 2 ≤ 2 + s.val then specG X b e ⟨2 + s.val - 2, by omega⟩ else 0) = specG X b e s := by
    rw [dif_pos (by omega)]
    exact congrArg (specG X b e) (Fin.ext (by show 2 + s.val - 2 = s.val; omega))
  refine congrArg₂ (· * ·) rfl (congrArg (· + Z (ix2 0 e)) ?_)
  refine Eq.trans (congrArg₂ (· + ·) (congrArg₂ (· + ·) (congrArg (W (ix4 0 0 0 e) * ·) e0) (congrArg (W (ix4 0 1 0 e) * ·) e1)) (congrArg (W (ix4 0 2 0 e) * ·) e2)) ?_
  show W (ix4 0 0 0 e) * specBack X b e s 2 + W (ix4 0 1 0 e) * specBack X b e s 1 + W (ix4 0 2 0 e) * specG X b e s =
    W (ix4 0 2 0 e) * specG X b e s + W (ix4 0 1 0 e) * specBack X b e s 1 + W (ix4 0 0 0 e) * specBack X b e s 2
  rw [add_comm, add_comm (W (ix4 0 0 0 e) * _), add_assoc]

end Cert.Moba

namespace Cert.KernelIdeal.Moba
open Idealize.ShloMosaic Cert.KernelIdeal Cert.KernelIdeal.Gen Cert.Moba

theorem tapOf_apply (x : Vec Ideal S3x128 .f32) (n : Fin 3) (d : Fin 128) : tapOf x n.val (ix2 0 d) = x (ix2 n d) := by
  refine congrArg x (funext fun a => Fin.ext ?_)
  match a with
  | ⟨0, _⟩ => show min n.val 2 + 1 * 0 = n.val; omega
  | ⟨1, _⟩ => show 0 + 1 * d.val = _; simp

/-- The convolution block of a batch and 128 channels, from the projection, the taps and the bias. -/
theorem conv_at (X : Cert.Moba.SX.Idx → EReal) (b : Fin 4) (e : Fin 2048)
    (x5 x6 x7 : Vec Ideal S2048x128 .bf16) (x8 : Vec Ideal S3x128 .f32) (x9 : Vec Ideal S1x128 .f32) (s : Fin 2048) (d : Fin 128)
    (h5 : ∀ s, x5 (ix2 s d) = colAt X b s ⟨6144 + e.val, by omega⟩)
    (h6 : ∀ s, x6 (ix2 s d) = colAt X b s ⟨8192 + e.val, by omega⟩)
    (h7 : ∀ s, x7 (ix2 s d) = colAt X b s ⟨10240 + e.val, by omega⟩) :
    convAt x5 x6 x7 x8 x9 (ix2 s d) = specConv X (fun k => x8 (ix2 k d)) (x9 (ix2 0 d)) b e s := by
  pointwise [convAt, convOf, convOf.gated, convOf.shifted]
  have g : ∀ s, x6 (ix2 s d) * x7 (ix2 s d) = specG X b e s := fun s => by rw [h6, h7]; rfl
  have e2 := tapOf_apply x8 2 d
  have e1 := tapOf_apply x8 1 d
  have e0 := tapOf_apply x8 0 d
  have back : ∀ (k : ℕ) (w : EReal) (hk : k ≤ 2) (h0 : 0 < k), Scalar.select (IntOp.cmpi CmpIPredicate.sge (BitVec.ofNat 32 s.val) (BitVec.ofNat 32 k))
      (w * (x6 (ix2 ⟨(s.val + 2048 - k) % 2048, Nat.mod_lt _ (by omega)⟩ d) * x7 (ix2 ⟨(s.val + 2048 - k) % 2048, Nat.mod_lt _ (by omega)⟩ d))) 0 =
      w * specBack X b e s k := by
    intro k w hk h0
    rw [select_sge s.val k (by omega) (by omega), g]
    unfold specBack
    split_ifs with h
    · exact congrArg (fun q => w * specG X b e q) (Fin.ext (by show (s.val + 2048 - k) % 2048 = s.val - k; omega))
    · exact (mul_zero w).symm
  unfold specConv
  rw [g, h5]
  refine congrArg₂ (· * ·) rfl (congrArg (· + x9 (ix2 0 d)) ?_)
  exact congrArg₂ (· + ·) (congrArg₂ (· + ·) (congrArg (· * specG X b e s) e2)
    ((back 1 _ (by omega) (by omega)).trans (congrArg (· * specBack X b e s 1) e1)))
    ((back 2 _ (by omega) (by omega)).trans (congrArg (· * specBack X b e s 2) e0))

end Cert.KernelIdeal.Moba

end
-- ==== Proof.RefW.lean ====
module

public import proofs.«01_k».proof.Proof.Spec
public import proofs.«01_k».proof.Proof.Gen.ReferenceIdeal.Read

@[expose] public section

set_option maxRecDepth 16384

noncomputable section

namespace Cert.Moba

open Cert.KernelIdeal.Moba (gateOf meanOf logitOf looksAt)
open Idealize.ShloMosaic Cert.ReferenceIdeal Cert.ReferenceIdeal.Gen Cert.ReferenceIdeal.Read

variable (X : SX.Idx → EReal) (T : ST.Idx → EReal) (b : Fin 4) (h : Fin 16) (s : Fin 2048)

theorem opIdx_start {s si t : Shape} (d : GatherDims s si t) {w : ℕ} (j : t.Idx) (idx : IVec si w) (a : Fin s.rank)
    (ha : a ∈ d.startIndexMap) (hc : a ∈ d.collapsedSliceDims) (hb : d.operandBatchingDims = []) (y : si.Idx)
    (hy : d.siIdx j ⟨d.startIndexMap.idxOf a, List.idxOf_lt_length_iff.2 ha⟩ = y) :
    (d.operandIdx j idx a).val = min (idx y).toInt.toNat (s.size a - d.sliceSizes a) := by
  show d.start j idx a + d.batchCoord j a + d.offCoord j a = _
  rw [d.batchCoord_eq_zero j a (by rw [hb]; exact List.not_mem_nil), d.offCoord_eq_zero j a (fun h => ((d.mem_sKept a).1 h).1 hc)]
  unfold GatherDims.start
  rw [dif_pos ha, hy]
  omega

theorem opIdx_off {s si t : Shape} (d : GatherDims s si t) {w : ℕ} (j : t.Idx) (idx : IVec si w) (a : Fin s.rank)
    (ha : a ∉ d.startIndexMap) (hb : d.operandBatchingDims = []) : (d.operandIdx j idx a).val = d.offCoord j a := by
  show d.start j idx a + d.batchCoord j a + d.offCoord j a = _
  rw [d.batchCoord_eq_zero j a (by rw [hb]; exact List.not_mem_nil)]
  unfold GatherDims.start
  rw [dif_neg ha]; omega

abbrev GK := gather_S4x16x8x256x128_S4x16x2048x4x3_S4x16x2048x4x256x128_45_012_n_n_012_4_111256128
abbrev GT := gather_S32x16_S4x16x2048x4x256x2_S4x16x2048x4x256_n_01_n_n_01_5_11

theorem GK_si (j : Fin 4) (k : Fin 256) (d : Fin 128) (c : Fin 3) : GK.siIdx (ix6 b h s j k d) c = ix5 b h s j c := by
  funext a
  refine Fin.ext ?_
  match a with
  | ⟨0, _⟩ => rfl
  | ⟨1, _⟩ => rfl
  | ⟨2, _⟩ => rfl
  | ⟨3, _⟩ => rfl
  | ⟨4, _⟩ => rfl

theorem gk_apply (x : S4x16x8x256x128.Idx → EReal) (idx : IVec S4x16x2048x4x3 32) (j : Fin 4) (k : Fin 256) (d : Fin 128) (n : Fin 8)
    (h0 : idx (ix5 b h s j (0 : Fin 3)) = BitVec.ofNat 32 b.val) (h1 : idx (ix5 b h s j (1 : Fin 3)) = BitVec.ofNat 32 h.val)
    (h2 : idx (ix5 b h s j (2 : Fin 3)) = BitVec.ofNat 32 n.val) :
    Host.gather GK x idx (ix6 b h s j k d) = x (ix5 b h n k d) := by
  unfold Host.gather
  refine congrArg x (funext fun a => Fin.ext ?_)
  match a with
  | ⟨0, _⟩ =>
    refine (opIdx_start GK _ idx 0 (by decide) (by decide) rfl _ (GK_si b h s j k d 0)).trans ?_
    rw [h0, WordCmp.toInt_ofNat_of_lt (by omega)]
    show min b.val 3 = b.val
    omega
  | ⟨1, _⟩ =>
    refine (opIdx_start GK _ idx 1 (by decide) (by decide) rfl _ (GK_si b h s j k d 1)).trans ?_
    rw [h1, WordCmp.toInt_ofNat_of_lt (by omega)]
    show min h.val 15 = h.val
    omega
  | ⟨2, _⟩ =>
    refine (opIdx_start GK _ idx 2 (by decide) (by decide) rfl _ (GK_si b h s j k d 2)).trans ?_
    rw [h2, WordCmp.toInt_ofNat_of_lt (by omega)]
    show min n.val 7 = n.val
    omega
  | ⟨3, _⟩ =>
    refine (opIdx_off GK _ idx 3 (by decide) rfl).trans ?_
    unfold GatherDims.offCoord
    rw [dif_pos (by decide)]
    rfl
  | ⟨4, _⟩ =>
    refine (opIdx_off GK _ idx 4 (by decide) rfl).trans ?_
    unfold GatherDims.offCoord
    rw [dif_pos (by decide)]
    rfl

theorem GT_si (j : Fin 4) (k : Fin 256) (c : Fin 2) : GT.siIdx (ix5 b h s j k) c = ix6 b h s j k c := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem gt_apply (x : S32x16.Idx → EReal) (idx : IVec S4x16x2048x4x256x2 32) (j : Fin 4) (k : Fin 256) (n : Fin 32)
    (h0 : idx (ix6 b h s j k (0 : Fin 2)) = BitVec.ofNat 32 n.val) (h1 : idx (ix6 b h s j k (1 : Fin 2)) = BitVec.ofNat 32 h.val) :
    Host.gather GT x idx (ix5 b h s j k) = x (ix2 n h) := by
  unfold Host.gather
  refine congrArg x (funext fun a => Fin.ext ?_)
  match a with
  | ⟨0, _⟩ =>
    refine (opIdx_start GT _ idx 0 (by decide) (by decide) rfl _ (GT_si b h s j k 0)).trans ?_
    rw [h0, WordCmp.toInt_ofNat_of_lt (by omega)]
    show min n.val 31 = n.val
    omega
  | ⟨1, _⟩ =>
    refine (opIdx_start GT _ idx 1 (by decide) (by decide) rfl _ (GT_si b h s j k 1)).trans ?_
    rw [h1, WordCmp.toInt_ofNat_of_lt (by omega)]
    show min h.val 15 = h.val
    omega

theorem gt_beq (x y : EReal) : (FloatOps.cmpfTotal (F := Ideal) (φ := .f32) .gt x y == 1#1) = decide (y < x) := by
  show (BitVec.ofBool (decide (y < x)) == 1#1) = decide (y < x)
  by_cases h : y < x <;> simp [h]

theorem along4 (y : S4x16x2048x8.Idx) (h0 : (y 0).val = b.val) (h1 : (y 1).val = h.val) (h2 : (y 2).val = s.val) (z : Fin 8) :
    y.along 3 z = ix4 b h s z := by
  funext a
  match a with
  | ⟨0, _⟩ => exact Fin.ext h0
  | ⟨1, _⟩ => exact Fin.ext h1
  | ⟨2, _⟩ => exact Fin.ext h2
  | ⟨3, _⟩ => rfl

theorem indices_sort (x : S4x16x2048x8.Idx → EReal) (j : Fin 3) :
    (Host.topK (α := EReal) S4x16x2048x3 3 (FloatOps.cmpfTotal (F := Ideal) (φ := .f32) .gt) x sliceFits_S4x16x2048x8_S4x16x2048x3).2 (ix4 b h s j) =
      BitVec.ofNat 32 (sortedFrom (gtKey fun n : Fin 8 => x (ix4 b h s n)) (j.castLE (by decide))).val := by
  obtain ⟨y, ⟨h0, h1, h2, h3⟩, e⟩ : ∃ y : S4x16x2048x8.Idx, ((y 0).val = b.val ∧ (y 1).val = h.val ∧ (y 2).val = s.val ∧ (y 3).val = j.val) ∧
      (Host.topK (α := EReal) S4x16x2048x3 3 (FloatOps.cmpfTotal (F := Ideal) (φ := .f32) .gt) x sliceFits_S4x16x2048x8_S4x16x2048x3).2 (ix4 b h s j) =
      BitVec.ofNat 32 (sortedFrom (n := 8) (fun k k' => FloatOps.cmpfTotal (F := Ideal) (φ := .f32) .gt (x (y.along 3 k)) (x (y.along 3 k')) == 1#1) (y 3)).val := by
    refine ⟨_, ?_, rfl⟩
    exact ⟨Nat.zero_add _, Nat.zero_add _, Nat.zero_add _, Nat.zero_add _⟩
  rw [e]
  have e3 : (y 3 : Fin 8) = j.castLE (by decide) := Fin.ext h3
  have ef : (fun k k' : Fin 8 => FloatOps.cmpfTotal (F := Ideal) (φ := .f32) .gt (x (y.along 3 k)) (x (y.along 3 k')) == 1#1) =
      gtKey fun n : Fin 8 => x (ix4 b h s n) := by
    funext k k'
    rw [gt_beq, along4 b h s y h0 h1 h2, along4 b h s y h0 h1 h2]
  exact congrArg (fun z : Fin 8 => BitVec.ofNat 32 z.val) (congrArg₂ sortedFrom ef e3)

theorem nn (n : ℕ) (hn : n < 2 ^ 31) (a : BitVec 32) :
    Scalar.select (IntOp.cmpi .slt (BitVec.ofNat 32 n) 0#32) a (BitVec.ofNat 32 n) = BitVec.ofNat 32 n := by
  rw [show (0#32 : BitVec 32) = BitVec.ofNat 32 0 from rfl, WordCmp.cmpi_slt_ofNat hn (by omega), select_ofBool, if_neg (by omega)]

theorem sub_toInt (a c : ℕ) (ha : a < 2 ^ 30) (hc : c < 2 ^ 30) :
    (IntOp.subi (BitVec.ofNat 32 a) (BitVec.ofNat 32 c)).toInt = (a : ℤ) - c := by
  show (BitVec.ofNat 32 a - BitVec.ofNat 32 c).toInt = _
  rw [BitVec.toInt_sub, WordCmp.toInt_ofNat_of_lt (by omega), WordCmp.toInt_ofNat_of_lt (by omega)]
  show (if ((a : ℤ) - c) % (4294967296 : ℤ) < ((4294967296 : ℤ) + 1) / 2 then ((a : ℤ) - c) % (4294967296 : ℤ)
    else ((a : ℤ) - c) % (4294967296 : ℤ) - (4294967296 : ℤ)) = _
  split <;> omega

theorem clip_sub (a c : ℕ) (ha : a < 2 ^ 30) (hc : c < 2 ^ 30) :
    IntOp.maxsi (IntOp.subi (BitVec.ofNat 32 a) (BitVec.ofNat 32 c)) 0#32 = BitVec.ofNat 32 (a - c) := by
  have e := sub_toInt a c ha hc
  unfold IntOp.maxsi
  apply BitVec.eq_of_toInt_eq
  rw [WordCmp.toInt_ofNat_of_lt (by omega)]
  split
  · rename_i h
    rw [BitVec.slt_iff_toInt_lt, e] at h
    rw [e]
    change (0 : ℤ) < _ at h
    omega
  · rename_i h
    rw [BitVec.slt_iff_toInt_lt, e] at h
    change ¬ (0 : ℤ) < _ at h
    show (0 : ℤ) = _
    omega

theorem sge_sub (a c : ℕ) (ha : a < 2 ^ 30) (hc : c < 2 ^ 30) :
    IntOp.cmpi .sge (IntOp.subi (BitVec.ofNat 32 a) (BitVec.ofNat 32 c)) 0#32 = BitVec.ofBool (decide (c ≤ a)) := by
  have e := sub_toInt a c ha hc
  show BitVec.ofBool ((0#32 : BitVec 32).sle _) = _
  congr 1
  rw [Bool.eq_iff_iff, decide_eq_true_iff, BitVec.sle_iff_toInt_le, e]
  show (0 : ℤ) ≤ _ ↔ _
  omega

theorem log8 : Real.log 8 = 3 * Real.log 2 := by
  rw [show (8 : ℝ) = 2 ^ 3 by norm_num, Real.log_pow]; norm_num

theorem floor_bucket (n : ℕ) (hn : 16 ≤ n) :
    ⌊Real.log ((n : ℝ) * (1 / 16)) * (1 / Real.log 8) * 16⌋ = (((Nat.log2 (n ^ 16) - 64) / 3 : ℕ) : ℤ) := by
  have hl2 : 0 < Real.log 2 := Real.log_pos (by norm_num)
  have hn0 : (0 : ℝ) < n := by exact_mod_cast (by omega : 0 < n)
  have hp : 0 < n ^ 16 := by positivity
  have h64 : 64 ≤ Nat.log2 (n ^ 16) := (Nat.le_log2 (by omega)).mpr (le_trans (by norm_num) (Nat.pow_le_pow_left hn 16))
  have hlo : (2 : ℝ) ^ Nat.log2 (n ^ 16) ≤ (n : ℝ) ^ 16 := by exact_mod_cast Nat.log2_self_le (by omega)
  have hhi : (n : ℝ) ^ 16 < (2 : ℝ) ^ (Nat.log2 (n ^ 16) + 1) := by exact_mod_cast Nat.lt_log2_self
  generalize Nat.log2 (n ^ 16) = L at *
  have h1 : (L : ℝ) * Real.log 2 ≤ 16 * Real.log n := by
    have := Real.log_le_log (by positivity) hlo
    rwa [Real.log_pow, Real.log_pow] at this
  have h2 : 16 * Real.log n < ((L : ℝ) + 1) * Real.log 2 := by
    have := Real.log_lt_log (by positivity) hhi
    rw [Real.log_pow, Real.log_pow] at this
    push_cast at this
    exact this
  have e : Real.log ((n : ℝ) * (1 / 16)) * (1 / Real.log 8) * 16 = (16 * Real.log n - 64 * Real.log 2) / (3 * Real.log 2) := by
    rw [log8, Real.log_mul hn0.ne' (by norm_num), one_div 16, Real.log_inv, show (16 : ℝ) = 2 ^ 4 by norm_num, Real.log_pow]
    field_simp
    ring
  rw [e, Int.floor_eq_iff]
  have h3 : 3 * ((L - 64) / 3) ≤ L - 64 := by omega
  have h4 : L - 64 + 1 ≤ 3 * ((L - 64) / 3) + 3 := by omega
  generalize (L - 64) / 3 = k at *
  have h3' : 3 * (k : ℝ) + 64 ≤ L := by exact_mod_cast (by omega : 3 * k + 64 ≤ L)
  have h4' : (L : ℝ) + 1 ≤ 3 * (k : ℝ) + 67 := by exact_mod_cast (by omega : L + 1 ≤ 3 * k + 67)
  push_cast
  constructor
  · rw [le_div_iff₀ (by positivity)]
    nlinarith
  · rw [div_lt_iff₀ (by positivity)]
    nlinarith

/-- The bucket as the reference computes it from the clipped distance. -/
def bucketW (w : BitVec 32) : BitVec 32 :=
  Scalar.select (IntOp.cmpi .slt w 16#32) w
    (IntOp.minsi (IntOp.addi 16#32 (Ideal.fptosi 32
      (Ideal.div (Ideal.log (Ideal.div (FloatOps.sitofp (F := Ideal) .f32 (IntOp.maxsi w 1#32)) ((16 : ℝ) : EReal))) (Ideal.log ((8 : ℝ) : EReal))
        * ((16 : ℝ) : EReal)))) 31#32)

theorem bucketW_eq (n : ℕ) (hn : n < 2048) : bucketW (BitVec.ofNat 32 n) = BitVec.ofNat 32 (bucketOf n) := by
  unfold bucketW bucketOf
  rw [show (16#32 : BitVec 32) = BitVec.ofNat 32 16 from rfl, WordCmp.cmpi_slt_ofNat (by omega) (by omega), select_ofBool]
  by_cases h : n < 16
  · rw [if_pos h, if_pos h]
  rw [if_neg h, if_neg h]
  have em : IntOp.maxsi (BitVec.ofNat 32 n) 1#32 = BitVec.ofNat 32 n := by
    unfold IntOp.maxsi
    rw [if_pos]
    rw [BitVec.slt_iff_toInt_lt, WordCmp.toInt_ofNat_of_lt (a := n) (by omega)]
    show (1 : ℤ) < _
    omega
  have es : FloatOps.sitofp (F := Ideal) .f32 (BitVec.ofNat 32 n) = ((n : ℝ) : EReal) := by
    show (((BitVec.ofNat 32 n).toInt : ℝ) : EReal) = _
    rw [WordCmp.toInt_ofNat_of_lt (by omega)]
    norm_num
  have hn0 : (0 : ℝ) < n := by exact_mod_cast (by omega : 0 < n)
  have hl8 : (0 : ℝ) < Real.log 8 := Real.log_pos (by norm_num)
  have hx : (0 : ℝ) ≤ Real.log ((n : ℝ) * (1 / 16)) * (1 / Real.log 8) * 16 := by
    have : (16 : ℝ) ≤ n := by exact_mod_cast (by omega : 16 ≤ n)
    have : 0 ≤ Real.log ((n : ℝ) * (1 / 16)) := Real.log_nonneg (by linarith)
    positivity
  have hL : Nat.log2 (n ^ 16) < 176 := (Nat.log2_lt (pow_pos (by omega) 16).ne').mpr
    (lt_of_lt_of_le (Nat.pow_lt_pow_left hn (by norm_num)) (by norm_num))
  rw [em, es, Ideal.div_coe (by norm_num), ← EReal.coe_mul, Ideal.log_coe, if_neg (not_le.mpr (mul_pos hn0 (by norm_num))), Ideal.log_coe, if_neg (by norm_num),
    Ideal.div_coe hl8.ne', ← EReal.coe_mul, ← EReal.coe_mul, Ideal.fptosi, Ideal.toIntClamped_coe, if_pos hx, floor_bucket n (by omega)]
  generalize hk : (Nat.log2 (n ^ 16) - 64) / 3 = k
  have hk' : k < 38 := by omega
  clear hx hL hk h
  interval_cases k <;> decide
-- ==== Proof.Blocks.lean ====
module

public import proofs.«01_k».proof.Proof.IFrame
public import proofs.«01_k».proof.Proof.Conv
public import proofs.«01_k».proof.Proof.RefW

@[expose] public section

set_option maxRecDepth 16384

noncomputable section

namespace Cert.KernelIdeal.Moba

open Cert.KernelIdeal Cert.KernelIdeal.Gen Cert.Moba
open Idealize.ShloMosaic Idealize.ShloMosaic.TcCoe
open Idealize.SL.Sem
open Idealize.ShloMosaic.Pipeline (Dat Cfg Window)
open Idealize.ShloMosaic.ValueIdx (takeIdx gather_take_apply)

/-! ## Where the blocks of a grid point lie -/

theorem at_q : ∀ t : Fin grid0.N, win0_1.index t 0 = t.val % 4 ∧ win0_1.index t 1 = t.val / 4 := by decide +kernel
theorem at_k : ∀ t : Fin grid0.N, win0_2.index t 0 = t.val % 4 ∧ win0_2.index t 1 = 16 + t.val / 4 := by decide +kernel
theorem at_v : ∀ t : Fin grid0.N, win0_3.index t 0 = t.val % 4 ∧ win0_3.index t 1 = 32 + t.val / 4 := by decide +kernel
theorem at_cb : ∀ t : Fin grid0.N, win0_5.index t 0 = t.val % 4 ∧ win0_5.index t 1 = 48 + t.val / 4 := by decide +kernel
theorem at_cc : ∀ t : Fin grid0.N, win0_6.index t 0 = t.val % 4 ∧ win0_6.index t 1 = 64 + t.val / 4 := by decide +kernel
theorem at_cu : ∀ t : Fin grid0.N, win0_7.index t 0 = t.val % 4 ∧ win0_7.index t 1 = 80 + t.val / 4 := by decide +kernel
theorem at_w : ∀ t : Fin grid0.N, win0_8.index t 0 = 0 ∧ win0_8.index t 1 = t.val / 4 := by decide +kernel
theorem at_z : ∀ t : Fin grid0.N, win0_9.index t 0 = 0 ∧ win0_9.index t 1 = t.val / 4 := by decide +kernel
theorem at_u : ∀ t : Fin grid0.N, win0_10.index t 0 = min t.val 31 ∧ win0_10.index t 1 = 0 := by decide +kernel
theorem at_t : ∀ t : Fin grid0.N, win0_11.index t 0 = t.val - 32 ∧ win0_11.index t 1 = 0 := by decide +kernel
theorem at_12 : ∀ t : Fin grid0.N, win0_12.index t 0 = t.val % 4 ∧ win0_12.index t 1 = t.val / 4 := by decide +kernel
theorem at_13 : ∀ t : Fin grid0.N, win0_13.index t 0 = t.val % 4 ∧ win0_13.index t 1 = t.val / 4 := by decide +kernel
theorem at_14 : ∀ t : Fin grid0.N, win0_14.index t 0 = min t.val 31 ∧ win0_14.index t 1 = 0 := by decide +kernel
theorem at_15 : ∀ t : Fin grid0.N, win0_15.index t 0 = t.val - 32 ∧ win0_15.index t 1 = 0 := by decide +kernel
theorem at_head : ∀ t : Fin grid0.N, (grid0.coords t 0).val = t.val / 4 := by decide +kernel

variable (m : (ℓ : Loc nD τ sig) → Buf (Elt Ideal) ℓ) (c : Dev nD)

theorem pt_lt (t : Fin cfg0.N) : t.val < 64 := by have := t.isLt; have h : cfg0.N = 64 := N_0; omega

/-- The projection as launched. -/
abbrev projOf : Cert.Moba.SX.Idx → EReal := m ((c.tc : Thread nD τ).loc main_arg0)
/-- The bias table as launched. -/
abbrev tableOf : Cert.Moba.ST.Idx → EReal := m ((c.tc : Thread nD τ).loc main_arg1)

/-- The batch of a point. -/
abbrev batchOf (t : Fin cfg0.N) : Fin 4 := ⟨t.val % 4, Nat.mod_lt _ (by norm_num)⟩
/-- The head of a point. -/
abbrev headOf (t : Fin cfg0.N) : Fin 16 := ⟨t.val / 4, by have := pt_lt t; omega⟩

theorem read_q (t : Fin cfg0.N) (s : Fin 2048) (d : Fin 128) :
    iblk m c 1 t (ix2 s d) = specQ (projOf m c) (batchOf t) (headOf t) s d := by
  have h : iblk m c 1 t (ix2 s d) = V m c main_arg0 (((View.whole main_arg0).slice (win0_1.rect t)).emb (ix2 s d)) := rfl
  rw [h, V_main_arg0]
  refine congrArg (m ((c.tc : Thread nD τ).loc main_arg0)) (funext fun a => Fin.ext ?_)
  have hi := at_q t
  match a with
  | ⟨0, _⟩ =>
    show win0_1.index t 0 * 2048 + 1 * s.val = t.val % 4 * 2048 + s.val
    rw [hi.1]; omega
  | ⟨1, _⟩ =>
    show win0_1.index t 1 * 128 + 1 * d.val = t.val / 4 * 128 + d.val
    rw [hi.2]; omega

theorem read_k (t : Fin cfg0.N) (s : Fin 2048) (d : Fin 128) :
    iblk m c 2 t (ix2 s d) = colAt (projOf m c) (batchOf t) s ⟨2048 + (t.val / 4 * 128 + d.val), by have := pt_lt t; omega⟩ := by
  have h : iblk m c 2 t (ix2 s d) = V m c main_arg0 (((View.whole main_arg0).slice (win0_2.rect t)).emb (ix2 s d)) := rfl
  rw [h, V_main_arg0]
  refine congrArg (m ((c.tc : Thread nD τ).loc main_arg0)) (funext fun a => Fin.ext ?_)
  have hi := at_k t
  match a with
  | ⟨0, _⟩ =>
    show win0_2.index t 0 * 2048 + 1 * s.val = t.val % 4 * 2048 + s.val
    rw [hi.1]; omega
  | ⟨1, _⟩ =>
    show win0_2.index t 1 * 128 + 1 * d.val = 2048 + (t.val / 4 * 128 + d.val)
    rw [hi.2]; omega

theorem read_v (t : Fin cfg0.N) (s : Fin 2048) (d : Fin 128) :
    iblk m c 3 t (ix2 s d) = colAt (projOf m c) (batchOf t) s ⟨4096 + (t.val / 4 * 128 + d.val), by have := pt_lt t; omega⟩ := by
  have h : iblk m c 3 t (ix2 s d) = V m c main_arg0 (((View.whole main_arg0).slice (win0_3.rect t)).emb (ix2 s d)) := rfl
  rw [h, V_main_arg0]
  refine congrArg (m ((c.tc : Thread nD τ).loc main_arg0)) (funext fun a => Fin.ext ?_)
  have hi := at_v t
  match a with
  | ⟨0, _⟩ =>
    show win0_3.index t 0 * 2048 + 1 * s.val = t.val % 4 * 2048 + s.val
    rw [hi.1]; omega
  | ⟨1, _⟩ =>
    show win0_3.index t 1 * 128 + 1 * d.val = 4096 + (t.val / 4 * 128 + d.val)
    rw [hi.2]; omega

theorem read_cb (t : Fin cfg0.N) (s : Fin 2048) (d : Fin 128) :
    iblk m c 5 t (ix2 s d) = colAt (projOf m c) (batchOf t) s ⟨6144 + (t.val / 4 * 128 + d.val), by have := pt_lt t; omega⟩ := by
  have h : iblk m c 5 t (ix2 s d) = V m c main_arg0 (((View.whole main_arg0).slice (win0_5.rect t)).emb (ix2 s d)) := rfl
  rw [h, V_main_arg0]
  refine congrArg (m ((c.tc : Thread nD τ).loc main_arg0)) (funext fun a => Fin.ext ?_)
  have hi := at_cb t
  match a with
  | ⟨0, _⟩ =>
    show win0_5.index t 0 * 2048 + 1 * s.val = t.val % 4 * 2048 + s.val
    rw [hi.1]; omega
  | ⟨1, _⟩ =>
    show win0_5.index t 1 * 128 + 1 * d.val = 6144 + (t.val / 4 * 128 + d.val)
    rw [hi.2]; omega

theorem read_cc (t : Fin cfg0.N) (s : Fin 2048) (d : Fin 128) :
    iblk m c 6 t (ix2 s d) = colAt (projOf m c) (batchOf t) s ⟨8192 + (t.val / 4 * 128 + d.val), by have := pt_lt t; omega⟩ := by
  have h : iblk m c 6 t (ix2 s d) = V m c main_arg0 (((View.whole main_arg0).slice (win0_6.rect t)).emb (ix2 s d)) := rfl
  rw [h, V_main_arg0]
  refine congrArg (m ((c.tc : Thread nD τ).loc main_arg0)) (funext fun a => Fin.ext ?_)
  have hi := at_cc t
  match a with
  | ⟨0, _⟩ =>
    show win0_6.index t 0 * 2048 + 1 * s.val = t.val % 4 * 2048 + s.val
    rw [hi.1]; omega
  | ⟨1, _⟩ =>
    show win0_6.index t 1 * 128 + 1 * d.val = 8192 + (t.val / 4 * 128 + d.val)
    rw [hi.2]; omega

theorem read_cu (t : Fin cfg0.N) (s : Fin 2048) (d : Fin 128) :
    iblk m c 7 t (ix2 s d) = colAt (projOf m c) (batchOf t) s ⟨10240 + (t.val / 4 * 128 + d.val), by have := pt_lt t; omega⟩ := by
  have h : iblk m c 7 t (ix2 s d) = V m c main_arg0 (((View.whole main_arg0).slice (win0_7.rect t)).emb (ix2 s d)) := rfl
  rw [h, V_main_arg0]
  refine congrArg (m ((c.tc : Thread nD τ).loc main_arg0)) (funext fun a => Fin.ext ?_)
  have hi := at_cu t
  match a with
  | ⟨0, _⟩ =>
    show win0_7.index t 0 * 2048 + 1 * s.val = t.val % 4 * 2048 + s.val
    rw [hi.1]; omega
  | ⟨1, _⟩ =>
    show win0_7.index t 1 * 128 + 1 * d.val = 10240 + (t.val / 4 * 128 + d.val)
    rw [hi.2]; omega

/-- The bias table is fetched whole. -/
theorem read_table (t : Fin cfg0.N) : iblk m c 0 t = tableOf m c := by
  funext y
  have h : iblk m c 0 t y = V m c main_arg1 (((View.whole main_arg1).slice (win0_0.rect t)).emb y) := rfl
  rw [h, V_main_arg1]
  refine congrArg (m ((c.tc : Thread nD τ).loc main_arg1)) (funext fun a => Fin.ext ?_)
  match a with
  | ⟨0, _⟩ => show 0 * 32 + 1 * (y 0).val = (y 0).val; omega
  | ⟨1, _⟩ => show 0 * 16 + 1 * (y 1).val = (y 1).val; omega

theorem V_v1 : V m c main_v1 = shapeCast S3x2048 (shapeCast S3x1x2048 (m ((c.tc : Thread nD τ).loc main_arg2)) shapeCasts_S1x3x1x2048_S3x1x2048) shapeCasts_S3x1x2048_S3x2048 := by
  show StableHlo.after hostOps0 _ _ = _
  simp only [hostOps0]
  after_results_simp
  rfl

theorem V_v3 : V m c main_v3 = shapeCast S1x2048 (shapeCast S2048 (m ((c.tc : Thread nD τ).loc main_arg3)) shapeCasts_S1x2048_S2048) shapeCasts_S2048_S1x2048 := by
  show StableHlo.after hostOps0 _ _ = _
  simp only [hostOps0]
  after_results_simp
  rfl

theorem V_v4 : V m c main_v4 = shapeCast S16384x4096 (m ((c.tc : Thread nD τ).loc main_arg4)) shapeCasts_S1x16384x4096_S16384x4096 := by
  show StableHlo.after hostOps0 _ _ = _
  simp only [hostOps0]
  after_results_simp
  rfl

theorem V_v5 : V m c main_v5 = shapeCast S16384x4096 (m ((c.tc : Thread nD τ).loc main_arg5)) shapeCasts_S1x16384x4096_S16384x4096 := by
  show StableHlo.after hostOps0 _ _ = _
  simp only [hostOps0]
  after_results_simp
  rfl

/-- The distance of each pair of rows of the bias tile. -/
def distW : IVec S512x256 32 :=
  maxsi (addi (subi (iotaInDim S512x256 32 1) (iotaInDim S512x256 32 0)) (broadcastInDim S512x256 ![] bcast_S_S512x256 (constantI S_ 32 256#32)))
    (broadcastInDim S512x256 ![] bcast_S_S512x256 (constantI S_ 32 0#32))

/-- The table's index of each pair. -/
def takeW : IVec S512x256x1 32 :=
  broadcastInDim S512x256x1 ![0, 1] bcast_S512x256_S512x256x1_0_1
    (select (cmpi .slt distW (broadcastInDim S512x256 ![] bcast_S_S512x256 (constantI S_ 32 0#32)))
      (addi distW (broadcastInDim S512x256 ![] bcast_S_S512x256 (constantI S_ 32 512#32))) distW)

theorem V_v19 : V m c main_v19 = Host.gather gather_S512_S512x256x1_S512x256_n_0_n_n_0_2_1 (fun i => lit0 (S512.rowMajor i)) takeW := by
  show StableHlo.after hostOps0 _ _ = _
  simp only [hostOps0]
  after_results_simp
  rfl

theorem takeW_apply (k : Fin 512) (r : Fin 256) : takeW (ix3 k r 0) = BitVec.ofNat 32 (r.val + 256 - k.val) := by
  pointwise [takeW, distW]
  have e : IntOp.addi (IntOp.subi (BitVec.ofNat 32 r.val) (BitVec.ofNat 32 k.val)) 256#32 =
      IntOp.subi (BitVec.ofNat 32 (r.val + 256)) (BitVec.ofNat 32 k.val) := by
    show BitVec.ofNat 32 r.val - BitVec.ofNat 32 k.val + 256#32 = BitVec.ofNat 32 (r.val + 256) - BitVec.ofNat 32 k.val
    rw [BitVec.ofNat_add]
    rw [BitVec.sub_eq_add_neg, BitVec.sub_eq_add_neg, BitVec.add_assoc, BitVec.add_assoc, BitVec.add_comm (-_)]
  rw [e, clip_sub _ _ (by omega) (by omega)]
  exact nn _ (by omega) _

theorem gather_take {α : Type} (x : S512.Idx → α) (idx : IVec S512x256x1 32) (y : S512x256.Idx) :
    Host.gather gather_S512_S512x256x1_S512x256_n_0_n_n_0_2_1 x idx y = x (ix1 ⟨min (idx (takeIdx y)).toInt.toNat 511, by omega⟩) :=
  gather_take_apply (N := 512) (R := 512) (C := 256) (by omega) gather_S512_S512x256x1_S512x256_n_0_n_n_0_2_1_wf x idx y

theorem take_clip (n : ℕ) (hn : n < 512) : min (BitVec.ofNat 32 n).toInt.toNat 511 = n := by
  have h : (BitVec.ofNat 32 n).toInt = (n : ℤ) := WordCmp.toInt_ofNat_of_lt (a := n) (Nat.lt_trans hn (by norm_num))
  rw [h, Int.toNat_natCast]
  exact Nat.min_eq_left (Nat.le_of_lt_succ hn)

theorem table_at (i : Fin 512) : (fun i => lit0 (S512.rowMajor i)) (ix1 i) = lit0t i.val :=
  congrArg lit0t (Shape.rowMajor_val_one (d := ![512]) (ix1 i))

theorem takeIdx_pair (k : Fin 512) (r : Fin 256) : takeIdx (ix2 k r) = ix3 k r 0 := by
  funext a
  match a with
  | ⟨0, _⟩ => rfl
  | ⟨1, _⟩ => rfl
  | ⟨2, _⟩ => rfl

/-- The buckets of the pairs of rows of the bias tile. -/
theorem bucket_at (k : Fin 512) (r : Fin 256) : V m c main_v19 (ix2 k r) = BitVec.ofNat 32 (bucketOf (r.val + 256 - k.val)) := by
  have hr : r.val + 256 - k.val < 512 := by omega
  have e1 : min (takeW (takeIdx (ix2 k r))).toInt.toNat 511 = r.val + 256 - k.val := by
    rw [takeIdx_pair, takeW_apply, take_clip _ hr]
  refine (congrFun (V_v19 m c) (ix2 k r)).trans ((gather_take _ takeW (ix2 k r)).trans ((table_at _).trans ?_))
  refine Eq.trans ?_ (lit0_eq (r.val + 256 - k.val) hr)
  exact congrArg lit0t e1

/-- The bucket array is fetched whole. -/
theorem read_bucket (t : Fin cfg0.N) (k : Fin 512) (r : Fin 256) :
    iblk m c 4 t (ix2 k r) = BitVec.ofNat 32 (bucketOf (r.val + 256 - k.val)) := by
  have h : iblk m c 4 t (ix2 k r) = V m c main_v19 (((View.whole main_v19).slice (win0_4.rect t)).emb (ix2 k r)) := rfl
  rw [h, ← bucket_at m c k r]
  refine congrArg (V m c main_v19) (funext fun a => Fin.ext ?_)
  match a with
  | ⟨0, _⟩ => show 0 * 512 + 1 * k.val = k.val; omega
  | ⟨1, _⟩ => show 0 * 256 + 1 * r.val = r.val; omega

theorem taps_reshape (W : S1x3x1x2048.Idx → EReal) (k : Fin 3) (e : Fin 2048) :
    shapeCast S3x2048 (shapeCast S3x1x2048 W shapeCasts_S1x3x1x2048_S3x1x2048) shapeCasts_S3x1x2048_S3x2048 (ix2 k e) = W (ix4 0 k 0 e) := by
  pointwise []

theorem bias_reshape (W : S1x2048.Idx → EReal) (e : Fin 2048) :
    shapeCast S1x2048 (shapeCast S2048 W shapeCasts_S1x2048_S2048) shapeCasts_S2048_S1x2048 (ix2 0 e) = W (ix2 0 e) := by
  pointwise []

/-- The taps of a point's channels. -/
theorem read_w (t : Fin cfg0.N) (k : Fin 3) (d : Fin 128) :
    iblk m c 8 t (ix2 k d) = m ((c.tc : Thread nD τ).loc main_arg2) (ix4 0 k 0 ⟨t.val / 4 * 128 + d.val, by have := pt_lt t; omega⟩) := by
  have h : iblk m c 8 t (ix2 k d) = V m c main_v1 (((View.whole main_v1).slice (win0_8.rect t)).emb (ix2 k d)) := rfl
  have e : ((View.whole main_v1).slice (win0_8.rect t)).emb (ix2 k d) = (ix2 k ⟨t.val / 4 * 128 + d.val, by have := pt_lt t; omega⟩ : S3x2048.Idx) := by
    funext a
    refine Fin.ext ?_
    have hi := at_w t
    match a with
    | ⟨0, _⟩ => show win0_8.index t 0 * 3 + 1 * k.val = k.val; rw [hi.1]; omega
    | ⟨1, _⟩ => show win0_8.index t 1 * 128 + 1 * d.val = t.val / 4 * 128 + d.val; rw [hi.2]; omega
  rw [h, e, V_v1]
  exact taps_reshape (m ((c.tc : Thread nD τ).loc main_arg2)) k _

/-- The bias of a point's channels. -/
theorem read_z (t : Fin cfg0.N) (d : Fin 128) :
    iblk m c 9 t (ix2 0 d) = m ((c.tc : Thread nD τ).loc main_arg3) (ix2 0 ⟨t.val / 4 * 128 + d.val, by have := pt_lt t; omega⟩) := by
  have h : iblk m c 9 t (ix2 0 d) = V m c main_v3 (((View.whole main_v3).slice (win0_9.rect t)).emb (ix2 0 d)) := rfl
  have e : ((View.whole main_v3).slice (win0_9.rect t)).emb (ix2 0 d) = (ix2 0 ⟨t.val / 4 * 128 + d.val, by have := pt_lt t; omega⟩ : S1x2048.Idx) := by
    funext a
    refine Fin.ext ?_
    have hi := at_z t
    match a with
    | ⟨0, _⟩ => show win0_9.index t 0 * 1 + 1 * 0 = 0; rw [hi.1]
    | ⟨1, _⟩ => show win0_9.index t 1 * 128 + 1 * d.val = t.val / 4 * 128 + d.val; rw [hi.2]; omega
  rw [h, e, V_v3]
  exact bias_reshape (m ((c.tc : Thread nD τ).loc main_arg3)) _

end Cert.KernelIdeal.Moba

end
-- ==== Proof.Arrays.lean ====
module

public import proofs.«01_k».proof.Proof.Blocks
public import Idealize.ShloMosaic.Lib.Pipeline.ValueKit.Geometry

@[expose] public section

set_option maxRecDepth 16384

noncomputable section

namespace Cert.KernelIdeal.Moba

open Cert.KernelIdeal Cert.KernelIdeal.Gen Cert.Moba
open Idealize.ShloMosaic Idealize.ShloMosaic.TcCoe
open Idealize.SL.Sem
open Idealize.ShloMosaic.Pipeline (Dat Cfg Window)

variable (m : (ℓ : Loc nD τ sig) → Buf (Elt Ideal) ℓ) (c : Dev nD)

/-- The attention of every batch, head and position, laid out as the kernel's first result. -/
def attnArr (X : Cert.Moba.SX.Idx → EReal) (T : Cert.Moba.ST.Idx → EReal) : S8192x2048.Idx → EReal := fun i =>
  specAttn X T ⟨(i 0).val / 2048, by have : (i 0).val < 8192 := (i 0).isLt; omega⟩ ⟨(i 1).val / 128, by have : (i 1).val < 2048 := (i 1).isLt; omega⟩
    ⟨(i 0).val % 2048, Nat.mod_lt _ (by norm_num)⟩ ⟨(i 1).val % 128, Nat.mod_lt _ (by norm_num)⟩

theorem attnArr_at (X : Cert.Moba.SX.Idx → EReal) (T : Cert.Moba.ST.Idx → EReal) (i : S8192x2048.Idx) (b : Fin 4) (h : Fin 16) (s : Fin 2048) (d : Fin 128)
    (h0 : (i 0).val = b.val * 2048 + s.val) (h1 : (i 1).val = h.val * 128 + d.val) : attnArr X T i = specAttn X T b h s d := by
  unfold attnArr
  have e1 : (i 0).val / 2048 = b.val := by omega
  have e2 : (i 0).val % 2048 = s.val := by omega
  have e3 : (i 1).val / 128 = h.val := by omega
  have e4 : (i 1).val % 128 = d.val := by omega
  congr 1 <;> exact Fin.ext (by assumption)

/-- The convolution of every batch, position and channel, laid out as the kernel's second result. -/
def convArr (X : Cert.Moba.SX.Idx → EReal) (W : S1x3x1x2048.Idx → EReal) (Z : S1x2048.Idx → EReal) : S8192x2048.Idx → EReal := fun i =>
  specConv X (fun k => W (ix4 0 k 0 ⟨(i 1).val, (i 1).isLt⟩)) (Z (ix2 0 ⟨(i 1).val, (i 1).isLt⟩))
    ⟨(i 0).val / 2048, by have : (i 0).val < 8192 := (i 0).isLt; omega⟩ ⟨(i 1).val, (i 1).isLt⟩ ⟨(i 0).val % 2048, Nat.mod_lt _ (by norm_num)⟩

theorem convArr_at (X : Cert.Moba.SX.Idx → EReal) (W : S1x3x1x2048.Idx → EReal) (Z : S1x2048.Idx → EReal) (i : S8192x2048.Idx) (b : Fin 4) (s e : Fin 2048)
    (h0 : (i 0).val = b.val * 2048 + s.val) (h1 : (i 1).val = e.val) :
    convArr X W Z i = specConv X (fun k => W (ix4 0 k 0 e)) (Z (ix2 0 e)) b e s := by
  unfold convArr
  have e0 : (⟨(i 1).val, (i 1).isLt⟩ : Fin 2048) = e := Fin.ext h1
  have e1 : (⟨(i 0).val / 2048, by have : (i 0).val < 8192 := (i 0).isLt; omega⟩ : Fin 4) = b := Fin.ext (by show (i 0).val / 2048 = b.val; omega)
  have e2 : (⟨(i 0).val % 2048, Nat.mod_lt _ (by norm_num)⟩ : Fin 2048) = s := Fin.ext (by show (i 0).val % 2048 = s.val; omega)
  rw [e0, e1, e2]

/-- A table, cast. -/
def sideArr (U : S1x16384x4096.Idx → EReal) : S16384x4096.Idx → EReal :=
  shapeCast S16384x4096 U shapeCasts_S1x16384x4096_S16384x4096

theorem attn_block (hf : FiniteIn (projOf m c) (tableOf m c)) (t : Fin cfg0.N) (y : S2048x128.Idx) :
    attnOf (iblk m c 0 t) (iblk m c 1 t) (iblk m c 2 t) (iblk m c 3 t) (biasS m c t.val t.isLt) (grid0.coords t) y =
      attnArr (projOf m c) (tableOf m c) (((View.whole main_v20_0).slice (win0_12.rect t)).emb y) := by
  obtain ⟨s, d, rfl⟩ : ∃ (s : Fin 2048) (d : Fin 128), y = ix2 s d := ⟨y 0, y 1, eq_ix2 y⟩
  have hi := at_12 t
  rw [attnArr_at (projOf m c) (tableOf m c) _ (batchOf t) (headOf t) s d
    (by show win0_12.index t 0 * 2048 + 1 * s.val = t.val % 4 * 2048 + s.val; rw [hi.1]; omega)
    (by show win0_12.index t 1 * 128 + 1 * d.val = t.val / 4 * 128 + d.val; rw [hi.2]; omega)]
  unfold biasS
  rw [read_table]
  refine attn_spec (projOf m c) (tableOf m c) hf (batchOf t) (headOf t) _ _ _ _ (grid0.coords t) (at_head t) ?_ ?_ ?_ ?_ s d
  · exact read_q m c t
  · intro s d
    rw [read_k]
    exact congrArg (colAt (projOf m c) (batchOf t) s) (Fin.ext (by show 2048 + (t.val / 4 * 128 + d.val) = 2048 + t.val / 4 * 128 + d.val; omega))
  · intro s d
    rw [read_v]
    exact congrArg (colAt (projOf m c) (batchOf t) s) (Fin.ext (by show 4096 + (t.val / 4 * 128 + d.val) = 4096 + t.val / 4 * 128 + d.val; omega))
  · exact read_bucket m c t

theorem conv_block (t : Fin cfg0.N) (y : S2048x128.Idx) :
    convAt (iblk m c 5 t) (iblk m c 6 t) (iblk m c 7 t) (iblk m c 8 t) (iblk m c 9 t) y =
      convArr (projOf m c) (m ((c.tc : Thread nD τ).loc main_arg2)) (m ((c.tc : Thread nD τ).loc main_arg3))
        (((View.whole main_v20_1).slice (win0_13.rect t)).emb y) := by
  obtain ⟨s, d, rfl⟩ : ∃ (s : Fin 2048) (d : Fin 128), y = ix2 s d := ⟨y 0, y 1, eq_ix2 y⟩
  have hi := at_13 t
  have ht := pt_lt t
  have hd : d.val < 128 := d.isLt
  rw [convArr_at (projOf m c) _ _ _ (batchOf t) s ⟨t.val / 4 * 128 + d.val, by omega⟩
    (by show win0_13.index t 0 * 2048 + 1 * s.val = t.val % 4 * 2048 + s.val; rw [hi.1]; omega)
    (by show win0_13.index t 1 * 128 + 1 * d.val = t.val / 4 * 128 + d.val; rw [hi.2]; omega),
    conv_at (projOf m c) (batchOf t) ⟨t.val / 4 * 128 + d.val, by omega⟩ (iblk m c 5 t) (iblk m c 6 t) (iblk m c 7 t) (iblk m c 8 t) (iblk m c 9 t) s d
      (fun s => read_cb m c t s d) (fun s => read_cc m c t s d) (fun s => read_cu m c t s d), read_z]
  congr 1
  funext k
  exact read_w m c t k d

theorem u_block (t : Fin cfg0.N) (y : S512x4096.Idx) :
    sideOf (iblk m c 10 ⟨min t.val 31, pt31_lt t⟩) y =
      sideArr (m ((c.tc : Thread nD τ).loc main_arg4)) (((View.whole main_v20_2).slice (win0_14.rect t)).emb y) := by
  show V m c main_v4 (((View.whole main_v4).slice (win0_10.rect ⟨min t.val 31, pt31_lt t⟩)).emb y) = _
  rw [V_v4]
  refine congrArg (sideArr (m ((c.tc : Thread nD τ).loc main_arg4))) (funext fun a => Fin.ext ?_)
  have h1 := at_u ⟨min t.val 31, pt31_lt t⟩
  have h2 := at_14 t
  match a with
  | ⟨0, _⟩ =>
    show win0_10.index ⟨min t.val 31, pt31_lt t⟩ 0 * 512 + 1 * (y 0).val = win0_14.index t 0 * 512 + 1 * (y 0).val
    rw [h1.1, h2.1, Nat.min_assoc, Nat.min_self]
  | ⟨1, _⟩ =>
    show win0_10.index ⟨min t.val 31, pt31_lt t⟩ 1 * 4096 + 1 * (y 1).val = win0_14.index t 1 * 4096 + 1 * (y 1).val
    rw [h1.2, h2.2]

theorem v_block (t : Fin cfg0.N) (y : S512x4096.Idx) :
    sideOf (iblk m c 11 t) y =
      sideArr (m ((c.tc : Thread nD τ).loc main_arg5)) (((View.whole main_v20_3).slice (win0_15.rect t)).emb y) := by
  show V m c main_v5 (((View.whole main_v5).slice (win0_11.rect t)).emb y) = _
  rw [V_v5]
  refine congrArg (sideArr (m ((c.tc : Thread nD τ).loc main_arg5))) (funext fun a => Fin.ext ?_)
  have h1 := at_t t
  have h2 := at_15 t
  match a with
  | ⟨0, _⟩ =>
    show win0_11.index t 0 * 512 + 1 * (y 0).val = win0_15.index t 0 * 512 + 1 * (y 0).val
    rw [h1.1, h2.1]
  | ⟨1, _⟩ =>
    show win0_11.index t 1 * 4096 + 1 * (y 1).val = win0_15.index t 1 * 4096 + 1 * (y 1).val
    rw [h1.2, h2.2]

theorem final_attn (hf : FiniteIn (projOf m c) (tableOf m c)) :
    (dats m 0 c).arrAt 12 cfg0.N = attnArr (projOf m c) (tableOf m c) := by
  refine Dat.arrAt_eq_of_cover (dats m 0 c) 12 (attnArr (projOf m c) (tableOf m c)) ?_ ?_
  · intro t _
    refine funext fun y => ?_
    rw [Dat.flushed_apply, after0_12]
    exact attn_block m c hf t y
  · intro i
    have h0 : (i 0).val < 8192 := (i 0).isLt
    have h1 : (i 1).val < 2048 := (i 1).isLt
    have hN : cfg0.N = 64 := N_0
    refine ⟨⟨(i 1).val / 128 * 4 + (i 0).val / 2048, by omega⟩, flush0_12 _, ?_⟩
    generalize ht : (⟨(i 1).val / 128 * 4 + (i 0).val / 2048, by omega⟩ : Fin cfg0.N) = t
    have hv : t.val = (i 1).val / 128 * 4 + (i 0).val / 2048 := by rw [← ht]
    have hi := at_12 t
    show i ∈ ((View.whole main_v20_0).slice (win0_12.rect t)).set
    rw [View.set_slice_whole, Window.mem_rect_iff win0_12 t i]
    intro a
    match a with
    | ⟨0, _⟩ =>
      show win0_12.index t 0 * 2048 ≤ (i 0).val ∧ (i 0).val < win0_12.index t 0 * 2048 + 2048
      rw [hi.1]; omega
    | ⟨1, _⟩ =>
      show win0_12.index t 1 * 128 ≤ (i 1).val ∧ (i 1).val < win0_12.index t 1 * 128 + 128
      rw [hi.2]; omega

theorem final_conv :
    (dats m 0 c).arrAt 13 cfg0.N = convArr (projOf m c) (m ((c.tc : Thread nD τ).loc main_arg2)) (m ((c.tc : Thread nD τ).loc main_arg3)) := by
  refine Dat.arrAt_eq_of_cover (dats m 0 c) 13 (convArr (projOf m c) (m ((c.tc : Thread nD τ).loc main_arg2)) (m ((c.tc : Thread nD τ).loc main_arg3))) ?_ ?_
  · intro t _
    refine funext fun y => ?_
    rw [Dat.flushed_apply, after0_13]
    exact conv_block m c t y
  · intro i
    have h0 : (i 0).val < 8192 := (i 0).isLt
    have h1 : (i 1).val < 2048 := (i 1).isLt
    have hN : cfg0.N = 64 := N_0
    refine ⟨⟨(i 1).val / 128 * 4 + (i 0).val / 2048, by omega⟩, flush0_13 _, ?_⟩
    generalize ht : (⟨(i 1).val / 128 * 4 + (i 0).val / 2048, by omega⟩ : Fin cfg0.N) = t
    have hv : t.val = (i 1).val / 128 * 4 + (i 0).val / 2048 := by rw [← ht]
    have hi := at_13 t
    show i ∈ ((View.whole main_v20_1).slice (win0_13.rect t)).set
    rw [View.set_slice_whole, Window.mem_rect_iff win0_13 t i]
    intro a
    match a with
    | ⟨0, _⟩ =>
      show win0_13.index t 0 * 2048 ≤ (i 0).val ∧ (i 0).val < win0_13.index t 0 * 2048 + 2048
      rw [hi.1]; omega
    | ⟨1, _⟩ =>
      show win0_13.index t 1 * 128 ≤ (i 1).val ∧ (i 1).val < win0_13.index t 1 * 128 + 128
      rw [hi.2]; omega

theorem final_u : (dats m 0 c).arrAt 14 cfg0.N = sideArr (m ((c.tc : Thread nD τ).loc main_arg4)) := by
  refine Dat.arrAt_eq_of_cover (dats m 0 c) 14 (sideArr (m ((c.tc : Thread nD τ).loc main_arg4))) ?_ ?_
  · intro t _
    refine funext fun y => ?_
    rw [Dat.flushed_apply, after0_14]
    exact u_block m c t y
  · intro i
    have h0 : (i 0).val < 16384 := (i 0).isLt
    have h1 : (i 1).val < 4096 := (i 1).isLt
    have hN : cfg0.N = 64 := N_0
    obtain ⟨t, hv, hfl⟩ : ∃ t : Fin cfg0.N, min t.val 31 = (i 0).val / 512 ∧ (t.val < 31 ∨ t.val = 63) := by
      by_cases h : (i 0).val / 512 < 31
      · exact ⟨⟨(i 0).val / 512, by omega⟩, by simp only; omega, Or.inl h⟩
      · exact ⟨⟨63, by omega⟩, by simp only; omega, Or.inr rfl⟩
    refine ⟨t, flush0_14 t hfl, ?_⟩
    have hi := at_14 t
    show i ∈ ((View.whole main_v20_2).slice (win0_14.rect t)).set
    rw [View.set_slice_whole, Window.mem_rect_iff win0_14 t i]
    intro a
    match a with
    | ⟨0, _⟩ =>
      show win0_14.index t 0 * 512 ≤ (i 0).val ∧ (i 0).val < win0_14.index t 0 * 512 + 512
      rw [hi.1, hv]; omega
    | ⟨1, _⟩ =>
      show win0_14.index t 1 * 4096 ≤ (i 1).val ∧ (i 1).val < win0_14.index t 1 * 4096 + 4096
      rw [hi.2]; omega

theorem final_v : (dats m 0 c).arrAt 15 cfg0.N = sideArr (m ((c.tc : Thread nD τ).loc main_arg5)) := by
  refine Dat.arrAt_eq_of_cover (dats m 0 c) 15 (sideArr (m ((c.tc : Thread nD τ).loc main_arg5))) ?_ ?_
  · intro t _
    refine funext fun y => ?_
    rw [Dat.flushed_apply, after0_15]
    exact v_block m c t y
  · intro i
    have h0 : (i 0).val < 16384 := (i 0).isLt
    have h1 : (i 1).val < 4096 := (i 1).isLt
    have hN : cfg0.N = 64 := N_0
    obtain ⟨t, hv, hfl⟩ : ∃ t : Fin cfg0.N, t.val - 32 = (i 0).val / 512 ∧ ¬t.val < 32 :=
      ⟨⟨32 + (i 0).val / 512, by omega⟩, by simp only; omega, by simp only; omega⟩
    refine ⟨t, flush0_15 t hfl, ?_⟩
    have hi := at_15 t
    show i ∈ ((View.whole main_v20_3).slice (win0_15.rect t)).set
    rw [View.set_slice_whole, Window.mem_rect_iff win0_15 t i]
    intro a
    match a with
    | ⟨0, _⟩ =>
      show win0_15.index t 0 * 512 ≤ (i 0).val ∧ (i 0).val < win0_15.index t 0 * 512 + 512
      rw [hi.1, hv]; omega
    | ⟨1, _⟩ =>
      show win0_15.index t 1 * 4096 ≤ (i 1).val ∧ (i 1).val < win0_15.index t 1 * 4096 + 4096
      rw [hi.2]; omega

end Cert.KernelIdeal.Moba

end
-- ==== Proof.RefA.lean ====
module

public import proofs.«01_k».proof.Proof.RefW

@[expose] public section

set_option maxRecDepth 16384

noncomputable section

namespace Cert.Moba

open Cert.KernelIdeal.Moba (gateOf meanOf logitOf looksAt)
open Idealize.ShloMosaic Cert.ReferenceIdeal Cert.ReferenceIdeal.Gen Cert.ReferenceIdeal.Read

variable (X : SX.Idx → EReal) (T : ST.Idx → EReal) (b : Fin 4) (h : Fin 16) (s : Fin 2048)

theorem r_q (d : Fin 128) : val_main_v11 (F := Ideal) X (ix4 b h s d) = specQ X b h s d := by
  pointwise [val_main_v11, val_main_v8, val_main_v2, val_main_v1, val_main_v0]
  rfl

theorem r_k (n : Fin 8) (k : Fin 256) (d : Fin 128) : val_main_v14 (F := Ideal) X (ix5 b h n k d) = specK X b h n k d := by
  pointwise [val_main_v14, val_main_v12, val_main_v9, val_main_v3, val_main_v1, val_main_v0]
  unfold specK colAt
  refine congrArg X (congrArg₂ ix2 (Fin.ext ?_) (Fin.ext ?_))
  · show b.val * 2048 + (n.val * 256 + k.val) = b.val * 2048 + (256 * min n.val 7 + k.val); omega
  · show 2048 + (h.val * 128 + d.val) = 2048 + h.val * 128 + d.val; omega

theorem r_v (n : Fin 8) (k : Fin 256) (d : Fin 128) : val_main_v15 (F := Ideal) X (ix5 b h n k d) = specV X b h d n k := by
  pointwise [val_main_v15, val_main_v13, val_main_v10, val_main_v4, val_main_v1, val_main_v0]
  unfold specV colAt
  refine congrArg X (congrArg₂ ix2 (Fin.ext ?_) (Fin.ext ?_))
  · show b.val * 2048 + (n.val * 256 + k.val) = b.val * 2048 + (256 * min n.val 7 + k.val); omega
  · show 4096 + (h.val * 128 + d.val) = 4096 + h.val * 128 + d.val; omega

/-- The gates of a query. -/
abbrev gates (X : SX.Idx → EReal) (b : Fin 4) (h : Fin 16) (s : Fin 2048) : ℕ → EReal := gateOf (specK X b h) (specQ X b h s)

theorem r_gate (n : Fin 8) : val_main_v19 (F := Ideal) X (ix4 b h s n) = gates X b h s n := by
  pointwise [val_main_v19, val_main_v18, val_main_v17, val_main_v16, val_main_cst, val_main_cst_0]
  unfold gates gateOf meanOf
  refine Finset.sum_congr rfl fun d _ => ?_
  rw [r_q, bits_256, mul_comm]
  simp only [r_k]

theorem r_own : ∀ s : Fin 2048, val_main_v21 (F := Ideal) (ix1 s) = BitVec.ofNat 32 (s.val / 256) := by
  intro s
  pointwise [val_main_v21, val_main_call0_v11, val_main_call0_v13, val_main_call0_v2, val_main_call0_v1, val_main_call0_v0, val_main_v20, val_main_call0_v3, val_main_call0_v4, val_main_call0_v5, val_main_call0_v6, val_main_call0_v7, val_main_call0_v8, val_main_call0_c, val_main_call0_v9, val_main_call0_v10, val_main_call0_c_0, val_main_call0_v12, val_main_c, constantI]
  revert s
  decide +kernel

theorem r_past (n : Fin 8) : val_main_v28 (F := Ideal) X (ix4 b h s n) = pastKey (gates X b h s) (s.val / 256) n := by
  pointwise [val_main_v28, val_main_call1_v1, val_main_call1_v0, val_main_call1_v2, val_main_v27, val_main_v26, val_main_v25, val_main_v24, val_main_v23, val_main_v22]
  unfold pastKey
  rw [r_own, WordCmp.cmpi_slt_ofNat (by omega) (by omega), select_ofBool, r_gate]
  show (if _ then _ else Ideal.ofBits .f32 0xFF800000#32) = _
  rw [bits_ninf]

theorem r_indices (j : Fin 3) : val_main_indices (F := Ideal) X (ix4 b h s j) = BitVec.ofNat 32 (slotAt (gates X b h s) (s.val / 256) j) := by
  refine (indices_sort b h s (val_main_v28 (F := Ideal) X) j).trans ?_
  rw [show (fun n : Fin 8 => val_main_v28 (F := Ideal) X (ix4 b h s n)) = pastKey (gates X b h s) (s.val / 256) from
    funext fun n => r_past X b h s n]
  rfl

/-- The block in one of the four slots of a query: three past blocks, then its own. -/
def slotF (X : SX.Idx → EReal) (b : Fin 4) (h : Fin 16) (s : Fin 2048) (j : Fin 4) : ℕ :=
  if hj : j.val < 3 then slotAt (gates X b h s) (s.val / 256) ⟨j.val, hj⟩ else s.val / 256

theorem slotF_lt (j : Fin 4) : slotF X b h s j < 8 := by
  unfold slotF
  split
  · exact slotAt_lt _ _ _
  · omega

theorem r_sel (j : Fin 4) : val_main_v35 (F := Ideal) X (ix4 b h s j) = BitVec.ofNat 32 (slotF X b h s j) := by
  pointwise [val_main_v35, val_main_v34, val_main_v33]
  unfold slotF
  split
  · exact r_indices X b h s _
  · exact r_own s

theorem r_valid (j : Fin 4) : val_main_v37 (F := Ideal) X (ix4 b h s j) =
    BitVec.ofBool (decide (j.val = 3 ∨ slotF X b h s j < s.val / 256)) := by
  pointwise [val_main_v37, val_main_v36, val_main_v32, val_main_v31, val_main_v30, val_main_v29]
  by_cases hj : j.val < 3
  · have e : slotF X b h s j = slotAt (gates X b h s) (s.val / 256) ⟨j.val, hj⟩ := by unfold slotF; rw [dif_pos hj]
    have hl := slotAt_lt (gates X b h s) (s.val / 256) ⟨j.val, hj⟩
    rw [dif_pos hj, r_own, e]
    refine (congrArg (fun w => IntOp.cmpi .slt w _) (r_indices X b h s ⟨j.val, hj⟩)).trans ?_
    rw [WordCmp.cmpi_slt_ofNat (by omega) (by omega)]
    congr 1
    rw [Bool.eq_iff_iff, decide_eq_true_iff, decide_eq_true_iff]
    omega
  · rw [dif_neg hj]
    show 1#1 = _
    rw [decide_eq_true (Or.inl (by omega))]
    rfl

theorem r_idx (j : Fin 4) (c : Fin 3) : val_main_v62 (F := Ideal) X (ix5 b h s j c) =
    if c.val < 1 then BitVec.ofNat 32 b.val else if c.val < 2 then BitVec.ofNat 32 h.val else BitVec.ofNat 32 (slotF X b h s j) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38]
  have hl := slotF_lt X b h s j
  rw [r_sel]
  split
  · exact nn b.val (by omega) _
  · split
    · rw [if_pos (by omega)]; exact nn h.val (by omega) _
    · rw [if_neg (by omega)]; exact nn _ (by omega) _

theorem r_idx2 (j : Fin 4) (c : Fin 3) : val_main_v84 (F := Ideal) X (ix5 b h s j c) =
    if c.val < 1 then BitVec.ofNat 32 b.val else if c.val < 2 then BitVec.ofNat 32 h.val else BitVec.ofNat 32 (slotF X b h s j) := by
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v41, val_main_v40, val_main_v39, val_main_v38]
  have hl := slotF_lt X b h s j
  rw [r_sel]
  split
  · exact nn b.val (by omega) _
  · split
    · rw [if_pos (by omega)]; exact nn h.val (by omega) _
    · rw [if_neg (by omega)]; exact nn _ (by omega) _

theorem r_kg (j : Fin 4) (k : Fin 256) (d : Fin 128) : val_main_v63 (F := Ideal) X (ix6 b h s j k d) = specK X b h (slotF X b h s j) k d := by
  refine (gk_apply b h s (val_main_v14 (F := Ideal) X) (val_main_v62 (F := Ideal) X) j k d ⟨slotF X b h s j, slotF_lt X b h s j⟩
    (r_idx X b h s j 0) (r_idx X b h s j 1) (r_idx X b h s j 2)).trans ?_
  exact r_k X b h _ k d

theorem r_vg (j : Fin 4) (k : Fin 256) (d : Fin 128) : val_main_v85 (F := Ideal) X (ix6 b h s j k d) = specV X b h d (slotF X b h s j) k := by
  refine (gk_apply b h s (val_main_v15 (F := Ideal) X) (val_main_v84 (F := Ideal) X) j k d ⟨slotF X b h s j, slotF_lt X b h s j⟩
    (r_idx2 X b h s j 0) (r_idx2 X b h s j 1) (r_idx2 X b h s j 2)).trans ?_
  exact r_v X b h _ k d

theorem word_pos (n : ℕ) (k : ℕ) : IntOp.addi (IntOp.muli (BitVec.ofNat 32 n) 256#32) (BitVec.ofNat 32 k) = BitVec.ofNat 32 (n * 256 + k) := by
  show BitVec.ofNat 32 n * BitVec.ofNat 32 256 + BitVec.ofNat 32 k = _
  rw [← BitVec.ofNat_mul, ← BitVec.ofNat_add]

theorem r_far (j : Fin 4) (k : Fin 256) : val_main_v100 (F := Ideal) X (ix5 b h s j k) =
    IntOp.subi (BitVec.ofNat 32 s.val) (BitVec.ofNat 32 (slotF X b h s j * 256 + k.val)) := by
  pointwise [val_main_v100, val_main_v99, val_main_v98, val_main_v97, val_main_v96, val_main_v95, val_main_v94, val_main_v93, val_main_v92, val_main_v91, val_main_v90, val_main_v20]
  rw [r_sel]
  exact congrArg (IntOp.subi _) (word_pos _ _)

theorem r_dist (j : Fin 4) (k : Fin 256) : val_main_v102 (F := Ideal) X (ix5 b h s j k) =
    BitVec.ofNat 32 (s.val - (slotF X b h s j * 256 + k.val)) := by
  pointwise [val_main_v102, val_main_v101]
  have hl := slotF_lt X b h s j
  rw [r_far]
  exact clip_sub _ _ (by omega) (by omega)

theorem r_bucket (j : Fin 4) (k : Fin 256) : val_main_v121 (F := Ideal) X (ix5 b h s j k) =
    BitVec.ofNat 32 (bucketOf (s.val - (slotF X b h s j * 256 + k.val))) := by
  pointwise [val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103]
  rw [r_dist, ← bucketW_eq _ (by omega)]
  unfold bucketW
  rw [← bits_16, ← bits_8]
  rfl

theorem r_tidx (j : Fin 4) (k : Fin 256) (c : Fin 2) : val_main_v136 (F := Ideal) X (ix6 b h s j k c) =
    if c.val < 1 then BitVec.ofNat 32 (bucketOf (s.val - (slotF X b h s j * 256 + k.val))) else BitVec.ofNat 32 h.val := by
  pointwise [val_main_v136, val_main_v135, val_main_v134, val_main_v133, val_main_v132, val_main_v131, val_main_v130, val_main_v129, val_main_v128, val_main_v127, val_main_v126, val_main_v125, val_main_v124, val_main_v123, val_main_v122, val_main_v41, val_main_v40]
  rw [r_bucket]
  have hl := bucketOf_lt (s.val - (slotF X b h s j * 256 + k.val))
  split
  · exact nn _ (by omega) _
  · exact nn h.val (by omega) _

theorem r_bias (j : Fin 4) (k : Fin 256) : val_main_v137 (F := Ideal) X T (ix5 b h s j k) =
    T (ix2 ⟨bucketOf (s.val - (slotF X b h s j * 256 + k.val)), bucketOf_lt _⟩ h) :=
  gt_apply b h s T (val_main_v136 (F := Ideal) X) j k ⟨_, bucketOf_lt _⟩ (r_tidx X b h s j k 0) (r_tidx X b h s j k 1)

theorem r_logit (j : Fin 4) (k : Fin 256) : val_main_v144 (F := Ideal) X T (ix5 b h s j k) =
    if (j.val = 3 ∨ slotF X b h s j < s.val / 256) ∧ slotF X b h s j * 256 + k.val ≤ s.val then
      (∑ d : Fin 128, specK X b h (slotF X b h s j) k d * specQ X b h s d) * (((Real.sqrt 128)⁻¹ : ℝ) : EReal)
        + T (ix2 ⟨bucketOf (s.val - (slotF X b h s j * 256 + k.val)), bucketOf_lt _⟩ h)
    else ⊥ := by
  pointwise [val_main_v144, val_main_v143, val_main_v142, val_main_v141, val_main_v140, val_main_v139, val_main_v138, val_main_v89, val_main_v88, val_main_v87, val_main_v86, val_main_call3_v1, val_main_call3_v0]
  have hl := slotF_lt X b h s j
  have hc : IntOp.cmpi .sge (val_main_v100 (F := Ideal) X (ix5 b h s j k)) (val_main_c_29 (F := Ideal) ix0) =
      BitVec.ofBool (decide (slotF X b h s j * 256 + k.val ≤ s.val)) := by
    rw [r_far]; exact sge_sub _ _ (by omega) (by omega)
  have hand : ∀ p q : Bool, IntOp.andi (BitVec.ofBool p) (BitVec.ofBool q) = BitVec.ofBool (p && q) := by decide
  have hs : Ideal.sqrt (val_main_cst_15 (F := Ideal) ix0) = ((Real.sqrt 128 : ℝ) : EReal) := by
    show Ideal.sqrt (Ideal.ofBits .f32 0x43000000#32) = _
    rw [bits_128, Ideal.sqrt_coe, if_neg (by norm_num)]
  have hn : (id (val_main_cst_30 (F := Ideal)) ix0 : EReal) = ⊥ := bits_ninf
  rw [hc, r_valid, hand, ← Bool.decide_and, select_ofBool, hs, hn, Ideal.div_coe (by positivity), one_div, r_bias]
  simp only [r_q, r_kg]
  congr 4
  funext d
  exact mul_comm _ _
-- ==== Proof.RefB.lean ====
module

public import proofs.«01_k».proof.Proof.RefA

@[expose] public section

set_option maxRecDepth 16384

noncomputable section

namespace Cert.Moba

open Cert.KernelIdeal.Moba (gateOf meanOf logitOf looksAt)
open Idealize.ShloMosaic Cert.ReferenceIdeal Cert.ReferenceIdeal.Gen Cert.ReferenceIdeal.Read

variable (X : SX.Idx → EReal) (T : ST.Idx → EReal) (b : Fin 4) (h : Fin 16) (s : Fin 2048)

/-! ## The softmax over the four slots -/

/-- A place among the 1024 keys of a query, as a slot and a key. -/
def placeEquiv : Fin 1024 ≃ Fin 4 × Fin 256 where
  toFun e := (⟨e.val / 256, by omega⟩, ⟨e.val % 256, by omega⟩)
  invFun p := ⟨p.1.val * 256 + p.2.val, by omega⟩
  left_inv e := Fin.ext (by show e.val / 256 * 256 + e.val % 256 = e.val; omega)
  right_inv p := by
    refine Prod.ext (Fin.ext ?_) (Fin.ext ?_)
    · show (p.1.val * 256 + p.2.val) / 256 = p.1.val; omega
    · show (p.1.val * 256 + p.2.val) % 256 = p.2.val; omega

theorem sum_place (f : Fin 4 → Fin 256 → EReal) :
    (∑ e : Fin 1024, f (placeEquiv e).1 (placeEquiv e).2) = ∑ j, ∑ k, f j k := by
  rw [placeEquiv.sum_comp fun p : Fin 4 × Fin 256 => f p.1 p.2, Fintype.sum_prod_type]

theorem sup_place (f : Fin 4 → Fin 256 → EReal) :
    (Finset.univ.sup fun e : Fin 1024 => f (placeEquiv e).1 (placeEquiv e).2) = Finset.univ.sup fun j => Finset.univ.sup fun k => f j k := by
  refine le_antisymm (Finset.sup_le fun e _ => ?_) (Finset.sup_le fun j _ => Finset.sup_le fun k _ => ?_)
  · exact (Finset.le_sup (f := fun k => f (placeEquiv e).1 k) (Finset.mem_univ _)).trans
      (Finset.le_sup (f := fun j => Finset.univ.sup fun k => f j k) (Finset.mem_univ _))
  · have := Finset.le_sup (f := fun e : Fin 1024 => f (placeEquiv e).1 (placeEquiv e).2) (Finset.mem_univ (placeEquiv.symm (j, k)))
    simpa only [Equiv.apply_symm_apply] using this

theorem r_flat (e : Fin 1024) : val_main_v145 (F := Ideal) X T (ix4 b h s e) =
    val_main_v144 (F := Ideal) X T (ix5 b h s (placeEquiv e).1 (placeEquiv e).2) := by
  pointwise [val_main_v145]
  rfl

/-- The greatest logit of a query. -/
theorem r_top : val_main_v146 (F := Ideal) X T (ix3 b h s) =
    Finset.univ.sup fun j => Finset.univ.sup fun k => val_main_v144 (F := Ideal) X T (ix5 b h s j k) := by
  pointwise [val_main_v146, val_main_cst_31]
  simp only [r_flat]
  rw [bits_ninf]
  exact sup_place fun j k => val_main_v144 (F := Ideal) X T (ix5 b h s j k)

theorem r_top2 : val_main_v148 (F := Ideal) X T (ix3 b h s) = val_main_v146 (F := Ideal) X T (ix3 b h s) := by
  rw [val_main_v148_apply, val_main_v147_apply, val_main_cst_32_apply]
  generalize val_main_v146 (F := Ideal) X T (ix3 b h s) = y
  refine (congrArg (fun z : EReal => max z y) bits_ninf).trans ?_
  exact max_eq_right bot_le

theorem r_exp (e : Fin 1024) : val_main_v152 (F := Ideal) X T (ix4 b h s e) =
    Ideal.exp (val_main_v144 (F := Ideal) X T (ix5 b h s (placeEquiv e).1 (placeEquiv e).2) - val_main_v146 (F := Ideal) X T (ix3 b h s)) := by
  have ei : idx_main_v149 (idx_main_v150 (ix4 b h s e)) = ix3 b h s := by
    funext a
    match a with
    | ⟨0, _⟩ => rfl
    | ⟨1, _⟩ => rfl
    | ⟨2, _⟩ => rfl
  rw [val_main_v152_apply, val_main_v151_apply, val_main_v150_apply, val_main_v149_apply, r_flat, ei, r_top2]
  generalize val_main_v146 (F := Ideal) X T (ix3 b h s) = y
  generalize val_main_v144 (F := Ideal) X T _ = z
  rfl

theorem r_den : val_main_v153 (F := Ideal) X T (ix3 b h s) =
    ∑ j, ∑ k, Ideal.exp (val_main_v144 (F := Ideal) X T (ix5 b h s j k) - val_main_v146 (F := Ideal) X T (ix3 b h s)) := by
  pointwise [val_main_v153, val_main_cst_33]
  simp only [r_exp]
  exact sum_place fun j k => Ideal.exp (val_main_v144 (F := Ideal) X T (ix5 b h s j k) - val_main_v146 (F := Ideal) X T (ix3 b h s))

theorem r_prob (j : Fin 4) (k : Fin 256) : val_main_v157 (F := Ideal) X T (ix5 b h s j k) =
    Ideal.div (Ideal.exp (val_main_v144 (F := Ideal) X T (ix5 b h s j k) - val_main_v146 (F := Ideal) X T (ix3 b h s)))
      (val_main_v153 (F := Ideal) X T (ix3 b h s)) := by
  pointwise [val_main_v157, val_main_v156, val_main_v155, val_main_v154]
  rw [r_exp]
  have e : placeEquiv ⟨j.val * 256 + k.val, by omega⟩ = (j, k) := placeEquiv.apply_symm_apply (j, k)
  rw [e]

theorem r_out (d : Fin 128) :
    val_main_v160 (F := Ideal) X T (ix2 ⟨b.val * 2048 + s.val, by omega⟩ ⟨h.val * 128 + d.val, by omega⟩) =
      ∑ j, ∑ k, Ideal.div (Ideal.exp (val_main_v144 (F := Ideal) X T (ix5 b h s j k) - val_main_v146 (F := Ideal) X T (ix3 b h s)))
        (val_main_v153 (F := Ideal) X T (ix3 b h s)) * specV X b h d (slotF X b h s j) k := by
  pointwise [val_main_v160, val_main_v159, val_main_v158]
  simp only [r_prob, r_vg]
  exact Finset.sum_comm

theorem slot_past (j : Fin 4) (hj : slotF X b h s j < s.val / 256) :
    ∃ h3 : j.val < 3, slotF X b h s j = slotAt (gates X b h s) (s.val / 256) ⟨j.val, h3⟩ := by
  unfold slotF at hj ⊢
  split at hj
  · rename_i h3
    exact ⟨h3, by rw [dif_pos h3]⟩
  · omega

theorem slot_own (j : Fin 4) (hj : j.val = 3) : slotF X b h s j = s.val / 256 := by
  unfold slotF
  rw [dif_neg (by omega)]

/-- The reference's attention is the attention of the query. -/
theorem ref_attn (hf : FiniteIn X T) (d : Fin 128) :
    val_main_v160 (F := Ideal) X T (ix2 ⟨b.val * 2048 + s.val, by omega⟩ ⟨h.val * 128 + d.val, by omega⟩) = specAttn X T b h s d := by
  have hq : s.val / 256 ≤ 8 := by omega
  rw [r_out]
  unfold specAttn
  refine soft_slots (specA X b h s) (specL X T b h s) (specV X b h d) (fun n _ k => specL_ne_top hf b h s n k)
    ⟨s.val / 256, ?_, _, specL_own_ne_bot hf b h s⟩
    (Finset.univ.filter fun j : Fin 4 => j.val = 3 ∨ slotF X b h s j < s.val / 256) (slotF X b h s) _ _ ?_ ?_ ?_ (fun _ _ _ => rfl) ?_ _ _
    (r_top X T b h s) (r_den X T b h s)
  · unfold specA looksAt
    exact Finset.mem_filter.mpr ⟨Finset.mem_range.mpr (by omega), Or.inl rfl⟩
  · ext n
    simp only [Finset.mem_image, Finset.mem_filter, Finset.mem_univ, true_and, specA, looksAt, Finset.mem_range]
    constructor
    · rintro ⟨j, hj | hj, rfl⟩
      · rw [slot_own X b h s j hj]; exact ⟨by omega, Or.inl rfl⟩
      · obtain ⟨h3, e⟩ := slot_past X b h s j hj
        exact ⟨by omega, Or.inr ((slot_iff _ _ _ hq hj).mp ⟨_, e.symm⟩)⟩
    · rintro ⟨hn, hr⟩
      by_cases hq' : n = s.val / 256
      · exact ⟨3, Or.inl rfl, (slot_own X b h s 3 rfl).trans hq'.symm⟩
      · have hn' : n < s.val / 256 := by omega
        obtain ⟨j, hj⟩ := (slot_iff (gates X b h s) _ n hq hn').mpr (hr.resolve_left hq')
        have e : slotF X b h s ⟨j.val, by omega⟩ = n := by
          unfold slotF
          rw [dif_pos j.isLt]
          exact hj
        exact ⟨⟨j.val, by omega⟩, Or.inr (by omega), e⟩
  · intro i hi j hj e
    rcases (Finset.mem_filter.mp hi).2 with hi | hi <;> rcases (Finset.mem_filter.mp hj).2 with hj | hj
    · exact Fin.ext (hi.trans hj.symm)
    · rw [slot_own X b h s i hi] at e; omega
    · rw [slot_own X b h s j hj] at e; omega
    · obtain ⟨hi3, ei⟩ := slot_past X b h s i hi
      obtain ⟨hj3, ej⟩ := slot_past X b h s j hj
      have := slotAt_inj _ _ _ _ (ei.symm.trans (e.trans ej))
      exact Fin.ext (by have h' := congrArg Fin.val this; exact h')
  · intro j hj k
    have hv := (Finset.mem_filter.mp hj).2
    rw [r_logit]
    unfold specL logitOf specB
    have hiff : ((j.val = 3 ∨ slotF X b h s j < s.val / 256) ∧ slotF X b h s j * 256 + k.val ≤ s.val) ↔
        ((slotF X b h s j = s.val / 256 ∧ k.val ≤ s.val % 256) ∨
          (slotF X b h s j < s.val / 256 ∧ rankAt (gateOf (specK X b h) (specQ X b h s)) (s.val / 256) (slotF X b h s j) < 3)) := by
      rcases hv with hv | hv
      · have := slot_own X b h s j hv
        constructor
        · rintro ⟨_, h2⟩; exact Or.inl ⟨this, by omega⟩
        · rintro (⟨_, h2⟩ | ⟨h2, _⟩)
          · exact ⟨Or.inl hv, by omega⟩
          · omega
      · obtain ⟨h3, e⟩ := slot_past X b h s j hv
        have hr := (slot_iff (gates X b h s) _ _ hq hv).mp ⟨_, e.symm⟩
        constructor
        · rintro ⟨_, _⟩; exact Or.inr ⟨hv, hr⟩
        · rintro _; exact ⟨Or.inr hv, by omega⟩
    by_cases hc : (j.val = 3 ∨ slotF X b h s j < s.val / 256) ∧ slotF X b h s j * 256 + k.val ≤ s.val
    · rw [if_pos hc, if_pos (hiff.mp hc)]
      have hd : s.val - (slotF X b h s j * 256 + k.val) = 256 * (s.val / 256 - slotF X b h s j) + s.val % 256 - k.val := by
        have : slotF X b h s j ≤ s.val / 256 := by omega
        omega
      refine congrArg (_ + ·) (congrArg T (congrArg (fun z => ix2 z h) (Fin.ext ?_)))
      exact congrArg bucketOf hd
    · rw [if_neg hc, if_neg fun h => hc (hiff.mpr h)]
  · intro j hj k
    rw [r_logit, if_neg]
    rintro ⟨h1, _⟩
    exact hj (Finset.mem_filter.mpr ⟨Finset.mem_univ _, h1⟩)
-- ==== Proof.Same.lean ====
module

public import proofs.«01_k».proof.Proof.Arrays
public import proofs.«01_k».proof.Proof.RefB
public import proofs.«01_k».proof.Proof.Gen.ReferenceIdeal.Run
public import Idealize.ShloMosaic.Lib.Claim

@[expose] public section

set_option maxRecDepth 16384

noncomputable section

namespace Cert.Moba

open Idealize.ShloMosaic Idealize.SL.Sem
open Cert.ReferenceIdeal Cert.ReferenceIdeal.Gen Cert.ReferenceIdeal.Read
open Cert.KernelIdeal.Moba (attnArr attnArr_at convArr convArr_at sideArr)

/-- The reference's attention is the kernel's. -/
theorem same_attn (X : SX.Idx → EReal) (T : ST.Idx → EReal) (hf : FiniteIn X T) : val_main_v192 (F := Ideal) X T = attnArr X T := by
  funext i
  have h0 : (i 0).val < 8192 := (i 0).isLt
  have h1 : (i 1).val < 2048 := (i 1).isLt
  have ei : i = ix2 (⟨(i 0).val / 2048 * 2048 + (i 0).val % 2048, by omega⟩ : Fin 8192) (⟨(i 1).val / 128 * 128 + (i 1).val % 128, by omega⟩ : Fin 2048) := by
    refine funext fun a => Fin.ext ?_
    match a with
    | ⟨0, _⟩ => show (i 0).val = (i 0).val / 2048 * 2048 + (i 0).val % 2048; omega
    | ⟨1, _⟩ => show (i 1).val = (i 1).val / 128 * 128 + (i 1).val % 128; omega
  have e : val_main_v192 (F := Ideal) X T i = val_main_v160 (F := Ideal) X T i := rfl
  refine e.trans ((congrArg (val_main_v160 (F := Ideal) X T) ei).trans ?_)
  exact ref_attn X T ⟨(i 0).val / 2048, by omega⟩ ⟨(i 1).val / 128, by omega⟩ ⟨(i 0).val % 2048, Nat.mod_lt _ (by norm_num)⟩ hf ⟨(i 1).val % 128, Nat.mod_lt _ (by norm_num)⟩

/-- The reference's convolution is the kernel's. -/
theorem same_conv (X : SX.Idx → EReal) (W : S1x3x1x2048.Idx → EReal) (Z : S1x2048.Idx → EReal) :
    val_main_v193 (F := Ideal) X W Z = convArr X W Z := by
  funext i
  have h0 : (i 0).val < 8192 := (i 0).isLt
  have h1 : (i 1).val < 2048 := (i 1).isLt
  have ei : i = ix2 (⟨(i 0).val / 2048 * 2048 + (i 0).val % 2048, by omega⟩ : Fin 8192) (⟨(i 1).val, h1⟩ : Fin 2048) := by
    refine funext fun a => Fin.ext ?_
    match a with
    | ⟨0, _⟩ => show (i 0).val = (i 0).val / 2048 * 2048 + (i 0).val % 2048; omega
    | ⟨1, _⟩ => rfl
  have e : val_main_v193 (F := Ideal) X W Z i = val_main_v191 (F := Ideal) X W Z i := rfl
  refine e.trans ((congrArg (val_main_v191 (F := Ideal) X W Z) ei).trans ?_)
  exact ref_conv X W Z ⟨(i 0).val / 2048, by omega⟩ ⟨(i 1).val, h1⟩ ⟨(i 0).val % 2048, Nat.mod_lt _ (by norm_num)⟩

theorem same_u (U : S1x16384x4096.Idx → EReal) : val_main_v195 (F := Ideal) U = sideArr U := rfl
theorem same_v (U : S1x16384x4096.Idx → EReal) : val_main_v197 (F := Ideal) U = sideArr U := rfl

end Cert.Moba

namespace Cert.KernelIdeal.Moba

open Cert.KernelIdeal Cert.KernelIdeal.Gen Cert.Moba
open Idealize.ShloMosaic Idealize.ShloMosaic.TcCoe Idealize.SL.Sem

variable (m : (ℓ : Loc nD τ sig) → Buf (Elt Ideal) ℓ) (ρ : Dev nD → PrngReg)

/-- The idealized kernel ends with the four arrays. -/
theorem kernel_run (hf : ∀ c, FiniteIn (projOf m c) (tableOf m c)) :
    θ_run defs (onTc (τ := τ) (main (F := Ideal))) ⟨m, fun _ => 0, ρ⟩ (fun r => ∀ c : Dev nD,
      r.2.mem ((c.tc : Thread nD τ).loc main_v20_0) = attnArr (projOf m c) (tableOf m c)
      ∧ r.2.mem ((c.tc : Thread nD τ).loc main_v20_1) = convArr (projOf m c) (m ((c.tc : Thread nD τ).loc main_arg2)) (m ((c.tc : Thread nD τ).loc main_arg3))
      ∧ r.2.mem ((c.tc : Thread nD τ).loc main_v20_2) = sideArr (m ((c.tc : Thread nD τ).loc main_arg4))
      ∧ r.2.mem ((c.tc : Thread nD τ).loc main_v20_3) = sideArr (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 12).trans (final_attn m c (hf c)), ((h.1 c).1 13).trans (final_conv m c),
      ((h.1 c).1 14).trans (final_u m c), ((h.1 c).1 15).trans (final_v m c), h.2 c⟩)
    (θ_run_and (run_main m ρ) (unchanged m ρ))

end Cert.KernelIdeal.Moba

namespace Cert.Moba

open Idealize.ShloMosaic Idealize.ShloMosaic.TcCoe Idealize.SL.Sem
open Cert.ReferenceIdeal Cert.ReferenceIdeal.Gen Cert.ReferenceIdeal.Read

variable (m : (ℓ : Loc nD τ sig) → Buf (Elt Ideal) ℓ) (ρ : Dev nD → PrngReg)

/-- The idealized reference ends with its four stages. -/
theorem reference_run :
    θ_run defs (onTc (τ := τ) (main (F := Ideal))) ⟨m, fun _ => 0, ρ⟩ (fun r => ∀ c : Dev nD,
      r.2.mem ((c.tc : Thread nD τ).loc main_v192) = val_main_v192 (F := Ideal) (m ((c.tc : Thread nD τ).loc main_arg0)) (m ((c.tc : Thread nD τ).loc main_arg1))
      ∧ r.2.mem ((c.tc : Thread nD τ).loc main_v193) = val_main_v193 (F := Ideal) (m ((c.tc : Thread nD τ).loc main_arg0)) (m ((c.tc : Thread nD τ).loc main_arg2)) (m ((c.tc : Thread nD τ).loc main_arg3))
      ∧ r.2.mem ((c.tc : Thread nD τ).loc main_v195) = val_main_v195 (F := Ideal) (m ((c.tc : Thread nD τ).loc main_arg4))
      ∧ r.2.mem ((c.tc : Thread nD τ).loc main_v197) = val_main_v197 (F := Ideal) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v192_eq (F := Ideal) (StableHlo.launchContents m c)),
      (h c).2.1.trans (val_main_v193_eq (F := Ideal) (StableHlo.launchContents m c)),
      (h c).2.2.1.trans (val_main_v195_eq (F := Ideal) (StableHlo.launchContents m c)),
      (h c).2.2.2.1.trans (val_main_v197_eq (F := Ideal) (StableHlo.launchContents m c)), (h c).2.2.2.2⟩)
    (Cert.ReferenceIdeal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2.2.2.2, sem_eq_zero_of_no_sems (by decide) r.2⟩)
    (reference_run m ρ)

end Cert.Moba

end
-- ==== Proof.MPoints.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import Idealize.ShloMosaic.Lib.WholeRead
public import Idealize.ShloMosaic.Lib.Pointwise

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches of the body, and where it reads and writes its scratch -/

theorem hcond1 : ∀ t : Fin grid0.N, k0_cond1 (grid0.coords t) = 1#1 ↔ t.val < 128 := by decide +kernel
theorem hcond2 : ∀ t : Fin grid0.N, k0_cond2 (grid0.coords t) = 1#1 ↔ t.val < 8 := by decide +kernel
theorem hcond3 : ∀ t : Fin grid0.N, k0_cond3 (grid0.coords t) = 1#1 ↔ 160 ≤ t.val := by decide +kernel
theorem hcond4 : ∀ t : Fin grid0.N, k0_cond4 (grid0.coords t) = 1#1 ↔ 8 ≤ t.val ∧ t.val < 160 := by decide +kernel
theorem off1_eq : ∀ t : Fin grid0.N, k0_off1 (grid0.coords t) = ![t.val / 8 % 2, t.val % 8 * 512, 0] := by decide +kernel
theorem off2_eq : ∀ t : Fin grid0.N, k0_off2 (grid0.coords t) = ![(t.val / 8 + 1) % 2, 0, 0] := by decide +kernel
theorem off3_eq : ∀ t : Fin grid0.N, k0_off3 (grid0.coords t) = ![(t.val / 8 + 1) % 2, 0, 0] := by decide +kernel
theorem off4_eq : ∀ t : Fin grid0.N, k0_off4 (grid0.coords t) = ![t.val / 8 % 2, t.val % 8 * 512, 0] := by decide +kernel

/-- A scratch with a chunk of rows of one slot replaced. -/
def upd (xs : Vec F S2x4096x1024 .bf16) (a b : ℕ) (w : Vec F S1x512x1024 .bf16) : Vec F S2x4096x1024 .bf16 := fun y =>
  if h : (y 0).val = a ∧ b ≤ (y 1).val ∧ (y 1).val < b + 512 then
    w (ix3 0 ⟨(y 1).val - b, by omega⟩ ⟨(y 2).val, (y 2).isLt⟩)
  else xs y

/-- One slot of a scratch. -/
def slotOf (xs : Vec F S2x4096x1024 .bf16) (a : ℕ) : Vec F S1x4096x1024 .bf16 := fun x =>
  xs (ix3 ⟨a % 2, Nat.mod_lt _ (by norm_num)⟩ ⟨(x 1).val, (x 1).isLt⟩ ⟨(x 2).val, (x 2).isLt⟩)

theorem read_upd (M : Memref sig .tc .vmem S2x4096x1024 .bf16) (h : M.IsWhole) (xs : Vec F S2x4096x1024 .bf16) (a b : ℕ)
    (off : Fin 3 → ℕ) (ho : off = ![a, b, 0]) (inb : ∀ r, off r + S1x512x1024.size r ≤ S2x4096x1024.size r) (w : Vec F S1x512x1024 .bf16) :
    M.view.read (Elt F) (M.view.writes (Elt F) (h.unread xs) [⟨Rect.unit (s := S2x4096x1024) off S1x512x1024.size inb, w⟩]) = upd xs a b w := by
  funext y
  have h2 : (y 2).val < 1024 := (y 2).isLt
  unfold upd
  split
  · next hy =>
    exact View.read_writes_cons_unit_of_mem M.view _ inb w [] y _ ho (fun r => by
      match r with
      | ⟨0, _⟩ => show (y 0).val = a + 0; omega
      | ⟨1, _⟩ => show (y 1).val = b + ((y 1).val - b); omega
      | ⟨2, _⟩ => show (y 2).val = 0 + (y 2).val; omega)
  · next hy =>
    have e : M.view.read (Elt F) (M.view.writes (Elt F) (h.unread xs) []) y = xs y := by
      rw [View.writes_nil, h.read_unread]
    by_cases hy0 : (y 0).val = a
    · rw [View.read_writes_cons_unit_of_not_mem M.view _ inb w [] y ho (1 : Fin 3) (by
        show (y 1).val < b ∨ b + 512 ≤ (y 1).val; omega), e]
    · rw [View.read_writes_cons_unit_of_not_mem M.view _ inb w [] y ho (0 : Fin 3) (by
        show (y 0).val < a ∨ a + 1 ≤ (y 0).val; omega), e]

theorem read_slot (M : Memref sig .tc .vmem S2x4096x1024 .bf16) (h : M.IsWhole) (xs : Vec F S2x4096x1024 .bf16) (a : ℕ) (ha : a < 2)
    (off : Fin 3 → ℕ) (ho : off = ![a, 0, 0]) (inb : ∀ r, off r + S1x4096x1024.size r ≤ S2x4096x1024.size r) :
    View.readAt (Elt F) M.view (Rect.unit (s := S2x4096x1024) off S1x4096x1024.size inb).toLoadRect (h.unread xs) = slotOf xs a := by
  subst ho
  funext x
  rw [h.readAt_unread]
  unfold slotOf
  refine congrArg xs (funext fun r => Fin.ext ?_)
  have h0 : (x 0).val < 1 := (x 0).isLt
  match r with
  | ⟨0, _⟩ => show a + 1 * (x 0).val = a % 2; omega
  | ⟨1, _⟩ => show 0 + 1 * (x 1).val = (x 1).val; omega
  | ⟨2, _⟩ => show 0 + 1 * (x 2).val = (x 2).val; omega

theorem read_all {sp : Space} {s : Shape} {e : EltTy} (M : Memref sig .tc sp s e) (h : M.IsWhole) (x : Vec F s e)
    (off : Fin s.rank → ℕ) (inb : ∀ a, off a + s.size a ≤ s.size a) :
    View.readAt (Elt F) M.view (Rect.unit (s := s) off s.size inb).toLoadRect (h.unread x) = x := by
  rw [View.readAt_full, h.read_unread]

/-- The window buffers at a point, and the scratch. -/
abbrev ms0_0 (t : Fin cfg0.N) : Memref sig .tc .vmem S1024x4096 .bf16 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S32x2048 .f32 := win0_2.stage (cfg0.slots t 2)
abbrev ms0_3 (t : Fin cfg0.N) : Memref sig .tc .vmem S1024x1024 .bf16 := win0_3.stage (cfg0.slots t 3)
abbrev ms0_4 (t : Fin cfg0.N) : Memref sig .tc .vmem S32x2048 .bf16 := win0_4.stage (cfg0.slots t 4)
abbrev scM0_0 : Memref sig .tc .vmem S2x4096x1024 .bf16 := Memref.whole cc0_scratch0

/-- What the launch hands over beside the windows: the scratch at some contents, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Mm

end
-- ==== Proof.MRun.lean ====
module

public import proofs.«01_k».proof.Proof.MPoints

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The body run at the first column of the grid. -/
theorem runA (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S32x2048 .f32) (harg4 : arg4.IsWhole) (arg5 : Memref sig .tc .vmem S1024x1024 .bf16) (harg5 : arg5.IsWhole) (arg6 : Memref sig .tc .vmem S32x2048 .bf16) (harg6 : arg6.IsWhole) (arg7 : Memref sig .tc .vmem S2x4096x1024 .bf16) (harg7 : arg7.IsWhole)
    (h1 : k0_cond1 i = 1#1) (h2 : k0_cond2 i = 1#1) (h3 : ¬k0_cond3 i = 1#1) (h4 : ¬k0_cond4 i = 1#1) (pa pb : ℕ) (hw : k0_off1 i = ![pa, pb, 0])
    (x0 : Vec F S1024x4096 .bf16) (x1 : Vec F S512x1024 .f32) (x2 : Vec F S32x2048 .f32) (x3 : Vec F S1024x1024 .bf16) (xs : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x2) ∗ owns (c : Thread nD τ) arg7 fullShare (upd xs pa pb (k0_pay2 x1))) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg7.eq_unread hfs
  obtain rfl := harg5.eq_unread hf3
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans ?_
    rw [read_all]
  iexists _; isplitr
  swap; · iexact HS
  ipureintro
  refine (read_upd arg7 harg7 xs pa pb _ hw _ _).trans ?_
  rw [read_all]

set_option maxHeartbeats 3000000 in
/-- The body run at a later column with a chunk of the side table to cast. -/
theorem runB (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S32x2048 .f32) (harg4 : arg4.IsWhole) (arg5 : Memref sig .tc .vmem S1024x1024 .bf16) (harg5 : arg5.IsWhole) (arg6 : Memref sig .tc .vmem S32x2048 .bf16) (harg6 : arg6.IsWhole) (arg7 : Memref sig .tc .vmem S2x4096x1024 .bf16) (harg7 : arg7.IsWhole)
    (h1 : k0_cond1 i = 1#1) (h2 : ¬k0_cond2 i = 1#1) (h3 : ¬k0_cond3 i = 1#1) (h4 : k0_cond4 i = 1#1) (pa pb : ℕ) (hw : k0_off4 i = ![pa, pb, 0]) (pr : ℕ) (hpr : pr < 2) (hr : k0_off3 i = ![pr, 0, 0])
    (x0 : Vec F S1024x4096 .bf16) (x1 : Vec F S512x1024 .f32) (x2 : Vec F S32x2048 .f32) (xs : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare (k0_pay5 x0 (slotOf xs pr)) ∗ owns (c : Thread nD τ) arg6 fullShare (k0_pay1 x2) ∗ owns (c : Thread nD τ) arg7 fullShare (upd xs pa pb (k0_pay4 (k0_pay6 x1)))) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  obtain rfl := harg2.eq_unread hf0; obtain rfl := harg3.eq_unread hf1; obtain rfl := harg4.eq_unread hf2; obtain rfl := harg7.eq_unread hfs
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [read_all, read_slot arg7 harg7 xs pr hpr _ hr]
  isplitl [H4]
  · iexists _; isplitr
    swap; · iexact H4
    ipureintro
    refine (View.read_writes_full _ _ _ _ _).trans ?_
    rw [read_all]
  iexists _; isplitr
  swap; · iexact HS
  ipureintro
  refine (read_upd arg7 harg7 xs pa pb _ hw _ _).trans ?_
  rw [read_all]

set_option maxHeartbeats 3000000 in
/-- The body run at a later column past the side table. -/
theorem runC (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S32x2048 .f32) (harg4 : arg4.IsWhole) (arg5 : Memref sig .tc .vmem S1024x1024 .bf16) (harg5 : arg5.IsWhole) (arg6 : Memref sig .tc .vmem S32x2048 .bf16) (harg6 : arg6.IsWhole) (arg7 : Memref sig .tc .vmem S2x4096x1024 .bf16) (harg7 : arg7.IsWhole)
    (h1 : ¬k0_cond1 i = 1#1) (h2 : ¬k0_cond2 i = 1#1) (h3 : ¬k0_cond3 i = 1#1) (h4 : k0_cond4 i = 1#1) (pa pb : ℕ) (hw : k0_off4 i = ![pa, pb, 0]) (pr : ℕ) (hpr : pr < 2) (hr : k0_off3 i = ![pr, 0, 0])
    (x0 : Vec F S1024x4096 .bf16) (x1 : Vec F S512x1024 .f32) (x2 : Vec F S32x2048 .f32) (x4 : Vec F S32x2048 .bf16) (xs : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare (k0_pay5 x0 (slotOf xs pr)) ∗ owns (c : Thread nD τ) arg6 fullShare x4 ∗ owns (c : Thread nD τ) arg7 fullShare (upd xs pa pb (k0_pay4 (k0_pay6 x1)))) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg7.eq_unread hfs
  obtain rfl := harg6.eq_unread hf4
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [read_all, read_slot arg7 harg7 xs pr hpr _ hr]
  isplitl [H4]
  · iexists _; isplitr; · ipureintro; exact harg6.read_unread _
    iexact H4
  iexists _; isplitr
  swap; · iexact HS
  ipureintro
  refine (read_upd arg7 harg7 xs pa pb _ hw _ _).trans ?_
  rw [read_all]

set_option maxHeartbeats 3000000 in
/-- The body run at the last column. -/
theorem runD (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S32x2048 .f32) (harg4 : arg4.IsWhole) (arg5 : Memref sig .tc .vmem S1024x1024 .bf16) (harg5 : arg5.IsWhole) (arg6 : Memref sig .tc .vmem S32x2048 .bf16) (harg6 : arg6.IsWhole) (arg7 : Memref sig .tc .vmem S2x4096x1024 .bf16) (harg7 : arg7.IsWhole)
    (h1 : ¬k0_cond1 i = 1#1) (h2 : ¬k0_cond2 i = 1#1) (h3 : k0_cond3 i = 1#1) (h4 : ¬k0_cond4 i = 1#1) (pr : ℕ) (hpr : pr < 2) (hr : k0_off2 i = ![pr, 0, 0])
    (x0 : Vec F S1024x4096 .bf16) (x1 : Vec F S512x1024 .f32) (x2 : Vec F S32x2048 .f32) (x4 : Vec F S32x2048 .bf16) (xs : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare xs
      ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 (slotOf xs pr)) ∗ owns (c : Thread nD τ) arg6 fullShare x4 ∗ owns (c : Thread nD τ) arg7 fullShare xs) -∗ K ⟨⟩))
      ⊢ wp frame (wpE (defs₀ (F := F)) Variants.none c none) E (cc0_in_proj i arg2 harg2 arg3 harg3 arg4 harg4 arg5 harg5 arg6 harg6 arg7 harg7) K := by
  simp only [cc0_in_proj_eq_skeleton]; unfold cc0_in_proj_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg2.eq_unread hf0; obtain rfl := harg3.eq_unread hf1; obtain rfl := harg4.eq_unread hf2; obtain rfl := harg7.eq_unread hfs
  obtain rfl := harg6.eq_unread hf4
  sl_exec (disch := first | sl_exact h1 | sl_exact h2 | sl_exact h3 | sl_exact h4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [read_all, read_slot arg7 harg7 xs pr hpr _ hr]
  isplitl [H4]
  · iexists _; isplitr; · ipureintro; exact harg6.read_unread _
    iexact H4
  iexists _; isplitr; · ipureintro; exact harg7.read_unread _
  iexact HS

end Cert.Kernel2Ideal.Mm

end
-- ==== Proof.MDats.lean ====
module

public import proofs.«01_k».proof.Proof.MRun
public import Idealize.ShloMosaic.Lib.Claim
public import Idealize.ShloMosaic.Lib.Pipeline.TableIdle

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem pt_lt (t : Fin cfg0.N) : t.val < 168 := lt_of_lt_of_eq t.isLt (show cfg0.N = 168 from N_0)
theorem lt_pt {n : ℕ} (h : n < 168) : n < cfg0.N := lt_of_lt_of_eq h (show 168 = cfg0.N from N_0.symm)

/-- Before point `n` the scratch holds, rounded, the chunks of the weights loaded at the sixteen points before it. -/
def Inv (c : Dev nD) (n : ℕ) (xs : Vec F S2x4096x1024 .bf16) : Prop :=
  ∀ p : Fin cfg0.N, p.val < 160 → p.val < n → n ≤ p.val + 16 → ∀ (r : Fin 512) (d : Fin 1024),
    xs (ix3 ⟨p.val / 8 % 2, Nat.mod_lt _ (by norm_num)⟩ ⟨p.val % 8 * 512 + r.val, by omega⟩ d) = k0_pay2 (iblk m c 1 p) (ix3 0 r d)

theorem inv_zero (c : Dev nD) (xs : Vec F S2x4096x1024 .bf16) : Inv m c 0 xs := fun p _ h => absurd h (Nat.not_lt_zero _)

theorem inv_round (c : Dev nD) (t : Fin cfg0.N) (xs : Vec F S2x4096x1024 .bf16) (h : Inv m c t.val xs) :
    Inv m c (t.val + 1) (upd xs (t.val / 8 % 2) (t.val % 8 * 512) (k0_pay2 (iblk m c 1 t))) := by
  intro p hp h1 h2 r d
  have hr := r.isLt
  unfold upd
  by_cases e : p = t
  · subst e
    rw [dif_pos ⟨rfl, by show p.val % 8 * 512 ≤ p.val % 8 * 512 + r.val; omega, by show p.val % 8 * 512 + r.val < p.val % 8 * 512 + 512; omega⟩]
    refine congrArg (k0_pay2 (iblk m c 1 p)) ?_
    congr 1
    exact Fin.ext (by show p.val % 8 * 512 + r.val - p.val % 8 * 512 = r.val; omega)
  · have e' : p.val ≠ t.val := fun q => e (Fin.ext q)
    rw [dif_neg (fun q => by
      have q0 : p.val / 8 % 2 = t.val / 8 % 2 := q.1
      have q1 : t.val % 8 * 512 ≤ p.val % 8 * 512 + r.val := q.2.1
      have q2 : p.val % 8 * 512 + r.val < t.val % 8 * 512 + 512 := q.2.2
      omega)]
    exact h p hp (by omega) (by omega) r d

theorem inv_keep (c : Dev nD) (t : Fin cfg0.N) (xs : Vec F S2x4096x1024 .bf16) (h : Inv m c t.val xs) (ht : 160 ≤ t.val) :
    Inv m c (t.val + 1) xs := fun p hp _ h2 r d => h p hp (by omega) (by omega) r d

theorem col_lt (t : Fin cfg0.N) (x : S1x4096x1024.Idx) : (t.val / 8 - 1) * 8 + (x 1).val / 512 < cfg0.N := by
  have h := pt_lt t
  have hx : (x 1).val < 4096 := (x 1).isLt
  exact lt_pt (by omega)

/-- The rounded columns of the weights a point multiplies by: those the eight points of the column before loaded. -/
def colBlk (c : Dev nD) (t : Fin cfg0.N) : Vec F S1x4096x1024 .bf16 := fun x =>
  k0_pay2 (iblk m c 1 ⟨(t.val / 8 - 1) * 8 + (x 1).val / 512, col_lt t x⟩)
    (ix3 0 ⟨(x 1).val % 512, Nat.mod_lt _ (by norm_num)⟩ ⟨(x 2).val, (x 2).isLt⟩)

theorem inv_slot (c : Dev nD) (t : Fin cfg0.N) (xs : Vec F S2x4096x1024 .bf16) (h : Inv m c t.val xs) (ht : 8 ≤ t.val) :
    slotOf xs ((t.val / 8 + 1) % 2) = colBlk m c t := by
  funext x
  have hx : (x 1).val < 4096 := (x 1).isLt
  have hN := pt_lt t
  unfold slotOf colBlk
  rw [← h ⟨(t.val / 8 - 1) * 8 + (x 1).val / 512, col_lt t x⟩ (by simp only; omega) (by simp only; omega) (by simp only; omega)]
  congr 1
  congr 1
  · exact Fin.ext (by simp only; omega)
  · exact Fin.ext (by simp only; omega)

/-- The invariant before point `n`. -/
def PhiS (c : Dev nD) (n : ℕ) : sProp 𝕄 :=
  iprop(∃ xs, ⌜Inv m c n xs⌝ ∗ owns (c : Thread nD τ) scM0_0 fullShare xs ∗ (∃ r, prngReg c r))

theorem pt127_lt (t : Fin cfg0.N) : min t.val 127 < cfg0.N := Nat.lt_of_le_of_lt (Nat.min_le_left _ _) t.isLt

/-- What the body leaves at each point: the inputs' blocks as they were, a block of the product, a cast block of the side table. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (iblk m c 0 t) (colBlk m c t)
    | ⟨4, _⟩ => k0_pay1 (iblk m c 2 ⟨min t.val 127, pt127_lt t⟩)
    | ⟨_ + 5, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay5 (iblk m c 0 t) (colBlk m c t) := by dsimp only [dats]
theorem after0_4 (c : Dev nD) (t : Fin cfg0.N) : (dats m 0 c).after 4 t = k0_pay1 (iblk m c 2 ⟨min t.val 127, pt127_lt t⟩) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The outputs: at which points the body stores, at which the block is written back -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idle0_3 : ∀ t : Fin cfg0.N, t.val < 8 → cfg0.idle 3 (grid0.coords t) = true :=
  (by decide +kernel : ∀ t : Fin grid0.N, t.val < 8 → idle0 3 (grid0.coords t) = true)
theorem live0_3 : ∀ t : Fin cfg0.N, 8 ≤ t.val → cfg0.idle 3 (grid0.coords t) = false :=
  (by decide +kernel : ∀ t : Fin grid0.N, 8 ≤ t.val → idle0 3 (grid0.coords t) = false)
theorem noflush0_3 : ∀ t : Fin cfg0.N, t.val < 8 → (cfg0.win 3).flush t = false :=
  (by decide +kernel : ∀ t : Fin grid0.N, t.val < 8 → win0_3.flush t = false)
theorem flush0_3 : ∀ t : Fin cfg0.N, 8 ≤ t.val → (cfg0.win 3).flush t = true :=
  (by decide +kernel : ∀ t : Fin grid0.N, 8 ≤ t.val → win0_3.flush t = true)
theorem idle0_4 : ∀ t : Fin cfg0.N, ¬t.val < 128 → cfg0.idle 4 (grid0.coords t) = true :=
  (by decide +kernel : ∀ t : Fin grid0.N, ¬t.val < 128 → idle0 4 (grid0.coords t) = true)
theorem live0_4 : ∀ t : Fin cfg0.N, t.val < 128 → cfg0.idle 4 (grid0.coords t) = false :=
  (by decide +kernel : ∀ t : Fin grid0.N, t.val < 128 → idle0 4 (grid0.coords t) = false)
theorem noflush0_4 : ∀ t : Fin cfg0.N, 127 ≤ t.val → t.val ≠ 167 → (cfg0.win 4).flush t = false :=
  (by decide +kernel : ∀ t : Fin grid0.N, 127 ≤ t.val → t.val ≠ 167 → win0_4.flush t = false)
theorem flush0_4 : ∀ t : Fin cfg0.N, t.val < 127 ∨ t.val = 167 → (cfg0.win 4).flush t = true :=
  (by decide +kernel : ∀ t : Fin grid0.N, t.val < 127 ∨ t.val = 167 → win0_4.flush t = true)

/-- A buffer stored at point `t - n - 1`, not stored again before `t` and not written back, holds at `t` what was stored. -/
theorem before_run {Λ₀ : Labels} {cfg : Pipeline.Cfg sig Λ₀} {c : Dev nD} (dat : Dat τ (Elt F) Unit ℕ (UR sig nD τ) ℕ cfg c) (w : Fin cfg.W) (hw : (cfg.win w).isOut = true)
    (hclip : ∀ i a, (cfg.win w).clip i a = none) (d) (t s : Fin cfg.N) (n : ℕ) (hs : s.val + n + 1 = t.val)
    (hrun : ∀ j : Fin cfg.N, t.val - n ≤ j.val → j.val < t.val → cfg.idle w (cfg.grid.coords j) = true ∧ (cfg.win w).flush j = false)
    (hl : cfg.idle w (cfg.grid.coords s) = false) (hf : (cfg.win w).flush s = false) :
    dat.before w t d = dat.after w s := by
  have e : ∀ h, (⟨t.val - n - 1, h⟩ : Fin cfg.N) = s := fun h => Fin.ext (by simp only; omega)
  rw [Pipeline.Dat.before_idle_run dat w (fun t => (cfg.win w).fetch_out hw t) d n t (by omega) hrun,
    Pipeline.Dat.before_of_pos dat w ⟨t.val - n, Nat.lt_of_le_of_lt (Nat.sub_le _ _) t.isLt⟩ (by simp only; omega) ((cfg.win w).fetch_out hw _)]
  simp only [e]
  rw [if_neg (by rw [hf]; decide)]
  unfold Dat.left
  rw [hl]
  unfold Dat.kept
  simp only
  rw [Pipeline.fill_of_clip_none (cfg := cfg) w _ (hclip _) d (dat.after w _), Pipeline.Window.fill_cut]

/-- The last block of the side table, stored at point 127, is what the buffer holds at the last point. -/
theorem before0_4_last (c : Dev nD) (t : Fin cfg0.N) (ht : t.val = 167) (d) :
    (dats m 0 c).before 4 t d = (dats m 0 c).after 4 t := by
  have hN : cfg0.N = 168 := N_0
  have h127 : 127 < cfg0.N := by omega
  rw [before_run (dats m 0 c) 4 rfl (fun _ _ => rfl) d t ⟨127, h127⟩ 39 (by simp only; omega)
    (fun j h1 h2 => ⟨idle0_4 j (by omega), noflush0_4 j (by omega) (by omega)⟩)
    (live0_4 ⟨127, h127⟩ (by simp only; omega)) (noflush0_4 ⟨127, h127⟩ (by simp only; omega) (by simp only; omega)),
    after0_4, after0_4]
  have e : (⟨min (⟨127, h127⟩ : Fin cfg0.N).val 127, pt127_lt ⟨127, h127⟩⟩ : Fin cfg0.N) = ⟨min t.val 127, pt127_lt t⟩ := Fin.ext (by simp only; omega)
  exact congrArg (fun q => k0_pay1 (iblk m c 2 q)) e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) (h : 8 ≤ t.val) : (dats m 0 c).leavesExact 3 t = owns (c : Thread nD τ) (ms0_3 t) fullShare ((dats m 0 c).after 3 t) := by
  unfold Dat.leavesExact; rw [live0_3 t h]
theorem leaves0_4 (c : Dev nD) (t : Fin cfg0.N) (h : t.val < 128) : (dats m 0 c).leavesExact 4 t = owns (c : Thread nD τ) (ms0_4 t) fullShare ((dats m 0 c).after 4 t) := by
  unfold Dat.leavesExact; rw [live0_4 t h]
theorem leaves0_3_idle (c : Dev nD) (t : Fin cfg0.N) (h : t.val < 8) : (dats m 0 c).leavesExact 3 t = iprop(∃ d, owns (c : Thread nD τ) (ms0_3 t) fullShare ((dats m 0 c).before 3 t d)) :=
  (dats m 0 c).leavesExact_idle 3 t (idle0_3 t h) (noflush0_3 t h)
theorem leaves0_4_idle (c : Dev nD) (t : Fin cfg0.N) (h : ¬t.val < 128) (h' : t.val ≠ 167) : (dats m 0 c).leavesExact 4 t = iprop(∃ d, owns (c : Thread nD τ) (ms0_4 t) fullShare ((dats m 0 c).before 4 t d)) :=
  (dats m 0 c).leavesExact_idle 4 t (idle0_4 t h) (noflush0_4 t (by omega) h')
theorem leaves0_4_last (c : Dev nD) (t : Fin cfg0.N) (h' : t.val = 167) : (dats m 0 c).leavesExact 4 t = owns (c : Thread nD τ) (ms0_4 t) fullShare ((dats m 0 c).after 4 t) := by
  unfold Dat.leavesExact; rw [idle0_4 t (by omega), flush0_4 t (.inr h')]

/-- Past the side table its output's buffer stays as it was. -/
theorem idle_leaves_4 (c : Dev nD) (t : Fin cfg0.N) (h : ¬t.val < 128) (d) :
    owns (c : Thread nD τ) (ms0_4 t) fullShare ((dats m 0 c).before 4 t d) ⊢ (dats m 0 c).leavesExact 4 t := by
  by_cases h' : t.val = 167
  · rw [leaves0_4_last m c t h', before0_4_last m c t h']
    try exact Idealize.SL.BI.Entails.refl _
  · rw [leaves0_4_idle m c t h h']
    iintro H; iexists d; iexact H

end Cert.Kernel2Ideal.Mm

end
-- ==== Proof.MFrame.lean ====
module

public import proofs.«01_k».proof.Proof.MDats
public import Idealize.ShloMosaic.Lib.Claim

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
/-- The body at a point of case A. -/
theorem sound_body_A (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3_idle m c t h]
  rw [leaves0_4 m c t (by omega), after0_4]
  have e127 : (⟨min t.val 127, pt127_lt t⟩ : Fin cfg0.N) = t := Fin.ext (by simp only; omega)
  rw [e127]
  unfold PhiS
  iintro ⟨⟨%xs, %hx, HS, Hg⟩, Ho, ⟨%d0, H0⟩, ⟨%d1, H1⟩, ⟨%d2, H2⟩, ⟨%d3, H3⟩, ⟨%d4, H4⟩⟩
  iapply (runA c (grid0.coords t) _ _ _ _ _ _ _ _ _ _ _ _ ((hcond1 t).mpr (by omega)) ((hcond2 t).mpr (by omega)) (fun q => absurd ((hcond3 t).mp q) (by omega)) (fun q => absurd ((hcond4 t).mp q) (by omega)) (t.val / 8 % 2) (t.val % 8 * 512) (off1_eq t) (iblk m c 0 t) (iblk m c 1 t) (iblk m c 2 t) _ xs Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · iexists _
    isplitr
    swap
    · isplitl [HS]
      · iexact HS
      iexact Hg
    ipureintro
    exact inv_round m c t xs hx
  isplitl [Ho]; · iexact Ho
  isplitl [H0]; · iexact H0
  isplitl [H1]; · iexact H1
  isplitl [H2]; · iexact H2
  isplitl [H3]; · iexists _; iexact H3
  iexact H4

set_option maxHeartbeats 3000000 in
/-- The body at a point of case B. -/
theorem sound_body_B (c : Dev nD) (t : Fin cfg0.N) (h8 : 8 ≤ t.val) (h : t.val < 128) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3 m c t (by omega), after0_3]
  rw [leaves0_4 m c t (by omega), after0_4]
  have e127 : (⟨min t.val 127, pt127_lt t⟩ : Fin cfg0.N) = t := Fin.ext (by simp only; omega)
  rw [e127]
  unfold PhiS
  iintro ⟨⟨%xs, %hx, HS, Hg⟩, Ho, ⟨%d0, H0⟩, ⟨%d1, H1⟩, ⟨%d2, H2⟩, ⟨%d3, H3⟩, ⟨%d4, H4⟩⟩
  have hs := inv_slot m c t xs hx (by omega)
  iapply (runB c (grid0.coords t) _ _ _ _ _ _ _ _ _ _ _ _ ((hcond1 t).mpr (by omega)) (fun q => absurd ((hcond2 t).mp q) (by omega)) (fun q => absurd ((hcond3 t).mp q) (by omega)) ((hcond4 t).mpr (by omega)) (t.val / 8 % 2) (t.val % 8 * 512) (off4_eq t) ((t.val / 8 + 1) % 2) (Nat.mod_lt _ (by norm_num)) (off3_eq t) (iblk m c 0 t) (iblk m c 1 t) (iblk m c 2 t) xs Set.univ _)
  isplitl [H0]; · iexact H0
  isplitl [H1]; · iexact H1
  isplitl [H2]; · iexact H2
  isplitl [H3]; · iexists _; iexact H3
  isplitl [H4]; · iexists _; iexact H4
  isplitl [HS]; · iexact HS
  rw [hs]
  iintro ⟨H0, H1, H2, H3, H4, HS⟩
  isplitl [HS Hg]
  · iexists _
    isplitr
    swap
    · isplitl [HS]
      · iexact HS
      iexact Hg
    ipureintro
    exact inv_round m c t xs hx
  isplitl [Ho]; · iexact Ho
  isplitl [H0]; · iexact H0
  isplitl [H1]; · iexact H1
  isplitl [H2]; · iexact H2
  isplitl [H3]; · iexact H3
  iexact H4

set_option maxHeartbeats 3000000 in
/-- The body at a point of case C. -/
theorem sound_body_C (c : Dev nD) (t : Fin cfg0.N) (h8 : ¬t.val < 128) (h : t.val < 160) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3 m c t (by omega), after0_3]
  unfold PhiS
  iintro ⟨⟨%xs, %hx, HS, Hg⟩, Ho, ⟨%d0, H0⟩, ⟨%d1, H1⟩, ⟨%d2, H2⟩, ⟨%d3, H3⟩, ⟨%d4, H4⟩⟩
  have hs := inv_slot m c t xs hx (by omega)
  iapply (runC c (grid0.coords t) _ _ _ _ _ _ _ _ _ _ _ _ (fun q => absurd ((hcond1 t).mp q) (by omega)) (fun q => absurd ((hcond2 t).mp q) (by omega)) (fun q => absurd ((hcond3 t).mp q) (by omega)) ((hcond4 t).mpr (by omega)) (t.val / 8 % 2) (t.val % 8 * 512) (off4_eq t) ((t.val / 8 + 1) % 2) (Nat.mod_lt _ (by norm_num)) (off3_eq t) (iblk m c 0 t) (iblk m c 1 t) (iblk m c 2 t) _ xs Set.univ _)
  isplitl [H0]; · iexact H0
  isplitl [H1]; · iexact H1
  isplitl [H2]; · iexact H2
  isplitl [H3]; · iexists _; iexact H3
  isplitl [H4]; · iexact H4
  isplitl [HS]; · iexact HS
  rw [hs]
  iintro ⟨H0, H1, H2, H3, H4, HS⟩
  isplitl [HS Hg]
  · iexists _
    isplitr
    swap
    · isplitl [HS]
      · iexact HS
      iexact Hg
    ipureintro
    exact inv_round m c t xs hx
  isplitl [Ho]; · iexact Ho
  isplitl [H0]; · iexact H0
  isplitl [H1]; · iexact H1
  isplitl [H2]; · iexact H2
  isplitl [H3]; · iexact H3
  iapply (idle_leaves_4 m c t (by omega) d4); iexact H4

set_option maxHeartbeats 3000000 in
/-- The body at a point of case D. -/
theorem sound_body_D (c : Dev nD) (t : Fin cfg0.N) (h : 160 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3 m c t (by omega), after0_3]
  unfold PhiS
  iintro ⟨⟨%xs, %hx, HS, Hg⟩, Ho, ⟨%d0, H0⟩, ⟨%d1, H1⟩, ⟨%d2, H2⟩, ⟨%d3, H3⟩, ⟨%d4, H4⟩⟩
  have hs := inv_slot m c t xs hx (by omega)
  iapply (runD c (grid0.coords t) _ _ _ _ _ _ _ _ _ _ _ _ (fun q => absurd ((hcond1 t).mp q) (by omega)) (fun q => absurd ((hcond2 t).mp q) (by omega)) ((hcond3 t).mpr (by omega)) (fun q => absurd ((hcond4 t).mp q) (by omega)) ((t.val / 8 + 1) % 2) (Nat.mod_lt _ (by norm_num)) (off2_eq t) (iblk m c 0 t) (iblk m c 1 t) (iblk m c 2 t) _ xs Set.univ _)
  isplitl [H0]; · iexact H0
  isplitl [H1]; · iexact H1
  isplitl [H2]; · iexact H2
  isplitl [H3]; · iexists _; iexact H3
  isplitl [H4]; · iexact H4
  isplitl [HS]; · iexact HS
  rw [hs]
  iintro ⟨H0, H1, H2, H3, H4, HS⟩
  isplitl [HS Hg]
  · iexists _
    isplitr
    swap
    · isplitl [HS]
      · iexact HS
      iexact Hg
    ipureintro
    exact inv_keep m c t xs hx (by omega)
  isplitl [Ho]; · iexact Ho
  isplitl [H0]; · iexact H0
  isplitl [H1]; · iexact H1
  isplitl [H2]; · iexact H2
  isplitl [H3]; · iexact H3
  iapply (idle_leaves_4 m c t (by omega) d4); iexact H4

theorem sound_body (c : Dev nD) (t : Fin cfg0.N) :
    bodyPre m c t ⊢ wp frame (wpE (defs₀ (F := F)) Variants.none c none) Set.univ (bodyAt0 t) (fun _ => bodyPost m c t) := by
  by_cases h1 : t.val < 8
  · exact sound_body_A m c t h1
  · by_cases h2 : t.val < 128
    · exact sound_body_B m c t (by omega) h2
    · by_cases h3 : t.val < 160
      · exact sound_body_C m c t h2 h3
      · exact sound_body_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%xs, HS⟩, Hg⟩
  iexists xs
  isplitr
  · ipureintro; exact inv_zero m c xs
  isplitl [HS]
  · iexact HS
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs, %hx, HS, Hg⟩
  isplitl [HS]
  · iexists xs; iexact HS
  iexact Hg

set_option backward.isDefEq.respectTransparency.types false in
/-- The launch: every array at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel2Ideal.Mm

end
-- ==== Proof.MPFrame.lean ====
module

public import proofs.«01_k».proof.Defs
public import proofs.«01_k».proof.Proof.Gen.Kernel2
public import proofs.«01_k».proof.Proof.MFrame

@[expose] public section

noncomputable section

namespace Cert.Kernel2.Mm

open Idealize.ShloMosaic Idealize.ShloMosaic.TcCoe Idealize.ShloMosaic.Tactic Idealize.SL.Sem

/-- The frame of the kernel, over any floats. -/
def FrameOf (F : FTy → Type) [FloatOps F] : Prop :=
  ∀ (m : (ℓ : Loc Cert.Kernel2.nD Cert.Kernel2.τ Cert.Kernel2.sig) → Buf (Elt F) ℓ) (g : Dev Cert.Kernel2.nD → PrngReg),
    θ_run (Cert.Kernel2.defs (F := F)) (onTc (τ := Cert.Kernel2.τ) (Cert.Kernel2.main (F := F))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

/-- The frame of the idealized kernel, over any floats. -/
def FrameOfIdeal (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg),
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

/-- The two have one text. -/
theorem text (F : FTy → Type) [FloatOps F] : FrameOf F = FrameOfIdeal F := by
  sl_kernel_rfl

/-- The kernel terminates, leaves its arguments unchanged and every counter at zero. -/
theorem frame : Cert.quiescent_Kernel2 := fun m g _ =>
  (show FrameOf Bits from text Bits ▸ (fun m g => Cert.Kernel2Ideal.Mm.frame m g : FrameOfIdeal Bits)) m g

end Cert.Kernel2.Mm

end
-- ==== Proof.MArrays.lean ====
module

public import proofs.«01_k».proof.Proof.MFrame
public import proofs.«01_k».proof.Proof.Blocks
public import Idealize.ShloMosaic.Lib.Pipeline.ValueKit.Geometry
public import proofs.«01_k».proof.Proof.Gen.Reference2Ideal.Run
public import proofs.«01_k».proof.Proof.Gen.Reference2Ideal.Read

@[expose] public section

set_option maxRecDepth 16384

noncomputable section

namespace Cert.Kernel2Ideal.Mm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Window)

/-! ## The payloads, read at an index -/

theorem pay2_apply (x : Vec Ideal S512x1024 .f32) (r : Fin 512) (d : Fin 1024) :
    k0_pay2 x (ix3 0 r d) = x (ix2 r d) := by
  unfold k0_pay2
  pointwise

theorem pay5_apply (a : Vec Ideal S1024x4096 .bf16) (b : Vec Ideal S1x4096x1024 .bf16) (r : Fin 1024) (d : Fin 1024) :
    k0_pay5 a b (ix2 r d) = ∑ k : Fin 4096, a (ix2 r k) * b (ix3 0 k d) := by
  have hc : ∀ k : Fin 4096, shapeCast S4096x1024 b shapeCasts_S1x4096x1024_S4096x1024 (ix2 k d) = b (ix3 0 k d) := fun k => by
    pointwise
  unfold k0_pay5
  generalize shapeCast S4096x1024 b shapeCasts_S1x4096x1024_S4096x1024 = b' at hc
  have h0 : truncf .bf16 (matmul (φ₁ := .bf16) (φ₂ := .bf16) dot_S1024x4096_S4096x1024_S1024x1024_1_0_0_1_n_n none a b' (constant (F := Ideal) S1024x1024 .f32 0x00000000#32)) bitsLt_bf16_f32 (ix2 r d)
      = ∑ k : Fin 4096, a (ix2 r k) * b' (ix2 k d) := by
    pointwise
  refine h0.trans (Finset.sum_congr rfl fun k _ => ?_)
  rw [hc]

theorem flat_apply (w : Vec Ideal S1x4096x20480 .f32) (k : Fin 4096) (n : Fin 20480) :
    shapeCast S4096x20480 w shapeCasts_S1x4096x20480_S4096x20480 (ix2 k n) = w (ix3 0 k n) := by
  pointwise

/-! ## The arrays the launch reads and leaves -/

variable (m : (ℓ : Loc nD τ sig) → Buf (Elt Ideal) ℓ) (ρ : Dev nD → PrngReg) (c : Dev nD)

/-- The activations. -/
def actOf : S8192x4096.Idx → EReal := m ((c.tc : Thread nD τ).loc main_arg0)
/-- The weights. -/
def wtOf : S1x4096x20480.Idx → EReal := m ((c.tc : Thread nD τ).loc main_arg1)
/-- The side table. -/
def tabOf : S1x4096x2048.Idx → EReal := m ((c.tc : Thread nD τ).loc main_arg2)

/-- The product of the activations and the weights. -/
def projArr (X : S8192x4096.Idx → EReal) (W : S1x4096x20480.Idx → EReal) : S8192x20480.Idx → EReal := fun i =>
  ∑ k : Fin 4096, X (ix2 ⟨(i 0).val, (i 0).isLt⟩ k) * W (ix3 0 k ⟨(i 1).val, (i 1).isLt⟩)

/-- The side table, cast. -/
def tabArr (U : S1x4096x2048.Idx → EReal) : S4096x2048.Idx → EReal :=
  shapeCast S4096x2048 U shapeCasts_S1x4096x2048_S4096x2048

theorem V_v0 : V m c main_v0 = shapeCast S4096x20480 (m ((c.tc : Thread nD τ).loc main_arg1)) shapeCasts_S1x4096x20480_S4096x20480 := by
  show StableHlo.after hostOps0 _ _ = _
  simp only [hostOps0]
  after_results_simp
  rfl

theorem V_v1 : V m c main_v1 = shapeCast S4096x2048 (m ((c.tc : Thread nD τ).loc main_arg2)) shapeCasts_S1x4096x2048_S4096x2048 := by
  show StableHlo.after hostOps0 _ _ = _
  simp only [hostOps0]
  after_results_simp
  rfl

theorem at_a : ∀ t : Fin cfg0.N, 8 ≤ t.val → win0_0.index t 0 = t.val % 8 ∧ win0_0.index t 1 = 0 :=
  (by decide +kernel : ∀ t : Fin grid0.N, 8 ≤ t.val → win0_0.index t 0 = t.val % 8 ∧ win0_0.index t 1 = 0)
theorem at_b : ∀ t : Fin cfg0.N, t.val < 160 → win0_1.index t 0 = t.val % 8 ∧ win0_1.index t 1 = t.val / 8 :=
  (by decide +kernel : ∀ t : Fin grid0.N, t.val < 160 → win0_1.index t 0 = t.val % 8 ∧ win0_1.index t 1 = t.val / 8)
theorem at_s : ∀ t : Fin cfg0.N, win0_2.index t 0 = min t.val 127 ∧ win0_2.index t 1 = 0 :=
  (by decide +kernel : ∀ t : Fin grid0.N, win0_2.index t 0 = min t.val 127 ∧ win0_2.index t 1 = 0)
theorem at_3 : ∀ t : Fin cfg0.N, 8 ≤ t.val → win0_3.index t 0 = t.val % 8 ∧ win0_3.index t 1 = t.val / 8 - 1 :=
  (by decide +kernel : ∀ t : Fin grid0.N, 8 ≤ t.val → win0_3.index t 0 = t.val % 8 ∧ win0_3.index t 1 = t.val / 8 - 1)
theorem at_4 : ∀ t : Fin cfg0.N, win0_4.index t 0 = min t.val 127 ∧ win0_4.index t 1 = 0 :=
  (by decide +kernel : ∀ t : Fin grid0.N, win0_4.index t 0 = min t.val 127 ∧ win0_4.index t 1 = 0)

theorem read_act (t : Fin cfg0.N) (h8 : 8 ≤ t.val) (r : Fin 1024) (k : Fin 4096) :
    iblk m c 0 t (ix2 r k) = actOf m c (ix2 ⟨t.val % 8 * 1024 + r.val, by omega⟩ k) := by
  show V m c main_arg0 (((View.whole main_arg0).slice (win0_0.rect t)).emb (ix2 r k)) = _
  rw [V_main_arg0]
  refine congrArg (actOf m c) (funext fun a => Fin.ext ?_)
  have h := at_a t h8
  match a with
  | ⟨0, _⟩ => show win0_0.index t 0 * 1024 + 1 * r.val = t.val % 8 * 1024 + r.val; rw [h.1]; omega
  | ⟨1, _⟩ => show win0_0.index t 1 * 4096 + 1 * k.val = k.val; rw [h.2]; omega

theorem wt_lt (p : Fin cfg0.N) (hp : p.val < 160) (d : Fin 1024) : p.val / 8 * 1024 + d.val < 20480 := by omega

theorem read_wt (p : Fin cfg0.N) (hp : p.val < 160) (r : Fin 512) (d : Fin 1024) :
    iblk m c 1 p (ix2 r d) = wtOf m c (ix3 0 ⟨p.val % 8 * 512 + r.val, by omega⟩ ⟨p.val / 8 * 1024 + d.val, wt_lt p hp d⟩) := by
  show V m c main_v0 (((View.whole main_v0).slice (win0_1.rect p)).emb (ix2 r d)) = _
  rw [V_v0]
  refine Eq.trans (congrArg (shapeCast S4096x20480 (wtOf m c) shapeCasts_S1x4096x20480_S4096x20480) (funext fun a => Fin.ext ?_))
    (flat_apply (wtOf m c) ⟨p.val % 8 * 512 + r.val, by omega⟩ ⟨p.val / 8 * 1024 + d.val, wt_lt p hp d⟩)
  have h := at_b p hp
  match a with
  | ⟨0, _⟩ => show win0_1.index p 0 * 512 + 1 * r.val = p.val % 8 * 512 + r.val; rw [h.1]; omega
  | ⟨1, _⟩ => show win0_1.index p 1 * 1024 + 1 * d.val = p.val / 8 * 1024 + d.val; rw [h.2]; omega

theorem wcol_lt (t : Fin cfg0.N) (d : Fin 1024) : (t.val / 8 - 1) * 1024 + d.val < 20480 := by
  have h := pt_lt t
  omega

theorem read_col (t : Fin cfg0.N) (k : Fin 4096) (d : Fin 1024) :
    colBlk m c t (ix3 0 k d) = wtOf m c (ix3 0 k ⟨(t.val / 8 - 1) * 1024 + d.val, wcol_lt t d⟩) := by
  have hN := pt_lt t
  have hk := k.isLt
  have hp : (t.val / 8 - 1) * 8 + k.val / 512 < cfg0.N := lt_pt (by omega)
  have h := pay2_apply (iblk m c 1 ⟨(t.val / 8 - 1) * 8 + k.val / 512, hp⟩) ⟨k.val % 512, Nat.mod_lt _ (by norm_num)⟩ d
  refine Eq.trans (show _ = k0_pay2 (iblk m c 1 ⟨(t.val / 8 - 1) * 8 + k.val / 512, hp⟩) (ix3 0 ⟨k.val % 512, Nat.mod_lt _ (by norm_num)⟩ d) from rfl) (h.trans ?_)
  rw [read_wt m c _ (by simp only; omega)]
  refine congrArg (wtOf m c) ?_
  congr 1
  · exact Fin.ext (by simp only; omega)
  · exact Fin.ext (by simp only; omega)

/-- A block of the product, from a block of each operand. -/
theorem prod_block (X : S8192x4096.Idx → EReal) (W : S1x4096x20480.Idx → EReal) (a : Vec Ideal S1024x4096 .bf16) (b : Vec Ideal S1x4096x1024 .bf16)
    (r d : Fin 1024) (R : Fin 8192) (n : Fin 20480) (i : S8192x20480.Idx) (ha : ∀ k, a (ix2 r k) = X (ix2 R k))
    (hb : ∀ k, b (ix3 0 k d) = W (ix3 0 k n)) (h0 : (i 0).val = R.val) (h1 : (i 1).val = n.val) :
    k0_pay5 a b (ix2 r d) = projArr X W i := by
  rw [pay5_apply]
  unfold projArr
  refine Finset.sum_congr rfl fun k _ => ?_
  rw [ha, hb, show (⟨(i 0).val, (i 0).isLt⟩ : Fin 8192) = R from Fin.ext h0, show (⟨(i 1).val, (i 1).isLt⟩ : Fin 20480) = n from Fin.ext h1]

theorem proj_block (t : Fin cfg0.N) (h8 : 8 ≤ t.val) (y : S1024x1024.Idx) :
    k0_pay5 (iblk m c 0 t) (colBlk m c t) y =
      projArr (actOf m c) (wtOf m c) (((View.whole main_v2_0).slice (win0_3.rect t)).emb y) := by
  obtain ⟨r, d, rfl⟩ : ∃ (r d : Fin 1024), y = ix2 r d := ⟨y 0, y 1, eq_ix2 y⟩
  have h := at_3 t h8
  exact prod_block (actOf m c) (wtOf m c) _ _ r d ⟨t.val % 8 * 1024 + r.val, by omega⟩ ⟨(t.val / 8 - 1) * 1024 + d.val, wcol_lt t d⟩ _
    (fun k => read_act m c t h8 r k) (fun k => read_col m c t k d)
    (by show win0_3.index t 0 * 1024 + 1 * r.val = t.val % 8 * 1024 + r.val; rw [h.1]; omega)
    (by show win0_3.index t 1 * 1024 + 1 * d.val = (t.val / 8 - 1) * 1024 + d.val; rw [h.2]; omega)

theorem tab_block (t : Fin cfg0.N) (y : S32x2048.Idx) :
    k0_pay1 (iblk m c 2 ⟨min t.val 127, pt127_lt t⟩) y =
      tabArr (tabOf m c) (((View.whole main_v2_1).slice (win0_4.rect t)).emb y) := by
  have hs : ∀ (x : Vec Ideal S32x2048 .f32), k0_pay1 x = x := fun x => by
    unfold k0_pay1
    rw [shapeCast_self]
    rfl
  rw [hs]
  show V m c main_v1 (((View.whole main_v1).slice (win0_2.rect ⟨min t.val 127, pt127_lt t⟩)).emb y) = _
  rw [V_v1]
  refine congrArg (tabArr (tabOf m c)) (funext fun a => Fin.ext ?_)
  have h1 := at_s ⟨min t.val 127, pt127_lt t⟩
  have h2 := at_4 t
  match a with
  | ⟨0, _⟩ =>
    show win0_2.index ⟨min t.val 127, pt127_lt t⟩ 0 * 32 + 1 * (y 0).val = win0_4.index t 0 * 32 + 1 * (y 0).val
    rw [h1.1, h2.1, Nat.min_assoc, Nat.min_self]
  | ⟨1, _⟩ =>
    show win0_2.index ⟨min t.val 127, pt127_lt t⟩ 1 * 2048 + 1 * (y 1).val = win0_4.index t 1 * 2048 + 1 * (y 1).val
    rw [h1.2, h2.2]

theorem flush_ge (t : Fin cfg0.N) (h : (cfg0.win 3).flush t = true) : 8 ≤ t.val := by
  by_contra q
  rw [noflush0_3 t (by omega)] at h
  exact Bool.noConfusion h

theorem final_proj : (dats m 0 c).arrAt 3 cfg0.N = projArr (actOf m c) (wtOf m c) := by
  refine Dat.arrAt_eq_of_cover (dats m 0 c) 3 (projArr (actOf m c) (wtOf m c)) ?_ ?_
  · intro t ht
    refine funext fun y => ?_
    rw [Dat.flushed_apply, after0_3]
    exact proj_block m c t (flush_ge t ht) y
  · intro i
    have h0 : (i 0).val < 8192 := (i 0).isLt
    have h1 : (i 1).val < 20480 := (i 1).isLt
    have hN : cfg0.N = 168 := N_0
    have hb : ((i 1).val / 1024 + 1) * 8 + (i 0).val / 1024 < cfg0.N := by omega
    refine ⟨⟨((i 1).val / 1024 + 1) * 8 + (i 0).val / 1024, hb⟩, flush0_3 _ (by simp only; omega), ?_⟩
    generalize ht : (⟨((i 1).val / 1024 + 1) * 8 + (i 0).val / 1024, hb⟩ : Fin cfg0.N) = t
    have hv : t.val = ((i 1).val / 1024 + 1) * 8 + (i 0).val / 1024 := by rw [← ht]
    have hi := at_3 t (by omega)
    show i ∈ ((View.whole main_v2_0).slice (win0_3.rect t)).set
    rw [View.set_slice_whole, Window.mem_rect_iff win0_3 t i]
    intro a
    match a with
    | ⟨0, _⟩ =>
      show win0_3.index t 0 * 1024 ≤ (i 0).val ∧ (i 0).val < win0_3.index t 0 * 1024 + 1024
      rw [hi.1]; omega
    | ⟨1, _⟩ =>
      show win0_3.index t 1 * 1024 ≤ (i 1).val ∧ (i 1).val < win0_3.index t 1 * 1024 + 1024
      rw [hi.2]; omega

theorem final_tab : (dats m 0 c).arrAt 4 cfg0.N = tabArr (tabOf m c) := by
  refine Dat.arrAt_eq_of_cover (dats m 0 c) 4 (tabArr (tabOf m c)) ?_ ?_
  · intro t _
    refine funext fun y => ?_
    rw [Dat.flushed_apply, after0_4]
    exact tab_block m c t y
  · intro i
    have h0 : (i 0).val < 4096 := (i 0).isLt
    have h1 : (i 1).val < 2048 := (i 1).isLt
    have hN : cfg0.N = 168 := N_0
    have key : ∀ t : Fin cfg0.N, min t.val 127 = (i 0).val / 32 → i ∈ ((View.whole main_v2_1).slice (win0_4.rect t)).set := by
      intro t hv
      have hi := at_4 t
      rw [View.set_slice_whole, Window.mem_rect_iff win0_4 t i]
      intro a
      match a with
      | ⟨0, _⟩ =>
        show win0_4.index t 0 * 32 ≤ (i 0).val ∧ (i 0).val < win0_4.index t 0 * 32 + 32
        rw [hi.1, hv]; omega
      | ⟨1, _⟩ =>
        show win0_4.index t 1 * 2048 ≤ (i 1).val ∧ (i 1).val < win0_4.index t 1 * 2048 + 2048
        rw [hi.2]; omega
    by_cases hl : (i 0).val / 32 < 127
    · exact ⟨⟨(i 0).val / 32, by omega⟩, flush0_4 _ (.inl hl), key _ (by simp only; omega)⟩
    · exact ⟨⟨167, by omega⟩, flush0_4 _ (.inr rfl), key _ (by simp only; omega)⟩

/-- The kernel ends with the product and the cast side table. -/
theorem kernel_run :
    θ_run defs (onTc (τ := τ) (main (F := Ideal))) ⟨m, fun _ => 0, ρ⟩ (fun r => ∀ c : Dev nD,
      r.2.mem ((c.tc : Thread nD τ).loc main_v2_0) = projArr (actOf m c) (wtOf m c)
      ∧ r.2.mem ((c.tc : Thread nD τ).loc main_v2_1) = tabArr (tabOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_proj m c), ((h.1 c).1 4).trans (final_tab m c), h.2 c⟩)
    (θ_run_and (run_main m ρ) (unchanged m ρ))

end Cert.Kernel2Ideal.Mm

namespace Cert.Mm

open Idealize.ShloMosaic Idealize.ShloMosaic.TcCoe Idealize.SL.Sem
open Cert.Reference2Ideal Cert.Reference2Ideal.Gen Cert.Reference2Ideal.Read
open Cert.Kernel2Ideal.Mm (projArr tabArr)

/-- The reference's product is the same array. -/
theorem same_proj (X : S8192x4096.Idx → EReal) (W : S1x4096x20480.Idx → EReal) : val_main_v3 (F := Ideal) X W = projArr X W := by
  funext i
  refine Eq.trans (val_main_v3_apply (F := Ideal) X W i) ?_
  refine Eq.trans (show _ = val_main_v2 (F := Ideal) X W i from rfl) ?_
  rw [val_main_v2_apply]
  unfold projArr
  refine Finset.sum_congr rfl fun k _ => ?_
  have h1 : (i 1).val < 20480 := (i 1).isLt
  have hk : k.val < 4096 := k.isLt
  rw [val_main_v1_apply]
  congr 1
  · show X (lidx_main_v2 i k) = _
    refine congrArg X (funext fun a => ?_)
    match a with
    | ⟨0, _⟩ => rfl
    | ⟨1, _⟩ => rfl
  · refine congrArg W (funext fun a => Fin.ext ?_)
    match a with
    | ⟨0, _⟩ => rfl
    | ⟨1, _⟩ => show (k.val * 20480 + (i 1).val) / 20480 % 4096 = k.val; omega
    | ⟨2, _⟩ => show (k.val * 20480 + (i 1).val) % 20480 = (i 1).val; omega

theorem same_tab (U : S1x4096x2048.Idx → EReal) : val_main_v5 (F := Ideal) U = tabArr U := rfl

variable (m : (ℓ : Loc nD τ sig) → Buf (Elt Ideal) ℓ) (ρ : Dev nD → PrngReg)

/-- The reference ends with its two stages. -/
theorem reference_run :
    θ_run defs (onTc (τ := τ) (main (F := Ideal))) ⟨m, fun _ => 0, ρ⟩ (fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_v5) = val_main_v5 (F := Ideal) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (val_main_v3_eq (F := Ideal) _ _), (h c).2.1.trans (val_main_v5_eq (F := Ideal) _), (h c).2.2⟩)
    (Cert.Reference2Ideal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩)
    (reference_run m ρ)

end Cert.Mm

end
-- ==== Proof.Slots.lean ====
module

public import Idealize.ShloMosaic.Lib.Claim
public import Idealize.ShloMosaic.Lib.VecWindow
public import Idealize.ShloMosaic.Lib.WholeRead
public import Idealize.ShloMosaic.Lib.Pointwise

@[expose] public section

noncomputable section

namespace Cert.Slots

open Idealize.ShloMosaic Idealize.ShloMosaic.TcCoe

/-! # A scratch buffer of two columns, one read while the other is filled in eight chunks of rows

`K` rows of `C` entries in a column, `kc` rows in a chunk. -/

variable {F : FTy → Type} [FloatOps F] {e : EltTy} {K kc C N : ℕ}

/-- Two columns. -/
abbrev S2 (K C : ℕ) : Shape := ⟨3, ![2, K, C]⟩
/-- A part of one column. -/
abbrev S1 (K C : ℕ) : Shape := ⟨3, ![1, K, C]⟩

/-- A scratch with a chunk of rows of one column replaced. -/
def upd (xs : Vec F (S2 K C) e) (a b : ℕ) (w : Vec F (S1 kc C) e) : Vec F (S2 K C) e := fun y =>
  if h : (y 0).val = a ∧ b ≤ (y 1).val ∧ (y 1).val < b + kc then
    w (ix3 (0 : Fin 1) (⟨(y 1).val - b, by omega⟩ : Fin kc) (⟨(y 2).val, (y 2).isLt⟩ : Fin C))
  else xs y

/-- One column of a scratch. -/
def slotOf (xs : Vec F (S2 K C) e) (a : ℕ) : Vec F (S1 K C) e := fun x =>
  xs (ix3 (⟨a % 2, Nat.mod_lt _ (by norm_num)⟩ : Fin 2) (⟨(x 1).val, (x 1).isLt⟩ : Fin K) (⟨(x 2).val, (x 2).isLt⟩ : Fin C))

variable {sig : RefSig}

theorem read_upd (M : Memref sig .tc .vmem (S2 K C) e) (h : M.IsWhole) (xs : Vec F (S2 K C) e) (a b : ℕ)
    (off : Fin 3 → ℕ) (ho : off = ![a, b, 0]) (inb : ∀ r, off r + (S1 kc C).size r ≤ (S2 K C).size r) (w : Vec F (S1 kc C) e) :
    M.view.read (Elt F) (M.view.writes (Elt F) (h.unread xs) [⟨Rect.unit (s := S2 K C) off (S1 kc C).size inb, w⟩]) = upd xs a b w := by
  funext y
  have h2 : (y 2).val < C := (y 2).isLt
  unfold upd
  split
  · next hy =>
    exact View.read_writes_cons_unit_of_mem M.view _ inb w [] y _ ho (fun r => by
      match r with
      | ⟨0, _⟩ => show (y 0).val = a + 0; omega
      | ⟨1, _⟩ => show (y 1).val = b + ((y 1).val - b); omega
      | ⟨2, _⟩ => show (y 2).val = 0 + (y 2).val; omega)
  · next hy =>
    have e : M.view.read (Elt F) (M.view.writes (Elt F) (h.unread xs) []) y = xs y := by
      rw [View.writes_nil, h.read_unread]
    by_cases hy0 : (y 0).val = a
    · rw [View.read_writes_cons_unit_of_not_mem M.view _ inb w [] y ho (1 : Fin 3) (by
        show (y 1).val < b ∨ b + kc ≤ (y 1).val; omega), e]
    · rw [View.read_writes_cons_unit_of_not_mem M.view _ inb w [] y ho (0 : Fin 3) (by
        show (y 0).val < a ∨ a + 1 ≤ (y 0).val; omega), e]

theorem read_slot (M : Memref sig .tc .vmem (S2 K C) e) (h : M.IsWhole) (xs : Vec F (S2 K C) e) (a : ℕ) (ha : a < 2)
    (off : Fin 3 → ℕ) (ho : off = ![a, 0, 0]) (inb : ∀ r, off r + (S1 K C).size r ≤ (S2 K C).size r) :
    View.readAt (Elt F) M.view (Rect.unit (s := S2 K C) off (S1 K C).size inb).toLoadRect (h.unread xs) = slotOf xs a := by
  subst ho
  funext x
  rw [h.readAt_unread]
  unfold slotOf
  refine congrArg xs (funext fun r => Fin.ext ?_)
  have h0 : (x 0).val < 1 := (x 0).isLt
  match r with
  | ⟨0, _⟩ => show a + 1 * (x 0).val = a % 2; omega
  | ⟨1, _⟩ => show 0 + 1 * (x 1).val = (x 1).val; omega
  | ⟨2, _⟩ => show 0 + 1 * (x 2).val = (x 2).val; omega

theorem read_all {sp : Space} {s : Shape} {e : EltTy} (M : Memref sig .tc sp s e) (h : M.IsWhole) (x : Vec F s e)
    (off : Fin s.rank → ℕ) (inb : ∀ a, off a + s.size a ≤ s.size a) :
    View.readAt (Elt F) M.view (Rect.unit (s := s) off s.size inb).toLoadRect (h.unread x) = x := by
  rw [View.readAt_full, h.read_unread]

/-! ## What the scratch holds before a point -/

/-- Before point `n` the scratch holds the chunks written at the sixteen points before it, of those below `L`. -/
def Inv (L : ℕ) (g : Fin N → Vec F (S1 kc C) e) (n : ℕ) (xs : Vec F (S2 K C) e) : Prop :=
  ∀ p : Fin N, p.val < L → p.val < n → n ≤ p.val + 16 → ∀ (r : Fin kc) (d : Fin C) (y : (S2 K C).Idx),
    (y 0).val = p.val / 8 % 2 → (y 1).val = p.val % 8 * kc + r.val → (y 2).val = d.val → xs y = g p (ix3 (0 : Fin 1) r d)

variable (L : ℕ) (g : Fin N → Vec F (S1 kc C) e)

theorem inv_zero (xs : Vec F (S2 K C) e) : Inv L g 0 xs := fun p _ h => absurd h (Nat.not_lt_zero _)

theorem chunk_eq {a b r : ℕ} (hr : r < kc) (h1 : b * kc ≤ a * kc + r) (h2 : a * kc + r < b * kc + kc) : a = b := by
  have e1 : a * kc + kc = (a + 1) * kc := by ring
  have e2 : b * kc + kc = (b + 1) * kc := by ring
  have q1 : b < a + 1 := Nat.lt_of_mul_lt_mul_right (a := kc) (by omega)
  have q2 : a < b + 1 := Nat.lt_of_mul_lt_mul_right (a := kc) (by omega)
  omega

theorem inv_round (t : Fin N) (xs : Vec F (S2 K C) e) (h : Inv L g t.val xs) :
    Inv L g (t.val + 1) (upd xs (t.val / 8 % 2) (t.val % 8 * kc) (g t)) := by
  intro p hp h1 h2 r d y y0 y1 y2
  have hr := r.isLt
  unfold upd
  by_cases e : p = t
  · subst e
    rw [dif_pos ⟨y0, by omega, by omega⟩]
    refine congrArg (g p) ?_
    congr 1
    · exact Fin.ext (by show (y 1).val - p.val % 8 * kc = r.val; omega)
    · exact Fin.ext y2
  · have e' : p.val ≠ t.val := fun q => e (Fin.ext q)
    rw [dif_neg (fun q => by
      have q0 : p.val / 8 % 2 = t.val / 8 % 2 := y0.symm.trans q.1
      have q1 := q.2.1
      have q2 := q.2.2
      rw [y1] at q1 q2
      have q3 : p.val % 8 = t.val % 8 := chunk_eq hr q1 q2
      omega)]
    exact h p hp (by omega) (by omega) r d y y0 y1 y2

theorem inv_keep (t : Fin N) (xs : Vec F (S2 K C) e) (h : Inv L g t.val xs) (ht : L ≤ t.val) :
    Inv L g (t.val + 1) xs := fun p hp _ h2 r d y => h p hp (by omega) (by omega) r d y

theorem col_lt (hN : 8 ≤ N) (hK : K = 8 * kc) (t : Fin N) (q : ℕ) (hq : q < K) : (t.val / 8 - 1) * 8 + q / kc < N := by
  have h : q / kc < 8 := Nat.div_lt_of_lt_mul (by rw [Nat.mul_comm]; omega)
  have := t.isLt
  revert h
  generalize q / kc = z
  intro h
  omega

theorem mod_lt' (hK : K = 8 * kc) (q : ℕ) (hq : q < K) : q % kc < kc :=
  Nat.mod_lt _ (Nat.pos_of_ne_zero fun h => by subst h; omega)

/-- The column a point reads: the chunks that the eight points of the column before wrote. -/
def colBlk (hN : 8 ≤ N) (hK : K = 8 * kc) (t : Fin N) : Vec F (S1 K C) e := fun x =>
  g ⟨(t.val / 8 - 1) * 8 + (x 1).val / kc, col_lt hN hK t _ (x 1).isLt⟩
    (ix3 (0 : Fin 1) (⟨(x 1).val % kc, mod_lt' hK _ (x 1).isLt⟩ : Fin kc) (⟨(x 2).val, (x 2).isLt⟩ : Fin C))

theorem inv_slot (hN : 8 ≤ N) (hK : K = 8 * kc) (t : Fin N) (xs : Vec F (S2 K C) e) (h : Inv L g t.val xs) (ht : 8 ≤ t.val) (hL : t.val ≤ L + 7) (h8 : L % 8 = 0) :
    slotOf xs ((t.val / 8 + 1) % 2) = colBlk g hN hK t := by
  funext x
  have hx : (x 1).val < K := (x 1).isLt
  have h1 : (x 1).val / kc < 8 := Nat.div_lt_of_lt_mul (by rw [Nat.mul_comm]; omega)
  have h2 := Nat.div_add_mod' (x 1).val kc
  have key : ∀ q : ℕ, q < 8 → (t.val / 8 - 1) * 8 + q < L ∧ (t.val / 8 - 1) * 8 + q < t.val ∧ t.val ≤ (t.val / 8 - 1) * 8 + q + 16
      ∧ (t.val / 8 + 1) % 2 % 2 = ((t.val / 8 - 1) * 8 + q) / 8 % 2 ∧ ((t.val / 8 - 1) * 8 + q) % 8 = q := fun q hq => by
    refine ⟨?_, ?_, ?_, ?_, ?_⟩ <;> omega
  obtain ⟨k1, k2, k3, k4, k5⟩ := key _ h1
  unfold slotOf colBlk
  refine h ⟨(t.val / 8 - 1) * 8 + (x 1).val / kc, col_lt hN hK t _ hx⟩ k1 k2 k3 _ _ _ k4 ?_ rfl
  show (x 1).val = ((t.val / 8 - 1) * 8 + (x 1).val / kc) % 8 * kc + (x 1).val % kc
  rw [k5]
  exact h2.symm

end Cert.Slots

end
-- ==== Proof.ORun.lean ====
module

public import proofs.«01_k».proof.Proof.Gen.Kernel3Ideal.Frame
public import proofs.«01_k».proof.Proof.Gen.Kernel3Ideal.Skeleton
public import proofs.«01_k».proof.Proof.Slots
public import Idealize.ShloMosaic.Lib.Pipeline.TableIdle

@[expose] public section

set_option maxRecDepth 16384

noncomputable section

namespace Cert.Kernel3Ideal.Mm

open Cert.Kernel3Ideal Cert.Kernel3Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches of the body, and where it reads and writes its scratch -/

theorem hcond1 : ∀ t : Fin grid0.N, k0_cond1 (grid0.coords t) = 1#1 ↔ t.val < 8 := by decide +kernel
theorem hcond2 : ∀ t : Fin grid0.N, k0_cond2 (grid0.coords t) = 1#1 ↔ 32 ≤ t.val := by decide +kernel
theorem hcond3 : ∀ t : Fin grid0.N, k0_cond3 (grid0.coords t) = 1#1 ↔ 8 ≤ t.val ∧ t.val < 32 := by decide +kernel
theorem off1_eq : ∀ t : Fin grid0.N, k0_off1 (grid0.coords t) = ![t.val / 8 % 2, t.val % 8 * 512, 0] := by decide +kernel
theorem off2_eq : ∀ t : Fin grid0.N, k0_off2 (grid0.coords t) = ![(t.val / 8 + 1) % 2, 0, 0] := by decide +kernel
theorem off3_eq : ∀ t : Fin grid0.N, k0_off3 (grid0.coords t) = ![(t.val / 8 + 1) % 2, 0, 0] := by decide +kernel
theorem off4_eq : ∀ t : Fin grid0.N, k0_off4 (grid0.coords t) = ![t.val / 8 % 2, t.val % 8 * 512, 0] := by decide +kernel

/-- The window buffers at a point, and the scratch. -/
abbrev ms0_0 (t : Fin cfg0.N) : Memref sig .tc .vmem S1024x4096 .bf16 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S1024x1024 .f32 := win0_2.stage (cfg0.slots t 2)
abbrev ms0_3 (t : Fin cfg0.N) : Memref sig .tc .vmem S1024x1024 .f32 := win0_3.stage (cfg0.slots t 3)
abbrev scM0_0 : Memref sig .tc .vmem S2x4096x1024 .bf16 := Memref.whole cc0_scratch0

/-- What the launch hands over beside the windows: the scratch at some contents, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 3000000 in
/-- The body run at the first column of the grid: it rounds a chunk of the weights. -/
theorem runA (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S2x4096x1024 .bf16) (harg6 : arg6.IsWhole)
    (h1 : k0_cond1 i = 1#1) (h2 : ¬k0_cond2 i = 1#1) (h3 : ¬k0_cond3 i = 1#1) (pa pb : ℕ) (hw : k0_off1 i = ![pa, pb, 0])
    (x0 : Vec F S1024x4096 .bf16) (x1 : Vec F S512x1024 .f32) (x2 : Vec F S1024x1024 .f32) (x3 : Vec F S1024x1024 .f32) (xs0 : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (upd xs0 pa pb (k0_pay1 x1))) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  try simp only [k0_part1_eq_skeleton]
  try unfold k0_part1_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg2.eq_unread hf0
  obtain rfl := harg3.eq_unread hf1
  obtain rfl := harg4.eq_unread hf2
  obtain rfl := harg5.eq_unread hf3
  obtain rfl := harg6.eq_unread hfs0
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS0
  ipureintro
  refine (read_upd arg6 harg6 xs0 pa pb _ hw _ _).trans ?_
  rw [read_all]

set_option maxHeartbeats 3000000 in
/-- The body run at a later column: it multiplies, and rounds a chunk. -/
theorem runB (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S2x4096x1024 .bf16) (harg6 : arg6.IsWhole)
    (h1 : ¬k0_cond1 i = 1#1) (h2 : ¬k0_cond2 i = 1#1) (h3 : k0_cond3 i = 1#1) (pa pb : ℕ) (hw : k0_off4 i = ![pa, pb, 0]) (pr : ℕ) (hpr : pr < 2) (hr : k0_off3 i = ![pr, 0, 0])
    (x0 : Vec F S1024x4096 .bf16) (x1 : Vec F S512x1024 .f32) (x2 : Vec F S1024x1024 .f32) (xs0 : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
      ∗ (iprop(owns (c : Thread nD τ) arg2 fullShare x0 ∗ owns (c : Thread nD τ) arg3 fullShare x1 ∗ owns (c : Thread nD τ) arg4 fullShare x2 ∗ owns (c : Thread nD τ) arg5 fullShare (k0_pay4 x0 (slotOf xs0 pr) x2) ∗ owns (c : Thread nD τ) arg6 fullShare (upd xs0 pa pb (k0_pay3 (k0_pay5 x1)))) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  try simp only [k0_part1_eq_skeleton]
  try unfold k0_part1_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0
  obtain rfl := harg3.eq_unread hf1
  obtain rfl := harg4.eq_unread hf2
  obtain rfl := harg6.eq_unread hfs0
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [read_all arg2 harg2 x0, read_all arg4 harg4 x2, read_slot arg6 harg6 xs0 pr hpr _ hr]
  iexists _; isplitr
  swap; · iexact HS0
  ipureintro
  refine (read_upd arg6 harg6 xs0 pa pb _ hw _ _).trans ?_
  rw [read_all]

set_option maxHeartbeats 3000000 in
/-- The body run at the last column: it multiplies. -/
theorem runC (c : Dev nD) (i : grid0.Coords) (arg2 : Memref sig .tc .vmem S1024x4096 .bf16) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S2x4096x1024 .bf16) (harg6 : arg6.IsWhole)
    (h1 : ¬k0_cond1 i = 1#1) (h2 : k0_cond2 i = 1#1) (h3 : ¬k0_cond3 i = 1#1) (pr : ℕ) (hpr : pr < 2) (hr : k0_off2 i = ![pr, 0, 0])
    (x0 : Vec F S1024x4096 .bf16) (x1 : Vec F S512x1024 .f32) (x2 : Vec F S1024x1024 .f32) (xs0 : Vec F S2x4096x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
      ∗ (iprop(owns (c : Thread nD τ) arg2 fullShare x0 ∗ owns (c : Thread nD τ) arg3 fullShare x1 ∗ owns (c : Thread nD τ) arg4 fullShare x2 ∗ owns (c : Thread nD τ) arg5 fullShare (k0_pay2 x0 (slotOf xs0 pr) x2) ∗ owns (c : Thread nD τ) arg6 fullShare xs0) -∗ K ⟨⟩))
      ⊢ wp frame (wpE (defs₀ (F := F)) Variants.none c none) E (cc0_out_proj i arg2 harg2 arg3 harg3 arg4 harg4 arg5 harg5 arg6 harg6) K := by
  simp only [cc0_out_proj_eq_skeleton]; unfold cc0_out_proj_skel
  try simp only [k0_part1_eq_skeleton]
  try unfold k0_part1_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg2.eq_unread hf0
  obtain rfl := harg3.eq_unread hf1
  obtain rfl := harg4.eq_unread hf2
  obtain rfl := harg6.eq_unread hfs0
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_full _ _ _ _ _).trans ?_
    rw [read_all arg2 harg2 x0, read_all arg4 harg4 x2, read_slot arg6 harg6 xs0 pr hpr _ hr]
  iexists _; isplitr; · ipureintro; exact harg6.read_unread _
  iexact HS0

end Cert.Kernel3Ideal.Mm

end
-- ==== Proof.ODats.lean ====
module

public import proofs.«01_k».proof.Proof.ORun

@[expose] public section

set_option maxRecDepth 16384

noncomputable section

namespace Cert.Kernel3Ideal.Mm

open Cert.Kernel3Ideal Cert.Kernel3Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem pt_lt (t : Fin cfg0.N) : t.val < 40 := lt_of_lt_of_eq t.isLt (show cfg0.N = 40 from N_0)
theorem lt_pt {n : ℕ} (h : n < 40) : n < cfg0.N := lt_of_lt_of_eq h (show 40 = cfg0.N from N_0.symm)
theorem le_N : 8 ≤ cfg0.N := le_of_le_of_eq (by norm_num : 8 ≤ 40) (show 40 = cfg0.N from N_0.symm)

/-- The rounded chunk of the weights that a point makes. -/
def chunk0 (c : Dev nD) (p : Fin cfg0.N) : Vec F S1x512x1024 .bf16 := k0_pay1 (iblk m c 1 p)
/-- The rounded column of the weights that a point multiplies by. -/
def col0 (c : Dev nD) (t : Fin cfg0.N) : Vec F S1x4096x1024 .bf16 := colBlk (chunk0 m c) le_N rfl t

/-- The invariant before point `n`. -/
def PhiS (c : Dev nD) (n : ℕ) : sProp 𝕄 :=
  iprop(∃ xs0, ⌜Inv 32 (chunk0 m c) n xs0⌝ ∗ owns (c : Thread nD τ) scM0_0 fullShare xs0 ∗ (∃ r, prngReg c r))

/-- What the body leaves at each point: the inputs' blocks as they were, a block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (iblk m c 0 t) (col0 m c t) (iblk m c 2 t)
    | ⟨_ + 4, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay4 (iblk m c 0 t) (col0 m c t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The output: at which points the body stores it, at which its block is written back -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idleOut : ∀ t : Fin cfg0.N, t.val < 8 → cfg0.idle 3 (grid0.coords t) = true :=
  (by decide +kernel : ∀ t : Fin grid0.N, t.val < 8 → idle0 3 (grid0.coords t) = true)
theorem liveOut : ∀ t : Fin cfg0.N, 8 ≤ t.val → cfg0.idle 3 (grid0.coords t) = false :=
  (by decide +kernel : ∀ t : Fin grid0.N, 8 ≤ t.val → idle0 3 (grid0.coords t) = false)
theorem noflushOut : ∀ t : Fin cfg0.N, t.val < 8 → (cfg0.win 3).flush t = false :=
  (by decide +kernel : ∀ t : Fin grid0.N, t.val < 8 → win0_3.flush t = false)
theorem flushOut : ∀ t : Fin cfg0.N, 8 ≤ t.val → (cfg0.win 3).flush t = true :=
  (by decide +kernel : ∀ t : Fin grid0.N, 8 ≤ t.val → win0_3.flush t = true)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leavesOut (c : Dev nD) (t : Fin cfg0.N) (h : 8 ≤ t.val) : (dats m 0 c).leavesExact 3 t = owns (c : Thread nD τ) (ms0_3 t) fullShare ((dats m 0 c).after 3 t) := by
  unfold Dat.leavesExact; rw [liveOut t h]
theorem leavesOut_idle (c : Dev nD) (t : Fin cfg0.N) (h : t.val < 8) : (dats m 0 c).leavesExact 3 t = iprop(∃ d, owns (c : Thread nD τ) (ms0_3 t) fullShare ((dats m 0 c).before 3 t d)) :=
  (dats m 0 c).leavesExact_idle 3 t (idleOut t h) (noflushOut t h)

set_option maxHeartbeats 3000000 in
/-- The body at a point of case A. -/
theorem sound_body_A (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leavesOut_idle m c t h]
  unfold PhiS
  iintro ⟨⟨%xs0, %hx, HS0, Hg⟩, Ho, ⟨%d0, H0⟩, ⟨%d1, H1⟩, ⟨%d2, H2⟩, ⟨%d3, H3⟩⟩
  iapply (runA c (grid0.coords t) _ _ _ _ _ _ _ _ _ _ ((hcond1 t).mpr (by omega)) (fun q => absurd ((hcond2 t).mp q) (by omega)) (fun q => absurd ((hcond3 t).mp q) (by omega)) (t.val / 8 % 2) (t.val % 8 * 512) (off1_eq t) (iblk m c 0 t) (iblk m c 1 t) (iblk m c 2 t) _ xs0 Set.univ _)
  isplitl [H0]; · iexact H0
  isplitl [H1]; · iexact H1
  isplitl [H2]; · iexact H2
  isplitl [H3]; · iexact H3
  isplitl [HS0]; · iexact HS0
  iintro ⟨H0, H1, H2, H3, HS0⟩
  isplitl [HS0 Hg]
  · iexists _
    isplitr
    swap
    · isplitl [HS0]
      · iexact HS0
      iexact Hg
    ipureintro
    exact inv_round 32 (chunk0 m c) t xs0 hx
  isplitl [Ho]; · iexact Ho
  isplitl [H0]; · iexact H0
  isplitl [H1]; · iexact H1
  isplitl [H2]; · iexact H2
  iexists _; iexact H3

set_option maxHeartbeats 3000000 in
/-- The body at a point of case B. -/
theorem sound_body_B (c : Dev nD) (t : Fin cfg0.N) (h8 : 8 ≤ t.val) (h : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leavesOut m c t (by omega), after0_3]
  unfold PhiS
  iintro ⟨⟨%xs0, %hx, HS0, Hg⟩, Ho, ⟨%d0, H0⟩, ⟨%d1, H1⟩, ⟨%d2, H2⟩, ⟨%d3, H3⟩⟩
  have hs0 : slotOf xs0 ((t.val / 8 + 1) % 2) = col0 m c t := inv_slot 32 (chunk0 m c) le_N rfl t xs0 hx (by omega) (by omega) (by norm_num)
  iapply (runB c (grid0.coords t) _ _ _ _ _ _ _ _ _ _ (fun q => absurd ((hcond1 t).mp q) (by omega)) (fun q => absurd ((hcond2 t).mp q) (by omega)) ((hcond3 t).mpr (by omega)) (t.val / 8 % 2) (t.val % 8 * 512) (off4_eq t) ((t.val / 8 + 1) % 2) (Nat.mod_lt _ (by norm_num)) (off3_eq t) (iblk m c 0 t) (iblk m c 1 t) (iblk m c 2 t) xs0 Set.univ _)
  isplitl [H0]; · iexact H0
  isplitl [H1]; · iexact H1
  isplitl [H2]; · iexact H2
  isplitl [H3]; · iexists _; iexact H3
  isplitl [HS0]; · iexact HS0
  rw [hs0]
  iintro ⟨H0, H1, H2, H3, HS0⟩
  isplitl [HS0 Hg]
  · iexists _
    isplitr
    swap
    · isplitl [HS0]
      · iexact HS0
      iexact Hg
    ipureintro
    exact inv_round 32 (chunk0 m c) t xs0 hx
  isplitl [Ho]; · iexact Ho
  isplitl [H0]; · iexact H0
  isplitl [H1]; · iexact H1
  isplitl [H2]; · iexact H2
  iexact H3

set_option maxHeartbeats 3000000 in
/-- The body at a point of case C. -/
theorem sound_body_C (c : Dev nD) (t : Fin cfg0.N) (h : 32 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leavesOut m c t (by omega), after0_3]
  unfold PhiS
  iintro ⟨⟨%xs0, %hx, HS0, Hg⟩, Ho, ⟨%d0, H0⟩, ⟨%d1, H1⟩, ⟨%d2, H2⟩, ⟨%d3, H3⟩⟩
  have hs0 : slotOf xs0 ((t.val / 8 + 1) % 2) = col0 m c t := inv_slot 32 (chunk0 m c) le_N rfl t xs0 hx (by omega) (by omega) (by norm_num)
  iapply (runC c (grid0.coords t) _ _ _ _ _ _ _ _ _ _ (fun q => absurd ((hcond1 t).mp q) (by omega)) ((hcond2 t).mpr (by omega)) (fun q => absurd ((hcond3 t).mp q) (by omega)) ((t.val / 8 + 1) % 2) (Nat.mod_lt _ (by norm_num)) (off2_eq t) (iblk m c 0 t) (iblk m c 1 t) (iblk m c 2 t) xs0 Set.univ _)
  isplitl [H0]; · iexact H0
  isplitl [H1]; · iexact H1
  isplitl [H2]; · iexact H2
  isplitl [H3]; · iexists _; iexact H3
  isplitl [HS0]; · iexact HS0
  rw [hs0]
  iintro ⟨H0, H1, H2, H3, HS0⟩
  isplitl [HS0 Hg]
  · iexists _
    isplitr
    swap
    · isplitl [HS0]
      · iexact HS0
      iexact Hg
    ipureintro
    exact inv_keep 32 (chunk0 m c) t xs0 hx h
  isplitl [Ho]; · iexact Ho
  isplitl [H0]; · iexact H0
  isplitl [H1]; · iexact H1
  isplitl [H2]; · iexact H2
  iexact H3

end Cert.Kernel3Ideal.Mm

end
-- ==== Proof.OFrame.lean ====
module

public import proofs.«01_k».proof.Proof.ODats

@[expose] public section

set_option maxRecDepth 16384

noncomputable section

namespace Cert.Kernel3Ideal.Mm

open Cert.Kernel3Ideal Cert.Kernel3Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h1 : t.val < 8
  · exact sound_body_A m c t h1
  · by_cases h2 : t.val < 32
    · exact sound_body_B m c t (by omega) h2
    · exact sound_body_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%xs0, HS0⟩, Hg⟩
  iexists xs0
  isplitr
  · ipureintro; exact inv_zero 32 (chunk0 m c) xs0
  isplitl [HS0]
  · iexact HS0
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs0, %hx, HS0, Hg⟩
  isplitl [HS0]
  · iexists xs0; iexact HS0
  iexact Hg

set_option backward.isDefEq.respectTransparency.types false in
/-- The launch: every array at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel3Ideal.Mm

end
-- ==== Proof.OPFrame.lean ====
module

public import proofs.«01_k».proof.Defs
public import proofs.«01_k».proof.Proof.Gen.Kernel3
public import proofs.«01_k».proof.Proof.OFrame

@[expose] public section

noncomputable section

namespace Cert.Kernel3.Mm

open Idealize.ShloMosaic Idealize.ShloMosaic.TcCoe Idealize.ShloMosaic.Tactic Idealize.SL.Sem

/-- The frame of the kernel, over any floats. -/
def FrameOf (F : FTy → Type) [FloatOps F] : Prop :=
  ∀ (m : (ℓ : Loc Cert.Kernel3.nD Cert.Kernel3.τ Cert.Kernel3.sig) → Buf (Elt F) ℓ) (g : Dev Cert.Kernel3.nD → PrngReg),
    θ_run (Cert.Kernel3.defs (F := F)) (onTc (τ := Cert.Kernel3.τ) (Cert.Kernel3.main (F := F))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

/-- The frame of the idealized kernel, over any floats. -/
def FrameOfIdeal (F : FTy → Type) [FloatOps F] : Prop :=
  ∀ (m : (ℓ : Loc Cert.Kernel3Ideal.nD Cert.Kernel3Ideal.τ Cert.Kernel3Ideal.sig) → Buf (Elt F) ℓ) (g : Dev Cert.Kernel3Ideal.nD → PrngReg),
    θ_run (Cert.Kernel3Ideal.defs (F := F)) (onTc (τ := Cert.Kernel3Ideal.τ) (Cert.Kernel3Ideal.main (F := F))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

/-- The two have one text. -/
theorem text (F : FTy → Type) [FloatOps F] : FrameOf F = FrameOfIdeal F := by
  sl_kernel_rfl

/-- The kernel terminates, leaves its arguments unchanged and every counter at zero. -/
theorem frame : Cert.quiescent_Kernel3 := fun m g _ =>
  (show FrameOf Bits from text Bits ▸ (fun m g => Cert.Kernel3Ideal.Mm.frame m g : FrameOfIdeal Bits)) m g

end Cert.Kernel3.Mm

end
-- ==== Proof.OArrays.lean ====
module

public import proofs.«01_k».proof.Proof.OFrame
public import Idealize.ShloMosaic.Lib.Pipeline.ValueKit.Geometry
public import proofs.«01_k».proof.Proof.Gen.Reference3Ideal.Run
public import proofs.«01_k».proof.Proof.Gen.Reference3Ideal.Read

@[expose] public section

set_option maxRecDepth 16384

noncomputable section

namespace Cert.Kernel3Ideal.Mm

open Cert.Kernel3Ideal Cert.Kernel3Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Window)

/-! ## The payloads, read at an index -/

theorem pay1_apply (x : Vec Ideal S512x1024 .f32) (r : Fin 512) (d : Fin 1024) :
    k0_pay1 x (ix3 0 r d) = x (ix2 r d) := by
  unfold k0_pay1
  pointwise

theorem pay4_apply (a : Vec Ideal S1024x4096 .bf16) (b : Vec Ideal S1x4096x1024 .bf16) (h : Vec Ideal S1024x1024 .f32) (r d : Fin 1024) :
    k0_pay4 a b h (ix2 r d) = h (ix2 r d) + ∑ k : Fin 4096, a (ix2 r k) * b (ix3 0 k d) := by
  have hc : ∀ k : Fin 4096, shapeCast S4096x1024 b shapeCasts_S1x4096x1024_S4096x1024 (ix2 k d) = b (ix3 0 k d) := fun k => by
    pointwise
  unfold k0_pay4
  generalize shapeCast S4096x1024 b shapeCasts_S1x4096x1024_S4096x1024 = b' at hc
  have h0 : addf h (matmul (φ₁ := .bf16) (φ₂ := .bf16) dot_S1024x4096_S4096x1024_S1024x1024_1_0_0_1_n_n none a b' (constant (F := Ideal) S1024x1024 .f32 0x00000000#32)) (ix2 r d)
      = h (ix2 r d) + ∑ k : Fin 4096, a (ix2 r k) * b' (ix2 k d) := by
    pointwise
  refine h0.trans (congrArg _ (Finset.sum_congr rfl fun k _ => ?_))
  rw [hc]

theorem flat_apply (w : Vec Ideal S1x4096x4096 .f32) (k n : Fin 4096) :
    shapeCast S4096x4096 w shapeCasts_S1x4096x4096_S4096x4096 (ix2 k n) = w (ix3 0 k n) := by
  pointwise

/-! ## The arrays the launch reads and leaves -/

variable (m : (ℓ : Loc nD τ sig) → Buf (Elt Ideal) ℓ) (ρ : Dev nD → PrngReg) (c : Dev nD)

/-- The merged activations. -/
def actOf : S8192x4096.Idx → EReal := m ((c.tc : Thread nD τ).loc main_arg0)
/-- The weights. -/
def wtOf : S1x4096x4096.Idx → EReal := m ((c.tc : Thread nD τ).loc main_arg1)
/-- The residual. -/
def resOf : S8192x4096.Idx → EReal := m ((c.tc : Thread nD τ).loc main_arg2)

/-- The residual and the product of the activations and the weights. -/
def outArr (X : S8192x4096.Idx → EReal) (W : S1x4096x4096.Idx → EReal) (H : S8192x4096.Idx → EReal) : S8192x4096.Idx → EReal := fun i =>
  H i + ∑ k : Fin 4096, X (ix2 ⟨(i 0).val, (i 0).isLt⟩ k) * W (ix3 0 k ⟨(i 1).val, (i 1).isLt⟩)

theorem V_v0 : V m c main_v0 = shapeCast S4096x4096 (m ((c.tc : Thread nD τ).loc main_arg1)) shapeCasts_S1x4096x4096_S4096x4096 := by
  show StableHlo.after hostOps0 _ _ = _
  simp only [hostOps0]
  after_results_simp
  rfl

theorem at_a : ∀ t : Fin cfg0.N, 8 ≤ t.val → win0_0.index t 0 = t.val % 8 ∧ win0_0.index t 1 = 0 :=
  (by decide +kernel : ∀ t : Fin grid0.N, 8 ≤ t.val → win0_0.index t 0 = t.val % 8 ∧ win0_0.index t 1 = 0)
theorem at_b : ∀ t : Fin cfg0.N, t.val < 32 → win0_1.index t 0 = t.val % 8 ∧ win0_1.index t 1 = t.val / 8 :=
  (by decide +kernel : ∀ t : Fin grid0.N, t.val < 32 → win0_1.index t 0 = t.val % 8 ∧ win0_1.index t 1 = t.val / 8)
theorem at_r : ∀ t : Fin cfg0.N, 8 ≤ t.val → win0_2.index t 0 = t.val % 8 ∧ win0_2.index t 1 = t.val / 8 - 1 :=
  (by decide +kernel : ∀ t : Fin grid0.N, 8 ≤ t.val → win0_2.index t 0 = t.val % 8 ∧ win0_2.index t 1 = t.val / 8 - 1)
theorem at_o : ∀ t : Fin cfg0.N, 8 ≤ t.val → win0_3.index t 0 = t.val % 8 ∧ win0_3.index t 1 = t.val / 8 - 1 :=
  (by decide +kernel : ∀ t : Fin grid0.N, 8 ≤ t.val → win0_3.index t 0 = t.val % 8 ∧ win0_3.index t 1 = t.val / 8 - 1)

theorem read_act (t : Fin cfg0.N) (h8 : 8 ≤ t.val) (r : Fin 1024) (k : Fin 4096) :
    iblk m c 0 t (ix2 r k) = actOf m c (ix2 ⟨t.val % 8 * 1024 + r.val, by omega⟩ k) := by
  show V m c main_arg0 (((View.whole main_arg0).slice (win0_0.rect t)).emb (ix2 r k)) = _
  rw [V_main_arg0]
  refine congrArg (actOf m c) (funext fun a => Fin.ext ?_)
  have h := at_a t h8
  match a with
  | ⟨0, _⟩ => show win0_0.index t 0 * 1024 + 1 * r.val = t.val % 8 * 1024 + r.val; rw [h.1]; omega
  | ⟨1, _⟩ => show win0_0.index t 1 * 4096 + 1 * k.val = k.val; rw [h.2]; omega

theorem wcol_lt (t : Fin cfg0.N) (d : Fin 1024) : (t.val / 8 - 1) * 1024 + d.val < 4096 := by
  have h := pt_lt t
  omega

theorem read_res (t : Fin cfg0.N) (h8 : 8 ≤ t.val) (r d : Fin 1024) :
    iblk m c 2 t (ix2 r d) = resOf m c (ix2 ⟨t.val % 8 * 1024 + r.val, by omega⟩ ⟨(t.val / 8 - 1) * 1024 + d.val, wcol_lt t d⟩) := by
  show V m c main_arg2 (((View.whole main_arg2).slice (win0_2.rect t)).emb (ix2 r d)) = _
  rw [V_main_arg2]
  refine congrArg (resOf m c) (funext fun a => Fin.ext ?_)
  have h := at_r t h8
  match a with
  | ⟨0, _⟩ => show win0_2.index t 0 * 1024 + 1 * r.val = t.val % 8 * 1024 + r.val; rw [h.1]; omega
  | ⟨1, _⟩ => show win0_2.index t 1 * 1024 + 1 * d.val = (t.val / 8 - 1) * 1024 + d.val; rw [h.2]; omega

theorem wt_lt (p : Fin cfg0.N) (hp : p.val < 32) (d : Fin 1024) : p.val / 8 * 1024 + d.val < 4096 := by omega

theorem read_wt (p : Fin cfg0.N) (hp : p.val < 32) (r : Fin 512) (d : Fin 1024) :
    iblk m c 1 p (ix2 r d) = wtOf m c (ix3 0 ⟨p.val % 8 * 512 + r.val, by omega⟩ ⟨p.val / 8 * 1024 + d.val, wt_lt p hp d⟩) := by
  show V m c main_v0 (((View.whole main_v0).slice (win0_1.rect p)).emb (ix2 r d)) = _
  rw [V_v0]
  refine Eq.trans (congrArg (shapeCast S4096x4096 (wtOf m c) shapeCasts_S1x4096x4096_S4096x4096) (funext fun a => Fin.ext ?_))
    (flat_apply (wtOf m c) ⟨p.val % 8 * 512 + r.val, by omega⟩ ⟨p.val / 8 * 1024 + d.val, wt_lt p hp d⟩)
  have h := at_b p hp
  match a with
  | ⟨0, _⟩ => show win0_1.index p 0 * 512 + 1 * r.val = p.val % 8 * 512 + r.val; rw [h.1]; omega
  | ⟨1, _⟩ => show win0_1.index p 1 * 1024 + 1 * d.val = p.val / 8 * 1024 + d.val; rw [h.2]; omega

theorem read_col (t : Fin cfg0.N) (k : Fin 4096) (d : Fin 1024) :
    col0 m c t (ix3 0 k d) = wtOf m c (ix3 0 k ⟨(t.val / 8 - 1) * 1024 + d.val, wcol_lt t d⟩) := by
  have hN := pt_lt t
  have hk := k.isLt
  have hp : (t.val / 8 - 1) * 8 + k.val / 512 < cfg0.N := lt_pt (by omega)
  have h := pay1_apply (iblk m c 1 ⟨(t.val / 8 - 1) * 8 + k.val / 512, hp⟩) ⟨k.val % 512, Nat.mod_lt _ (by norm_num)⟩ d
  refine Eq.trans (show _ = k0_pay1 (iblk m c 1 ⟨(t.val / 8 - 1) * 8 + k.val / 512, hp⟩) (ix3 0 ⟨k.val % 512, Nat.mod_lt _ (by norm_num)⟩ d) from rfl) (h.trans ?_)
  rw [read_wt m c _ (by simp only; omega)]
  refine congrArg (wtOf m c) ?_
  congr 1
  · exact Fin.ext (by simp only; omega)
  · exact Fin.ext (by simp only; omega)

/-- A block of the result, from a block of each operand. -/
theorem out_block (X : S8192x4096.Idx → EReal) (W : S1x4096x4096.Idx → EReal) (H : S8192x4096.Idx → EReal)
    (a : Vec Ideal S1024x4096 .bf16) (b : Vec Ideal S1x4096x1024 .bf16) (h : Vec Ideal S1024x1024 .f32)
    (r d : Fin 1024) (R : Fin 8192) (n : Fin 4096) (i : S8192x4096.Idx) (ha : ∀ k, a (ix2 r k) = X (ix2 R k))
    (hb : ∀ k, b (ix3 0 k d) = W (ix3 0 k n)) (hh : h (ix2 r d) = H (ix2 R n)) (h0 : (i 0).val = R.val) (h1 : (i 1).val = n.val) :
    k0_pay4 a b h (ix2 r d) = outArr X W H i := by
  rw [pay4_apply, hh]
  unfold outArr
  have e0 : (⟨(i 0).val, (i 0).isLt⟩ : Fin 8192) = R := Fin.ext h0
  have e1 : (⟨(i 1).val, (i 1).isLt⟩ : Fin 4096) = n := Fin.ext h1
  have ei : ix2 R n = i := by
    rw [← e0, ← e1]
    exact (eq_ix2 i).symm
  rw [ei]
  refine congrArg _ (Finset.sum_congr rfl fun k _ => ?_)
  rw [ha, hb, e0, e1]

theorem out_at (t : Fin cfg0.N) (h8 : 8 ≤ t.val) (y : S1024x1024.Idx) :
    k0_pay4 (iblk m c 0 t) (col0 m c t) (iblk m c 2 t) y =
      outArr (actOf m c) (wtOf m c) (resOf m c) (((View.whole main_v1).slice (win0_3.rect t)).emb y) := by
  obtain ⟨r, d, rfl⟩ : ∃ (r d : Fin 1024), y = ix2 r d := ⟨y 0, y 1, eq_ix2 y⟩
  have h := at_o t h8
  exact out_block (actOf m c) (wtOf m c) (resOf m c) _ _ _ r d ⟨t.val % 8 * 1024 + r.val, by omega⟩ ⟨(t.val / 8 - 1) * 1024 + d.val, wcol_lt t d⟩ _
    (fun k => read_act m c t h8 r k) (fun k => read_col m c t k d) (read_res m c t h8 r d)
    (by show win0_3.index t 0 * 1024 + 1 * r.val = t.val % 8 * 1024 + r.val; rw [h.1]; omega)
    (by show win0_3.index t 1 * 1024 + 1 * d.val = (t.val / 8 - 1) * 1024 + d.val; rw [h.2]; omega)

theorem flush_ge (t : Fin cfg0.N) (h : (cfg0.win 3).flush t = true) : 8 ≤ t.val := by
  by_contra q
  rw [noflushOut t (by omega)] at h
  exact Bool.noConfusion h

theorem final_out : (dats m 0 c).arrAt 3 cfg0.N = outArr (actOf m c) (wtOf m c) (resOf m c) := by
  refine Dat.arrAt_eq_of_cover (dats m 0 c) 3 (outArr (actOf m c) (wtOf m c) (resOf m c)) ?_ ?_
  · intro t ht
    refine funext fun y => ?_
    rw [Dat.flushed_apply, after0_3]
    exact out_at m c t (flush_ge t ht) y
  · intro i
    have h0 : (i 0).val < 8192 := (i 0).isLt
    have h1 : (i 1).val < 4096 := (i 1).isLt
    have hN : cfg0.N = 40 := N_0
    have hb : ((i 1).val / 1024 + 1) * 8 + (i 0).val / 1024 < cfg0.N := by omega
    refine ⟨⟨((i 1).val / 1024 + 1) * 8 + (i 0).val / 1024, hb⟩, flushOut _ (by simp only; omega), ?_⟩
    generalize ht : (⟨((i 1).val / 1024 + 1) * 8 + (i 0).val / 1024, hb⟩ : Fin cfg0.N) = t
    have hv : t.val = ((i 1).val / 1024 + 1) * 8 + (i 0).val / 1024 := by rw [← ht]
    have hi := at_o t (by omega)
    show i ∈ ((View.whole main_v1).slice (win0_3.rect t)).set
    rw [View.set_slice_whole, Window.mem_rect_iff win0_3 t i]
    intro a
    match a with
    | ⟨0, _⟩ =>
      show win0_3.index t 0 * 1024 ≤ (i 0).val ∧ (i 0).val < win0_3.index t 0 * 1024 + 1024
      rw [hi.1]; omega
    | ⟨1, _⟩ =>
      show win0_3.index t 1 * 1024 ≤ (i 1).val ∧ (i 1).val < win0_3.index t 1 * 1024 + 1024
      rw [hi.2]; omega

/-- The array that the kernel ends with. -/
theorem kernel_run :
    θ_run defs (onTc (τ := τ) (main (F := Ideal))) ⟨m, fun _ => 0, ρ⟩ (fun r => ∀ c : Dev nD,
      r.2.mem ((c.tc : Thread nD τ).loc main_v1) = outArr (actOf m c) (wtOf m c) (resOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_out m c), h.2 c⟩)
    (θ_run_and (run_main m ρ) (unchanged m ρ))

end Cert.Kernel3Ideal.Mm

namespace Cert.Kernel3

open Idealize.ShloMosaic Idealize.ShloMosaic.TcCoe Idealize.SL.Sem
open Cert.Reference3Ideal Cert.Reference3Ideal.Gen Cert.Reference3Ideal.Read

open Cert.Kernel3Ideal.Mm (outArr)

/-- The reference's result is the same array. -/
theorem same_out (X : S8192x4096.Idx → EReal) (W : S1x4096x4096.Idx → EReal) (H : S8192x4096.Idx → EReal) :
    val_main_v3 (F := Ideal) X W H = outArr X W H := by
  funext i
  refine Eq.trans (val_main_v3_apply (F := Ideal) X W H i) ?_
  refine Eq.trans (show _ = H i + val_main_v2 (F := Ideal) X W i from rfl) ?_
  rw [val_main_v2_apply]
  unfold outArr
  refine congrArg _ (Finset.sum_congr rfl fun k _ => ?_)
  have h1 : (i 1).val < 4096 := (i 1).isLt
  have hk : k.val < 4096 := k.isLt
  rw [val_main_v1_apply]
  congr 1
  · show X (lidx_main_v2 i k) = _
    refine congrArg X (funext fun a => ?_)
    match a with
    | ⟨0, _⟩ => rfl
    | ⟨1, _⟩ => rfl
  · refine congrArg W (funext fun a => Fin.ext ?_)
    match a with
    | ⟨0, _⟩ => rfl
    | ⟨1, _⟩ => show (k.val * 4096 + (i 1).val) / 4096 % 4096 = k.val; omega
    | ⟨2, _⟩ => show (k.val * 4096 + (i 1).val) % 4096 = (i 1).val; omega

variable (m : (ℓ : Loc nD τ sig) → Buf (Elt Ideal) ℓ) (ρ : Dev nD → PrngReg)

/-- The reference ends with its last stage. -/
theorem reference_run :
    θ_run defs (onTc (τ := τ) (main (F := Ideal))) ⟨m, fun _ => 0, ρ⟩ (fun r => ∀ c : Dev nD,
      r.2.mem ((c.tc : Thread nD τ).loc main_v3) = val_main_v3 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (val_main_v3_eq (F := Ideal) _ _ _ ), (h c).2⟩)
    (Cert.Reference3Ideal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩)
    (reference_run m ρ)

end Cert.Kernel3

end
-- ==== Proof.BRun.lean ====
module

public import proofs.«01_k».proof.Proof.Gen.Kernel4Ideal.Frame
public import proofs.«01_k».proof.Proof.Gen.Kernel4Ideal.Skeleton
public import proofs.«01_k».proof.Proof.Slots
public import Idealize.ShloMosaic.Lib.Pipeline.TableIdle

@[expose] public section

set_option maxRecDepth 16384

noncomputable section

namespace Cert.Kernel4Ideal.Mm

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches of the body, and where it reads and writes its scratch -/

theorem hcond1 : ∀ t : Fin grid0.N, k0_cond1 (grid0.coords t) = 1#1 ↔ t.val < 8 := by decide +kernel
theorem hcond2 : ∀ t : Fin grid0.N, k0_cond2 (grid0.coords t) = 1#1 ↔ 32 ≤ t.val := by decide +kernel
theorem hcond3 : ∀ t : Fin grid0.N, k0_cond3 (grid0.coords t) = 1#1 ↔ 8 ≤ t.val ∧ t.val < 32 := by decide +kernel
theorem off1_eq : ∀ t : Fin grid0.N, k0_off1 (grid0.coords t) = ![t.val / 8 % 2, t.val % 8 * 256, 0] := by decide +kernel
theorem off2_eq : ∀ t : Fin grid0.N, k0_off2 (grid0.coords t) = ![(t.val / 8 + 1) % 2, 0, 0] := by decide +kernel
theorem off3_eq : ∀ t : Fin grid0.N, k0_off3 (grid0.coords t) = ![(t.val / 8 + 1) % 2, 0, 0] := by decide +kernel
theorem off4_eq : ∀ t : Fin grid0.N, k0_off4 (grid0.coords t) = ![t.val / 8 % 2, t.val % 8 * 256, 0] := by decide +kernel

/-- The window buffers at a point, and the scratch. -/
abbrev ms0_0 (t : Fin cfg0.N) : Memref sig .tc .vmem S1024x2048 .bf16 := win0_0.stage (cfg0.slots t 0)
abbrev ms0_1 (t : Fin cfg0.N) : Memref sig .tc .vmem S1024x2048 .bf16 := win0_1.stage (cfg0.slots t 1)
abbrev ms0_2 (t : Fin cfg0.N) : Memref sig .tc .vmem S256x1024 .f32 := win0_2.stage (cfg0.slots t 2)
abbrev ms0_3 (t : Fin cfg0.N) : Memref sig .tc .vmem S256x1024 .f32 := win0_3.stage (cfg0.slots t 3)
abbrev ms0_4 (t : Fin cfg0.N) : Memref sig .tc .vmem S1024x1024 .bf16 := win0_4.stage (cfg0.slots t 4)
abbrev ms0_5 (t : Fin cfg0.N) : Memref sig .tc .vmem S1024x1024 .bf16 := win0_5.stage (cfg0.slots t 5)
abbrev ms0_6 (t : Fin cfg0.N) : Memref sig .tc .vmem S2x1024 .f32 := win0_6.stage (cfg0.slots t 6)
abbrev ms0_7 (t : Fin cfg0.N) : Memref sig .tc .vmem S1024x1024 .bf16 := win0_7.stage (cfg0.slots t 7)
abbrev scM0_0 : Memref sig .tc .vmem S2x2048x1024 .bf16 := Memref.whole cc0_scratch0
abbrev scM0_1 : Memref sig .tc .vmem S2x2048x1024 .bf16 := Memref.whole cc0_scratch1

/-- What the launch hands over beside the windows: the scratch at some contents, and the generator. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A row of the gates' biases. -/
def rowOf (x : Vec F S2x1024 .f32) (a : ℕ) : Vec F S1x1024 .f32 := fun y =>
  x (ix2 (⟨a % 2, Nat.mod_lt _ (by norm_num)⟩ : Fin 2) (⟨(y 1).val, (y 1).isLt⟩ : Fin 1024))

theorem read_row (M : Memref sig .tc .vmem S2x1024 .f32) (h : M.IsWhole) (x : Vec F S2x1024 .f32) (a : ℕ) (ha : a < 2)
    (inb : ∀ r, (![a, 0] : Fin 2 → ℕ) r + S1x1024.size r ≤ S2x1024.size r) :
    View.readAt (Elt F) M.view (Rect.unit (s := S2x1024) ![a, 0] S1x1024.size inb).toLoadRect (h.unread x) = rowOf x a := by
  funext y
  rw [h.readAt_unread]
  unfold rowOf
  refine congrArg x (funext fun r => Fin.ext ?_)
  have h0 : (y 0).val < 1 := (y 0).isLt
  match r with
  | ⟨0, _⟩ => show a + 1 * (y 0).val = a % 2; omega
  | ⟨1, _⟩ => show 0 + 1 * (y 1).val = (y 1).val; omega

set_option maxHeartbeats 3000000 in
/-- The body run at the first column of the grid: it rounds a chunk of the weights. -/
theorem runA (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S1024x1024 .bf16) (harg9 : arg9.IsWhole) (arg10 : Memref sig .tc .vmem S2x2048x1024 .bf16) (harg10 : arg10.IsWhole) (arg11 : Memref sig .tc .vmem S2x2048x1024 .bf16) (harg11 : arg11.IsWhole)
    (h1 : k0_cond1 i = 1#1) (h2 : ¬k0_cond2 i = 1#1) (h3 : ¬k0_cond3 i = 1#1) (pa pb : ℕ) (hw : k0_off1 i = ![pa, pb, 0])
    (x0 : Vec F S1024x2048 .bf16) (x1 : Vec F S1024x2048 .bf16) (x2 : Vec F S256x1024 .f32) (x3 : Vec F S256x1024 .f32) (x4 : Vec F S1024x1024 .bf16) (x5 : Vec F S1024x1024 .bf16) (x6 : Vec F S2x1024 .f32) (x7 : Vec F S1024x1024 .bf16) (xs0 : Vec F S2x2048x1024 .bf16) (xs1 : Vec F S2x2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xs0 ∗ owns (c : Thread nD τ) arg11 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (upd xs0 pa pb (k0_pay4 x2)) ∗ owns (c : Thread nD τ) arg11 fullShare (upd xs1 pa pb (k0_pay1 (k0_pay5 x3)))) -∗ K ⟨⟩))
      ⊢ wp frame (wpE (defs₀ (F := F)) Variants.none c none) E (cc0_branch_merge i arg2 harg2 arg3 harg3 arg4 harg4 arg5 harg5 arg6 harg6 arg7 harg7 arg8 harg8 arg9 harg9 arg10 harg10 arg11 harg11) K := by
  simp only [cc0_branch_merge_eq_skeleton]; unfold cc0_branch_merge_skel
  try simp only [k0_part1_eq_skeleton]
  try unfold k0_part1_skel
  try simp only [k0_part2_eq_skeleton]
  try unfold k0_part2_skel
  try simp only [k0_part3_eq_skeleton]
  try unfold k0_part3_skel
  try simp only [k0_part4_eq_skeleton]
  try unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hfs0
  obtain rfl := harg11.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [HS0]
  · iexists _; isplitr
    swap; · iexact HS0
    ipureintro
    refine (read_upd arg10 harg10 xs0 pa pb _ hw _ _).trans ?_
    rw [read_all]
  iexists _; isplitr
  swap; · iexact HS1
  ipureintro
  refine (read_upd arg11 harg11 xs1 pa pb _ hw _ _).trans ?_
  rw [read_all]

set_option maxHeartbeats 3000000 in
/-- The body run at a later column: it multiplies, and rounds a chunk. -/
theorem runB (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S1024x1024 .bf16) (harg9 : arg9.IsWhole) (arg10 : Memref sig .tc .vmem S2x2048x1024 .bf16) (harg10 : arg10.IsWhole) (arg11 : Memref sig .tc .vmem S2x2048x1024 .bf16) (harg11 : arg11.IsWhole)
    (h1 : ¬k0_cond1 i = 1#1) (h2 : ¬k0_cond2 i = 1#1) (h3 : k0_cond3 i = 1#1) (pa pb : ℕ) (hw : k0_off4 i = ![pa, pb, 0]) (pr : ℕ) (hpr : pr < 2) (hr : k0_off3 i = ![pr, 0, 0])
    (x0 : Vec F S1024x2048 .bf16) (x1 : Vec F S1024x2048 .bf16) (x2 : Vec F S256x1024 .f32) (x3 : Vec F S256x1024 .f32) (x4 : Vec F S1024x1024 .bf16) (x5 : Vec F S1024x1024 .bf16) (x6 : Vec F S2x1024 .f32) (xs0 : Vec F S2x2048x1024 .bf16) (xs1 : Vec F S2x2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay12 (k0_pay9 x0 (slotOf xs0 pr)) (k0_pay10 x1 (slotOf xs1 pr)) (k0_pay11 x4) (rowOf x6 0) x5 (rowOf x6 1)) ∗ owns (c : Thread nD τ) arg10 fullShare (upd xs0 pa pb (k0_pay13 x2)) ∗ owns (c : Thread nD τ) arg11 fullShare (upd xs1 pa pb (k0_pay3 x3))) -∗ K ⟨⟩))
      ⊢ wp frame (wpE (defs₀ (F := F)) Variants.none c none) E (cc0_branch_merge i arg2 harg2 arg3 harg3 arg4 harg4 arg5 harg5 arg6 harg6 arg7 harg7 arg8 harg8 arg9 harg9 arg10 harg10 arg11 harg11) K := by
  simp only [cc0_branch_merge_eq_skeleton]; unfold cc0_branch_merge_skel
  try simp only [k0_part1_eq_skeleton]
  try unfold k0_part1_skel
  try simp only [k0_part2_eq_skeleton]
  try unfold k0_part2_skel
  try simp only [k0_part3_eq_skeleton]
  try unfold k0_part3_skel
  try simp only [k0_part4_eq_skeleton]
  try unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg10.eq_unread hfs0
  obtain rfl := harg11.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (View.read_writes_full _ _ _ _ _).trans ?_
    rw [read_all arg2 harg2 x0, read_all arg3 harg3 x1, read_all arg6 harg6 x4, read_all arg7 harg7 x5, read_row arg8 harg8 x6 0 (by norm_num), read_row arg8 harg8 x6 1 (by norm_num), ← read_slot arg10 harg10 xs0 pr hpr _ hr (k0_off3_inb i h3), ← read_slot arg11 harg11 xs1 pr hpr _ hr (k0_off3_inb i h3)]
    rfl
  isplitl [HS0]
  · iexists _; isplitr
    swap; · iexact HS0
    ipureintro
    refine (read_upd arg10 harg10 xs0 pa pb _ hw _ _).trans ?_
    rw [read_all]
  iexists _; isplitr
  swap; · iexact HS1
  ipureintro
  refine (read_upd arg11 harg11 xs1 pa pb _ hw _ _).trans ?_
  rw [read_all]

set_option maxHeartbeats 3000000 in
/-- The body run at the last column: it multiplies. -/
theorem runC (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S1024x1024 .bf16) (harg9 : arg9.IsWhole) (arg10 : Memref sig .tc .vmem S2x2048x1024 .bf16) (harg10 : arg10.IsWhole) (arg11 : Memref sig .tc .vmem S2x2048x1024 .bf16) (harg11 : arg11.IsWhole)
    (h1 : ¬k0_cond1 i = 1#1) (h2 : k0_cond2 i = 1#1) (h3 : ¬k0_cond3 i = 1#1) (pr : ℕ) (hpr : pr < 2) (hr : k0_off2 i = ![pr, 0, 0])
    (x0 : Vec F S1024x2048 .bf16) (x1 : Vec F S1024x2048 .bf16) (x2 : Vec F S256x1024 .f32) (x3 : Vec F S256x1024 .f32) (x4 : Vec F S1024x1024 .bf16) (x5 : Vec F S1024x1024 .bf16) (x6 : Vec F S2x1024 .f32) (xs0 : Vec F S2x2048x1024 .bf16) (xs1 : Vec F S2x2048x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ owns (c : Thread nD τ) arg11 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay2 (k0_pay6 x0 (slotOf xs0 pr)) (k0_pay7 x1 (slotOf xs1 pr)) (k0_pay8 x4) (rowOf x6 0) x5 (rowOf x6 1)) ∗ owns (c : Thread nD τ) arg10 fullShare xs0 ∗ owns (c : Thread nD τ) arg11 fullShare xs1) -∗ K ⟨⟩))
      ⊢ wp frame (wpE (defs₀ (F := F)) Variants.none c none) E (cc0_branch_merge i arg2 harg2 arg3 harg3 arg4 harg4 arg5 harg5 arg6 harg6 arg7 harg7 arg8 harg8 arg9 harg9 arg10 harg10 arg11 harg11) K := by
  simp only [cc0_branch_merge_eq_skeleton]; unfold cc0_branch_merge_skel
  try simp only [k0_part1_eq_skeleton]
  try unfold k0_part1_skel
  try simp only [k0_part2_eq_skeleton]
  try unfold k0_part2_skel
  try simp only [k0_part3_eq_skeleton]
  try unfold k0_part3_skel
  try simp only [k0_part4_eq_skeleton]
  try unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg10.eq_unread hfs0
  obtain rfl := harg11.eq_unread hfs1
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (View.read_writes_full _ _ _ _ _).trans ?_
    rw [read_all arg2 harg2 x0, read_all arg3 harg3 x1, read_all arg6 harg6 x4, read_all arg7 harg7 x5, read_row arg8 harg8 x6 0 (by norm_num), read_row arg8 harg8 x6 1 (by norm_num), ← read_slot arg10 harg10 xs0 pr hpr _ hr (k0_off2_inb i h2), ← read_slot arg11 harg11 xs1 pr hpr _ hr (k0_off2_inb i h2)]
    rfl
  isplitl [HS0]
  · iexists _; isplitr; · ipureintro; exact harg10.read_unread _
    iexact HS0
  iexists _; isplitr; · ipureintro; exact harg11.read_unread _
  iexact HS1

end Cert.Kernel4Ideal.Mm

end
-- ==== Proof.BDats.lean ====
module

public import proofs.«01_k».proof.Proof.BRun

@[expose] public section

set_option maxRecDepth 16384

noncomputable section

namespace Cert.Kernel4Ideal.Mm

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem pt_lt (t : Fin cfg0.N) : t.val < 40 := lt_of_lt_of_eq t.isLt (show cfg0.N = 40 from N_0)
theorem lt_pt {n : ℕ} (h : n < 40) : n < cfg0.N := lt_of_lt_of_eq h (show 40 = cfg0.N from N_0.symm)
theorem le_N : 8 ≤ cfg0.N := le_of_le_of_eq (by norm_num : 8 ≤ 40) (show 40 = cfg0.N from N_0.symm)

/-- The rounded chunk of the weights that a point makes. -/
def chunk0 (c : Dev nD) (p : Fin cfg0.N) : Vec F S1x256x1024 .bf16 := k0_pay4 (iblk m c 2 p)
/-- The rounded column of the weights that a point multiplies by. -/
def col0 (c : Dev nD) (t : Fin cfg0.N) : Vec F S1x2048x1024 .bf16 := colBlk (chunk0 m c) le_N rfl t

/-- The rounded chunk of the weights that a point makes. -/
def chunk1 (c : Dev nD) (p : Fin cfg0.N) : Vec F S1x256x1024 .bf16 := k0_pay1 (k0_pay5 (iblk m c 3 p))
/-- The rounded column of the weights that a point multiplies by. -/
def col1 (c : Dev nD) (t : Fin cfg0.N) : Vec F S1x2048x1024 .bf16 := colBlk (chunk1 m c) le_N rfl t

/-- The invariant before point `n`. -/
def PhiS (c : Dev nD) (n : ℕ) : sProp 𝕄 :=
  iprop(∃ xs0 xs1, ⌜Inv 32 (chunk0 m c) n xs0 ∧ Inv 32 (chunk1 m c) n xs1⌝ ∗ owns (c : Thread nD τ) scM0_0 fullShare xs0 ∗ owns (c : Thread nD τ) scM0_1 fullShare xs1 ∗ (∃ r, prngReg c r))

/-- What the body leaves at each point: the inputs' blocks as they were, a block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay12 (k0_pay9 (iblk m c 0 t) (col0 m c t)) (k0_pay10 (iblk m c 1 t) (col1 m c t)) (k0_pay11 (iblk m c 4 t)) (rowOf (iblk m c 6 t) 0) (iblk m c 5 t) (rowOf (iblk m c 6 t) 1)
    | ⟨_ + 8, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay12 (k0_pay9 (iblk m c 0 t) (col0 m c t)) (k0_pay10 (iblk m c 1 t) (col1 m c t)) (k0_pay11 (iblk m c 4 t)) (rowOf (iblk m c 6 t) 0) (iblk m c 5 t) (rowOf (iblk m c 6 t) 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The output: at which points the body stores it, at which its block is written back -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem idleOut : ∀ t : Fin cfg0.N, t.val < 8 → cfg0.idle 7 (grid0.coords t) = true :=
  (by decide +kernel : ∀ t : Fin grid0.N, t.val < 8 → idle0 7 (grid0.coords t) = true)
theorem liveOut : ∀ t : Fin cfg0.N, 8 ≤ t.val → cfg0.idle 7 (grid0.coords t) = false :=
  (by decide +kernel : ∀ t : Fin grid0.N, 8 ≤ t.val → idle0 7 (grid0.coords t) = false)
theorem noflushOut : ∀ t : Fin cfg0.N, t.val < 8 → (cfg0.win 7).flush t = false :=
  (by decide +kernel : ∀ t : Fin grid0.N, t.val < 8 → win0_7.flush t = false)
theorem flushOut : ∀ t : Fin cfg0.N, 8 ≤ t.val → (cfg0.win 7).flush t = true :=
  (by decide +kernel : ∀ t : Fin grid0.N, 8 ≤ t.val → win0_7.flush t = true)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) : (dats m 0 c).leavesExact 3 t = owns (c : Thread nD τ) (ms0_3 t) fullShare ((dats m 0 c).after 3 t) := by
  unfold Dat.leavesExact; rw [liveAt0_3 t]
theorem leaves0_4 (c : Dev nD) (t : Fin cfg0.N) : (dats m 0 c).leavesExact 4 t = owns (c : Thread nD τ) (ms0_4 t) fullShare ((dats m 0 c).after 4 t) := by
  unfold Dat.leavesExact; rw [liveAt0_4 t]
theorem leaves0_5 (c : Dev nD) (t : Fin cfg0.N) : (dats m 0 c).leavesExact 5 t = owns (c : Thread nD τ) (ms0_5 t) fullShare ((dats m 0 c).after 5 t) := by
  unfold Dat.leavesExact; rw [liveAt0_5 t]
theorem leaves0_6 (c : Dev nD) (t : Fin cfg0.N) : (dats m 0 c).leavesExact 6 t = owns (c : Thread nD τ) (ms0_6 t) fullShare ((dats m 0 c).after 6 t) := by
  unfold Dat.leavesExact; rw [liveAt0_6 t]
theorem leavesOut (c : Dev nD) (t : Fin cfg0.N) (h : 8 ≤ t.val) : (dats m 0 c).leavesExact 7 t = owns (c : Thread nD τ) (ms0_7 t) fullShare ((dats m 0 c).after 7 t) := by
  unfold Dat.leavesExact; rw [liveOut t h]
theorem leavesOut_idle (c : Dev nD) (t : Fin cfg0.N) (h : t.val < 8) : (dats m 0 c).leavesExact 7 t = iprop(∃ d, owns (c : Thread nD τ) (ms0_7 t) fullShare ((dats m 0 c).before 7 t d)) :=
  (dats m 0 c).leavesExact_idle 7 t (idleOut t h) (noflushOut t h)

set_option maxHeartbeats 3000000 in
/-- The body at a point of case A. -/
theorem sound_body_A (c : Dev nD) (t : Fin cfg0.N) (h : t.val < 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, leaves0_3 m c t, leaves0_4 m c t, leaves0_5 m c t, leaves0_6 m c t, after0_0, after0_1, after0_2, after0_3, after0_4, after0_5, after0_6]
  rw [leavesOut_idle m c t h]
  unfold PhiS
  iintro ⟨⟨%xs0, %xs1, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runA c (grid0.coords t) _ _ _ _ _ _ _ _ _ _ _ _ _ _ _ _ _ _ _ _ ((hcond1 t).mpr (by omega)) (fun q => absurd ((hcond2 t).mp q) (by omega)) (fun q => absurd ((hcond3 t).mp q) (by omega)) (t.val / 8 % 2) (t.val % 8 * 256) (off1_eq t) (iblk m c 0 t) (iblk m c 1 t) (iblk m c 2 t) (iblk m c 3 t) (iblk m c 4 t) (iblk m c 5 t) (iblk m c 6 t) _ xs0 xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · iexists _
    iexists _
    isplitr
    swap
    · isplitl [HS0]
      · iexact HS0
      isplitl [HS1]
      · iexact HS1
      iexact Hg
    ipureintro
    exact ⟨inv_round 32 (chunk0 m c) t xs0 hx.1, inv_round 32 (chunk1 m c) t xs1 hx.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

set_option maxHeartbeats 3000000 in
/-- The body at a point of case B. -/
theorem sound_body_B (c : Dev nD) (t : Fin cfg0.N) (h8 : 8 ≤ t.val) (h : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, leaves0_3 m c t, leaves0_4 m c t, leaves0_5 m c t, leaves0_6 m c t, after0_0, after0_1, after0_2, after0_3, after0_4, after0_5, after0_6]
  rw [leavesOut m c t (by omega), after0_7]
  unfold PhiS
  iintro ⟨⟨%xs0, %xs1, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hs0 : slotOf xs0 ((t.val / 8 + 1) % 2) = col0 m c t := inv_slot 32 (chunk0 m c) le_N rfl t xs0 hx.1 (by omega) (by omega) (by norm_num)
  have hs1 : slotOf xs1 ((t.val / 8 + 1) % 2) = col1 m c t := inv_slot 32 (chunk1 m c) le_N rfl t xs1 hx.2 (by omega) (by omega) (by norm_num)
  iapply (runB c (grid0.coords t) _ _ _ _ _ _ _ _ _ _ _ _ _ _ _ _ _ _ _ _ (fun q => absurd ((hcond1 t).mp q) (by omega)) (fun q => absurd ((hcond2 t).mp q) (by omega)) ((hcond3 t).mpr (by omega)) (t.val / 8 % 2) (t.val % 8 * 256) (off4_eq t) ((t.val / 8 + 1) % 2) (Nat.mod_lt _ (by norm_num)) (off3_eq t) (iblk m c 0 t) (iblk m c 1 t) (iblk m c 2 t) (iblk m c 3 t) (iblk m c 4 t) (iblk m c 5 t) (iblk m c 6 t) xs0 xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  rw [hs0, hs1]
  iintro ⟨H0, H1, H2, H3, H4, H5, H6, H7, HS0, HS1⟩
  isplitl [HS0 HS1 Hg]
  · iexists _
    iexists _
    isplitr
    swap
    · isplitl [HS0]
      · iexact HS0
      isplitl [HS1]
      · iexact HS1
      iexact Hg
    ipureintro
    exact ⟨inv_round 32 (chunk0 m c) t xs0 hx.1, inv_round 32 (chunk1 m c) t xs1 hx.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 3000000 in
/-- The body at a point of case C. -/
theorem sound_body_C (c : Dev nD) (t : Fin cfg0.N) (h : 32 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, leaves0_3 m c t, leaves0_4 m c t, leaves0_5 m c t, leaves0_6 m c t, after0_0, after0_1, after0_2, after0_3, after0_4, after0_5, after0_6]
  rw [leavesOut m c t (by omega), after0_7]
  unfold PhiS
  iintro ⟨⟨%xs0, %xs1, %hx, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hs0 : slotOf xs0 ((t.val / 8 + 1) % 2) = col0 m c t := inv_slot 32 (chunk0 m c) le_N rfl t xs0 hx.1 (by omega) (by omega) (by norm_num)
  have hs1 : slotOf xs1 ((t.val / 8 + 1) % 2) = col1 m c t := inv_slot 32 (chunk1 m c) le_N rfl t xs1 hx.2 (by omega) (by omega) (by norm_num)
  iapply (runC c (grid0.coords t) _ _ _ _ _ _ _ _ _ _ _ _ _ _ _ _ _ _ _ _ (fun q => absurd ((hcond1 t).mp q) (by omega)) ((hcond2 t).mpr (by omega)) (fun q => absurd ((hcond3 t).mp q) (by omega)) ((t.val / 8 + 1) % 2) (Nat.mod_lt _ (by norm_num)) (off2_eq t) (iblk m c 0 t) (iblk m c 1 t) (iblk m c 2 t) (iblk m c 3 t) (iblk m c 4 t) (iblk m c 5 t) (iblk m c 6 t) xs0 xs1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  rw [hs0, hs1]
  iintro ⟨H0, H1, H2, H3, H4, H5, H6, H7, HS0, HS1⟩
  isplitl [HS0 HS1 Hg]
  · iexists _
    iexists _
    isplitr
    swap
    · isplitl [HS0]
      · iexact HS0
      isplitl [HS1]
      · iexact HS1
      iexact Hg
    ipureintro
    exact ⟨inv_keep 32 (chunk0 m c) t xs0 hx.1 h, inv_keep 32 (chunk1 m c) t xs1 hx.2 h⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Kernel4Ideal.Mm

end
-- ==== Proof.BFrame.lean ====
module

public import proofs.«01_k».proof.Proof.BDats

@[expose] public section

set_option maxRecDepth 16384

noncomputable section

namespace Cert.Kernel4Ideal.Mm

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h1 : t.val < 8
  · exact sound_body_A m c t h1
  · by_cases h2 : t.val < 32
    · exact sound_body_B m c t (by omega) h2
    · exact sound_body_C m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%xs0, HS0⟩, ⟨%xs1, HS1⟩⟩, Hg⟩
  iexists xs0
  iexists xs1
  isplitr
  · ipureintro; exact ⟨inv_zero 32 (chunk0 m c) xs0, inv_zero 32 (chunk1 m c) xs1⟩
  isplitl [HS0]
  · iexact HS0
  isplitl [HS1]
  · iexact HS1
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs0, %xs1, %hx, HS0, HS1, Hg⟩
  isplitl [HS0 HS1]
  · isplitl [HS0]
    · iexists xs0; iexact HS0
    iexists xs1; iexact HS1
  iexact Hg

set_option backward.isDefEq.respectTransparency.types false in
/-- The launch: every array at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel4Ideal.Mm

end
-- ==== Proof.BPFrame.lean ====
module

public import proofs.«01_k».proof.Defs
public import proofs.«01_k».proof.Proof.Gen.Kernel4
public import proofs.«01_k».proof.Proof.BFrame

@[expose] public section

noncomputable section

namespace Cert.Kernel4.Mm

open Idealize.ShloMosaic Idealize.ShloMosaic.TcCoe Idealize.ShloMosaic.Tactic Idealize.SL.Sem

/-- The frame of the kernel, over any floats. -/
def FrameOf (F : FTy → Type) [FloatOps F] : Prop :=
  ∀ (m : (ℓ : Loc Cert.Kernel4.nD Cert.Kernel4.τ Cert.Kernel4.sig) → Buf (Elt F) ℓ) (g : Dev Cert.Kernel4.nD → PrngReg),
    θ_run (Cert.Kernel4.defs (F := F)) (onTc (τ := Cert.Kernel4.τ) (Cert.Kernel4.main (F := F))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

/-- The frame of the idealized kernel, over any floats. -/
def FrameOfIdeal (F : FTy → Type) [FloatOps F] : Prop :=
  ∀ (m : (ℓ : Loc Cert.Kernel4Ideal.nD Cert.Kernel4Ideal.τ Cert.Kernel4Ideal.sig) → Buf (Elt F) ℓ) (g : Dev Cert.Kernel4Ideal.nD → PrngReg),
    θ_run (Cert.Kernel4Ideal.defs (F := F)) (onTc (τ := Cert.Kernel4Ideal.τ) (Cert.Kernel4Ideal.main (F := F))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

/-- The two have one text. -/
theorem text (F : FTy → Type) [FloatOps F] : FrameOf F = FrameOfIdeal F := by
  sl_kernel_rfl

/-- The kernel terminates, leaves its arguments unchanged and every counter at zero. -/
theorem frame : Cert.quiescent_Kernel4 := fun m g _ =>
  (show FrameOf Bits from text Bits ▸ (fun m g => Cert.Kernel4Ideal.Mm.frame m g : FrameOfIdeal Bits)) m g

end Cert.Kernel4.Mm

end
-- ==== Proof.BArrays.lean ====
module

public import proofs.«01_k».proof.Proof.BFrame
public import Idealize.ShloMosaic.Lib.IdealHost
public import Idealize.ShloMosaic.Lib.Pipeline.ValueKit.Geometry
public import proofs.«01_k».proof.Proof.Gen.Reference4Ideal.Run
public import proofs.«01_k».proof.Proof.Gen.Reference4Ideal.Read

@[expose] public section

set_option maxRecDepth 16384

noncomputable section

namespace Cert.Kernel4Ideal.Mm

open Cert.Kernel4Ideal Cert.Kernel4Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pipeline (Window)

/-! ## The payloads, read at an index -/

theorem chunkA_apply (x : Vec Ideal S256x1024 .f32) (r : Fin 256) (d : Fin 1024) :
    k0_pay4 x (ix3 0 r d) = x (ix2 r d) := by
  unfold k0_pay4
  pointwise

theorem chunkC_apply (x : Vec Ideal S256x1024 .f32) (r : Fin 256) (d : Fin 1024) :
    k0_pay1 (k0_pay5 x) (ix3 0 r d) = x (ix2 r d) := by
  unfold k0_pay1 k0_pay5
  pointwise

theorem prod_apply (a : Vec Ideal S1024x2048 .bf16) (b : Vec Ideal S1x2048x1024 .bf16) (r d : Fin 1024) :
    k0_pay9 a b (ix2 r d) = ∑ k : Fin 2048, a (ix2 r k) * b (ix3 0 k d) := by
  have hc : ∀ k : Fin 2048, shapeCast S2048x1024 b shapeCasts_S1x2048x1024_S2048x1024 (ix2 k d) = b (ix3 0 k d) := fun k => by
    pointwise
  unfold k0_pay9
  generalize shapeCast S2048x1024 b shapeCasts_S1x2048x1024_S2048x1024 = b' at hc
  have h0 : matmul (φ₁ := .bf16) (φ₂ := .bf16) dot_S1024x2048_S2048x1024_S1024x1024_1_0_0_1_n_n none a b' (constant (F := Ideal) S1024x1024 .f32 0x00000000#32) (ix2 r d)
      = ∑ k : Fin 2048, a (ix2 r k) * b' (ix2 k d) := by
    pointwise
  refine h0.trans (Finset.sum_congr rfl fun k _ => ?_)
  rw [hc]

theorem pay10_eq (a : Vec Ideal S1024x2048 .bf16) (b : Vec Ideal S1x2048x1024 .bf16) : k0_pay10 a b = k0_pay9 a b := rfl

theorem pay12_apply (za zc : Vec Ideal S1024x1024 .f32) (ga : Vec Ideal S1024x1024 .bf16) (b0 : Vec Ideal S1x1024 .f32) (gc : Vec Ideal S1024x1024 .bf16)
    (b1 : Vec Ideal S1x1024 .f32) (r d : Fin 1024) :
    k0_pay12 za zc (k0_pay11 ga) b0 gc b1 (ix2 r d)
      = Ideal.logistic (ga (ix2 r d) + b0 (ix2 0 d)) * za (ix2 r d) + Ideal.logistic (gc (ix2 r d) + b1 (ix2 0 d)) * zc (ix2 r d) := by
  unfold k0_pay12 k0_pay11
  pointwise

theorem flat_apply (w : Vec Ideal S1x2048x4096 .f32) (k : Fin 2048) (n : Fin 4096) :
    shapeCast S2048x4096 w shapeCasts_S1x2048x4096_S2048x4096 (ix2 k n) = w (ix3 0 k n) := by
  pointwise

theorem flatB_apply (w : Vec Ideal S1x2x4096 .f32) (a : Fin 2) (n : Fin 4096) :
    shapeCast S2x4096 w shapeCasts_S1x2x4096_S2x4096 (ix2 a n) = w (ix3 0 a n) := by
  pointwise

/-! ## The arrays the launch reads and leaves -/

variable (m : (ℓ : Loc nD τ sig) → Buf (Elt Ideal) ℓ) (ρ : Dev nD → PrngReg) (c : Dev nD)

/-- The two branches. -/
def attnOf : S8192x2048.Idx → EReal := m ((c.tc : Thread nD τ).loc main_arg0)
def convOf : S8192x2048.Idx → EReal := m ((c.tc : Thread nD τ).loc main_arg1)
/-- The two weights. -/
def wAttnOf : S1x2048x4096.Idx → EReal := m ((c.tc : Thread nD τ).loc main_arg2)
def wConvOf : S1x2048x4096.Idx → EReal := m ((c.tc : Thread nD τ).loc main_arg3)
/-- The projections, which hold the gates, and the bias of the gates. -/
def gateOf : S8192x20480.Idx → EReal := m ((c.tc : Thread nD τ).loc main_arg4)
def biasOf : S1x2x4096.Idx → EReal := m ((c.tc : Thread nD τ).loc main_arg5)

/-- The product of a branch and its weight, at a row and a column. -/
def prodAt (X : S8192x2048.Idx → EReal) (W : S1x2048x4096.Idx → EReal) (R : Fin 8192) (n : Fin 4096) : EReal :=
  ∑ k : Fin 2048, X (ix2 R k) * W (ix3 0 k n)

/-- The gate of a branch, at a row and a column. -/
def gateAt (P : S8192x20480.Idx → EReal) (B : S1x2x4096.Idx → EReal) (a : Fin 2) (R : Fin 8192) (n : Fin 4096) : EReal :=
  Ideal.logistic (P (ix2 R ⟨12288 + a.val * 4096 + n.val, by omega⟩) + B (ix3 0 a n))

/-- The two gated products, added. -/
def outArr (X Y : S8192x2048.Idx → EReal) (W Z : S1x2048x4096.Idx → EReal) (P : S8192x20480.Idx → EReal) (B : S1x2x4096.Idx → EReal) :
    S8192x4096.Idx → EReal := fun i =>
  gateAt P B 0 ⟨(i 0).val, (i 0).isLt⟩ ⟨(i 1).val, (i 1).isLt⟩ * prodAt X W ⟨(i 0).val, (i 0).isLt⟩ ⟨(i 1).val, (i 1).isLt⟩
    + gateAt P B 1 ⟨(i 0).val, (i 0).isLt⟩ ⟨(i 1).val, (i 1).isLt⟩ * prodAt Y Z ⟨(i 0).val, (i 0).isLt⟩ ⟨(i 1).val, (i 1).isLt⟩

theorem V_v0 : V m c main_v0 = shapeCast S2048x4096 (m ((c.tc : Thread nD τ).loc main_arg2)) shapeCasts_S1x2048x4096_S2048x4096 := by
  show StableHlo.after hostOps0 _ _ = _
  simp only [hostOps0]
  after_results_simp
  rfl
theorem V_v1 : V m c main_v1 = shapeCast S2048x4096 (m ((c.tc : Thread nD τ).loc main_arg3)) shapeCasts_S1x2048x4096_S2048x4096 := by
  show StableHlo.after hostOps0 _ _ = _
  simp only [hostOps0]
  after_results_simp
  rfl
theorem V_v2 : V m c main_v2 = shapeCast S2x4096 (m ((c.tc : Thread nD τ).loc main_arg5)) shapeCasts_S1x2x4096_S2x4096 := by
  show StableHlo.after hostOps0 _ _ = _
  simp only [hostOps0]
  after_results_simp
  rfl

theorem at_x : ∀ t : Fin cfg0.N, 8 ≤ t.val → win0_0.index t 0 = t.val % 8 ∧ win0_0.index t 1 = 0 :=
  (by decide +kernel : ∀ t : Fin grid0.N, 8 ≤ t.val → win0_0.index t 0 = t.val % 8 ∧ win0_0.index t 1 = 0)
theorem at_y : ∀ t : Fin cfg0.N, 8 ≤ t.val → win0_1.index t 0 = t.val % 8 ∧ win0_1.index t 1 = 0 :=
  (by decide +kernel : ∀ t : Fin grid0.N, 8 ≤ t.val → win0_1.index t 0 = t.val % 8 ∧ win0_1.index t 1 = 0)
theorem at_wa : ∀ t : Fin cfg0.N, t.val < 32 → win0_2.index t 0 = t.val % 8 ∧ win0_2.index t 1 = t.val / 8 :=
  (by decide +kernel : ∀ t : Fin grid0.N, t.val < 32 → win0_2.index t 0 = t.val % 8 ∧ win0_2.index t 1 = t.val / 8)
theorem at_wc : ∀ t : Fin cfg0.N, t.val < 32 → win0_3.index t 0 = t.val % 8 ∧ win0_3.index t 1 = t.val / 8 :=
  (by decide +kernel : ∀ t : Fin grid0.N, t.val < 32 → win0_3.index t 0 = t.val % 8 ∧ win0_3.index t 1 = t.val / 8)
theorem at_ga : ∀ t : Fin cfg0.N, 8 ≤ t.val → win0_4.index t 0 = t.val % 8 ∧ win0_4.index t 1 = 12 + (t.val / 8 - 1) :=
  (by decide +kernel : ∀ t : Fin grid0.N, 8 ≤ t.val → win0_4.index t 0 = t.val % 8 ∧ win0_4.index t 1 = 12 + (t.val / 8 - 1))
theorem at_gc : ∀ t : Fin cfg0.N, 8 ≤ t.val → win0_5.index t 0 = t.val % 8 ∧ win0_5.index t 1 = 16 + (t.val / 8 - 1) :=
  (by decide +kernel : ∀ t : Fin grid0.N, 8 ≤ t.val → win0_5.index t 0 = t.val % 8 ∧ win0_5.index t 1 = 16 + (t.val / 8 - 1))
theorem at_b : ∀ t : Fin cfg0.N, 8 ≤ t.val → win0_6.index t 0 = 0 ∧ win0_6.index t 1 = t.val / 8 - 1 :=
  (by decide +kernel : ∀ t : Fin grid0.N, 8 ≤ t.val → win0_6.index t 0 = 0 ∧ win0_6.index t 1 = t.val / 8 - 1)
theorem at_o : ∀ t : Fin cfg0.N, 8 ≤ t.val → win0_7.index t 0 = t.val % 8 ∧ win0_7.index t 1 = t.val / 8 - 1 :=
  (by decide +kernel : ∀ t : Fin grid0.N, 8 ≤ t.val → win0_7.index t 0 = t.val % 8 ∧ win0_7.index t 1 = t.val / 8 - 1)

theorem wcol_lt (t : Fin cfg0.N) (d : Fin 1024) : (t.val / 8 - 1) * 1024 + d.val < 4096 := by
  have h := pt_lt t
  omega
theorem wt_lt (p : Fin cfg0.N) (hp : p.val < 32) (d : Fin 1024) : p.val / 8 * 1024 + d.val < 4096 := by omega

theorem read_x (t : Fin cfg0.N) (h8 : 8 ≤ t.val) (r : Fin 1024) (k : Fin 2048) :
    iblk m c 0 t (ix2 r k) = attnOf m c (ix2 ⟨t.val % 8 * 1024 + r.val, by omega⟩ k) := by
  show V m c main_arg0 (((View.whole main_arg0).slice (win0_0.rect t)).emb (ix2 r k)) = _
  rw [V_main_arg0]
  refine congrArg (attnOf m c) (funext fun a => Fin.ext ?_)
  have h := at_x t h8
  match a with
  | ⟨0, _⟩ => show win0_0.index t 0 * 1024 + 1 * r.val = t.val % 8 * 1024 + r.val; rw [h.1]; omega
  | ⟨1, _⟩ => show win0_0.index t 1 * 2048 + 1 * k.val = k.val; rw [h.2]; omega

theorem read_y (t : Fin cfg0.N) (h8 : 8 ≤ t.val) (r : Fin 1024) (k : Fin 2048) :
    iblk m c 1 t (ix2 r k) = convOf m c (ix2 ⟨t.val % 8 * 1024 + r.val, by omega⟩ k) := by
  show V m c main_arg1 (((View.whole main_arg1).slice (win0_1.rect t)).emb (ix2 r k)) = _
  rw [V_main_arg1]
  refine congrArg (convOf m c) (funext fun a => Fin.ext ?_)
  have h := at_y t h8
  match a with
  | ⟨0, _⟩ => show win0_1.index t 0 * 1024 + 1 * r.val = t.val % 8 * 1024 + r.val; rw [h.1]; omega
  | ⟨1, _⟩ => show win0_1.index t 1 * 2048 + 1 * k.val = k.val; rw [h.2]; omega

theorem read_ga (t : Fin cfg0.N) (h8 : 8 ≤ t.val) (r d : Fin 1024) :
    iblk m c 4 t (ix2 r d) = gateOf m c (ix2 ⟨t.val % 8 * 1024 + r.val, by omega⟩
      ⟨12288 + (0 : Fin 2).val * 4096 + ((t.val / 8 - 1) * 1024 + d.val), by have h := wcol_lt t d; show 12288 + 0 * 4096 + _ < 20480; omega⟩) := by
  show V m c main_arg4 (((View.whole main_arg4).slice (win0_4.rect t)).emb (ix2 r d)) = _
  rw [V_main_arg4]
  refine congrArg (gateOf m c) (funext fun a => Fin.ext ?_)
  have h := at_ga t h8
  match a with
  | ⟨0, _⟩ => show win0_4.index t 0 * 1024 + 1 * r.val = t.val % 8 * 1024 + r.val; rw [h.1]; omega
  | ⟨1, _⟩ => show win0_4.index t 1 * 1024 + 1 * d.val = 12288 + 0 * 4096 + ((t.val / 8 - 1) * 1024 + d.val); rw [h.2]; omega

theorem read_gc (t : Fin cfg0.N) (h8 : 8 ≤ t.val) (r d : Fin 1024) :
    iblk m c 5 t (ix2 r d) = gateOf m c (ix2 ⟨t.val % 8 * 1024 + r.val, by omega⟩
      ⟨12288 + (1 : Fin 2).val * 4096 + ((t.val / 8 - 1) * 1024 + d.val), by have h := wcol_lt t d; show 12288 + 1 * 4096 + _ < 20480; omega⟩) := by
  show V m c main_arg4 (((View.whole main_arg4).slice (win0_5.rect t)).emb (ix2 r d)) = _
  rw [V_main_arg4]
  refine congrArg (gateOf m c) (funext fun a => Fin.ext ?_)
  have h := at_gc t h8
  match a with
  | ⟨0, _⟩ => show win0_5.index t 0 * 1024 + 1 * r.val = t.val % 8 * 1024 + r.val; rw [h.1]; omega
  | ⟨1, _⟩ => show win0_5.index t 1 * 1024 + 1 * d.val = 12288 + 1 * 4096 + ((t.val / 8 - 1) * 1024 + d.val); rw [h.2]; omega

theorem read_b (t : Fin cfg0.N) (h8 : 8 ≤ t.val) (a : Fin 2) (d : Fin 1024) :
    iblk m c 6 t (ix2 a d) = biasOf m c (ix3 0 a ⟨(t.val / 8 - 1) * 1024 + d.val, wcol_lt t d⟩) := by
  show V m c main_v2 (((View.whole main_v2).slice (win0_6.rect t)).emb (ix2 a d)) = _
  rw [V_v2]
  refine Eq.trans (congrArg (shapeCast S2x4096 (biasOf m c) shapeCasts_S1x2x4096_S2x4096) (funext fun z => Fin.ext ?_))
    (flatB_apply (biasOf m c) a ⟨(t.val / 8 - 1) * 1024 + d.val, wcol_lt t d⟩)
  have h := at_b t h8
  match z with
  | ⟨0, _⟩ => show win0_6.index t 0 * 2 + 1 * a.val = a.val; rw [h.1]; omega
  | ⟨1, _⟩ => show win0_6.index t 1 * 1024 + 1 * d.val = (t.val / 8 - 1) * 1024 + d.val; rw [h.2]; omega

theorem read_wa (p : Fin cfg0.N) (hp : p.val < 32) (r : Fin 256) (d : Fin 1024) :
    iblk m c 2 p (ix2 r d) = wAttnOf m c (ix3 0 ⟨p.val % 8 * 256 + r.val, by omega⟩ ⟨p.val / 8 * 1024 + d.val, wt_lt p hp d⟩) := by
  show V m c main_v0 (((View.whole main_v0).slice (win0_2.rect p)).emb (ix2 r d)) = _
  rw [V_v0]
  refine Eq.trans (congrArg (shapeCast S2048x4096 (wAttnOf m c) shapeCasts_S1x2048x4096_S2048x4096) (funext fun a => Fin.ext ?_))
    (flat_apply (wAttnOf m c) ⟨p.val % 8 * 256 + r.val, by omega⟩ ⟨p.val / 8 * 1024 + d.val, wt_lt p hp d⟩)
  have h := at_wa p hp
  match a with
  | ⟨0, _⟩ => show win0_2.index p 0 * 256 + 1 * r.val = p.val % 8 * 256 + r.val; rw [h.1]; omega
  | ⟨1, _⟩ => show win0_2.index p 1 * 1024 + 1 * d.val = p.val / 8 * 1024 + d.val; rw [h.2]; omega

theorem read_col0 (t : Fin cfg0.N) (k : Fin 2048) (d : Fin 1024) :
    col0 m c t (ix3 0 k d) = wAttnOf m c (ix3 0 k ⟨(t.val / 8 - 1) * 1024 + d.val, wcol_lt t d⟩) := by
  have hN := pt_lt t
  have hk := k.isLt
  have hp : (t.val / 8 - 1) * 8 + k.val / 256 < cfg0.N := lt_pt (by omega)
  have h := chunkA_apply (iblk m c 2 ⟨(t.val / 8 - 1) * 8 + k.val / 256, hp⟩) ⟨k.val % 256, Nat.mod_lt _ (by norm_num)⟩ d
  refine Eq.trans (show _ = k0_pay4 (iblk m c 2 ⟨(t.val / 8 - 1) * 8 + k.val / 256, hp⟩) (ix3 0 ⟨k.val % 256, Nat.mod_lt _ (by norm_num)⟩ d) from rfl) (h.trans ?_)
  rw [read_wa m c _ (by simp only; omega)]
  refine congrArg (wAttnOf m c) ?_
  congr 1
  · exact Fin.ext (by simp only; omega)
  · exact Fin.ext (by simp only; omega)

theorem read_wc (p : Fin cfg0.N) (hp : p.val < 32) (r : Fin 256) (d : Fin 1024) :
    iblk m c 3 p (ix2 r d) = wConvOf m c (ix3 0 ⟨p.val % 8 * 256 + r.val, by omega⟩ ⟨p.val / 8 * 1024 + d.val, wt_lt p hp d⟩) := by
  show V m c main_v1 (((View.whole main_v1).slice (win0_3.rect p)).emb (ix2 r d)) = _
  rw [V_v1]
  refine Eq.trans (congrArg (shapeCast S2048x4096 (wConvOf m c) shapeCasts_S1x2048x4096_S2048x4096) (funext fun a => Fin.ext ?_))
    (flat_apply (wConvOf m c) ⟨p.val % 8 * 256 + r.val, by omega⟩ ⟨p.val / 8 * 1024 + d.val, wt_lt p hp d⟩)
  have h := at_wc p hp
  match a with
  | ⟨0, _⟩ => show win0_3.index p 0 * 256 + 1 * r.val = p.val % 8 * 256 + r.val; rw [h.1]; omega
  | ⟨1, _⟩ => show win0_3.index p 1 * 1024 + 1 * d.val = p.val / 8 * 1024 + d.val; rw [h.2]; omega

theorem read_col1 (t : Fin cfg0.N) (k : Fin 2048) (d : Fin 1024) :
    col1 m c t (ix3 0 k d) = wConvOf m c (ix3 0 k ⟨(t.val / 8 - 1) * 1024 + d.val, wcol_lt t d⟩) := by
  have hN := pt_lt t
  have hk := k.isLt
  have hp : (t.val / 8 - 1) * 8 + k.val / 256 < cfg0.N := lt_pt (by omega)
  have h := chunkC_apply (iblk m c 3 ⟨(t.val / 8 - 1) * 8 + k.val / 256, hp⟩) ⟨k.val % 256, Nat.mod_lt _ (by norm_num)⟩ d
  refine Eq.trans (show _ = k0_pay1 (k0_pay5 (iblk m c 3 ⟨(t.val / 8 - 1) * 8 + k.val / 256, hp⟩)) (ix3 0 ⟨k.val % 256, Nat.mod_lt _ (by norm_num)⟩ d) from rfl) (h.trans ?_)
  rw [read_wc m c _ (by simp only; omega)]
  refine congrArg (wConvOf m c) ?_
  congr 1
  · exact Fin.ext (by simp only; omega)
  · exact Fin.ext (by simp only; omega)

/-- A block of the result, from a block of each operand. -/
theorem out_block (X Y : S8192x2048.Idx → EReal) (W Z : S1x2048x4096.Idx → EReal) (P : S8192x20480.Idx → EReal) (B : S1x2x4096.Idx → EReal)
    (x y : Vec Ideal S1024x2048 .bf16) (w z : Vec Ideal S1x2048x1024 .bf16) (ga gc : Vec Ideal S1024x1024 .bf16) (b0 b1 : Vec Ideal S1x1024 .f32)
    (r d : Fin 1024) (R : Fin 8192) (n : Fin 4096) (i : S8192x4096.Idx)
    (hx : ∀ k, x (ix2 r k) = X (ix2 R k)) (hy : ∀ k, y (ix2 r k) = Y (ix2 R k))
    (hw : ∀ k, w (ix3 0 k d) = W (ix3 0 k n)) (hz : ∀ k, z (ix3 0 k d) = Z (ix3 0 k n))
    (hg : Ideal.logistic (ga (ix2 r d) + b0 (ix2 0 d)) = gateAt P B 0 R n) (hc : Ideal.logistic (gc (ix2 r d) + b1 (ix2 0 d)) = gateAt P B 1 R n)
    (h0 : (i 0).val = R.val) (h1 : (i 1).val = n.val) :
    k0_pay12 (k0_pay9 x w) (k0_pay10 y z) (k0_pay11 ga) b0 gc b1 (ix2 r d) = outArr X Y W Z P B i := by
  have e0 : (⟨(i 0).val, (i 0).isLt⟩ : Fin 8192) = R := Fin.ext h0
  have e1 : (⟨(i 1).val, (i 1).isLt⟩ : Fin 4096) = n := Fin.ext h1
  rw [pay12_apply, hg, hc, pay10_eq, prod_apply, prod_apply]
  unfold outArr prodAt
  rw [e0, e1]
  simp only [hx, hy, hw, hz]

theorem out_at (t : Fin cfg0.N) (h8 : 8 ≤ t.val) (y : S1024x1024.Idx) :
    k0_pay12 (k0_pay9 (iblk m c 0 t) (col0 m c t)) (k0_pay10 (iblk m c 1 t) (col1 m c t)) (k0_pay11 (iblk m c 4 t)) (rowOf (iblk m c 6 t) 0) (iblk m c 5 t) (rowOf (iblk m c 6 t) 1) y =
      outArr (attnOf m c) (convOf m c) (wAttnOf m c) (wConvOf m c) (gateOf m c) (biasOf m c) (((View.whole main_v3).slice (win0_7.rect t)).emb y) := by
  obtain ⟨r, d, rfl⟩ : ∃ (r d : Fin 1024), y = ix2 r d := ⟨y 0, y 1, eq_ix2 y⟩
  have h := at_o t h8
  exact out_block (attnOf m c) (convOf m c) (wAttnOf m c) (wConvOf m c) (gateOf m c) (biasOf m c) _ _ _ _ _ _ _ _ r d
    ⟨t.val % 8 * 1024 + r.val, by omega⟩ ⟨(t.val / 8 - 1) * 1024 + d.val, wcol_lt t d⟩ _
    (fun k => read_x m c t h8 r k) (fun k => read_y m c t h8 r k) (fun k => read_col0 m c t k d) (fun k => read_col1 m c t k d)
    (congrArg Ideal.logistic (congrArg₂ (· + ·) (read_ga m c t h8 r d) (read_b m c t h8 0 d)))
    (congrArg Ideal.logistic (congrArg₂ (· + ·) (read_gc m c t h8 r d) (read_b m c t h8 1 d)))
    (by show win0_7.index t 0 * 1024 + 1 * r.val = t.val % 8 * 1024 + r.val; rw [h.1]; omega)
    (by show win0_7.index t 1 * 1024 + 1 * d.val = (t.val / 8 - 1) * 1024 + d.val; rw [h.2]; omega)

theorem flush_ge (t : Fin cfg0.N) (h : (cfg0.win 7).flush t = true) : 8 ≤ t.val := by
  by_contra q
  rw [noflushOut t (by omega)] at h
  exact Bool.noConfusion h

theorem final_out : (dats m 0 c).arrAt 7 cfg0.N = outArr (attnOf m c) (convOf m c) (wAttnOf m c) (wConvOf m c) (gateOf m c) (biasOf m c) := by
  refine Dat.arrAt_eq_of_cover (dats m 0 c) 7 (outArr (attnOf m c) (convOf m c) (wAttnOf m c) (wConvOf m c) (gateOf m c) (biasOf m c)) ?_ ?_
  · intro t ht
    refine funext fun y => ?_
    rw [Dat.flushed_apply, after0_7]
    exact out_at m c t (flush_ge t ht) y
  · intro i
    have h0 : (i 0).val < 8192 := (i 0).isLt
    have h1 : (i 1).val < 4096 := (i 1).isLt
    have hN : cfg0.N = 40 := N_0
    have hb : ((i 1).val / 1024 + 1) * 8 + (i 0).val / 1024 < cfg0.N := by omega
    refine ⟨⟨((i 1).val / 1024 + 1) * 8 + (i 0).val / 1024, hb⟩, flushOut _ (by simp only; omega), ?_⟩
    generalize ht : (⟨((i 1).val / 1024 + 1) * 8 + (i 0).val / 1024, hb⟩ : Fin cfg0.N) = t
    have hv : t.val = ((i 1).val / 1024 + 1) * 8 + (i 0).val / 1024 := by rw [← ht]
    have hi := at_o t (by omega)
    show i ∈ ((View.whole main_v3).slice (win0_7.rect t)).set
    rw [View.set_slice_whole, Window.mem_rect_iff win0_7 t i]
    intro a
    match a with
    | ⟨0, _⟩ =>
      show win0_7.index t 0 * 1024 ≤ (i 0).val ∧ (i 0).val < win0_7.index t 0 * 1024 + 1024
      rw [hi.1]; omega
    | ⟨1, _⟩ =>
      show win0_7.index t 1 * 1024 ≤ (i 1).val ∧ (i 1).val < win0_7.index t 1 * 1024 + 1024
      rw [hi.2]; omega

/-- The array that the kernel ends with. -/
theorem kernel_run :
    θ_run defs (onTc (τ := τ) (main (F := Ideal))) ⟨m, fun _ => 0, ρ⟩ (fun r => ∀ c : Dev nD,
      r.2.mem ((c.tc : Thread nD τ).loc main_v3) = outArr (attnOf m c) (convOf m c) (wAttnOf m c) (wConvOf m c) (gateOf m c) (biasOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 7).trans (final_out m c), h.2 c⟩)
    (θ_run_and (run_main m ρ) (unchanged m ρ))

end Cert.Kernel4Ideal.Mm

namespace Cert.Kernel4

open Idealize.ShloMosaic Idealize.ShloMosaic.TcCoe Idealize.SL.Sem
open Cert.Reference4Ideal Cert.Reference4Ideal.Gen Cert.Reference4Ideal.Read

open Cert.Kernel4Ideal.Mm (outArr prodAt gateAt)

/-- One over one and the exponential of the negation, with the ones as the reference prints them. -/
theorem spell_logistic (x : EReal) :
    (FloatOps.divf (φ := .f32) (FloatOps.ofBits (F := Ideal) .f32 0x3F800000#32)
      (FloatOps.addf (φ := .f32) (FloatOps.ofBits (F := Ideal) .f32 0x3F800000#32) (FloatOps.exp (φ := .f32) (FloatOps.negf (φ := .f32) (x : Ideal .f32))))) = Ideal.logistic x := by
  have h1 : FloatOps.ofBits (F := Ideal) .f32 0x3F800000#32 = (1 : EReal) := Ideal.ofBits_one_f32
  rw [h1]
  rfl

theorem attn_prod (X : S8192x2048.Idx → EReal) (W : S1x2048x4096.Idx → EReal) (i : S8192x4096.Idx) :
    val_main_v6 (F := Ideal) X W i = prodAt X W ⟨(i 0).val, (i 0).isLt⟩ ⟨(i 1).val, (i 1).isLt⟩ := by
  rw [val_main_v6_apply]
  unfold prodAt
  refine Finset.sum_congr rfl fun k _ => ?_
  have h1 : (i 1).val < 4096 := (i 1).isLt
  have hk : k.val < 2048 := k.isLt
  rw [val_main_v5_apply]
  congr 1
  · show X (lidx_main_v6 i k) = _
    refine congrArg X (funext fun a => ?_)
    match a with
    | ⟨0, _⟩ => rfl
    | ⟨1, _⟩ => rfl
  · refine congrArg W (funext fun a => Fin.ext ?_)
    match a with
    | ⟨0, _⟩ => rfl
    | ⟨1, _⟩ => show (k.val * 4096 + (i 1).val) / 4096 % 2048 = k.val; omega
    | ⟨2, _⟩ => show (k.val * 4096 + (i 1).val) % 4096 = (i 1).val; omega

theorem conv_prod (X : S8192x2048.Idx → EReal) (W : S1x2048x4096.Idx → EReal) (i : S8192x4096.Idx) :
    val_main_v9 (F := Ideal) X W i = prodAt X W ⟨(i 0).val, (i 0).isLt⟩ ⟨(i 1).val, (i 1).isLt⟩ := by
  rw [val_main_v9_apply]
  unfold prodAt
  refine Finset.sum_congr rfl fun k _ => ?_
  have h1 : (i 1).val < 4096 := (i 1).isLt
  have hk : k.val < 2048 := k.isLt
  rw [val_main_v8_apply]
  congr 1
  · show X (lidx_main_v9 i k) = _
    refine congrArg X (funext fun a => ?_)
    match a with
    | ⟨0, _⟩ => rfl
    | ⟨1, _⟩ => rfl
  · refine congrArg W (funext fun a => Fin.ext ?_)
    match a with
    | ⟨0, _⟩ => rfl
    | ⟨1, _⟩ => show (k.val * 4096 + (i 1).val) / 4096 % 2048 = k.val; omega
    | ⟨2, _⟩ => show (k.val * 4096 + (i 1).val) % 4096 = (i 1).val; omega

theorem attn_bias (B : S1x2x4096.Idx → EReal) (i : S8192x4096.Idx) :
    val_main_v13 (F := Ideal) B i = B (ix3 0 0 ⟨(i 1).val, (i 1).isLt⟩) := by
  rw [val_main_v13_apply, val_main_v12_apply, val_main_v11_apply, val_main_v10_apply]
  refine congrArg B (funext fun a => Fin.ext ?_)
  have h1 : (i 1).val < 4096 := (i 1).isLt
  match a with
  | ⟨0, _⟩ => rfl
  | ⟨1, _⟩ => rfl
  | ⟨2, _⟩ => show (i 1).val % 4096 = (i 1).val; omega

theorem attn_slice (P : S8192x20480.Idx → EReal) (i : S8192x4096.Idx) :
    val_main_v2 (F := Ideal) P i = P (ix2 ⟨(i 0).val, (i 0).isLt⟩
      ⟨12288 + (0 : Fin 2).val * 4096 + (i 1).val, by have h1 : (i 1).val < 4096 := (i 1).isLt; show 12288 + 0 * 4096 + (i 1).val < 20480; omega⟩) := by
  rw [val_main_v2_apply, val_main_v1_apply]
  show P (idx_main_v1 (idx_main_v2 i)) = _
  refine congrArg P (funext fun a => Fin.ext ?_)
  match a with
  | ⟨0, _⟩ => rfl
  | ⟨1, _⟩ => show 12288 + (i 1).val = 12288 + 0 * 4096 + (i 1).val; omega

theorem attn_gate (P : S8192x20480.Idx → EReal) (B : S1x2x4096.Idx → EReal) (i : S8192x4096.Idx) :
    val_main_v20 (F := Ideal) P B i = gateAt P B 0 ⟨(i 0).val, (i 0).isLt⟩ ⟨(i 1).val, (i 1).isLt⟩ := by
  have h : val_main_v14 (F := Ideal) P B i = P (ix2 ⟨(i 0).val, (i 0).isLt⟩
      ⟨12288 + (0 : Fin 2).val * 4096 + (i 1).val, by have h1 : (i 1).val < 4096 := (i 1).isLt; show 12288 + 0 * 4096 + (i 1).val < 20480; omega⟩)
        + B (ix3 0 0 ⟨(i 1).val, (i 1).isLt⟩) := by
    rw [val_main_v14_apply, attn_slice, attn_bias]
    rfl
  unfold gateAt
  rw [← h, ← spell_logistic, val_main_v20_apply, val_main_v19_apply, val_main_v18_apply, val_main_v17_apply, val_main_v16_apply, val_main_v15_apply]
  rfl

theorem conv_bias (B : S1x2x4096.Idx → EReal) (i : S8192x4096.Idx) :
    val_main_v25 (F := Ideal) B i = B (ix3 0 1 ⟨(i 1).val, (i 1).isLt⟩) := by
  rw [val_main_v25_apply, val_main_v24_apply, val_main_v23_apply, val_main_v22_apply]
  refine congrArg B (funext fun a => Fin.ext ?_)
  have h1 : (i 1).val < 4096 := (i 1).isLt
  match a with
  | ⟨0, _⟩ => rfl
  | ⟨1, _⟩ => rfl
  | ⟨2, _⟩ => show (i 1).val % 4096 = (i 1).val; omega

theorem conv_slice (P : S8192x20480.Idx → EReal) (i : S8192x4096.Idx) :
    val_main_v3 (F := Ideal) P i = P (ix2 ⟨(i 0).val, (i 0).isLt⟩
      ⟨12288 + (1 : Fin 2).val * 4096 + (i 1).val, by have h1 : (i 1).val < 4096 := (i 1).isLt; show 12288 + 1 * 4096 + (i 1).val < 20480; omega⟩) := by
  rw [val_main_v3_apply, val_main_v1_apply]
  show P (idx_main_v1 (idx_main_v3 i)) = _
  refine congrArg P (funext fun a => Fin.ext ?_)
  match a with
  | ⟨0, _⟩ => rfl
  | ⟨1, _⟩ => show 12288 + (4096 + (i 1).val) = 12288 + 1 * 4096 + (i 1).val; omega

theorem conv_gate (P : S8192x20480.Idx → EReal) (B : S1x2x4096.Idx → EReal) (i : S8192x4096.Idx) :
    val_main_v32 (F := Ideal) P B i = gateAt P B 1 ⟨(i 0).val, (i 0).isLt⟩ ⟨(i 1).val, (i 1).isLt⟩ := by
  have h : val_main_v26 (F := Ideal) P B i = P (ix2 ⟨(i 0).val, (i 0).isLt⟩
      ⟨12288 + (1 : Fin 2).val * 4096 + (i 1).val, by have h1 : (i 1).val < 4096 := (i 1).isLt; show 12288 + 1 * 4096 + (i 1).val < 20480; omega⟩)
        + B (ix3 0 1 ⟨(i 1).val, (i 1).isLt⟩) := by
    rw [val_main_v26_apply, conv_slice, conv_bias]
    rfl
  unfold gateAt
  rw [← h, ← spell_logistic, val_main_v32_apply, val_main_v31_apply, val_main_v30_apply, val_main_v29_apply, val_main_v28_apply, val_main_v27_apply]
  rfl

/-- The reference's result is the same array. -/
theorem same_out (X Y : S8192x2048.Idx → EReal) (W Z : S1x2048x4096.Idx → EReal) (P : S8192x20480.Idx → EReal) (B : S1x2x4096.Idx → EReal) :
    val_main_v35 (F := Ideal) X Y W Z P B = outArr X Y W Z P B := by
  funext i
  refine Eq.trans (show _ = val_main_v20 (F := Ideal) P B i * val_main_v6 (F := Ideal) X W i + val_main_v32 (F := Ideal) P B i * val_main_v9 (F := Ideal) Y Z i from rfl) ?_
  rw [attn_gate, conv_gate, attn_prod, conv_prod]
  rfl

variable (m : (ℓ : Loc nD τ sig) → Buf (Elt Ideal) ℓ) (ρ : Dev nD → PrngReg)

/-- The reference ends with its last stage. -/
theorem reference_run :
    θ_run defs (onTc (τ := τ) (main (F := Ideal))) ⟨m, fun _ => 0, ρ⟩ (fun r => ∀ c : Dev nD,
      r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v35_eq (F := Ideal) _ _ _ _ _ _ ), (h c).2⟩)
    (Cert.Reference4Ideal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩)
    (reference_run m ρ)

end Cert.Kernel4

end
-- ==== Proof.QRun.lean ====
module

public import proofs.«01_k».proof.Proof.Gen.Kernel5Ideal.Frame
public import proofs.«01_k».proof.Proof.Gen.Kernel5Ideal.Skeleton
public import proofs.«01_k».proof.Proof.Slots
public import Idealize.ShloMosaic.Lib.Pipeline.TableIdle

@[expose] public section

set_option maxRecDepth 16384

noncomputable section

namespace Cert.Kernel5Ideal.Mm

open Cert.Kernel5Ideal Cert.Kernel5Ideal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches of the body, and where it reads and writes its scratch -/

theorem hcond1 : ∀ t : Fin grid0.N, k0_cond1 (grid0.coords t) = 1#1 ↔ t.val = 0 := by decide +kernel
theorem hcond2 : ∀ t : Fin grid0.N, k0_cond2 (grid0.coords t) = 1#1 ↔ 1 ≤ t.val ∧ t.val < 32 := by decide +kernel
theorem hcond3 : ∀ t : Fin grid0.N, k0_cond3 (grid0.coords t) = 1#1 ↔ 32 ≤ t.val := by decide +kernel
theorem off2_eq : ∀ t : Fin grid0.N, k0_off2 (grid0.coords t) = ![t.val % 2, 0, 0] := by decide +kernel
theorem off3_eq : ∀ t : Fin grid0.N, k0_off3 (grid0.coords t) = ![t.val % 2, 64, 0] := by decide +kernel
theorem off4_eq : ∀ t : Fin grid0.N, k0_off4 (grid0.coords t) = ![t.val % 2, 128, 0] := by decide +kernel
theorem off5_eq : ∀ t : Fin grid0.N, k0_off5 (grid0.coords t) = ![t.val % 2, 192, 0] := by decide +kernel
theorem off6_eq : ∀ t : Fin grid0.N, k0_off6 (grid0.coords t) = ![t.val % 2, 0, 0] := by decide +kernel
theorem off7_eq : ∀ t : Fin grid0.N, k0_off7 (grid0.coords t) = ![(t.val + 1) % 2, 0, 0] := by decide +kernel
theorem off9_eq : ∀ t : Fin grid0.N, k0_off9 (grid0.coords t) = ![t.val % 2, 0, 0] := by decide +kernel
theorem off10_eq : ∀ t : Fin grid0.N, k0_off10 (grid0.coords t) = ![t.val % 2, 64, 0] := by decide +kernel
theorem off11_eq : ∀ t : Fin grid0.N, k0_off11 (grid0.coords t) = ![t.val % 2, 128, 0] := by decide +kernel
theorem off12_eq : ∀ t : Fin grid0.N, k0_off12 (grid0.coords t) = ![t.val % 2, 192, 0] := by decide +kernel
theorem off13_eq : ∀ t : Fin grid0.N, k0_off13 (grid0.coords t) = ![t.val % 2, 0, 0] := by decide +kernel
theorem off14_eq : ∀ t : Fin grid0.N, k0_off14 (grid0.coords t) = ![(t.val + 1) % 2, 0, 0] := by decide +kernel

/-- Sixty-four rows of a tile. -/
def rowsOf (x : Vec F S256x4096 .f32) (b : ℕ) (hb : b + 64 ≤ 256) : Vec F S64x4096 .f32 := fun y =>
  x (ix2 ⟨b + (y 0).val, by have h : (y 0).val < 64 := (y 0).isLt; omega⟩ ⟨(y 1).val, (y 1).isLt⟩)

theorem read_rows (M : Memref sig .tc .vmem S256x4096 .f32) (h : M.IsWhole) (x : Vec F S256x4096 .f32) (b : ℕ) (hb : b + 64 ≤ 256)
    (inb : ∀ r, (![b, 0] : Fin 2 → ℕ) r + S64x4096.size r ≤ S256x4096.size r) :
    View.readAt (Elt F) M.view (Rect.unit (s := S256x4096) ![b, 0] S64x4096.size inb).toLoadRect (h.unread x) = rowsOf x b hb := by
  funext y
  rw [h.readAt_unread]
  unfold rowsOf
  refine congrArg x (funext fun r => Fin.ext ?_)
  match r with
  | ⟨0, _⟩ => show b + 1 * (y 0).val = b + (y 0).val; omega
  | ⟨1, _⟩ => show 0 + 1 * (y 1).val = (y 1).val; omega

/-- A tile with its rows normalised, sixty-four at a time. -/
def tileOf (x : Vec F S256x4096 .f32) (g : Vec F S1x4096 .f32) : Vec F S1x256x4096 .bf16 := fun y =>
  k0_pay1 (rowsOf x ((y 1).val / 64 * 64) (by have h : (y 1).val < 256 := (y 1).isLt; omega)) g
    (ix3 0 ⟨(y 1).val % 64, Nat.mod_lt _ (by norm_num)⟩ ⟨(y 2).val, (y 2).isLt⟩)

/-- Four chunks of rows stored into a slot are the slot. -/
theorem slot_stores (M : Memref sig .tc .vmem S2x256x4096 .bf16) (h : M.IsWhole) (xs : Vec F S2x256x4096 .bf16) (x : Vec F S256x4096 .f32) (g : Vec F S1x4096 .f32) (a : ℕ) (ha : a < 2)
    (o0 o1 o2 o3 : Fin 3 → ℕ) (h0 : o0 = ![a, 0, 0]) (h1 : o1 = ![a, 64, 0]) (h2 : o2 = ![a, 128, 0]) (h3 : o3 = ![a, 192, 0])
    (i0 : ∀ r, o0 r + S1x64x4096.size r ≤ S2x256x4096.size r) (i1 : ∀ r, o1 r + S1x64x4096.size r ≤ S2x256x4096.size r)
    (i2 : ∀ r, o2 r + S1x64x4096.size r ≤ S2x256x4096.size r) (i3 : ∀ r, o3 r + S1x64x4096.size r ≤ S2x256x4096.size r)
    (w0 w1 w2 w3 : Vec F S1x64x4096 .bf16) (e0 : w0 = k0_pay1 (rowsOf x 0 (by norm_num)) g) (e1 : w1 = k0_pay1 (rowsOf x 64 (by norm_num)) g)
    (e2 : w2 = k0_pay1 (rowsOf x 128 (by norm_num)) g) (e3 : w3 = k0_pay1 (rowsOf x 192 (by norm_num)) g) (f : M.view.ty.Contents (Elt F)) :
    slotOf (M.view.read (Elt F) (M.view.writes (Elt F) f
      [⟨Rect.unit (s := S2x256x4096) o3 S1x64x4096.size i3, w3⟩, ⟨Rect.unit (s := S2x256x4096) o2 S1x64x4096.size i2, w2⟩,
        ⟨Rect.unit (s := S2x256x4096) o1 S1x64x4096.size i1, w1⟩, ⟨Rect.unit (s := S2x256x4096) o0 S1x64x4096.size i0, w0⟩])) a = tileOf x g := by
  funext y
  have hy : (y 1).val < 256 := (y 1).isLt
  have key : ∀ (b : ℕ) (hb : b + 64 ≤ 256) (w : Vec F S1x64x4096 .bf16), w = k0_pay1 (rowsOf x b hb) g → (y 1).val / 64 * 64 = b →
      w (ix3 0 ⟨(y 1).val % 64, Nat.mod_lt _ (by norm_num)⟩ ⟨(y 2).val, (y 2).isLt⟩) = tileOf x g y := fun b hb w hw e => by
    subst hw; subst e; rfl
  unfold slotOf
  have hz : ∀ b : ℕ, (y 1).val / 64 * 64 = b → ∀ r : Fin 3, ((ix3 (⟨a % 2, Nat.mod_lt _ (by norm_num)⟩ : Fin 2) (⟨(y 1).val, (y 1).isLt⟩ : Fin 256) (⟨(y 2).val, (y 2).isLt⟩ : Fin 4096) : S2x256x4096.Idx) r).val
      = (![a, b, 0] : Fin 3 → ℕ) r + ((ix3 0 ⟨(y 1).val % 64, Nat.mod_lt _ (by norm_num)⟩ ⟨(y 2).val, (y 2).isLt⟩ : S1x64x4096.Idx) r).val := fun b hb r => by
    match r with
    | ⟨0, _⟩ => show a % 2 = a + 0; omega
    | ⟨1, _⟩ => show (y 1).val = b + (y 1).val % 64; omega
    | ⟨2, _⟩ => show (y 2).val = 0 + (y 2).val; omega
  by_cases q3 : 192 ≤ (y 1).val
  · rw [View.read_writes_cons_unit_of_mem M.view _ i3 w3 _ _ _ h3 (hz 192 (by omega))]
    exact key 192 _ w3 e3 (by omega)
  rw [View.read_writes_cons_unit_of_not_mem M.view _ i3 w3 _ _ h3 (1 : Fin 3) (by show (y 1).val < 192 ∨ _; omega)]
  by_cases q2 : 128 ≤ (y 1).val
  · rw [View.read_writes_cons_unit_of_mem M.view _ i2 w2 _ _ _ h2 (hz 128 (by omega))]
    exact key 128 _ w2 e2 (by omega)
  rw [View.read_writes_cons_unit_of_not_mem M.view _ i2 w2 _ _ h2 (1 : Fin 3) (by show (y 1).val < 128 ∨ _; omega)]
  by_cases q1 : 64 ≤ (y 1).val
  · rw [View.read_writes_cons_unit_of_mem M.view _ i1 w1 _ _ _ h1 (hz 64 (by omega))]
    exact key 64 _ w1 e1 (by omega)
  rw [View.read_writes_cons_unit_of_not_mem M.view _ i1 w1 _ _ h1 (1 : Fin 3) (by show (y 1).val < 64 ∨ _; omega)]
  rw [View.read_writes_cons_unit_of_mem M.view _ i0 w0 _ _ _ h0 (hz 0 (by omega))]
  exact key 0 _ w0 e0 (by omega)

theorem load_slot (M : Memref sig .tc .vmem S2x256x4096 .bf16) (f : M.view.ty.Contents (Elt F)) (a : ℕ) (ha : a < 2)
    (off : Fin 3 → ℕ) (ho : off = ![a, 0, 0]) (inb : ∀ r, off r + S1x256x4096.size r ≤ S2x256x4096.size r) :
    View.readAt (Elt F) M.view (Rect.unit (s := S2x256x4096) off S1x256x4096.size inb).toLoadRect f = slotOf (M.view.read (Elt F) f) a := by
  subst ho
  funext x
  rw [View.readAt_apply]
  unfold slotOf
  refine congrArg (M.view.read (Elt F) f) (funext fun r => Fin.ext ?_)
  have h0 : (x 0).val < 1 := (x 0).isLt
  match r with
  | ⟨0, _⟩ => show a + 1 * (x 0).val = a % 2; omega
  | ⟨1, _⟩ => show 0 + 1 * (x 1).val = (x 1).val; omega
  | ⟨2, _⟩ => show 0 + 1 * (x 2).val = (x 2).val; omega

instance (t : Fin grid0.N) : ClosedOff (k0_off2 (grid0.coords t)) := ⟨![t.val % 2, 0, 0], off2_eq t⟩
instance (t : Fin grid0.N) : ClosedOff (k0_off3 (grid0.coords t)) := ⟨![t.val % 2, 64, 0], off3_eq t⟩
instance (t : Fin grid0.N) : ClosedOff (k0_off4 (grid0.coords t)) := ⟨![t.val % 2, 128, 0], off4_eq t⟩
instance (t : Fin grid0.N) : ClosedOff (k0_off5 (grid0.coords t)) := ⟨![t.val % 2, 192, 0], off5_eq t⟩
instance (t : Fin grid0.N) : ClosedOff (k0_off6 (grid0.coords t)) := ⟨![t.val % 2, 0, 0], off6_eq t⟩
instance (t : Fin grid0.N) : ClosedOff (k0_off9 (grid0.coords t)) := ⟨![t.val % 2, 0, 0], off9_eq t⟩
instance (t : Fin grid0.N) : ClosedOff (k0_off10 (grid0.coords t)) := ⟨![t.val % 2, 64, 0], off10_eq t⟩
instance (t : Fin grid0.N) : ClosedOff (k0_off11 (grid0.coords t)) := ⟨![t.val % 2, 128, 0], off11_eq t⟩
instance (t : Fin grid0.N) : ClosedOff (k0_off12 (grid0.coords t)) := ⟨![t.val % 2, 192, 0], off12_eq t⟩
instance (t : Fin grid0.N) : ClosedOff (k0_off13 (grid0.coords t)) := ⟨![t.val % 2, 0, 0], off13_eq t⟩

set_option maxHeartbeats 3000000 in
/-- The body run at the first tile: it normalises. -/
theorem runA (c : Dev nD) (t : Fin grid0.N) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S256x2048 .f32) (harg4 : arg4.IsWhole) (arg5 : Memref sig .tc .vmem S256x4096 .bf16) (harg5 : arg5.IsWhole) (arg6 : Memref sig .tc .vmem S2x256x4096 .bf16) (harg6 : arg6.IsWhole)
    (h1 : k0_cond1 (grid0.coords t) = 1#1) (h2 : ¬k0_cond2 (grid0.coords t) = 1#1) (h3 : ¬k0_cond3 (grid0.coords t) = 1#1) (pa : ℕ) (hpa : pa < 2) (hw0 : k0_off2 (grid0.coords t) = ![pa, 0, 0]) (hw1 : k0_off3 (grid0.coords t) = ![pa, 64, 0]) (hw2 : k0_off4 (grid0.coords t) = ![pa, 128, 0]) (hw3 : k0_off5 (grid0.coords t) = ![pa, 192, 0]) (hl : k0_off6 (grid0.coords t) = ![pa, 0, 0])
    (x0 : Vec F S256x4096 .f32) (x1 : Vec F S1x4096 .f32) (x2 : Vec F S4096x2048 .bf16) (x3 : Vec F S256x2048 .f32) (xs : Vec F S2x256x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay2 (tileOf x0 x1)) ∗ (∃ xs', ⌜slotOf xs' pa = tileOf x0 x1⌝ ∗ owns (c : Thread nD τ) arg6 fullShare xs')) -∗ K ⟨⟩))
      ⊢ wp frame (wpE (defs₀ (F := F)) Variants.none c none) E (cc0_peer_query (grid0.coords t) arg1 harg1 arg2 harg2 arg3 harg3 arg4 harg4 arg5 harg5 arg6 harg6) K := by
  simp only [cc0_peer_query_eq_skeleton]; unfold cc0_peer_query_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg1.eq_unread hf0
  obtain rfl := harg2.eq_unread hf1
  obtain rfl := harg3.eq_unread hf2
  obtain rfl := harg4.eq_unread hf3
  obtain rfl := harg6.eq_unread hfs
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine (View.read_writes_full _ _ _ _ _).trans ?_
    refine congrArg (k0_pay2 (F := F)) ?_
    refine (load_slot arg6 _ pa hpa _ hl _).trans ?_
    exact slot_stores arg6 harg6 xs x0 x1 pa hpa _ _ _ _ hw0 hw1 hw2 hw3 _ _ _ _ _ _ _ _
      (by simp only [read_all arg2 harg2 x1, read_rows arg1 harg1 x0 0 (by norm_num)] <;> rfl)
      (by simp only [read_all arg2 harg2 x1, read_rows arg1 harg1 x0 64 (by norm_num)] <;> rfl)
      (by simp only [read_all arg2 harg2 x1, read_rows arg1 harg1 x0 128 (by norm_num)] <;> rfl)
      (by simp only [read_all arg2 harg2 x1, read_rows arg1 harg1 x0 192 (by norm_num)] <;> rfl) _
  iexists _
  isplitr
  swap
  · iexists _
    isplitr
    swap; · iexact HS
    ipureintro
    rfl
  ipureintro
  exact slot_stores arg6 harg6 xs x0 x1 pa hpa _ _ _ _ hw0 hw1 hw2 hw3 _ _ _ _ _ _ _ _
      (by simp only [read_all arg2 harg2 x1, read_rows arg1 harg1 x0 0 (by norm_num)] <;> rfl)
      (by simp only [read_all arg2 harg2 x1, read_rows arg1 harg1 x0 64 (by norm_num)] <;> rfl)
      (by simp only [read_all arg2 harg2 x1, read_rows arg1 harg1 x0 128 (by norm_num)] <;> rfl)
      (by simp only [read_all arg2 harg2 x1, read_rows arg1 harg1 x0 192 (by norm_num)] <;> rfl) _

set_option maxHeartbeats 3000000 in
/-- The body run at a later tile: it multiplies by the tile before, and normalises. -/
theorem runB (c : Dev nD) (t : Fin grid0.N) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S256x2048 .f32) (harg4 : arg4.IsWhole) (arg5 : Memref sig .tc .vmem S256x4096 .bf16) (harg5 : arg5.IsWhole) (arg6 : Memref sig .tc .vmem S2x256x4096 .bf16) (harg6 : arg6.IsWhole)
    (h1 : ¬k0_cond1 (grid0.coords t) = 1#1) (h2 : k0_cond2 (grid0.coords t) = 1#1) (h3 : ¬k0_cond3 (grid0.coords t) = 1#1) (pa : ℕ) (hpa : pa < 2) (hw0 : k0_off9 (grid0.coords t) = ![pa, 0, 0]) (hw1 : k0_off10 (grid0.coords t) = ![pa, 64, 0]) (hw2 : k0_off11 (grid0.coords t) = ![pa, 128, 0]) (hw3 : k0_off12 (grid0.coords t) = ![pa, 192, 0]) (hl : k0_off13 (grid0.coords t) = ![pa, 0, 0]) (pr : ℕ) (hpr : pr < 2) (hr : k0_off7 (grid0.coords t) = ![pr, 0, 0])
    (x0 : Vec F S256x4096 .f32) (x1 : Vec F S1x4096 .f32) (x2 : Vec F S4096x2048 .bf16) (xs : Vec F S2x256x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs
      ∗ (iprop(owns (c : Thread nD τ) arg1 fullShare x0 ∗ owns (c : Thread nD τ) arg2 fullShare x1 ∗ owns (c : Thread nD τ) arg3 fullShare x2 ∗ owns (c : Thread nD τ) arg4 fullShare (k0_pay5 (slotOf xs pr) x2) ∗ owns (c : Thread nD τ) arg5 fullShare (k0_pay2 (tileOf x0 x1)) ∗ (∃ xs', ⌜slotOf xs' pa = tileOf x0 x1⌝ ∗ owns (c : Thread nD τ) arg6 fullShare xs')) -∗ K ⟨⟩))
      ⊢ wp frame (wpE (defs₀ (F := F)) Variants.none c none) E (cc0_peer_query (grid0.coords t) arg1 harg1 arg2 harg2 arg3 harg3 arg4 harg4 arg5 harg5 arg6 harg6) K := by
  simp only [cc0_peer_query_eq_skeleton]; unfold cc0_peer_query_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  obtain rfl := harg1.eq_unread hf0
  obtain rfl := harg2.eq_unread hf1
  obtain rfl := harg3.eq_unread hf2
  obtain rfl := harg6.eq_unread hfs
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    rw [read_all arg3 harg3 x2, ← read_slot arg6 harg6 xs pr hpr _ hr (k0_off7_inb (grid0.coords t) h2)]
    rfl
  isplitl [H4]
  · iexists _; isplitr
    swap; · iexact H4
    ipureintro
    refine (View.read_writes_full _ _ _ _ _).trans ?_
    refine congrArg (k0_pay4 (F := F)) ?_
    refine (load_slot arg6 _ pa hpa _ hl _).trans ?_
    exact slot_stores arg6 harg6 xs x0 x1 pa hpa _ _ _ _ hw0 hw1 hw2 hw3 _ _ _ _ _ _ _ _
      (by simp only [read_all arg2 harg2 x1, read_rows arg1 harg1 x0 0 (by norm_num)] <;> rfl)
      (by simp only [read_all arg2 harg2 x1, read_rows arg1 harg1 x0 64 (by norm_num)] <;> rfl)
      (by simp only [read_all arg2 harg2 x1, read_rows arg1 harg1 x0 128 (by norm_num)] <;> rfl)
      (by simp only [read_all arg2 harg2 x1, read_rows arg1 harg1 x0 192 (by norm_num)] <;> rfl) _
  iexists _
  isplitr
  swap
  · iexists _
    isplitr
    swap; · iexact HS
    ipureintro
    rfl
  ipureintro
  exact slot_stores arg6 harg6 xs x0 x1 pa hpa _ _ _ _ hw0 hw1 hw2 hw3 _ _ _ _ _ _ _ _
      (by simp only [read_all arg2 harg2 x1, read_rows arg1 harg1 x0 0 (by norm_num)] <;> rfl)
      (by simp only [read_all arg2 harg2 x1, read_rows arg1 harg1 x0 64 (by norm_num)] <;> rfl)
      (by simp only [read_all arg2 harg2 x1, read_rows arg1 harg1 x0 128 (by norm_num)] <;> rfl)
      (by simp only [read_all arg2 harg2 x1, read_rows arg1 harg1 x0 192 (by norm_num)] <;> rfl) _

set_option maxHeartbeats 3000000 in
/-- The body run past the last tile: it multiplies. -/
theorem runC (c : Dev nD) (t : Fin grid0.N) (arg1 : Memref sig .tc .vmem S256x4096 .f32) (harg1 : arg1.IsWhole) (arg2 : Memref sig .tc .vmem S1x4096 .f32) (harg2 : arg2.IsWhole) (arg3 : Memref sig .tc .vmem S4096x2048 .bf16) (harg3 : arg3.IsWhole) (arg4 : Memref sig .tc .vmem S256x2048 .f32) (harg4 : arg4.IsWhole) (arg5 : Memref sig .tc .vmem S256x4096 .bf16) (harg5 : arg5.IsWhole) (arg6 : Memref sig .tc .vmem S2x256x4096 .bf16) (harg6 : arg6.IsWhole)
    (h1 : ¬k0_cond1 (grid0.coords t) = 1#1) (h2 : ¬k0_cond2 (grid0.coords t) = 1#1) (h3 : k0_cond3 (grid0.coords t) = 1#1) (pr : ℕ) (hpr : pr < 2) (hr : k0_off14 (grid0.coords t) = ![pr, 0, 0])
    (x0 : Vec F S256x4096 .f32) (x1 : Vec F S1x4096 .f32) (x2 : Vec F S4096x2048 .bf16) (x4 : Vec F S256x4096 .bf16) (xs : Vec F S2x256x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare xs
      ∗ (iprop(owns (c : Thread nD τ) arg1 fullShare x0 ∗ owns (c : Thread nD τ) arg2 fullShare x1 ∗ owns (c : Thread nD τ) arg3 fullShare x2 ∗ owns (c : Thread nD τ) arg4 fullShare (k0_pay5 (slotOf xs pr) x2) ∗ owns (c : Thread nD τ) arg5 fullShare x4 ∗ owns (c : Thread nD τ) arg6 fullShare xs) -∗ K ⟨⟩))
      ⊢ wp frame (wpE (defs₀ (F := F)) Variants.none c none) E (cc0_peer_query (grid0.coords t) arg1 harg1 arg2 harg2 arg3 harg3 arg4 harg4 arg5 harg5 arg6 harg6) K := by
  simp only [cc0_peer_query_eq_skeleton]; unfold cc0_peer_query_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%d3, %f3, -, H3⟩, ⟨%f4, %hf4, H4⟩, ⟨%fs, %hfs, HS⟩, Hk⟩
  obtain rfl := harg1.eq_unread hf0
  obtain rfl := harg2.eq_unread hf1
  obtain rfl := harg3.eq_unread hf2
  obtain rfl := harg5.eq_unread hf4
  obtain rfl := harg6.eq_unread hfs
  sl_exec (disch := first | sl_exact h1 | sl_exact h2 | sl_exact h3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    rw [read_all arg3 harg3 x2, ← read_slot arg6 harg6 xs pr hpr _ hr (k0_off14_inb (grid0.coords t) h3)]
    rfl
  isplitl [H4]
  · iexists _; isplitr; · ipureintro; exact harg5.read_unread _
    iexact H4
  iexists _; isplitr; · ipureintro; exact harg6.read_unread _
  iexact HS

end Cert.Kernel5Ideal.Mm

end
-- ==== Proof.QDats.lean ====
module

public import proofs.«01_k».proof.Proof.QRun
public import Idealize.ShloMosaic.Lib.Claim
public import Idealize.ShloMosaic.Lib.Pipeline.TableIdle

@[expose] public section

set_option maxRecDepth 16384

noncomputable section

namespace Cert.Kernel5Ideal.Mm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Slots
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window buffers at a point, and the scratch. -/
abbrev ms0_0 (t : Fin cfg0.N) : Memref sig .tc .vmem S256x4096 .f32 := win0_0.stage (cfg0.slots t 0)
abbrev ms0_1 (t : Fin cfg0.N) : Memref sig .tc .vmem S1x4096 .f32 := win0_1.stage (cfg0.slots t 1)
abbrev ms0_2 (t : Fin cfg0.N) : Memref sig .tc .vmem S4096x2048 .bf16 := win0_2.stage (cfg0.slots t 2)
abbrev ms0_3 (t : Fin cfg0.N) : Memref sig .tc .vmem S256x2048 .f32 := win0_3.stage (cfg0.slots t 3)
abbrev ms0_4 (t : Fin cfg0.N) : Memref sig .tc .vmem S256x4096 .bf16 := win0_4.stage (cfg0.slots t 4)
abbrev scM0_0 : Memref sig .tc .vmem S2x256x4096 .bf16 := Memref.whole cc0_scratch0

/-- What the launch hands over beside the windows: the scratch at some contents, and the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

theorem pt_lt (t : Fin cfg0.N) : t.val < 33 := lt_of_lt_of_eq t.isLt (show cfg0.N = 33 from N_0)

/-- The tile a point normalises. -/
def tileAt (c : Dev nD) (t : Fin cfg0.N) : Vec F S1x256x4096 .bf16 := tileOf (iblk m c 0 t) (iblk m c 1 t)

/-- Before point `n` one slot of the scratch holds the tile of the point before it. -/
def Inv (c : Dev nD) (n : ℕ) (xs : Vec F S2x256x4096 .bf16) : Prop :=
  ∀ p : Fin cfg0.N, p.val < 32 → n = p.val + 1 → slotOf xs (p.val % 2) = tileAt m c p

theorem inv_zero (c : Dev nD) (xs : Vec F S2x256x4096 .bf16) : Inv m c 0 xs := fun p _ h => absurd h (by omega)

theorem inv_round (c : Dev nD) (t : Fin cfg0.N) (xs : Vec F S2x256x4096 .bf16) (h : slotOf xs (t.val % 2) = tileOf (iblk m c 0 t) (iblk m c 1 t)) :
    Inv m c (t.val + 1) xs := fun p hp e => by
  have q : p = t := Fin.ext (by omega)
  subst q; exact h

theorem inv_end (c : Dev nD) (t : Fin cfg0.N) (xs : Vec F S2x256x4096 .bf16) (ht : 32 ≤ t.val) : Inv m c (t.val + 1) xs :=
  fun p hp e => absurd e (by omega)

/-- The point before. -/
def prevPt (t : Fin cfg0.N) : Fin cfg0.N := ⟨t.val - 1, Nat.lt_of_le_of_lt (Nat.sub_le _ _) t.isLt⟩

theorem inv_slot (c : Dev nD) (t : Fin cfg0.N) (xs : Vec F S2x256x4096 .bf16) (h : Inv m c t.val xs) (ht : 1 ≤ t.val) :
    slotOf xs ((t.val + 1) % 2) = tileAt m c (prevPt t) := by
  have hN := pt_lt t
  have e : (prevPt t).val = t.val - 1 := rfl
  rw [← h (prevPt t) (by rw [e]; omega) (by rw [e]; omega), show (prevPt t).val % 2 = (t.val + 1) % 2 by rw [e]; omega]

/-- The invariant before point `n`. -/
def PhiS (c : Dev nD) (n : ℕ) : sProp 𝕄 :=
  iprop(∃ xs, ⌜Inv m c n xs⌝ ∗ owns (c : Thread nD τ) scM0_0 fullShare xs ∗ (∃ r, prngReg c r))

theorem pt31_lt (t : Fin cfg0.N) : min t.val 31 < cfg0.N := Nat.lt_of_le_of_lt (Nat.min_le_left _ _) t.isLt

/-- What the body leaves at each point: the inputs' blocks as they were, a block of the product, the rows normalised. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (tileAt m c (prevPt t)) (iblk m c 2 t)
    | ⟨4, _⟩ => k0_pay2 (tileAt m c ⟨min t.val 31, pt31_lt t⟩)
    | ⟨_ + 5, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay5 (tileAt m c (prevPt t)) (iblk m c 2 t) := by dsimp only [dats]
theorem after0_4 (c : Dev nD) (t : Fin cfg0.N) : (dats m 0 c).after 4 t = k0_pay2 (tileAt m c ⟨min t.val 31, pt31_lt t⟩) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The outputs: at which points the body stores, at which the block is written back -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem idle0_3 : ∀ t : Fin cfg0.N, t.val < 1 → cfg0.idle 3 (grid0.coords t) = true :=
  (by decide +kernel : ∀ t : Fin grid0.N, t.val < 1 → idle0 3 (grid0.coords t) = true)
theorem live0_3 : ∀ t : Fin cfg0.N, 1 ≤ t.val → cfg0.idle 3 (grid0.coords t) = false :=
  (by decide +kernel : ∀ t : Fin grid0.N, 1 ≤ t.val → idle0 3 (grid0.coords t) = false)
theorem noflush0_3 : ∀ t : Fin cfg0.N, t.val < 1 → (cfg0.win 3).flush t = false :=
  (by decide +kernel : ∀ t : Fin grid0.N, t.val < 1 → win0_3.flush t = false)
theorem flush0_3 : ∀ t : Fin cfg0.N, 1 ≤ t.val → (cfg0.win 3).flush t = true :=
  (by decide +kernel : ∀ t : Fin grid0.N, 1 ≤ t.val → win0_3.flush t = true)
theorem idle0_4 : ∀ t : Fin cfg0.N, ¬t.val < 32 → cfg0.idle 4 (grid0.coords t) = true :=
  (by decide +kernel : ∀ t : Fin grid0.N, ¬t.val < 32 → idle0 4 (grid0.coords t) = true)
theorem live0_4 : ∀ t : Fin cfg0.N, t.val < 32 → cfg0.idle 4 (grid0.coords t) = false :=
  (by decide +kernel : ∀ t : Fin grid0.N, t.val < 32 → idle0 4 (grid0.coords t) = false)
theorem noflush0_4 : ∀ t : Fin cfg0.N, 31 ≤ t.val → t.val ≠ 32 → (cfg0.win 4).flush t = false :=
  (by decide +kernel : ∀ t : Fin grid0.N, 31 ≤ t.val → t.val ≠ 32 → win0_4.flush t = false)
theorem flush0_4 : ∀ t : Fin cfg0.N, t.val < 31 ∨ t.val = 32 → (cfg0.win 4).flush t = true :=
  (by decide +kernel : ∀ t : Fin grid0.N, t.val < 31 ∨ t.val = 32 → win0_4.flush t = true)

/-- A buffer stored at point `t - n - 1`, not stored again before `t` and not written back, holds at `t` what was stored. -/
theorem before_run {Λ₀ : Labels} {cfg : Pipeline.Cfg sig Λ₀} {c : Dev nD} (dat : Dat τ (Elt F) Unit ℕ (UR sig nD τ) ℕ cfg c) (w : Fin cfg.W) (hw : (cfg.win w).isOut = true)
    (hclip : ∀ i a, (cfg.win w).clip i a = none) (d) (t s : Fin cfg.N) (n : ℕ) (hs : s.val + n + 1 = t.val)
    (hrun : ∀ j : Fin cfg.N, t.val - n ≤ j.val → j.val < t.val → cfg.idle w (cfg.grid.coords j) = true ∧ (cfg.win w).flush j = false)
    (hl : cfg.idle w (cfg.grid.coords s) = false) (hf : (cfg.win w).flush s = false) :
    dat.before w t d = dat.after w s := by
  have e : ∀ h, (⟨t.val - n - 1, h⟩ : Fin cfg.N) = s := fun h => Fin.ext (by simp only; omega)
  rw [Pipeline.Dat.before_idle_run dat w (fun t => (cfg.win w).fetch_out hw t) d n t (by omega) hrun,
    Pipeline.Dat.before_of_pos dat w ⟨t.val - n, Nat.lt_of_le_of_lt (Nat.sub_le _ _) t.isLt⟩ (by simp only; omega) ((cfg.win w).fetch_out hw _)]
  simp only [e]
  rw [if_neg (by rw [hf]; decide)]
  unfold Dat.left
  rw [hl]
  unfold Dat.kept
  simp only
  rw [Pipeline.fill_of_clip_none (cfg := cfg) w _ (hclip _) d (dat.after w _), Pipeline.Window.fill_cut]

/-- The last rows normalised, stored at point 31, is what the buffer holds at the last point. -/
theorem before0_4_last (c : Dev nD) (t : Fin cfg0.N) (ht : t.val = 32) (d) :
    (dats m 0 c).before 4 t d = (dats m 0 c).after 4 t := by
  have hN : cfg0.N = 33 := N_0
  have h31 : 31 < cfg0.N := by omega
  rw [before_run (dats m 0 c) 4 rfl (fun _ _ => rfl) d t ⟨31, h31⟩ 0 (by simp only; omega)
    (fun j h1 h2 => ⟨idle0_4 j (by omega), noflush0_4 j (by omega) (by omega)⟩)
    (live0_4 ⟨31, h31⟩ (by simp only; omega)) (noflush0_4 ⟨31, h31⟩ (by simp only; omega) (by simp only; omega)),
    after0_4, after0_4]
  have e : (⟨min (⟨31, h31⟩ : Fin cfg0.N).val 31, pt31_lt ⟨31, h31⟩⟩ : Fin cfg0.N) = ⟨min t.val 31, pt31_lt t⟩ := Fin.ext (by simp only; omega)
  exact congrArg (fun q => k0_pay2 (tileAt m c q)) e

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare ((dats m 0 c).after 0 t) := by
  unfold Dat.leavesExact; rw [liveAt0_0 t]
theorem leaves0_1 (c : Dev nD) (t : Fin cfg0.N) : (dats m 0 c).leavesExact 1 t = owns (c : Thread nD τ) (ms0_1 t) fullShare ((dats m 0 c).after 1 t) := by
  unfold Dat.leavesExact; rw [liveAt0_1 t]
theorem leaves0_2 (c : Dev nD) (t : Fin cfg0.N) : (dats m 0 c).leavesExact 2 t = owns (c : Thread nD τ) (ms0_2 t) fullShare ((dats m 0 c).after 2 t) := by
  unfold Dat.leavesExact; rw [liveAt0_2 t]
theorem leaves0_3 (c : Dev nD) (t : Fin cfg0.N) (h : 1 ≤ t.val) : (dats m 0 c).leavesExact 3 t = owns (c : Thread nD τ) (ms0_3 t) fullShare ((dats m 0 c).after 3 t) := by
  unfold Dat.leavesExact; rw [live0_3 t h]
theorem leaves0_4 (c : Dev nD) (t : Fin cfg0.N) (h : t.val < 32) : (dats m 0 c).leavesExact 4 t = owns (c : Thread nD τ) (ms0_4 t) fullShare ((dats m 0 c).after 4 t) := by
  unfold Dat.leavesExact; rw [live0_4 t h]
theorem leaves0_3_idle (c : Dev nD) (t : Fin cfg0.N) (h : t.val < 1) : (dats m 0 c).leavesExact 3 t = iprop(∃ d, owns (c : Thread nD τ) (ms0_3 t) fullShare ((dats m 0 c).before 3 t d)) :=
  (dats m 0 c).leavesExact_idle 3 t (idle0_3 t h) (noflush0_3 t h)
theorem leaves0_4_idle (c : Dev nD) (t : Fin cfg0.N) (h : ¬t.val < 32) (h' : t.val ≠ 32) : (dats m 0 c).leavesExact 4 t = iprop(∃ d, owns (c : Thread nD τ) (ms0_4 t) fullShare ((dats m 0 c).before 4 t d)) :=
  (dats m 0 c).leavesExact_idle 4 t (idle0_4 t h) (noflush0_4 t (by omega) h')
theorem leaves0_4_last (c : Dev nD) (t : Fin cfg0.N) (h' : t.val = 32) : (dats m 0 c).leavesExact 4 t = owns (c : Thread nD τ) (ms0_4 t) fullShare ((dats m 0 c).after 4 t) := by
  unfold Dat.leavesExact; rw [idle0_4 t (by omega), flush0_4 t (.inr h')]

/-- Past the last tile the normed output's buffer stays as it was. -/
theorem idle_leaves_4 (c : Dev nD) (t : Fin cfg0.N) (h : ¬t.val < 32) (d) :
    owns (c : Thread nD τ) (ms0_4 t) fullShare ((dats m 0 c).before 4 t d) ⊢ (dats m 0 c).leavesExact 4 t := by
  by_cases h' : t.val = 32
  · rw [leaves0_4_last m c t h', before0_4_last m c t h']
    try exact Idealize.SL.BI.Entails.refl _
  · rw [leaves0_4_idle m c t h h']
    iintro H; iexists d; iexact H

end Cert.Kernel5Ideal.Mm

end
-- ==== Proof.QFrame.lean ====
module

public import proofs.«01_k».proof.Proof.QDats
public import Idealize.ShloMosaic.Lib.Claim

@[expose] public section

set_option maxRecDepth 16384

noncomputable section

namespace Cert.Kernel5Ideal.Mm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Slots
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
/-- The body at a point of case A. -/
theorem sound_body_A (c : Dev nD) (t : Fin cfg0.N) (h : t.val < 1) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3_idle m c t h]
  rw [leaves0_4 m c t (by omega), after0_4]
  have e31 : (⟨min t.val 31, pt31_lt t⟩ : Fin cfg0.N) = t := Fin.ext (by simp only; omega)
  rw [e31]
  unfold tileAt
  unfold PhiS
  iintro ⟨⟨%xs, %hx, HS, Hg⟩, Ho, ⟨%d0, H0⟩, ⟨%d1, H1⟩, ⟨%d2, H2⟩, ⟨%d3, H3⟩, ⟨%d4, H4⟩⟩
  iapply (runA c t _ _ _ _ _ _ _ _ _ _ _ _ ((hcond1 t).mpr (by omega)) (fun q => absurd ((hcond2 t).mp q) (by omega)) (fun q => absurd ((hcond3 t).mp q) (by omega)) (t.val % 2) (Nat.mod_lt _ (by norm_num)) (off2_eq t) (off3_eq t) (off4_eq t) (off5_eq t) (off6_eq t) (iblk m c 0 t) (iblk m c 1 t) (iblk m c 2 t) _ xs Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, ⟨%xs, %hx, HS⟩⟩
  isplitl [HS Hg]
  · iexists _
    isplitr
    swap
    · isplitl [HS]
      · iexact HS
      iexact Hg
    ipureintro
    exact inv_round m c t _ hx
  isplitl [Ho]; · iexact Ho
  isplitl [H0]; · iexact H0
  isplitl [H1]; · iexact H1
  isplitl [H2]; · iexact H2
  isplitl [H3]; · iexists _; iexact H3
  iexact H4

set_option maxHeartbeats 3000000 in
/-- The body at a point of case B. -/
theorem sound_body_B (c : Dev nD) (t : Fin cfg0.N) (h1 : 1 ≤ t.val) (h : t.val < 32) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3 m c t (by omega), after0_3]
  rw [leaves0_4 m c t (by omega), after0_4]
  have e31 : (⟨min t.val 31, pt31_lt t⟩ : Fin cfg0.N) = t := Fin.ext (by simp only; omega)
  rw [e31]
  unfold PhiS
  iintro ⟨⟨%xs, %hx, HS, Hg⟩, Ho, ⟨%d0, H0⟩, ⟨%d1, H1⟩, ⟨%d2, H2⟩, ⟨%d3, H3⟩, ⟨%d4, H4⟩⟩
  have hs := inv_slot m c t xs hx (by omega)
  iapply (runB c t _ _ _ _ _ _ _ _ _ _ _ _ (fun q => absurd ((hcond1 t).mp q) (by omega)) ((hcond2 t).mpr (by omega)) (fun q => absurd ((hcond3 t).mp q) (by omega)) (t.val % 2) (Nat.mod_lt _ (by norm_num)) (off9_eq t) (off10_eq t) (off11_eq t) (off12_eq t) (off13_eq t) ((t.val + 1) % 2) (Nat.mod_lt _ (by norm_num)) (off7_eq t) (iblk m c 0 t) (iblk m c 1 t) (iblk m c 2 t) xs Set.univ _)
  isplitl [H0]; · iexact H0
  isplitl [H1]; · iexact H1
  isplitl [H2]; · iexact H2
  isplitl [H3]; · iexists _; iexact H3
  isplitl [H4]; · iexists _; iexact H4
  isplitl [HS]; · iexact HS
  rw [hs]
  iintro ⟨H0, H1, H2, H3, H4, ⟨%xs, %hx, HS⟩⟩
  isplitl [HS Hg]
  · iexists _
    isplitr
    swap
    · isplitl [HS]
      · iexact HS
      iexact Hg
    ipureintro
    exact inv_round m c t _ hx
  isplitl [Ho]; · iexact Ho
  isplitl [H0]; · iexact H0
  isplitl [H1]; · iexact H1
  isplitl [H2]; · iexact H2
  isplitl [H3]; · iexact H3
  iexact H4

set_option maxHeartbeats 3000000 in
/-- The body at a point of case C. -/
theorem sound_body_C (c : Dev nD) (t : Fin cfg0.N) (h : ¬t.val < 32) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  have hN := pt_lt t
  rw [leaves0_0 m c t, leaves0_1 m c t, leaves0_2 m c t, after0_0, after0_1, after0_2]
  rw [leaves0_3 m c t (by omega), after0_3]
  unfold PhiS
  iintro ⟨⟨%xs, %hx, HS, Hg⟩, Ho, ⟨%d0, H0⟩, ⟨%d1, H1⟩, ⟨%d2, H2⟩, ⟨%d3, H3⟩, ⟨%d4, H4⟩⟩
  have hs := inv_slot m c t xs hx (by omega)
  iapply (runC c t _ _ _ _ _ _ _ _ _ _ _ _ (fun q => absurd ((hcond1 t).mp q) (by omega)) (fun q => absurd ((hcond2 t).mp q) (by omega)) ((hcond3 t).mpr (by omega)) ((t.val + 1) % 2) (Nat.mod_lt _ (by norm_num)) (off14_eq t) (iblk m c 0 t) (iblk m c 1 t) (iblk m c 2 t) _ xs Set.univ _)
  isplitl [H0]; · iexact H0
  isplitl [H1]; · iexact H1
  isplitl [H2]; · iexact H2
  isplitl [H3]; · iexists _; iexact H3
  isplitl [H4]; · iexact H4
  isplitl [HS]; · iexact HS
  rw [hs]
  iintro ⟨H0, H1, H2, H3, H4, HS⟩
  isplitl [HS Hg]
  · iexists _
    isplitr
    swap
    · isplitl [HS]
      · iexact HS
      iexact Hg
    ipureintro
    exact inv_end m c t xs (by omega)
  isplitl [Ho]; · iexact Ho
  isplitl [H0]; · iexact H0
  isplitl [H1]; · iexact H1
  isplitl [H2]; · iexact H2
  isplitl [H3]; · iexact H3
  iapply (idle_leaves_4 m c t (by omega) d4); iexact H4

theorem sound_body (c : Dev nD) (t : Fin cfg0.N) :
    bodyPre m c t ⊢ wp frame (wpE (defs₀ (F := F)) Variants.none c none) Set.univ (bodyAt0 t) (fun _ => bodyPost m c t) := by
  by_cases h1 : t.val < 1
  · exact sound_body_A m c t h1
  · by_cases h2 : t.val < 32
    · exact sound_body_B m c t (by omega) h2
    · exact sound_body_C m c t h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨%xs, HS⟩, Hg⟩
  iexists xs
  isplitr
  · ipureintro; exact inv_zero m c xs
  isplitl [HS]
  · iexact HS
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%xs, %hx, HS, Hg⟩
  isplitl [HS]
  · iexists xs; iexact HS
  iexact Hg

set_option backward.isDefEq.respectTransparency.types false in
/-- The launch: every array at what the points leave, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch0.to₀ defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Mm

end
-- ==== Proof.QPFrame.lean ====
module

public import proofs.«01_k».proof.Defs
public import proofs.«01_k».proof.Proof.Gen.Kernel5
public import proofs.«01_k».proof.Proof.QFrame

@[expose] public section

noncomputable section

namespace Cert.Kernel5.Mm

open Idealize.ShloMosaic Idealize.ShloMosaic.TcCoe Idealize.ShloMosaic.Tactic Idealize.SL.Sem

/-- The frame of the kernel, over any floats. -/
def FrameOf (F : FTy → Type) [FloatOps F] : Prop :=
  ∀ (m : (ℓ : Loc Cert.Kernel5.nD Cert.Kernel5.τ Cert.Kernel5.sig) → Buf (Elt F) ℓ) (g : Dev Cert.Kernel5.nD → PrngReg),
    θ_run (Cert.Kernel5.defs (F := F)) (onTc (τ := Cert.Kernel5.τ) (Cert.Kernel5.main (F := F))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

/-- The frame of the idealized kernel, over any floats. -/
def FrameOfIdeal (F : FTy → Type) [FloatOps F] : Prop :=
  ∀ (m : (ℓ : Loc Cert.Kernel5Ideal.nD Cert.Kernel5Ideal.τ Cert.Kernel5Ideal.sig) → Buf (Elt F) ℓ) (g : Dev Cert.Kernel5Ideal.nD → PrngReg),
    θ_run (Cert.Kernel5Ideal.defs (F := F)) (onTc (τ := Cert.Kernel5Ideal.τ) (Cert.Kernel5Ideal.main (F := F))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

/-- The two have one text. -/
theorem text (F : FTy → Type) [FloatOps F] : FrameOf F = FrameOfIdeal F := by
  sl_kernel_rfl

/-- The kernel terminates, leaves its arguments unchanged and every counter at zero. -/
theorem frame : Cert.quiescent_Kernel5 := fun m g _ =>
  (show FrameOf Bits from text Bits ▸ (fun m g => Cert.Kernel5Ideal.Mm.frame m g : FrameOfIdeal Bits)) m g

end Cert.Kernel5.Mm

end
-- ==== Proof.QArrays.lean ====
module

public import proofs.«01_k».proof.Proof.QFrame
public import proofs.«01_k».proof.Proof.Blocks
public import Idealize.ShloMosaic.Lib.Pipeline.ValueKit.Geometry
public import proofs.«01_k».proof.Proof.Gen.Reference5Ideal.Run
public import proofs.«01_k».proof.Proof.Gen.Reference5Ideal.Read

@[expose] public section

set_option maxRecDepth 16384

noncomputable section

namespace Cert.Kernel5Ideal.Mm

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Slots
open Idealize.ShloMosaic.Pipeline (Dat Cfg Window BodyObligation cellOf)

open Idealize.ShloMosaic.Pipeline (Window)

/-! ## The payloads, read at an index -/

/-- One over the root of a mean of squares, offset. -/
def scaleOf (s : EReal) : EReal :=
  Ideal.rsqrt (Ideal.div s (Ideal.ofBits .f32 0x45800000#32) + Ideal.ofBits .f32 0x358637BD#32)

theorem pay1_apply (x : Vec Ideal S64x4096 .f32) (g : Vec Ideal S1x4096 .f32) (r : Fin 64) (d : Fin 4096) :
    k0_pay1 x g (ix3 0 r d) = x (ix2 r d) * scaleOf (∑ k : Fin 4096, x (ix2 r k) * x (ix2 r k)) * g (ix2 0 d) := by
  unfold k0_pay1 scaleOf
  pointwise

theorem pay2_apply (x : Vec Ideal S1x256x4096 .bf16) (r : Fin 256) (d : Fin 4096) :
    k0_pay2 x (ix2 r d) = x (ix3 0 r d) := by
  unfold k0_pay2
  pointwise

theorem pay5_apply (a : Vec Ideal S1x256x4096 .bf16) (b : Vec Ideal S4096x2048 .bf16) (r : Fin 256) (d : Fin 2048) :
    k0_pay5 a b (ix2 r d) = ∑ k : Fin 4096, a (ix3 0 r k) * b (ix2 k d) := by
  have hc : ∀ k : Fin 4096, shapeCast S256x4096 a shapeCasts_S1x256x4096_S256x4096 (ix2 r k) = a (ix3 0 r k) := fun k => by
    pointwise
  unfold k0_pay5
  generalize shapeCast S256x4096 a shapeCasts_S1x256x4096_S256x4096 = a' at hc
  have h0 : matmul (φ₁ := .bf16) (φ₂ := .bf16) dot_S256x4096_S4096x2048_S256x2048_1_0_0_1_n_n none a' b (constant (F := Ideal) S256x2048 .f32 0x00000000#32) (ix2 r d)
      = ∑ k : Fin 4096, a' (ix2 r k) * b (ix2 k d) := by
    pointwise
  refine h0.trans (Finset.sum_congr rfl fun k _ => ?_)
  rw [hc]

theorem flat_apply (g : Vec Ideal S1x4096 .f32) (d : Fin 4096) :
    shapeCast S1x4096 (shapeCast S4096 g shapeCasts_S1x4096_S4096) shapeCasts_S4096_S1x4096 (ix2 0 d) = g (ix2 0 d) := by
  pointwise

/-! ## The arrays the launch reads and leaves -/

variable (m : (ℓ : Loc nD τ sig) → Buf (Elt Ideal) ℓ) (ρ : Dev nD → PrngReg) (c : Dev nD)

/-- The rows to normalise. -/
def actOf : S8192x4096.Idx → EReal := m ((c.tc : Thread nD τ).loc main_arg0)
/-- The gains. -/
def gainOf : S1x4096.Idx → EReal := m ((c.tc : Thread nD τ).loc main_arg1)
/-- The weights. -/
def wtOf : S4096x2048.Idx → EReal := m ((c.tc : Thread nD τ).loc main_arg2)

/-- A row over the root of its mean square, times the gains, at a column. -/
def normAt (X : S8192x4096.Idx → EReal) (G : S1x4096.Idx → EReal) (R : Fin 8192) (k : Fin 4096) : EReal :=
  X (ix2 R k) * scaleOf (∑ j : Fin 4096, X (ix2 R j) * X (ix2 R j)) * G (ix2 0 k)

/-- The rows normalised. -/
def normArr (X : S8192x4096.Idx → EReal) (G : S1x4096.Idx → EReal) : S8192x4096.Idx → EReal := fun i =>
  normAt X G ⟨(i 0).val, (i 0).isLt⟩ ⟨(i 1).val, (i 1).isLt⟩

/-- The product of the rows normalised and the weights. -/
def prodArr (X : S8192x4096.Idx → EReal) (G : S1x4096.Idx → EReal) (W : S4096x2048.Idx → EReal) : S8192x2048.Idx → EReal := fun i =>
  ∑ k : Fin 4096, normAt X G ⟨(i 0).val, (i 0).isLt⟩ k * W (ix2 k ⟨(i 1).val, (i 1).isLt⟩)

theorem V_v1 : V m c main_v1 = shapeCast S1x4096 (shapeCast S4096 (m ((c.tc : Thread nD τ).loc main_arg1)) shapeCasts_S1x4096_S4096) shapeCasts_S4096_S1x4096 := by
  show StableHlo.after hostOps0 _ _ = _
  simp only [hostOps0]
  after_results_simp
  rfl

theorem at_x : ∀ t : Fin cfg0.N, win0_0.index t 0 = min t.val 31 ∧ win0_0.index t 1 = 0 :=
  (by decide +kernel : ∀ t : Fin grid0.N, win0_0.index t 0 = min t.val 31 ∧ win0_0.index t 1 = 0)
theorem at_g : ∀ t : Fin cfg0.N, win0_1.index t 0 = 0 ∧ win0_1.index t 1 = 0 :=
  (by decide +kernel : ∀ t : Fin grid0.N, win0_1.index t 0 = 0 ∧ win0_1.index t 1 = 0)
theorem at_w : ∀ t : Fin cfg0.N, win0_2.index t 0 = 0 ∧ win0_2.index t 1 = 0 :=
  (by decide +kernel : ∀ t : Fin grid0.N, win0_2.index t 0 = 0 ∧ win0_2.index t 1 = 0)
theorem at_3 : ∀ t : Fin cfg0.N, win0_3.index t 0 = t.val - 1 ∧ win0_3.index t 1 = 0 :=
  (by decide +kernel : ∀ t : Fin grid0.N, win0_3.index t 0 = t.val - 1 ∧ win0_3.index t 1 = 0)
theorem at_4 : ∀ t : Fin cfg0.N, win0_4.index t 0 = min t.val 31 ∧ win0_4.index t 1 = 0 :=
  (by decide +kernel : ∀ t : Fin grid0.N, win0_4.index t 0 = min t.val 31 ∧ win0_4.index t 1 = 0)

theorem row_lt (t : Fin cfg0.N) (ht : t.val < 32) (r : Fin 256) : t.val * 256 + r.val < 8192 := by omega

theorem read_x (t : Fin cfg0.N) (ht : t.val < 32) (r : Fin 256) (k : Fin 4096) :
    iblk m c 0 t (ix2 r k) = actOf m c (ix2 ⟨t.val * 256 + r.val, row_lt t ht r⟩ k) := by
  show V m c main_arg0 (((View.whole main_arg0).slice (win0_0.rect t)).emb (ix2 r k)) = _
  rw [V_main_arg0]
  refine congrArg (actOf m c) (funext fun a => Fin.ext ?_)
  have h := at_x t
  match a with
  | ⟨0, _⟩ => show win0_0.index t 0 * 256 + 1 * r.val = t.val * 256 + r.val; rw [h.1, Nat.min_eq_left (by omega)]; omega
  | ⟨1, _⟩ => show win0_0.index t 1 * 4096 + 1 * k.val = k.val; rw [h.2]; omega

theorem read_g (t : Fin cfg0.N) (d : Fin 4096) : iblk m c 1 t (ix2 0 d) = gainOf m c (ix2 0 d) := by
  show V m c main_v1 (((View.whole main_v1).slice (win0_1.rect t)).emb (ix2 0 d)) = _
  rw [V_v1]
  refine Eq.trans (congrArg (shapeCast S1x4096 (shapeCast S4096 (gainOf m c) shapeCasts_S1x4096_S4096) shapeCasts_S4096_S1x4096) (funext fun a => Fin.ext ?_))
    (flat_apply (gainOf m c) d)
  have h := at_g t
  match a with
  | ⟨0, _⟩ => show win0_1.index t 0 * 1 + 1 * 0 = 0; rw [h.1]
  | ⟨1, _⟩ => show win0_1.index t 1 * 4096 + 1 * d.val = d.val; rw [h.2]; omega

theorem read_w (t : Fin cfg0.N) (k : Fin 4096) (d : Fin 2048) : iblk m c 2 t (ix2 k d) = wtOf m c (ix2 k d) := by
  show V m c main_arg2 (((View.whole main_arg2).slice (win0_2.rect t)).emb (ix2 k d)) = _
  rw [V_main_arg2]
  refine congrArg (wtOf m c) (funext fun a => Fin.ext ?_)
  have h := at_w t
  match a with
  | ⟨0, _⟩ => show win0_2.index t 0 * 4096 + 1 * k.val = k.val; rw [h.1]; omega
  | ⟨1, _⟩ => show win0_2.index t 1 * 2048 + 1 * d.val = d.val; rw [h.2]; omega

/-- Sixty-four rows of a tile, at a row and a column. -/
theorem rows_apply (x : Vec Ideal S256x4096 .f32) (b : ℕ) (hb : b + 64 ≤ 256) (r : Fin 64) (k : Fin 4096) :
    rowsOf x b hb (ix2 r k) = x (ix2 ⟨b + r.val, by omega⟩ k) := rfl

theorem tile_apply (x : Vec Ideal S256x4096 .f32) (g : Vec Ideal S1x4096 .f32) (r : Fin 256) (k : Fin 4096) :
    tileOf x g (ix3 0 r k) = x (ix2 r k) * scaleOf (∑ j : Fin 4096, x (ix2 r j) * x (ix2 r j)) * g (ix2 0 k) := by
  have h := pay1_apply (rowsOf x (r.val / 64 * 64) (by omega)) g ⟨r.val % 64, Nat.mod_lt _ (by norm_num)⟩ k
  refine Eq.trans (show _ = k0_pay1 (rowsOf x (r.val / 64 * 64) (by omega)) g (ix3 0 ⟨r.val % 64, Nat.mod_lt _ (by norm_num)⟩ k) from rfl) (h.trans ?_)
  simp only [rows_apply]
  have e : ∀ q, (⟨r.val / 64 * 64 + r.val % 64, q⟩ : Fin 256) = r := fun q => Fin.ext (by simp only; omega)
  simp only [e]

theorem read_tile (t : Fin cfg0.N) (ht : t.val < 32) (r : Fin 256) (k : Fin 4096) :
    tileAt m c t (ix3 0 r k) = normAt (actOf m c) (gainOf m c) ⟨t.val * 256 + r.val, row_lt t ht r⟩ k := by
  unfold tileAt normAt
  rw [tile_apply, read_g]
  simp only [read_x m c t ht]

theorem norm_of (X : S8192x4096.Idx → EReal) (G : S1x4096.Idx → EReal) (R : Fin 8192) (d : Fin 4096) (i : S8192x4096.Idx)
    (h0 : (i 0).val = R.val) (h1 : (i 1).val = d.val) : normAt X G R d = normArr X G i := by
  unfold normArr
  rw [show (⟨(i 0).val, (i 0).isLt⟩ : Fin 8192) = R from Fin.ext h0, show (⟨(i 1).val, (i 1).isLt⟩ : Fin 4096) = d from Fin.ext h1]

theorem norm_block (t : Fin cfg0.N) (y : S256x4096.Idx) :
    k0_pay2 (tileAt m c ⟨min t.val 31, pt31_lt t⟩) y =
      normArr (actOf m c) (gainOf m c) (((View.whole main_v2_1).slice (win0_4.rect t)).emb y) := by
  obtain ⟨r, d, rfl⟩ : ∃ (r : Fin 256) (d : Fin 4096), y = ix2 r d := ⟨y 0, y 1, eq_ix2 y⟩
  have h := at_4 t
  have hm : min t.val 31 < 32 := by omega
  refine (pay2_apply _ r d).trans ((read_tile m c ⟨min t.val 31, pt31_lt t⟩ hm r d).trans ?_)
  exact norm_of (actOf m c) (gainOf m c) _ d _
    (by show win0_4.index t 0 * 256 + 1 * r.val = min t.val 31 * 256 + r.val; rw [h.1]; omega)
    (by show win0_4.index t 1 * 4096 + 1 * d.val = d.val; rw [h.2]; omega)

/-- A block of the product, from a block of each operand. -/
theorem prod_of (X : S8192x4096.Idx → EReal) (G : S1x4096.Idx → EReal) (W : S4096x2048.Idx → EReal) (a : Vec Ideal S1x256x4096 .bf16)
    (b : Vec Ideal S4096x2048 .bf16) (r : Fin 256) (d : Fin 2048) (R : Fin 8192) (i : S8192x2048.Idx)
    (ha : ∀ k, a (ix3 0 r k) = normAt X G R k) (hb : ∀ k, b (ix2 k d) = W (ix2 k d)) (h0 : (i 0).val = R.val) (h1 : (i 1).val = d.val) :
    k0_pay5 a b (ix2 r d) = prodArr X G W i := by
  rw [pay5_apply]
  unfold prodArr
  refine Finset.sum_congr rfl fun k _ => ?_
  rw [ha, hb, show (⟨(i 0).val, (i 0).isLt⟩ : Fin 8192) = R from Fin.ext h0, show (⟨(i 1).val, (i 1).isLt⟩ : Fin 2048) = d from Fin.ext h1]

theorem prod_block (t : Fin cfg0.N) (ht : 1 ≤ t.val) (y : S256x2048.Idx) :
    k0_pay5 (tileAt m c (prevPt t)) (iblk m c 2 t) y =
      prodArr (actOf m c) (gainOf m c) (wtOf m c) (((View.whole main_v2_0).slice (win0_3.rect t)).emb y) := by
  obtain ⟨r, d, rfl⟩ : ∃ (r : Fin 256) (d : Fin 2048), y = ix2 r d := ⟨y 0, y 1, eq_ix2 y⟩
  have h := at_3 t
  have hN := pt_lt t
  have hp : (prevPt t).val < 32 := by show t.val - 1 < 32; omega
  exact prod_of (actOf m c) (gainOf m c) (wtOf m c) _ _ r d _ _ (fun k => read_tile m c (prevPt t) hp r k) (fun k => read_w m c t k d)
    (by show win0_3.index t 0 * 256 + 1 * r.val = (t.val - 1) * 256 + r.val; rw [h.1]; omega)
    (by show win0_3.index t 1 * 2048 + 1 * d.val = d.val; rw [h.2]; omega)

theorem flush_ge (t : Fin cfg0.N) (h : (cfg0.win 3).flush t = true) : 1 ≤ t.val := by
  by_contra q
  rw [noflush0_3 t (by omega)] at h
  exact Bool.noConfusion h

theorem final_prod : (dats m 0 c).arrAt 3 cfg0.N = prodArr (actOf m c) (gainOf m c) (wtOf m c) := by
  refine Dat.arrAt_eq_of_cover (dats m 0 c) 3 (prodArr (actOf m c) (gainOf m c) (wtOf m c)) ?_ ?_
  · intro t ht
    refine funext fun y => ?_
    rw [Dat.flushed_apply, after0_3]
    exact prod_block m c t (flush_ge t ht) y
  · intro i
    have h0 : (i 0).val < 8192 := (i 0).isLt
    have h1 : (i 1).val < 2048 := (i 1).isLt
    have hN : cfg0.N = 33 := N_0
    have hb : (i 0).val / 256 + 1 < cfg0.N := by omega
    refine ⟨⟨(i 0).val / 256 + 1, hb⟩, flush0_3 _ (by simp only; omega), ?_⟩
    generalize ht : (⟨(i 0).val / 256 + 1, hb⟩ : Fin cfg0.N) = t
    have hv : t.val = (i 0).val / 256 + 1 := by rw [← ht]
    have hi := at_3 t
    show i ∈ ((View.whole main_v2_0).slice (win0_3.rect t)).set
    rw [View.set_slice_whole, Window.mem_rect_iff win0_3 t i]
    intro a
    match a with
    | ⟨0, _⟩ =>
      show win0_3.index t 0 * 256 ≤ (i 0).val ∧ (i 0).val < win0_3.index t 0 * 256 + 256
      rw [hi.1]; omega
    | ⟨1, _⟩ =>
      show win0_3.index t 1 * 2048 ≤ (i 1).val ∧ (i 1).val < win0_3.index t 1 * 2048 + 2048
      rw [hi.2]; omega

theorem final_norm : (dats m 0 c).arrAt 4 cfg0.N = normArr (actOf m c) (gainOf m c) := by
  refine Dat.arrAt_eq_of_cover (dats m 0 c) 4 (normArr (actOf m c) (gainOf m c)) ?_ ?_
  · intro t _
    refine funext fun y => ?_
    rw [Dat.flushed_apply, after0_4]
    exact norm_block m c t y
  · intro i
    have h0 : (i 0).val < 8192 := (i 0).isLt
    have h1 : (i 1).val < 4096 := (i 1).isLt
    have hN : cfg0.N = 33 := N_0
    have key : ∀ t : Fin cfg0.N, min t.val 31 = (i 0).val / 256 → i ∈ ((View.whole main_v2_1).slice (win0_4.rect t)).set := by
      intro t hv
      have hi := at_4 t
      rw [View.set_slice_whole, Window.mem_rect_iff win0_4 t i]
      intro a
      match a with
      | ⟨0, _⟩ =>
        show win0_4.index t 0 * 256 ≤ (i 0).val ∧ (i 0).val < win0_4.index t 0 * 256 + 256
        rw [hi.1, hv]; omega
      | ⟨1, _⟩ =>
        show win0_4.index t 1 * 4096 ≤ (i 1).val ∧ (i 1).val < win0_4.index t 1 * 4096 + 4096
        rw [hi.2]; omega
    by_cases hl : (i 0).val / 256 < 31
    · exact ⟨⟨(i 0).val / 256, by omega⟩, flush0_4 _ (.inl hl), key _ (by simp only; omega)⟩
    · exact ⟨⟨32, by omega⟩, flush0_4 _ (.inr rfl), key _ (by simp only; omega)⟩

/-- The kernel ends with the product and the rows normalised. -/
theorem kernel_run :
    θ_run defs (onTc (τ := τ) (main (F := Ideal))) ⟨m, fun _ => 0, ρ⟩ (fun r => ∀ c : Dev nD,
      r.2.mem ((c.tc : Thread nD τ).loc main_v2_0) = prodArr (actOf m c) (gainOf m c) (wtOf m c)
      ∧ r.2.mem ((c.tc : Thread nD τ).loc main_v2_1) = normArr (actOf m c) (gainOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_prod m c), ((h.1 c).1 4).trans (final_norm m c), h.2 c⟩)
    (θ_run_and (run_main m ρ) (unchanged m ρ))

end Cert.Kernel5Ideal.Mm

namespace Cert.Kernel5

open Idealize.ShloMosaic Idealize.ShloMosaic.TcCoe Idealize.SL.Sem
open Cert.Reference5Ideal Cert.Reference5Ideal.Gen Cert.Reference5Ideal.Read
open Cert.Kernel5Ideal.Mm (normArr prodArr normAt scaleOf)

/-- One over the root of the mean square of a row, as the reference prints it. -/
theorem same_scale (X : S8192x4096.Idx → EReal) (i : S8192x4096.Idx) :
    val_main_v9 (F := Ideal) X i = scaleOf (∑ j : Fin 4096, X (ix2 ⟨(i 0).val, (i 0).isLt⟩ j) * X (ix2 ⟨(i 0).val, (i 0).isLt⟩ j)) := by
  have hs : val_main_v2 (F := Ideal) X (idx_main_v3 (idx_main_v9 i)) = ∑ j : Fin 4096, X (ix2 ⟨(i 0).val, (i 0).isLt⟩ j) * X (ix2 ⟨(i 0).val, (i 0).isLt⟩ j) := by
    rw [val_main_v2_apply]
    have hz : (val_main_cst (F := Ideal)) (Shape.Idx.first h_S_) = (0 : EReal) := Ideal.ofBits_zero_f32
    rw [hz, zero_add]
    refine Finset.sum_congr rfl fun k _ => ?_
    have e : idx_main_v2 (idx_main_v3 (idx_main_v9 i)) k = ix2 ⟨(i 0).val, (i 0).isLt⟩ k := funext fun a => by
      match a with
      | ⟨0, _⟩ => rfl
      | ⟨1, _⟩ => rfl
    refine Eq.trans (val_main_v1_apply (F := Ideal) X _) ?_
    exact congrArg (fun q : S8192x4096.Idx => X q * X q) e
  rw [val_main_v9_apply, val_main_v8_apply, val_main_v7_apply, val_main_v5_apply, val_main_v3_apply, hs, val_main_v4_apply, val_main_v6_apply, val_main_cst_0_apply, val_main_cst_1_apply]
  rfl

theorem same_gain (G : S1x4096.Idx → EReal) (i : S8192x4096.Idx) :
    val_main_v12 (F := Ideal) G i = G (ix2 0 ⟨(i 1).val, (i 1).isLt⟩) := by
  rw [val_main_v12_apply, val_main_v11_apply, val_main_v0_apply]
  refine congrArg G (funext fun a => Fin.ext ?_)
  have h1 : (i 1).val < 4096 := (i 1).isLt
  match a with
  | ⟨0, _⟩ => rfl
  | ⟨1, _⟩ => show (i 1).val % 4096 = (i 1).val; omega

theorem same_at (X : S8192x4096.Idx → EReal) (G : S1x4096.Idx → EReal) (i : S8192x4096.Idx) :
    val_main_v13 (F := Ideal) X G i = normArr X G i := by
  rw [val_main_v13_apply, val_main_v10_apply, same_scale, same_gain]
  have e : X i = X (ix2 ⟨(i 0).val, (i 0).isLt⟩ ⟨(i 1).val, (i 1).isLt⟩) := congrArg X (eq_ix2 i)
  rw [e]
  rfl

/-- The reference's normalised rows are the same array. -/
theorem same_norm (X : S8192x4096.Idx → EReal) (G : S1x4096.Idx → EReal) : val_main_v16 (F := Ideal) X G = normArr X G := by
  funext i
  refine Eq.trans (val_main_v16_apply (F := Ideal) X G i) ?_
  exact same_at X G i

/-- The reference's product is the same array. -/
theorem same_prod (X : S8192x4096.Idx → EReal) (G : S1x4096.Idx → EReal) (W : S4096x2048.Idx → EReal) :
    val_main_v15 (F := Ideal) X G W = prodArr X G W := by
  funext i
  rw [val_main_v15_apply]
  unfold prodArr
  refine Finset.sum_congr rfl fun k _ => ?_
  rw [same_at]
  congr 1
  refine Eq.trans (val_main_v14_apply (F := Ideal) W _) ?_
  refine congrArg W (funext fun a => ?_)
  match a with
  | ⟨0, _⟩ => rfl
  | ⟨1, _⟩ => rfl

variable (m : (ℓ : Loc nD τ sig) → Buf (Elt Ideal) ℓ) (ρ : Dev nD → PrngReg)

/-- The reference ends with its two stages. -/
theorem reference_run :
    θ_run defs (onTc (τ := τ) (main (F := Ideal))) ⟨m, fun _ => 0, ρ⟩ (fun r => ∀ c : Dev nD,
      r.2.mem ((c.tc : Thread nD τ).loc main_v15) = val_main_v15 (F := Ideal) (m ((c.tc : Thread nD τ).loc main_arg0)) (m ((c.tc : Thread nD τ).loc main_arg1)) (m ((c.tc : Thread nD τ).loc main_arg2))
      ∧ r.2.mem ((c.tc : Thread nD τ).loc main_v16) = val_main_v16 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (val_main_v15_eq (F := Ideal) _ _ _), (h c).2.1.trans (val_main_v16_eq (F := Ideal) _ _), (h c).2.2⟩)
    (Cert.Reference5Ideal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩)
    (reference_run m ρ)

end Cert.Kernel5

end
-- ==== Proof.NPFrame.lean ====
module

public import proofs.«01_k».proof.Defs
public import proofs.«01_k».proof.Proof.Gen.Kernel6
public import proofs.«01_k».proof.Proof.Gen.Kernel6Ideal.Frame

@[expose] public section

noncomputable section

namespace Cert.Kernel6.Mm

open Idealize.ShloMosaic Idealize.ShloMosaic.TcCoe Idealize.ShloMosaic.Tactic Idealize.SL.Sem

/-- The frame of the kernel, over any floats. -/
def FrameOf (F : FTy → Type) [FloatOps F] : Prop :=
  ∀ (m : (ℓ : Loc Cert.Kernel6.nD Cert.Kernel6.τ Cert.Kernel6.sig) → Buf (Elt F) ℓ) (g : Dev Cert.Kernel6.nD → PrngReg),
    θ_run (Cert.Kernel6.defs (F := F)) (onTc (τ := Cert.Kernel6.τ) (Cert.Kernel6.main (F := F))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

/-- The frame of the idealized kernel, over any floats. -/
def FrameOfIdeal (F : FTy → Type) [FloatOps F] : Prop :=
  ∀ (m : (ℓ : Loc Cert.Kernel6Ideal.nD Cert.Kernel6Ideal.τ Cert.Kernel6Ideal.sig) → Buf (Elt F) ℓ) (g : Dev Cert.Kernel6Ideal.nD → PrngReg),
    θ_run (Cert.Kernel6Ideal.defs (F := F)) (onTc (τ := Cert.Kernel6Ideal.τ) (Cert.Kernel6Ideal.main (F := F))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

/-- The two have one text. -/
theorem text (F : FTy → Type) [FloatOps F] : FrameOf F = FrameOfIdeal F := by
  sl_kernel_rfl

/-- The kernel terminates, leaves its arguments unchanged and every counter at zero. -/
theorem frame : Cert.quiescent_Kernel6 := fun m g _ =>
  (show FrameOf Bits from text Bits ▸ (fun m g => Cert.Kernel6Ideal.Gen.frame m g : FrameOfIdeal Bits)) m g

end Cert.Kernel6.Mm

end
-- ==== Proof.NArrays.lean ====
module

public import proofs.«01_k».proof.Proof.QArrays
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Kernel6Ideal.Mm

open Cert.Kernel6Ideal Cert.Kernel6Ideal.Gen
open Idealize.ShloMosaic Idealize.ShloMosaic.TcCoe Idealize.ShloMosaic.Tactic
open Idealize.SL.Sem
open Idealize.ShloMosaic.Pipeline (Dat Cfg Window)
open Cert.Kernel5Ideal.Mm (scaleOf normAt normArr norm_of)

/-! ## A block of rows normalised -/

theorem pay_apply (x : Vec Ideal S256x4096 .f32) (g : Vec Ideal S1x4096 .f32) (r : Fin 256) (d : Fin 4096) :
    k0_pay1 x g (ix2 r d) = x (ix2 r d) * scaleOf (∑ k : Fin 4096, x (ix2 r k) * x (ix2 r k)) * g (ix2 0 d) := by
  unfold k0_pay1 scaleOf
  pointwise

theorem all_rows (y : S256x4096.Idx) : r0_0.idx y = y := funext fun a => Fin.ext (by
  match a with
  | ⟨0, _⟩ => show 0 + 1 * (y 0).val = (y 0).val; omega
  | ⟨1, _⟩ => show 0 + 1 * (y 1).val = (y 1).val; omega)

theorem all_gains (y : S1x4096.Idx) : r0_1.idx y = y := funext fun a => Fin.ext (by
  match a with
  | ⟨0, _⟩ => show 0 + 1 * (y 0).val = (y 0).val; omega
  | ⟨1, _⟩ => show 0 + 1 * (y 1).val = (y 1).val; omega)

/-- The block a point leaves is its one store. -/
theorem out_eq (x : Vec Ideal S256x4096 .f32) (g : Vec Ideal S1x4096 .f32) (y : S256x4096.Idx) : out0_2 x g y = k0_pay1 x g y := by
  have hx : View.ld x r0_0 = x := funext fun z => congrArg x (all_rows z)
  have hg : View.ld g r0_1 = g := funext fun z => congrArg g (all_gains z)
  unfold out0_2
  rw [hx, hg]
  refine View.canon_apply_of_pieces (Val := Elt Ideal) (e := .bf16) (k0_pay1 x g) _ ?_ y (cover0_2 _ y)
  intro pc hpc
  rcases List.mem_cons.mp hpc with rfl | hpc
  · exact fun z => congrArg (k0_pay1 x g) (all_rows z).symm
  nomatch hpc

theorem flat_apply (g : Vec Ideal S1x4096 .f32) (d : Fin 4096) :
    shapeCast S1x4096 (shapeCast S4096 g shapeCasts_S1x4096_S4096) shapeCasts_S4096_S1x4096 (ix2 0 d) = g (ix2 0 d) := by
  pointwise

/-! ## The arrays the launch reads and leaves -/

variable (m : (ℓ : Loc nD τ sig) → Buf (Elt Ideal) ℓ) (ρ : Dev nD → PrngReg) (c : Dev nD)

/-- The sequences one after another, as rows. -/
def flatOf (X : S4x2048x4096.Idx → EReal) : S8192x4096.Idx → EReal :=
  shapeCast S8192x4096 X shapeCasts_S4x2048x4096_S8192x4096

/-- The rows to normalise. -/
def actOf : S8192x4096.Idx → EReal := flatOf (m ((c.tc : Thread nD τ).loc main_arg0))
/-- The gains. -/
def gainOf : S1x4096.Idx → EReal := m ((c.tc : Thread nD τ).loc main_arg1)

theorem V_v0 : V m c main_v0 = flatOf (m ((c.tc : Thread nD τ).loc main_arg0)) := by
  show StableHlo.after hostOps0 _ _ = _
  simp only [hostOps0]
  after_results_simp
  rfl

theorem V_v2 : V m c main_v2 = shapeCast S1x4096 (shapeCast S4096 (m ((c.tc : Thread nD τ).loc main_arg1)) shapeCasts_S1x4096_S4096) shapeCasts_S4096_S1x4096 := by
  show StableHlo.after hostOps0 _ _ = _
  simp only [hostOps0]
  after_results_simp
  rfl

theorem at_x : ∀ t : Fin cfg0.N, win0_0.index t 0 = t.val ∧ win0_0.index t 1 = 0 :=
  (by decide +kernel : ∀ t : Fin grid0.N, win0_0.index t 0 = t.val ∧ win0_0.index t 1 = 0)
theorem at_g : ∀ t : Fin cfg0.N, win0_1.index t 0 = 0 ∧ win0_1.index t 1 = 0 :=
  (by decide +kernel : ∀ t : Fin grid0.N, win0_1.index t 0 = 0 ∧ win0_1.index t 1 = 0)
theorem at_2 : ∀ t : Fin cfg0.N, win0_2.index t 0 = t.val ∧ win0_2.index t 1 = 0 :=
  (by decide +kernel : ∀ t : Fin grid0.N, win0_2.index t 0 = t.val ∧ win0_2.index t 1 = 0)

theorem pts : cfg0.N = 32 := (by decide +kernel : grid0.N = 32)

theorem row_lt (t : Fin cfg0.N) (r : Fin 256) : t.val * 256 + r.val < 8192 := by
  have h := pts
  omega

theorem read_x (t : Fin cfg0.N) (r : Fin 256) (k : Fin 4096) :
    iblk m c 0 t (ix2 r k) = actOf m c (ix2 ⟨t.val * 256 + r.val, row_lt t r⟩ k) := by
  show V m c main_v0 (((View.whole main_v0).slice (win0_0.rect t)).emb (ix2 r k)) = _
  rw [V_v0]
  refine congrArg (actOf m c) (funext fun a => Fin.ext ?_)
  have h := at_x t
  match a with
  | ⟨0, _⟩ => show win0_0.index t 0 * 256 + 1 * r.val = t.val * 256 + r.val; rw [h.1]; omega
  | ⟨1, _⟩ => show win0_0.index t 1 * 4096 + 1 * k.val = k.val; rw [h.2]; omega

theorem read_g (t : Fin cfg0.N) (d : Fin 4096) : iblk m c 1 t (ix2 0 d) = gainOf m c (ix2 0 d) := by
  show V m c main_v2 (((View.whole main_v2).slice (win0_1.rect t)).emb (ix2 0 d)) = _
  rw [V_v2]
  refine Eq.trans (congrArg (shapeCast S1x4096 (shapeCast S4096 (gainOf m c) shapeCasts_S1x4096_S4096) shapeCasts_S4096_S1x4096) (funext fun a => Fin.ext ?_))
    (flat_apply (gainOf m c) d)
  have h := at_g t
  match a with
  | ⟨0, _⟩ => show win0_1.index t 0 * 1 + 1 * 0 = 0; rw [h.1]
  | ⟨1, _⟩ => show win0_1.index t 1 * 4096 + 1 * d.val = d.val; rw [h.2]; omega

/-- A block of the rows normalised, from a block of the rows. -/
theorem block_of (X : S8192x4096.Idx → EReal) (G : S1x4096.Idx → EReal) (x : Vec Ideal S256x4096 .f32) (g : Vec Ideal S1x4096 .f32)
    (r : Fin 256) (d : Fin 4096) (R : Fin 8192) (i : S8192x4096.Idx) (hx : ∀ k, x (ix2 r k) = X (ix2 R k)) (hg : g (ix2 0 d) = G (ix2 0 d))
    (h0 : (i 0).val = R.val) (h1 : (i 1).val = d.val) : out0_2 x g (ix2 r d) = normArr X G i := by
  rw [out_eq, pay_apply, hg]
  simp only [hx]
  exact norm_of X G R d i h0 h1

theorem norm_block (t : Fin cfg0.N) (y : S256x4096.Idx) :
    out0_2 (iblk m c 0 t) (iblk m c 1 t) y = normArr (actOf m c) (gainOf m c) (((View.whole main_v3).slice (win0_2.rect t)).emb y) := by
  obtain ⟨r, d, rfl⟩ : ∃ (r : Fin 256) (d : Fin 4096), y = ix2 r d := ⟨y 0, y 1, eq_ix2 y⟩
  have h := at_2 t
  exact block_of (actOf m c) (gainOf m c) _ _ r d _ _ (fun k => read_x m c t r k) (read_g m c t d)
    (by show win0_2.index t 0 * 256 + 1 * r.val = t.val * 256 + r.val; rw [h.1]; omega)
    (by show win0_2.index t 1 * 4096 + 1 * d.val = d.val; rw [h.2]; omega)

theorem flush_all : ∀ t : Fin cfg0.N, (cfg0.win 2).flush t = true :=
  (by decide +kernel : ∀ t : Fin grid0.N, win0_2.flush t = true)

theorem final_norm : (dats m 0 c).arrAt 2 cfg0.N = normArr (actOf m c) (gainOf m c) := by
  refine Dat.arrAt_eq_of_cover (dats m 0 c) 2 (normArr (actOf m c) (gainOf m c)) ?_ ?_
  · intro t _
    refine funext fun y => ?_
    rw [Dat.flushed_apply, after0_2]
    exact norm_block m c t y
  · intro i
    have h0 : (i 0).val < 8192 := (i 0).isLt
    have h1 : (i 1).val < 4096 := (i 1).isLt
    have hN := pts
    have hb : (i 0).val / 256 < cfg0.N := by omega
    refine ⟨⟨(i 0).val / 256, hb⟩, flush_all _, ?_⟩
    generalize ht : (⟨(i 0).val / 256, hb⟩ : Fin cfg0.N) = t
    have hv : t.val = (i 0).val / 256 := by rw [← ht]
    have hi := at_2 t
    show i ∈ ((View.whole main_v3).slice (win0_2.rect t)).set
    rw [View.set_slice_whole, Window.mem_rect_iff win0_2 t i]
    intro a
    match a with
    | ⟨0, _⟩ =>
      show win0_2.index t 0 * 256 ≤ (i 0).val ∧ (i 0).val < win0_2.index t 0 * 256 + 256
      rw [hi.1]; omega
    | ⟨1, _⟩ =>
      show win0_2.index t 1 * 4096 ≤ (i 1).val ∧ (i 1).val < win0_2.index t 1 * 4096 + 4096
      rw [hi.2]; omega

/-- The kernel ends with the rows normalised. -/
theorem kernel_run :
    θ_run defs (onTc (τ := τ) (main (F := Ideal))) ⟨m, fun _ => 0, ρ⟩ (fun r => ∀ c : Dev nD,
      r.2.mem ((c.tc : Thread nD τ).loc main_v3) = normArr (actOf m c) (gainOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_norm m c), (h c).2⟩) (Cert.Kernel6Ideal.Value.run_blocks (F := Ideal) m ρ)

end Cert.Kernel6Ideal.Mm

namespace Cert.Kernel6

open Idealize.ShloMosaic Idealize.ShloMosaic.TcCoe Idealize.SL.Sem
open Cert.Reference6Ideal Cert.Reference6Ideal.Gen Cert.Reference6Ideal.Read
open Cert.Kernel5Ideal.Mm (normArr normAt scaleOf)
open Cert.Kernel6Ideal.Mm (flatOf)

theorem same_flat (X : S4x2048x4096.Idx → EReal) : val_main_v0 (F := Ideal) X = flatOf X := rfl

/-- One over the root of the mean square of a row, as the reference prints it. -/
theorem same_scale (X : S4x2048x4096.Idx → EReal) (i : S8192x4096.Idx) :
    val_main_v10 (F := Ideal) X i = scaleOf (∑ j : Fin 4096, flatOf X (ix2 ⟨(i 0).val, (i 0).isLt⟩ j) * flatOf X (ix2 ⟨(i 0).val, (i 0).isLt⟩ j)) := by
  have hs : val_main_v3 (F := Ideal) X (idx_main_v4 (idx_main_v10 i)) = ∑ j : Fin 4096, flatOf X (ix2 ⟨(i 0).val, (i 0).isLt⟩ j) * flatOf X (ix2 ⟨(i 0).val, (i 0).isLt⟩ j) := by
    rw [val_main_v3_apply]
    have hz : (val_main_cst (F := Ideal)) (Shape.Idx.first h_S_) = (0 : EReal) := Ideal.ofBits_zero_f32
    rw [hz, zero_add]
    refine Finset.sum_congr rfl fun k _ => ?_
    have e : idx_main_v3 (idx_main_v4 (idx_main_v10 i)) k = ix2 ⟨(i 0).val, (i 0).isLt⟩ k := funext fun a => by
      match a with
      | ⟨0, _⟩ => rfl
      | ⟨1, _⟩ => rfl
    refine Eq.trans (val_main_v2_apply (F := Ideal) X _) ?_
    exact congrArg (fun q : S8192x4096.Idx => flatOf X q * flatOf X q) e
  rw [val_main_v10_apply, val_main_v9_apply, val_main_v8_apply, val_main_v6_apply, val_main_v4_apply, hs, val_main_v5_apply, val_main_v7_apply, val_main_cst_0_apply, val_main_cst_1_apply]
  rfl

theorem same_gain (G : S1x4096.Idx → EReal) (i : S8192x4096.Idx) :
    val_main_v13 (F := Ideal) G i = G (ix2 0 ⟨(i 1).val, (i 1).isLt⟩) := by
  rw [val_main_v13_apply, val_main_v12_apply, val_main_v1_apply]
  refine congrArg G (funext fun a => Fin.ext ?_)
  have h1 : (i 1).val < 4096 := (i 1).isLt
  match a with
  | ⟨0, _⟩ => rfl
  | ⟨1, _⟩ => show (i 1).val % 4096 = (i 1).val; omega

/-- The reference's normalised rows are the same array. -/
theorem same_norm (X : S4x2048x4096.Idx → EReal) (G : S1x4096.Idx → EReal) : val_main_v15 (F := Ideal) X G = normArr (flatOf X) G := by
  funext i
  refine Eq.trans (val_main_v15_apply (F := Ideal) X G i) ?_
  show val_main_v14 (F := Ideal) X G i = _
  rw [val_main_v14_apply, val_main_v11_apply, same_scale, same_gain, same_flat]
  have e : flatOf X i = flatOf X (ix2 ⟨(i 0).val, (i 0).isLt⟩ ⟨(i 1).val, (i 1).isLt⟩) := congrArg (flatOf X) (eq_ix2 i)
  rw [e]
  rfl

variable (m : (ℓ : Loc nD τ sig) → Buf (Elt Ideal) ℓ) (ρ : Dev nD → PrngReg)

/-- The reference ends with its last stage. -/
theorem reference_run :
    θ_run defs (onTc (τ := τ) (main (F := Ideal))) ⟨m, fun _ => 0, ρ⟩ (fun r => ∀ c : Dev nD,
      r.2.mem ((c.tc : Thread nD τ).loc main_v15) = val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (val_main_v15_eq (F := Ideal) _ _), (h c).2⟩)
    (Cert.Reference6Ideal.Value.run (F := Ideal) m ρ)

/-- The reference's frame. -/
theorem reference_frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩)
    (reference_run m ρ)

end Cert.Kernel6

end
-- ==== Proof.Finite.lean ====
module

public import proofs.«01_k».proof.Pre_finite_inputs
public import proofs.«01_k».proof.Proof.Spec

@[expose] public section

set_option maxRecDepth 16384

noncomputable section

namespace Cert.Moba

open Idealize.ShloMosaic Cert.Pre_finite_inputs

theorem preFacts : Cert.Pre_finite_inputs.Facts where
  slices_S8192x20480_S8192x4096_0_0 := by decide
  bitsLt_bf16_f32 := by decide
  shapeCasts_S8192x4096_S65536x512 := by decide
  shapeCasts_S32x16_S1x512 := by decide
  bcast_S_S65536x512 := by decide
  bcast_S_S1x512 := by decide
  bcast_S1x512_S65536x512_0_1 := by decide

theorem absf_real (x : EReal) (h : FloatOps.absf (F := Ideal) (φ := .f32) x < Ideal.ofBits FTy.f32 0x7F800000#32) : Real' x := by
  rw [bits_pinf] at h
  have h' : max x (-x) < ⊤ := h
  constructor
  · rintro rfl; simp at h'
  · rintro rfl; simp at h'

theorem and_true (p q : Prop) [Decidable p] [Decidable q] (h : IntOp.andi (BitVec.ofBool (decide p)) (BitVec.ofBool (decide q)) = 1#1) : p ∧ q := by
  by_cases hp : p <;> by_cases hq : q <;> simp [hp, hq, IntOp.andi] at h ⊢

theorem fn_at [Cert.Pre_finite_inputs.Facts] (x0 : FVec Ideal S8192x20480 .bf16) (x1 : FVec Ideal S32x16 .f32) (x2 : FVec Ideal S1x3x1x2048 .f32) (x3 : FVec Ideal S1x2048 .f32)
    (x4 x5 : FVec Ideal S1x16384x4096 .f32) (p : Fin 65536) (q : Fin 512)
    (h : Cert.Pre_finite_inputs.fn (F := Ideal) x0 x1 x2 x3 x4 x5 (ix2 p q) = 1#1) :
    Real' (x0 (ix2 ⟨p.val / 8, by omega⟩ ⟨p.val % 8 * 512 + q.val, by omega⟩)) ∧ Real' (x1 (ix2 ⟨q.val / 16, by omega⟩ ⟨q.val % 16, by omega⟩)) := by
  have e : Cert.Pre_finite_inputs.fn (F := Ideal) x0 x1 x2 x3 x4 x5 (ix2 p q) =
      IntOp.andi (BitVec.ofBool (decide (FloatOps.absf (F := Ideal) (φ := .f32) (x0 (ix2 ⟨p.val / 8, by omega⟩ ⟨p.val % 8 * 512 + q.val, by omega⟩)) < Ideal.ofBits FTy.f32 0x7F800000#32)))
        (BitVec.ofBool (decide (FloatOps.absf (F := Ideal) (φ := .f32) (x1 (ix2 ⟨q.val / 16, by omega⟩ ⟨q.val % 16, by omega⟩)) < Ideal.ofBits FTy.f32 0x7F800000#32))) := by
    pointwise [Cert.Pre_finite_inputs.fn]
  rw [e] at h
  exact ⟨absf_real _ (and_true _ _ h).1, absf_real _ (and_true _ _ h).2⟩

/-- The precondition: every entry the attention reads is a finite number. -/
theorem finite_of [Cert.Pre_finite_inputs.Facts] (x0 : FVec Ideal S8192x20480 .bf16) (x1 : FVec Ideal S32x16 .f32) (x2 : FVec Ideal S1x3x1x2048 .f32) (x3 : FVec Ideal S1x2048 .f32)
    (x4 x5 : FVec Ideal S1x16384x4096 .f32) (h : Cert.Pre_finite_inputs.fn (F := Ideal) x0 x1 x2 x3 x4 x5 = fun _ => 1#1) : FiniteIn x0 x1 := by
  constructor
  · intro i hi
    have h0 : (i 0).val < 8192 := (i 0).isLt
    have := (fn_at x0 x1 x2 x3 x4 x5 ⟨(i 0).val * 8 + (i 1).val / 512, by omega⟩ ⟨(i 1).val % 512, by omega⟩ (congrFun h _)).1
    refine (congrArg (fun j => Real' (x0 j)) (funext fun a => Fin.ext ?_)).mp this
    match a with
    | ⟨0, _⟩ => show ((i 0).val * 8 + (i 1).val / 512) / 8 = (i 0).val; omega
    | ⟨1, _⟩ => show ((i 0).val * 8 + (i 1).val / 512) % 8 * 512 + (i 1).val % 512 = (i 1).val; omega
  · intro i
    have h0 : (i 0).val < 32 := (i 0).isLt
    have h1 : (i 1).val < 16 := (i 1).isLt
    have := (fn_at x0 x1 x2 x3 x4 x5 ⟨0, by omega⟩ ⟨(i 0).val * 16 + (i 1).val, by omega⟩ (congrFun h _)).2
    refine (congrArg (fun j => Real' (x1 j)) (funext fun a => Fin.ext ?_)).mp this
    match a with
    | ⟨0, _⟩ => show ((i 0).val * 16 + (i 1).val) / 16 = (i 0).val; omega
    | ⟨1, _⟩ => show ((i 0).val * 16 + (i 1).val) % 16 = (i 1).val; omega

end Cert.Moba

end
-- ==== Proof.lean ====
module

public import proofs.«01_k».proof.Defs
public import proofs.«01_k».proof.Proof.PFrame
public import proofs.«01_k».proof.Proof.Same
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Points
public import proofs.«01_k».proof.Proof.Gen.Kernel2Ideal.Launch
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Points
public import proofs.«01_k».proof.Proof.Gen.Kernel3Ideal.Launch
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Points
public import proofs.«01_k».proof.Proof.Gen.Kernel4Ideal.Launch
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Points
public import proofs.«01_k».proof.Proof.Gen.Kernel5Ideal.Launch
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Points
public import proofs.«01_k».proof.Proof.Gen.Kernel6Ideal.Launch
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.MPFrame
public import proofs.«01_k».proof.Proof.MArrays
public import proofs.«01_k».proof.Proof.OPFrame
public import proofs.«01_k».proof.Proof.OArrays
public import proofs.«01_k».proof.Proof.BPFrame
public import proofs.«01_k».proof.Proof.BArrays
public import proofs.«01_k».proof.Proof.QPFrame
public import proofs.«01_k».proof.Proof.QArrays
public import proofs.«01_k».proof.Proof.NPFrame
public import proofs.«01_k».proof.Proof.NArrays
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem
open Cert.KernelIdeal.Moba (attnArr convArr sideArr)

instance : Cert.Pre_finite_inputs.Facts := Cert.Moba.preFacts

/-- The two named constants. -/
theorem preserves : Cert.preserves_Kernel_KernelIdeal :=
  ⟨IdealRules.named_const.statement _ _ _ _ _ rfl, IdealRules.named_const.statement _ _ _ _ _ rfl⟩

/-- The idealized kernel and the idealized reference end with the same four arrays. -/
theorem algebraic : Cert.algebraic_KernelIdeal_ReferenceIdeal_pre_finite_inputs := by
  intro m g m' g' hpre hagree
  have hf : ∀ c, Cert.Moba.FiniteIn (Cert.KernelIdeal.Moba.projOf m c) (Cert.KernelIdeal.Moba.tableOf m c) :=
    fun c => Cert.Moba.finite_of _ _ _ _ _ _ (hpre c)
  refine ⟨fun c => attnArr (Cert.KernelIdeal.Moba.projOf m c) (Cert.KernelIdeal.Moba.tableOf m c),
    fun c => convArr (Cert.KernelIdeal.Moba.projOf m c) (m (c.tc.loc Cert.KernelIdeal.main_arg2)) (m (c.tc.loc Cert.KernelIdeal.main_arg3)),
    fun c => sideArr (m (c.tc.loc Cert.KernelIdeal.main_arg4)), fun c => sideArr (m (c.tc.loc Cert.KernelIdeal.main_arg5)),
    Cert.KernelIdeal.Moba.kernel_run m g hf, ?_⟩
  refine (θ_run _ _ _).mono (fun r h c => ?_) (Cert.Moba.reference_run m' g')
  obtain ⟨a0, a1, a2, a3, a4, a5⟩ := hagree c
  obtain ⟨h0, h1, h2, h3, hr⟩ := h c
  refine ⟨h0.trans ?_, h1.trans ?_, h2.trans ?_, h3.trans ?_, hr⟩
  · rw [a0, a1]; exact Cert.Moba.same_attn _ _ (hf c)
  · rw [a0, a2, a3]; exact Cert.Moba.same_conv _ _ _
  · rw [a4]; exact Cert.Moba.same_u _
  · rw [a5]; exact Cert.Moba.same_v _

/-- The second idealized kernel and its reference end with the same two arrays. -/
theorem algebraic2 : Cert.algebraic_Kernel2Ideal_Reference2Ideal := by
  intro m g m' g' _ hagree
  refine ⟨fun c => Cert.Kernel2Ideal.Mm.projArr (Cert.Kernel2Ideal.Mm.actOf m c) (Cert.Kernel2Ideal.Mm.wtOf m c),
    fun c => Cert.Kernel2Ideal.Mm.tabArr (Cert.Kernel2Ideal.Mm.tabOf m c), Cert.Kernel2Ideal.Mm.kernel_run m g, ?_⟩
  refine (θ_run _ _ _).mono (fun r h c => ?_) (Cert.Mm.reference_run m' g')
  obtain ⟨a0, a1, a2⟩ := hagree c
  obtain ⟨h0, h1, hr⟩ := h c
  refine ⟨h0.trans ?_, h1.trans ?_, hr⟩
  · rw [a0, a1]; exact Cert.Mm.same_proj _ _
  · rw [a2]; exact Cert.Mm.same_tab _

/-- The third idealized kernel and its reference end with the same array. -/
theorem algebraic3 : Cert.algebraic_Kernel3Ideal_Reference3Ideal := by
  intro m g m' g' _ hagree
  refine ⟨fun c => Cert.Kernel3Ideal.Mm.outArr (Cert.Kernel3Ideal.Mm.actOf m c) (Cert.Kernel3Ideal.Mm.wtOf m c) (Cert.Kernel3Ideal.Mm.resOf m c), Cert.Kernel3Ideal.Mm.kernel_run m g, ?_⟩
  refine (θ_run _ _ _).mono (fun r h c => ?_) (Cert.Kernel3.reference_run m' g')
  obtain ⟨a0, a1, a2⟩ := hagree c
  obtain ⟨h0, hr⟩ := h c
  refine ⟨h0.trans ?_, hr⟩
  rw [a0, a1, a2]; exact Cert.Kernel3.same_out _ _ _

/-- The fourth idealized kernel and its reference end with the same array. -/
theorem algebraic4 : Cert.algebraic_Kernel4Ideal_Reference4Ideal := by
  intro m g m' g' _ hagree
  refine ⟨fun c => Cert.Kernel4Ideal.Mm.outArr (Cert.Kernel4Ideal.Mm.attnOf m c) (Cert.Kernel4Ideal.Mm.convOf m c) (Cert.Kernel4Ideal.Mm.wAttnOf m c) (Cert.Kernel4Ideal.Mm.wConvOf m c) (Cert.Kernel4Ideal.Mm.gateOf m c) (Cert.Kernel4Ideal.Mm.biasOf m c),
    Cert.Kernel4Ideal.Mm.kernel_run m g, ?_⟩
  refine (θ_run _ _ _).mono (fun r h c => ?_) (Cert.Kernel4.reference_run m' g')
  obtain ⟨a0, a1, a2, a3, a4, a5⟩ := hagree c
  obtain ⟨h0, hr⟩ := h c
  refine ⟨h0.trans ?_, hr⟩
  rw [a0, a1, a2, a3, a4, a5]; exact Cert.Kernel4.same_out _ _ _ _ _ _

/-- The fifth idealized kernel and its reference end with the same two arrays. -/
theorem algebraic5 : Cert.algebraic_Kernel5Ideal_Reference5Ideal := by
  intro m g m' g' _ hagree
  refine ⟨fun c => Cert.Kernel5Ideal.Mm.prodArr (Cert.Kernel5Ideal.Mm.actOf m c) (Cert.Kernel5Ideal.Mm.gainOf m c) (Cert.Kernel5Ideal.Mm.wtOf m c),
    fun c => Cert.Kernel5Ideal.Mm.normArr (Cert.Kernel5Ideal.Mm.actOf m c) (Cert.Kernel5Ideal.Mm.gainOf m c), Cert.Kernel5Ideal.Mm.kernel_run m g, ?_⟩
  refine (θ_run _ _ _).mono (fun r h c => ?_) (Cert.Kernel5.reference_run m' g')
  obtain ⟨a0, a1, a2⟩ := hagree c
  obtain ⟨h0, h1, hr⟩ := h c
  refine ⟨h0.trans ?_, h1.trans ?_, hr⟩
  · rw [a0, a1, a2]; exact Cert.Kernel5.same_prod _ _ _
  · rw [a0, a1]; exact Cert.Kernel5.same_norm _ _

/-- The sixth idealized kernel and its reference end with the same array. -/
theorem algebraic6 : Cert.algebraic_Kernel6Ideal_Reference6Ideal := by
  intro m g m' g' _ hagree
  refine ⟨fun c => Cert.Kernel5Ideal.Mm.normArr (Cert.Kernel6Ideal.Mm.actOf m c) (Cert.Kernel6Ideal.Mm.gainOf m c), Cert.Kernel6Ideal.Mm.kernel_run m g, ?_⟩
  refine (θ_run _ _ _).mono (fun r h c => ?_) (Cert.Kernel6.reference_run m' g')
  obtain ⟨a0, a1⟩ := hagree c
  obtain ⟨h0, hr⟩ := h c
  refine ⟨h0.trans ?_, hr⟩
  rw [a0, a1]; exact Cert.Kernel6.same_norm _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Moba.preFacts,
    Cert.Kernel.Moba.frame, fun m g _ => Cert.KernelIdeal.Moba.frame m g, fun m g _ => Cert.KernelIdeal.Moba.frame m g,
    fun m g _ => Cert.Moba.reference_frame m g, fun m g _ => Cert.Moba.reference_frame m g,
    Cert.Kernel2.Mm.frame, fun m g _ => Cert.Kernel2Ideal.Mm.frame m g, fun m g _ => Cert.Mm.reference_frame m g,
    Cert.Kernel3.Mm.frame, fun m g _ => Cert.Kernel3Ideal.Mm.frame m g, fun m g _ => Cert.Kernel3.reference_frame m g,
    Cert.Kernel4.Mm.frame, fun m g _ => Cert.Kernel4Ideal.Mm.frame m g, fun m g _ => Cert.Kernel4.reference_frame m g,
    Cert.Kernel5.Mm.frame, fun m g _ => Cert.Kernel5Ideal.Mm.frame m g, fun m g _ => Cert.Kernel5.reference_frame m g,
    Cert.Kernel6.Mm.frame, fun m g _ => Cert.Kernel6Ideal.Gen.frame m g, fun m g _ => Cert.Kernel6.reference_frame m g,
    preserves, algebraic, trivial, algebraic2, trivial, algebraic3, trivial, algebraic4, trivial, algebraic5, trivial, algebraic6⟩

end Cert.Proof

end
